-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_WgradUp (m : (ℓ : Loc Cert.WgradUp.nD Cert.WgradUp.τ Cert.WgradUp.sig) → Buf (Elt Bits) ℓ) : Prop :=
  True

def Pre_WgradUpIdeal (m : (ℓ : Loc Cert.WgradUpIdeal.nD Cert.WgradUpIdeal.τ Cert.WgradUpIdeal.sig) → Buf (Elt Ideal) ℓ) : Prop :=
  True

def Pre_WgradUpRefIdeal (m : (ℓ : Loc Cert.WgradUpRefIdeal.nD Cert.WgradUpRefIdeal.τ Cert.WgradUpRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_DgradIn (m : (ℓ : Loc Cert.DgradIn.nD Cert.DgradIn.τ Cert.DgradIn.sig) → Buf (Elt Bits) ℓ) : Prop :=
  True

def Pre_DgradInIdeal (m : (ℓ : Loc Cert.DgradInIdeal.nD Cert.DgradInIdeal.τ Cert.DgradInIdeal.sig) → Buf (Elt Ideal) ℓ) : Prop :=
  True

def Pre_DgradInIdeal_finite_din [hPre_finite_din : Cert.Pre_finite_din.Facts] (m : (ℓ : Loc Cert.DgradInIdeal.nD Cert.DgradInIdeal.τ Cert.DgradInIdeal.sig) → Buf (Elt Ideal) ℓ) : Prop :=
  ∀ c : Dev Cert.DgradInIdeal.nD,
    (Cert.Pre_finite_din.fn (F := Ideal) (m ((c.tc : Thread Cert.DgradInIdeal.nD Cert.DgradInIdeal.τ).loc Cert.DgradInIdeal.main_arg0)) (m ((c.tc : Thread Cert.DgradInIdeal.nD Cert.DgradInIdeal.τ).loc Cert.DgradInIdeal.main_arg1)) (m ((c.tc : Thread Cert.DgradInIdeal.nD Cert.DgradInIdeal.τ).loc Cert.DgradInIdeal.main_arg2)) (m ((c.tc : Thread Cert.DgradInIdeal.nD Cert.DgradInIdeal.τ).loc Cert.DgradInIdeal.main_arg3)) (m ((c.tc : Thread Cert.DgradInIdeal.nD Cert.DgradInIdeal.τ).loc Cert.DgradInIdeal.main_arg4))) = (fun _ => 1#1)

def Pre_DgradInRefIdeal (m : (ℓ : Loc Cert.DgradInRefIdeal.nD Cert.DgradInRefIdeal.τ Cert.DgradInRefIdeal.sig) → Buf (Elt Ideal) ℓ) : Prop :=
  True

def Pre_DgradInRefIdeal_finite_din [hPre_finite_din : Cert.Pre_finite_din.Facts] (m : (ℓ : Loc Cert.DgradInRefIdeal.nD Cert.DgradInRefIdeal.τ Cert.DgradInRefIdeal.sig) → Buf (Elt Ideal) ℓ) : Prop :=
  ∀ c : Dev Cert.DgradInRefIdeal.nD,
    (Cert.Pre_finite_din.fn (F := Ideal) (m ((c.tc : Thread Cert.DgradInRefIdeal.nD Cert.DgradInRefIdeal.τ).loc Cert.DgradInRefIdeal.main_arg0)) (m ((c.tc : Thread Cert.DgradInRefIdeal.nD Cert.DgradInRefIdeal.τ).loc Cert.DgradInRefIdeal.main_arg1)) (m ((c.tc : Thread Cert.DgradInRefIdeal.nD Cert.DgradInRefIdeal.τ).loc Cert.DgradInRefIdeal.main_arg2)) (m ((c.tc : Thread Cert.DgradInRefIdeal.nD Cert.DgradInRefIdeal.τ).loc Cert.DgradInRefIdeal.main_arg3)) (m ((c.tc : Thread Cert.DgradInRefIdeal.nD Cert.DgradInRefIdeal.τ).loc Cert.DgradInRefIdeal.main_arg4))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2)
      ∧ r.2.mem ((c.tc : Thread Cert.WgradIn.nD Cert.WgradIn.τ).loc Cert.WgradIn.main_arg3) = m ((c.tc : Thread Cert.WgradIn.nD Cert.WgradIn.τ).loc Cert.WgradIn.main_arg3))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
      ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1)
      ∧ r.2.mem ((c.tc : Thread Cert.WgradInRefIdeal.nD Cert.WgradInRefIdeal.τ).loc Cert.WgradInRefIdeal.main_arg2) = m ((c.tc : Thread Cert.WgradInRefIdeal.nD Cert.WgradInRefIdeal.τ).loc Cert.WgradInRefIdeal.main_arg2)
      ∧ r.2.mem ((c.tc : Thread Cert.WgradInRefIdeal.nD Cert.WgradInRefIdeal.τ).loc Cert.WgradInRefIdeal.main_arg3) = m ((c.tc : Thread Cert.WgradInRefIdeal.nD Cert.WgradInRefIdeal.τ).loc Cert.WgradInRefIdeal.main_arg3))
      ∧ r.2.sem = fun _ => 0)

def quiescent_WgradUp [hWgradUp : Cert.WgradUp.Facts] : Prop :=
  ∀ (m : (ℓ : Loc Cert.WgradUp.nD Cert.WgradUp.τ Cert.WgradUp.sig) → Buf (Elt Bits) ℓ) (g : Dev Cert.WgradUp.nD → PrngReg), Pre_WgradUp m →
    θ_run (Cert.WgradUp.defs (F := Bits)) (onTc (τ := Cert.WgradUp.τ) (Cert.WgradUp.main (F := Bits))) ⟨m, fun _ => 0, g⟩ (fun r => (∀ c : Dev Cert.WgradUp.nD,
      r.2.mem ((c.tc : Thread Cert.WgradUp.nD Cert.WgradUp.τ).loc Cert.WgradUp.main_arg0) = m ((c.tc : Thread Cert.WgradUp.nD Cert.WgradUp.τ).loc Cert.WgradUp.main_arg0)
      ∧ r.2.mem ((c.tc : Thread Cert.WgradUp.nD Cert.WgradUp.τ).loc Cert.WgradUp.main_arg1) = m ((c.tc : Thread Cert.WgradUp.nD Cert.WgradUp.τ).loc Cert.WgradUp.main_arg1)
      ∧ r.2.mem ((c.tc : Thread Cert.WgradUp.nD Cert.WgradUp.τ).loc Cert.WgradUp.main_arg2) = m ((c.tc : Thread Cert.WgradUp.nD Cert.WgradUp.τ).loc Cert.WgradUp.main_arg2)
      ∧ r.2.mem ((c.tc : Thread Cert.WgradUp.nD Cert.WgradUp.τ).loc Cert.WgradUp.main_arg3) = m ((c.tc : Thread Cert.WgradUp.nD Cert.WgradUp.τ).loc Cert.WgradUp.main_arg3))
      ∧ r.2.sem = fun _ => 0)

def quiescent_WgradUpIdeal [hWgradUpIdeal : Cert.WgradUpIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg), Pre_WgradUpIdeal m →
    θ_run (Cert.WgradUpIdeal.defs (F := Ideal)) (onTc (τ := Cert.WgradUpIdeal.τ) (Cert.WgradUpIdeal.main (F := Ideal))) ⟨m, fun _ => 0, g⟩ (fun r => (∀ c : Dev Cert.WgradUpIdeal.nD,
      r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
      ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
      ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2)
      ∧ r.2.mem ((c.tc : Thread Cert.WgradUpIdeal.nD Cert.WgradUpIdeal.τ).loc Cert.WgradUpIdeal.main_arg3) = m ((c.tc : Thread Cert.WgradUpIdeal.nD Cert.WgradUpIdeal.τ).loc Cert.WgradUpIdeal.main_arg3))
      ∧ r.2.sem = fun _ => 0)

def quiescent_WgradUpRefIdeal [hWgradUpRefIdeal : Cert.WgradUpRefIdeal.Facts] : Prop :=
  ∀ (m : (ℓ : Loc Cert.WgradUpRefIdeal.nD Cert.WgradUpRefIdeal.τ Cert.WgradUpRefIdeal.sig) → Buf (Elt Ideal) ℓ) (g : Dev Cert.WgradUpRefIdeal.nD → PrngReg), Pre_WgradUpRefIdeal m →
    θ_run (Cert.WgradUpRefIdeal.defs (F := Ideal)) (onTc (τ := Cert.WgradUpRefIdeal.τ) (Cert.WgradUpRefIdeal.main (F := Ideal))) ⟨m, fun _ => 0, g⟩ (fun r => (∀ c : Dev Cert.WgradUpRefIdeal.nD,
      r.2.mem ((c.tc : Thread Cert.WgradUpRefIdeal.nD Cert.WgradUpRefIdeal.τ).loc Cert.WgradUpRefIdeal.main_arg0) = m ((c.tc : Thread Cert.WgradUpRefIdeal.nD Cert.WgradUpRefIdeal.τ).loc Cert.WgradUpRefIdeal.main_arg0)
      ∧ r.2.mem ((c.tc : Thread Cert.WgradUpRefIdeal.nD Cert.WgradUpRefIdeal.τ).loc Cert.WgradUpRefIdeal.main_arg1) = m ((c.tc : Thread Cert.WgradUpRefIdeal.nD Cert.WgradUpRefIdeal.τ).loc Cert.WgradUpRefIdeal.main_arg1)
      ∧ r.2.mem ((c.tc : Thread Cert.WgradUpRefIdeal.nD Cert.WgradUpRefIdeal.τ).loc Cert.WgradUpRefIdeal.main_arg2) = m ((c.tc : Thread Cert.WgradUpRefIdeal.nD Cert.WgradUpRefIdeal.τ).loc Cert.WgradUpRefIdeal.main_arg2)
      ∧ r.2.mem ((c.tc : Thread Cert.WgradUpRefIdeal.nD Cert.WgradUpRefIdeal.τ).loc Cert.WgradUpRefIdeal.main_arg3) = m ((c.tc : Thread Cert.WgradUpRefIdeal.nD Cert.WgradUpRefIdeal.τ).loc Cert.WgradUpRefIdeal.main_arg3))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1)
      ∧ r.2.mem ((c.tc : Thread Cert.WgradDown.nD Cert.WgradDown.τ).loc Cert.WgradDown.main_arg2) = m ((c.tc : Thread Cert.WgradDown.nD Cert.WgradDown.τ).loc Cert.WgradDown.main_arg2))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
      ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1)
      ∧ r.2.mem ((c.tc : Thread Cert.WgradDownRefIdeal.nD Cert.WgradDownRefIdeal.τ).loc Cert.WgradDownRefIdeal.main_arg2) = m ((c.tc : Thread Cert.WgradDownRefIdeal.nD Cert.WgradDownRefIdeal.τ).loc Cert.WgradDownRefIdeal.main_arg2))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1)
      ∧ r.2.mem ((c.tc : Thread Cert.WgradOut.nD Cert.WgradOut.τ).loc Cert.WgradOut.main_arg2) = m ((c.tc : Thread Cert.WgradOut.nD Cert.WgradOut.τ).loc Cert.WgradOut.main_arg2))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
      ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1)
      ∧ r.2.mem ((c.tc : Thread Cert.WgradOutRefIdeal.nD Cert.WgradOutRefIdeal.τ).loc Cert.WgradOutRefIdeal.main_arg2) = m ((c.tc : Thread Cert.WgradOutRefIdeal.nD Cert.WgradOutRefIdeal.τ).loc Cert.WgradOutRefIdeal.main_arg2))
      ∧ r.2.sem = fun _ => 0)

def quiescent_DgradIn [hDgradIn : Cert.DgradIn.Facts] : Prop :=
  ∀ (m : (ℓ : Loc Cert.DgradIn.nD Cert.DgradIn.τ Cert.DgradIn.sig) → Buf (Elt Bits) ℓ) (g : Dev Cert.DgradIn.nD → PrngReg), Pre_DgradIn m →
    θ_run (Cert.DgradIn.defs (F := Bits)) (onTc (τ := Cert.DgradIn.τ) (Cert.DgradIn.main (F := Bits))) ⟨m, fun _ => 0, g⟩ (fun r => (∀ c : Dev Cert.DgradIn.nD,
      r.2.mem ((c.tc : Thread Cert.DgradIn.nD Cert.DgradIn.τ).loc Cert.DgradIn.main_arg0) = m ((c.tc : Thread Cert.DgradIn.nD Cert.DgradIn.τ).loc Cert.DgradIn.main_arg0)
      ∧ r.2.mem ((c.tc : Thread Cert.DgradIn.nD Cert.DgradIn.τ).loc Cert.DgradIn.main_arg1) = m ((c.tc : Thread Cert.DgradIn.nD Cert.DgradIn.τ).loc Cert.DgradIn.main_arg1)
      ∧ r.2.mem ((c.tc : Thread Cert.DgradIn.nD Cert.DgradIn.τ).loc Cert.DgradIn.main_arg2) = m ((c.tc : Thread Cert.DgradIn.nD Cert.DgradIn.τ).loc Cert.DgradIn.main_arg2)
      ∧ r.2.mem ((c.tc : Thread Cert.DgradIn.nD Cert.DgradIn.τ).loc Cert.DgradIn.main_arg3) = m ((c.tc : Thread Cert.DgradIn.nD Cert.DgradIn.τ).loc Cert.DgradIn.main_arg3)
      ∧ r.2.mem ((c.tc : Thread Cert.DgradIn.nD Cert.DgradIn.τ).loc Cert.DgradIn.main_arg4) = m ((c.tc : Thread Cert.DgradIn.nD Cert.DgradIn.τ).loc Cert.DgradIn.main_arg4))
      ∧ r.2.sem = fun _ => 0)

def quiescent_DgradInIdeal [hDgradInIdeal : Cert.DgradInIdeal.Facts] : Prop :=
  ∀ (m : (ℓ : Loc Cert.DgradInIdeal.nD Cert.DgradInIdeal.τ Cert.DgradInIdeal.sig) → Buf (Elt Ideal) ℓ) (g : Dev Cert.DgradInIdeal.nD → PrngReg), Pre_DgradInIdeal m →
    θ_run (Cert.DgradInIdeal.defs (F := Ideal)) (onTc (τ := Cert.DgradInIdeal.τ) (Cert.DgradInIdeal.main (F := Ideal))) ⟨m, fun _ => 0, g⟩ (fun r => (∀ c : Dev Cert.DgradInIdeal.nD,
      r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
      ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
      ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
      ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
      ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4))
      ∧ r.2.sem = fun _ => 0)

def quiescent_DgradInIdeal_pre_finite_din [hDgradInIdeal : Cert.DgradInIdeal.Facts] [hPre_finite_din : Cert.Pre_finite_din.Facts] : Prop :=
  ∀ (m : (ℓ : Loc Cert.DgradInIdeal.nD Cert.DgradInIdeal.τ Cert.DgradInIdeal.sig) → Buf (Elt Ideal) ℓ) (g : Dev Cert.DgradInIdeal.nD → PrngReg), Pre_DgradInIdeal_finite_din m →
    θ_run (Cert.DgradInIdeal.defs (F := Ideal)) (onTc (τ := Cert.DgradInIdeal.τ) (Cert.DgradInIdeal.main (F := Ideal))) ⟨m, fun _ => 0, g⟩ (fun r => (∀ c : Dev Cert.DgradInIdeal.nD,
      r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
      ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
      ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
      ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
      ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4))
      ∧ r.2.sem = fun _ => 0)

def quiescent_DgradInRefIdeal [hDgradInRefIdeal : Cert.DgradInRefIdeal.Facts] : Prop :=
  ∀ (m : (ℓ : Loc Cert.DgradInRefIdeal.nD Cert.DgradInRefIdeal.τ Cert.DgradInRefIdeal.sig) → Buf (Elt Ideal) ℓ) (g : Dev Cert.DgradInRefIdeal.nD → PrngReg), Pre_DgradInRefIdeal m →
    θ_run (Cert.DgradInRefIdeal.defs (F := Ideal)) (onTc (τ := Cert.DgradInRefIdeal.τ) (Cert.DgradInRefIdeal.main (F := Ideal))) ⟨m, fun _ => 0, g⟩ (fun r => (∀ c : Dev Cert.DgradInRefIdeal.nD,
      r.2.mem ((c.tc : Thread Cert.DgradInRefIdeal.nD Cert.DgradInRefIdeal.τ).loc Cert.DgradInRefIdeal.main_arg0) = m ((c.tc : Thread Cert.DgradInRefIdeal.nD Cert.DgradInRefIdeal.τ).loc Cert.DgradInRefIdeal.main_arg0)
      ∧ r.2.mem ((c.tc : Thread Cert.DgradInRefIdeal.nD Cert.DgradInRefIdeal.τ).loc Cert.DgradInRefIdeal.main_arg1) = m ((c.tc : Thread Cert.DgradInRefIdeal.nD Cert.DgradInRefIdeal.τ).loc Cert.DgradInRefIdeal.main_arg1)
      ∧ r.2.mem ((c.tc : Thread Cert.DgradInRefIdeal.nD Cert.DgradInRefIdeal.τ).loc Cert.DgradInRefIdeal.main_arg2) = m ((c.tc : Thread Cert.DgradInRefIdeal.nD Cert.DgradInRefIdeal.τ).loc Cert.DgradInRefIdeal.main_arg2)
      ∧ r.2.mem ((c.tc : Thread Cert.DgradInRefIdeal.nD Cert.DgradInRefIdeal.τ).loc Cert.DgradInRefIdeal.main_arg3) = m ((c.tc : Thread Cert.DgradInRefIdeal.nD Cert.DgradInRefIdeal.τ).loc Cert.DgradInRefIdeal.main_arg3)
      ∧ r.2.mem ((c.tc : Thread Cert.DgradInRefIdeal.nD Cert.DgradInRefIdeal.τ).loc Cert.DgradInRefIdeal.main_arg4) = m ((c.tc : Thread Cert.DgradInRefIdeal.nD Cert.DgradInRefIdeal.τ).loc Cert.DgradInRefIdeal.main_arg4))
      ∧ r.2.sem = fun _ => 0)

def quiescent_DgradInRefIdeal_pre_finite_din [hDgradInRefIdeal : Cert.DgradInRefIdeal.Facts] [hPre_finite_din : Cert.Pre_finite_din.Facts] : Prop :=
  ∀ (m : (ℓ : Loc Cert.DgradInRefIdeal.nD Cert.DgradInRefIdeal.τ Cert.DgradInRefIdeal.sig) → Buf (Elt Ideal) ℓ) (g : Dev Cert.DgradInRefIdeal.nD → PrngReg), Pre_DgradInRefIdeal_finite_din m →
    θ_run (Cert.DgradInRefIdeal.defs (F := Ideal)) (onTc (τ := Cert.DgradInRefIdeal.τ) (Cert.DgradInRefIdeal.main (F := Ideal))) ⟨m, fun _ => 0, g⟩ (fun r => (∀ c : Dev Cert.DgradInRefIdeal.nD,
      r.2.mem ((c.tc : Thread Cert.DgradInRefIdeal.nD Cert.DgradInRefIdeal.τ).loc Cert.DgradInRefIdeal.main_arg0) = m ((c.tc : Thread Cert.DgradInRefIdeal.nD Cert.DgradInRefIdeal.τ).loc Cert.DgradInRefIdeal.main_arg0)
      ∧ r.2.mem ((c.tc : Thread Cert.DgradInRefIdeal.nD Cert.DgradInRefIdeal.τ).loc Cert.DgradInRefIdeal.main_arg1) = m ((c.tc : Thread Cert.DgradInRefIdeal.nD Cert.DgradInRefIdeal.τ).loc Cert.DgradInRefIdeal.main_arg1)
      ∧ r.2.mem ((c.tc : Thread Cert.DgradInRefIdeal.nD Cert.DgradInRefIdeal.τ).loc Cert.DgradInRefIdeal.main_arg2) = m ((c.tc : Thread Cert.DgradInRefIdeal.nD Cert.DgradInRefIdeal.τ).loc Cert.DgradInRefIdeal.main_arg2)
      ∧ r.2.mem ((c.tc : Thread Cert.DgradInRefIdeal.nD Cert.DgradInRefIdeal.τ).loc Cert.DgradInRefIdeal.main_arg3) = m ((c.tc : Thread Cert.DgradInRefIdeal.nD Cert.DgradInRefIdeal.τ).loc Cert.DgradInRefIdeal.main_arg3)
      ∧ r.2.mem ((c.tc : Thread Cert.DgradInRefIdeal.nD Cert.DgradInRefIdeal.τ).loc Cert.DgradInRefIdeal.main_arg4) = m ((c.tc : Thread Cert.DgradInRefIdeal.nD Cert.DgradInRefIdeal.τ).loc Cert.DgradInRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v104_2)) (v3 : (c : Dev Cert.KernelIdeal.nD) → Buf (Elt Ideal) ((c.tc : Thread Cert.KernelIdeal.nD Cert.KernelIdeal.τ).loc Cert.KernelIdeal.main_v104_3)) (v4 : (c : Dev Cert.KernelIdeal.nD) → Buf (Elt Ideal) ((c.tc : Thread Cert.KernelIdeal.nD Cert.KernelIdeal.τ).loc Cert.KernelIdeal.main_v104_4)) (v5 : (c : Dev Cert.KernelIdeal.nD) → Buf (Elt Ideal) ((c.tc : Thread Cert.KernelIdeal.nD Cert.KernelIdeal.τ).loc Cert.KernelIdeal.main_v104_5)) (v6 : (c : Dev Cert.KernelIdeal.nD) → Buf (Elt Ideal) ((c.tc : Thread Cert.KernelIdeal.nD Cert.KernelIdeal.τ).loc Cert.KernelIdeal.main_v104_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v104_2) = v2 c
          ∧ r.2.mem ((c.tc : Thread Cert.KernelIdeal.nD Cert.KernelIdeal.τ).loc Cert.KernelIdeal.main_v104_3) = v3 c
          ∧ r.2.mem ((c.tc : Thread Cert.KernelIdeal.nD Cert.KernelIdeal.τ).loc Cert.KernelIdeal.main_v104_4) = v4 c
          ∧ r.2.mem ((c.tc : Thread Cert.KernelIdeal.nD Cert.KernelIdeal.τ).loc Cert.KernelIdeal.main_v104_5) = v5 c
          ∧ r.2.mem ((c.tc : Thread Cert.KernelIdeal.nD Cert.KernelIdeal.τ).loc Cert.KernelIdeal.main_v104_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v223) = v1 c
          ∧ r.2.mem ((c.tc : Thread Cert.ReferenceIdeal.nD Cert.ReferenceIdeal.τ).loc Cert.ReferenceIdeal.main_v228) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v232) = v4 c
          ∧ r.2.mem ((c.tc : Thread Cert.ReferenceIdeal.nD Cert.ReferenceIdeal.τ).loc Cert.ReferenceIdeal.main_v234) = v5 c
          ∧ r.2.mem ((c.tc : Thread Cert.ReferenceIdeal.nD Cert.ReferenceIdeal.τ).loc Cert.ReferenceIdeal.main_v237) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)
      ∧ m' ((c.tc : Thread Cert.WgradInRefIdeal.nD Cert.WgradInRefIdeal.τ).loc Cert.WgradInRefIdeal.main_arg2) = m ((c.tc : Thread Cert.WgradInIdeal.nD Cert.WgradInIdeal.τ).loc Cert.WgradInIdeal.main_arg2)
      ∧ m' ((c.tc : Thread Cert.WgradInRefIdeal.nD Cert.WgradInRefIdeal.τ).loc Cert.WgradInRefIdeal.main_arg3) = m ((c.tc : Thread Cert.WgradInIdeal.nD Cert.WgradInIdeal.τ).loc Cert.WgradInIdeal.main_arg3)) →
    ∃ (v0 : (c : Dev Cert.WgradInIdeal.nD) → Buf (Elt Ideal) ((c.tc : Thread Cert.WgradInIdeal.nD Cert.WgradInIdeal.τ).loc Cert.WgradInIdeal.main_v17)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v17) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
          ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v18) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1)
          ∧ r.2.mem ((c.tc : Thread Cert.WgradInRefIdeal.nD Cert.WgradInRefIdeal.τ).loc Cert.WgradInRefIdeal.main_arg2) = m' ((c.tc : Thread Cert.WgradInRefIdeal.nD Cert.WgradInRefIdeal.τ).loc Cert.WgradInRefIdeal.main_arg2)
          ∧ r.2.mem ((c.tc : Thread Cert.WgradInRefIdeal.nD Cert.WgradInRefIdeal.τ).loc Cert.WgradInRefIdeal.main_arg3) = m' ((c.tc : Thread Cert.WgradInRefIdeal.nD Cert.WgradInRefIdeal.τ).loc Cert.WgradInRefIdeal.main_arg3))

def preserves_WgradUp_WgradUpIdeal : Prop :=
  True

def algebraic_WgradUpIdeal_WgradUpRefIdeal [hWgradUpIdeal : Cert.WgradUpIdeal.Facts] [hWgradUpRefIdeal : Cert.WgradUpRefIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.WgradUpRefIdeal.nD Cert.WgradUpRefIdeal.τ Cert.WgradUpRefIdeal.sig) → Buf (Elt Ideal) ℓ) (g' : Dev Cert.WgradUpRefIdeal.nD → PrngReg), Pre_WgradUpIdeal m →
    (∀ c : Dev Cert.WgradUpIdeal.nD,
      m' ((c.tc : Thread Cert.WgradUpRefIdeal.nD Cert.WgradUpRefIdeal.τ).loc Cert.WgradUpRefIdeal.main_arg0) = m ((c.tc : Thread Cert.WgradUpIdeal.nD Cert.WgradUpIdeal.τ).loc Cert.WgradUpIdeal.main_arg0)
      ∧ m' ((c.tc : Thread Cert.WgradUpRefIdeal.nD Cert.WgradUpRefIdeal.τ).loc Cert.WgradUpRefIdeal.main_arg1) = m ((c.tc : Thread Cert.WgradUpIdeal.nD Cert.WgradUpIdeal.τ).loc Cert.WgradUpIdeal.main_arg1)
      ∧ m' ((c.tc : Thread Cert.WgradUpRefIdeal.nD Cert.WgradUpRefIdeal.τ).loc Cert.WgradUpRefIdeal.main_arg2) = m ((c.tc : Thread Cert.WgradUpIdeal.nD Cert.WgradUpIdeal.τ).loc Cert.WgradUpIdeal.main_arg2)
      ∧ m' ((c.tc : Thread Cert.WgradUpRefIdeal.nD Cert.WgradUpRefIdeal.τ).loc Cert.WgradUpRefIdeal.main_arg3) = m ((c.tc : Thread Cert.WgradUpIdeal.nD Cert.WgradUpIdeal.τ).loc Cert.WgradUpIdeal.main_arg3)) →
    ∃ (v0 : (c : Dev Cert.WgradUpIdeal.nD) → Buf (Elt Ideal) ((c.tc : Thread Cert.WgradUpIdeal.nD Cert.WgradUpIdeal.τ).loc Cert.WgradUpIdeal.main_v18)),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v18) = v0 c
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
          ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2)
          ∧ r.2.mem ((c.tc : Thread Cert.WgradUpIdeal.nD Cert.WgradUpIdeal.τ).loc Cert.WgradUpIdeal.main_arg3) = m ((c.tc : Thread Cert.WgradUpIdeal.nD Cert.WgradUpIdeal.τ).loc Cert.WgradUpIdeal.main_arg3))
      ∧ θ_run (Cert.WgradUpRefIdeal.defs (F := Ideal)) (onTc (τ := Cert.WgradUpRefIdeal.τ) (Cert.WgradUpRefIdeal.main (F := Ideal))) ⟨m', fun _ => 0, g'⟩ (fun r => ∀ c : Dev Cert.WgradUpRefIdeal.nD,
          r.2.mem ((c.tc : Thread Cert.WgradUpRefIdeal.nD Cert.WgradUpRefIdeal.τ).loc Cert.WgradUpRefIdeal.main_v18) = v0 c
          ∧ r.2.mem ((c.tc : Thread Cert.WgradUpRefIdeal.nD Cert.WgradUpRefIdeal.τ).loc Cert.WgradUpRefIdeal.main_arg0) = m' ((c.tc : Thread Cert.WgradUpRefIdeal.nD Cert.WgradUpRefIdeal.τ).loc Cert.WgradUpRefIdeal.main_arg0)
          ∧ r.2.mem ((c.tc : Thread Cert.WgradUpRefIdeal.nD Cert.WgradUpRefIdeal.τ).loc Cert.WgradUpRefIdeal.main_arg1) = m' ((c.tc : Thread Cert.WgradUpRefIdeal.nD Cert.WgradUpRefIdeal.τ).loc Cert.WgradUpRefIdeal.main_arg1)
          ∧ r.2.mem ((c.tc : Thread Cert.WgradUpRefIdeal.nD Cert.WgradUpRefIdeal.τ).loc Cert.WgradUpRefIdeal.main_arg2) = m' ((c.tc : Thread Cert.WgradUpRefIdeal.nD Cert.WgradUpRefIdeal.τ).loc Cert.WgradUpRefIdeal.main_arg2)
          ∧ r.2.mem ((c.tc : Thread Cert.WgradUpRefIdeal.nD Cert.WgradUpRefIdeal.τ).loc Cert.WgradUpRefIdeal.main_arg3) = m' ((c.tc : Thread Cert.WgradUpRefIdeal.nD Cert.WgradUpRefIdeal.τ).loc Cert.WgradUpRefIdeal.main_arg3))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)
      ∧ m' ((c.tc : Thread Cert.WgradDownRefIdeal.nD Cert.WgradDownRefIdeal.τ).loc Cert.WgradDownRefIdeal.main_arg2) = m ((c.tc : Thread Cert.WgradDownIdeal.nD Cert.WgradDownIdeal.τ).loc Cert.WgradDownIdeal.main_arg2)) →
    ∃ (v0 : (c : Dev Cert.WgradDownIdeal.nD) → Buf (Elt Ideal) ((c.tc : Thread Cert.WgradDownIdeal.nD Cert.WgradDownIdeal.τ).loc Cert.WgradDownIdeal.main_v8)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v8) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
          ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v8) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1)
          ∧ r.2.mem ((c.tc : Thread Cert.WgradDownRefIdeal.nD Cert.WgradDownRefIdeal.τ).loc Cert.WgradDownRefIdeal.main_arg2) = m' ((c.tc : Thread Cert.WgradDownRefIdeal.nD Cert.WgradDownRefIdeal.τ).loc Cert.WgradDownRefIdeal.main_arg2))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)
      ∧ m' ((c.tc : Thread Cert.WgradOutRefIdeal.nD Cert.WgradOutRefIdeal.τ).loc Cert.WgradOutRefIdeal.main_arg2) = m ((c.tc : Thread Cert.WgradOutIdeal.nD Cert.WgradOutIdeal.τ).loc Cert.WgradOutIdeal.main_arg2)) →
    ∃ (v0 : (c : Dev Cert.WgradOutIdeal.nD) → Buf (Elt Ideal) ((c.tc : Thread Cert.WgradOutIdeal.nD Cert.WgradOutIdeal.τ).loc Cert.WgradOutIdeal.main_v3)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v3) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
          ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v4) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1)
          ∧ r.2.mem ((c.tc : Thread Cert.WgradOutRefIdeal.nD Cert.WgradOutRefIdeal.τ).loc Cert.WgradOutRefIdeal.main_arg2) = m' ((c.tc : Thread Cert.WgradOutRefIdeal.nD Cert.WgradOutRefIdeal.τ).loc Cert.WgradOutRefIdeal.main_arg2))

def preserves_DgradIn_DgradInIdeal : Prop :=
  True

def algebraic_DgradInIdeal_DgradInRefIdeal_pre_finite_din [hDgradInIdeal : Cert.DgradInIdeal.Facts] [hDgradInRefIdeal : Cert.DgradInRefIdeal.Facts] [hPre_finite_din : Cert.Pre_finite_din.Facts] : Prop :=
  ∀ (m : (ℓ : Loc Cert.DgradInIdeal.nD Cert.DgradInIdeal.τ Cert.DgradInIdeal.sig) → Buf (Elt Ideal) ℓ) (g : Dev Cert.DgradInIdeal.nD → PrngReg)
    (m' : (ℓ : Loc Cert.DgradInRefIdeal.nD Cert.DgradInRefIdeal.τ Cert.DgradInRefIdeal.sig) → Buf (Elt Ideal) ℓ) (g' : Dev Cert.DgradInRefIdeal.nD → PrngReg), Pre_DgradInIdeal_finite_din m →
    (∀ c : Dev Cert.DgradInIdeal.nD,
      m' ((c.tc : Thread Cert.DgradInRefIdeal.nD Cert.DgradInRefIdeal.τ).loc Cert.DgradInRefIdeal.main_arg0) = m ((c.tc : Thread Cert.DgradInIdeal.nD Cert.DgradInIdeal.τ).loc Cert.DgradInIdeal.main_arg0)
      ∧ m' ((c.tc : Thread Cert.DgradInRefIdeal.nD Cert.DgradInRefIdeal.τ).loc Cert.DgradInRefIdeal.main_arg1) = m ((c.tc : Thread Cert.DgradInIdeal.nD Cert.DgradInIdeal.τ).loc Cert.DgradInIdeal.main_arg1)
      ∧ m' ((c.tc : Thread Cert.DgradInRefIdeal.nD Cert.DgradInRefIdeal.τ).loc Cert.DgradInRefIdeal.main_arg2) = m ((c.tc : Thread Cert.DgradInIdeal.nD Cert.DgradInIdeal.τ).loc Cert.DgradInIdeal.main_arg2)
      ∧ m' ((c.tc : Thread Cert.DgradInRefIdeal.nD Cert.DgradInRefIdeal.τ).loc Cert.DgradInRefIdeal.main_arg3) = m ((c.tc : Thread Cert.DgradInIdeal.nD Cert.DgradInIdeal.τ).loc Cert.DgradInIdeal.main_arg3)
      ∧ m' ((c.tc : Thread Cert.DgradInRefIdeal.nD Cert.DgradInRefIdeal.τ).loc Cert.DgradInRefIdeal.main_arg4) = m ((c.tc : Thread Cert.DgradInIdeal.nD Cert.DgradInIdeal.τ).loc Cert.DgradInIdeal.main_arg4)) →
    ∃ (v0 : (c : Dev Cert.DgradInIdeal.nD) → Buf (Elt Ideal) ((c.tc : Thread Cert.DgradInIdeal.nD Cert.DgradInIdeal.τ).loc Cert.DgradInIdeal.main_v9_0)) (v1 : (c : Dev Cert.DgradInIdeal.nD) → Buf (Elt Ideal) ((c.tc : Thread Cert.DgradInIdeal.nD Cert.DgradInIdeal.τ).loc Cert.DgradInIdeal.main_v9_1)),
      θ_run (Cert.DgradInIdeal.defs (F := Ideal)) (onTc (τ := Cert.DgradInIdeal.τ) (Cert.DgradInIdeal.main (F := Ideal))) ⟨m, fun _ => 0, g⟩ (fun r => ∀ c : Dev Cert.DgradInIdeal.nD,
          r.2.mem ((c.tc : Thread Cert.DgradInIdeal.nD Cert.DgradInIdeal.τ).loc Cert.DgradInIdeal.main_v9_0) = v0 c
          ∧ r.2.mem ((c.tc : Thread Cert.DgradInIdeal.nD Cert.DgradInIdeal.τ).loc Cert.DgradInIdeal.main_v9_1) = v1 c
          ∧ r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
          ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
          ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
          ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
          ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4))
      ∧ θ_run (Cert.DgradInRefIdeal.defs (F := Ideal)) (onTc (τ := Cert.DgradInRefIdeal.τ) (Cert.DgradInRefIdeal.main (F := Ideal))) ⟨m', fun _ => 0, g'⟩ (fun r => ∀ c : Dev Cert.DgradInRefIdeal.nD,
          r.2.mem ((c.tc : Thread Cert.DgradInRefIdeal.nD Cert.DgradInRefIdeal.τ).loc Cert.DgradInRefIdeal.main_v39) = v0 c
          ∧ r.2.mem ((c.tc : Thread Cert.DgradInRefIdeal.nD Cert.DgradInRefIdeal.τ).loc Cert.DgradInRefIdeal.main_v42) = v1 c
          ∧ r.2.mem ((c.tc : Thread Cert.DgradInRefIdeal.nD Cert.DgradInRefIdeal.τ).loc Cert.DgradInRefIdeal.main_arg0) = m' ((c.tc : Thread Cert.DgradInRefIdeal.nD Cert.DgradInRefIdeal.τ).loc Cert.DgradInRefIdeal.main_arg0)
          ∧ r.2.mem ((c.tc : Thread Cert.DgradInRefIdeal.nD Cert.DgradInRefIdeal.τ).loc Cert.DgradInRefIdeal.main_arg1) = m' ((c.tc : Thread Cert.DgradInRefIdeal.nD Cert.DgradInRefIdeal.τ).loc Cert.DgradInRefIdeal.main_arg1)
          ∧ r.2.mem ((c.tc : Thread Cert.DgradInRefIdeal.nD Cert.DgradInRefIdeal.τ).loc Cert.DgradInRefIdeal.main_arg2) = m' ((c.tc : Thread Cert.DgradInRefIdeal.nD Cert.DgradInRefIdeal.τ).loc Cert.DgradInRefIdeal.main_arg2)
          ∧ r.2.mem ((c.tc : Thread Cert.DgradInRefIdeal.nD Cert.DgradInRefIdeal.τ).loc Cert.DgradInRefIdeal.main_arg3) = m' ((c.tc : Thread Cert.DgradInRefIdeal.nD Cert.DgradInRefIdeal.τ).loc Cert.DgradInRefIdeal.main_arg3)
          ∧ r.2.mem ((c.tc : Thread Cert.DgradInRefIdeal.nD Cert.DgradInRefIdeal.τ).loc Cert.DgradInRefIdeal.main_arg4) = m' ((c.tc : Thread Cert.DgradInRefIdeal.nD Cert.DgradInRefIdeal.τ).loc Cert.DgradInRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v56) = v0 c
          ∧ r.2.mem ((c.tc : Thread Cert.FfnFwdRefIdeal.nD Cert.FfnFwdRefIdeal.τ).loc Cert.FfnFwdRefIdeal.main_v58) = v1 c
          ∧ r.2.mem ((c.tc : Thread Cert.FfnFwdRefIdeal.nD Cert.FfnFwdRefIdeal.τ).loc Cert.FfnFwdRefIdeal.main_v61) = v2 c
          ∧ r.2.mem ((c.tc : Thread Cert.FfnFwdRefIdeal.nD Cert.FfnFwdRefIdeal.τ).loc Cert.FfnFwdRefIdeal.main_v64) = v3 c
          ∧ r.2.mem ((c.tc : Thread Cert.FfnFwdRefIdeal.nD Cert.FfnFwdRefIdeal.τ).loc Cert.FfnFwdRefIdeal.main_v67) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def Claim : Prop :=
  ∃ (hKernel : Cert.Kernel.Facts) (hKernelIdeal : Cert.KernelIdeal.Facts) (hReferenceIdeal : Cert.ReferenceIdeal.Facts) (hWgradIn : Cert.WgradIn.Facts) (hWgradInIdeal : Cert.WgradInIdeal.Facts) (hWgradInRefIdeal : Cert.WgradInRefIdeal.Facts) (hWgradUp : Cert.WgradUp.Facts) (hWgradUpIdeal : Cert.WgradUpIdeal.Facts) (hWgradUpRefIdeal : Cert.WgradUpRefIdeal.Facts) (hWgradDown : Cert.WgradDown.Facts) (hWgradDownIdeal : Cert.WgradDownIdeal.Facts) (hWgradDownRefIdeal : Cert.WgradDownRefIdeal.Facts) (hWgradOut : Cert.WgradOut.Facts) (hWgradOutIdeal : Cert.WgradOutIdeal.Facts) (hWgradOutRefIdeal : Cert.WgradOutRefIdeal.Facts) (hDgradIn : Cert.DgradIn.Facts) (hDgradInIdeal : Cert.DgradInIdeal.Facts) (hDgradInRefIdeal : Cert.DgradInRefIdeal.Facts) (hFfnFwd : Cert.FfnFwd.Facts) (hFfnFwdIdeal : Cert.FfnFwdIdeal.Facts) (hFfnFwdRefIdeal : Cert.FfnFwdRefIdeal.Facts) (hPre_finite : Cert.Pre_finite.Facts) (hPre_finite_din : Cert.Pre_finite_din.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_WgradUp (hWgradUp := hWgradUp)
    ∧ quiescent_WgradUpIdeal (hWgradUpIdeal := hWgradUpIdeal)
    ∧ quiescent_WgradUpRefIdeal (hWgradUpRefIdeal := hWgradUpRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_DgradIn (hDgradIn := hDgradIn)
    ∧ quiescent_DgradInIdeal (hDgradInIdeal := hDgradInIdeal)
    ∧ quiescent_DgradInIdeal_pre_finite_din (hDgradInIdeal := hDgradInIdeal) (hPre_finite_din := hPre_finite_din)
    ∧ quiescent_DgradInRefIdeal (hDgradInRefIdeal := hDgradInRefIdeal)
    ∧ quiescent_DgradInRefIdeal_pre_finite_din (hDgradInRefIdeal := hDgradInRefIdeal) (hPre_finite_din := hPre_finite_din)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WgradIn_WgradInIdeal
    ∧ algebraic_WgradInIdeal_WgradInRefIdeal (hWgradInIdeal := hWgradInIdeal) (hWgradInRefIdeal := hWgradInRefIdeal)
    ∧ preserves_WgradUp_WgradUpIdeal
    ∧ algebraic_WgradUpIdeal_WgradUpRefIdeal (hWgradUpIdeal := hWgradUpIdeal) (hWgradUpRefIdeal := hWgradUpRefIdeal)
    ∧ preserves_WgradDown_WgradDownIdeal
    ∧ algebraic_WgradDownIdeal_WgradDownRefIdeal (hWgradDownIdeal := hWgradDownIdeal) (hWgradDownRefIdeal := hWgradDownRefIdeal)
    ∧ preserves_WgradOut_WgradOutIdeal
    ∧ algebraic_WgradOutIdeal_WgradOutRefIdeal (hWgradOutIdeal := hWgradOutIdeal) (hWgradOutRefIdeal := hWgradOutRefIdeal)
    ∧ preserves_DgradIn_DgradInIdeal
    ∧ algebraic_DgradInIdeal_DgradInRefIdeal_pre_finite_din (hDgradInIdeal := hDgradInIdeal) (hDgradInRefIdeal := hDgradInRefIdeal) (hPre_finite_din := hPre_finite_din)
    ∧ preserves_FfnFwd_FfnFwdIdeal
    ∧ algebraic_FfnFwdIdeal_FfnFwdRefIdeal (hFfnFwdIdeal := hFfnFwdIdeal) (hFfnFwdRefIdeal := hFfnFwdRefIdeal)
-- ==== Pre_finite.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S3x1024 : S_.BroadcastsInDim S3x1024 (![] : Fin 0 → Fin S3x1024.rank)
  reducesTo_S3x1024_S_d0_1 : S3x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S8x128 .f32) (main_arg8 : FVec F S1024x1024 .f32) (main_arg9 : FVec F S4x2048x1024 .f32) (main_v33 : IVec S_ 1) : IVec S_ 1 :=
  let main_v34 : FVec F S8x128 .f32 := Host.absf main_arg7
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S4x2048x1024 .f32 := Host.absf main_arg9
  let main_cst_16 : FVec F S_ .f32 := constant S_ .f32 0x7F800000#32
  let main_v45 : FVec F S4x2048x1024 .f32 := broadcastInDim S4x2048x1024 ![] bcast_S_S4x2048x1024 main_cst_16
  let main_v46 : IVec S4x2048x1024 1 := cmpf .olt main_v44 main_v45
  let main_c_17 : IVec S_ 1 := constantI S_ 1 1#1
  let main_v47 : IVec S_ 1 := (fun x v => Host.reduce IntOp.andi x v reducesTo_S4x2048x1024_S_d0_1_2 h_S_) main_v46 main_c_17
  let main_v48 : IVec S_ 1 := andi main_v43 main_v47
  main_v48

def fn_part1 {F : FTy → Type} [FloatOps F] (main_arg4 : FVec F S1024 .f32) (main_arg5 : FVec F S1024 .f32) (main_arg6 : FVec F S8x128x128 .f32) (main_arg7 : FVec F S8x128 .f32) (main_arg8 : FVec F S1024x1024 .f32) (main_arg9 : FVec F S4x2048x1024 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8x128x128 .f32 := Host.absf main_arg6
  let main_cst_10 : FVec F S_ .f32 := constant S_ .f32 0x7F800000#32
  let main_v30 : FVec F S8x128x128 .f32 := broadcastInDim S8x128x128 ![] bcast_S_S8x128x128 main_cst_10
  let main_v31 : IVec S8x128x128 1 := cmpf .olt main_v29 main_v30
  let main_c_11 : IVec S_ 1 := constantI S_ 1 1#1
  let main_v32 : IVec S_ 1 := (fun x v => Host.reduce IntOp.andi x v reducesTo_S8x128x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S1024 .f32) (main_arg2 : FVec F S1024x7168 .f32) (main_arg3 : FVec F S3x1024 .f32) (main_arg4 : FVec F S1024 .f32) (main_arg5 : FVec F S1024 .f32) (main_arg6 : FVec F S8x128x128 .f32) (main_arg7 : FVec F S8x128 .f32) (main_arg8 : FVec F S1024x1024 .f32) (main_arg9 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7168 .f32 := Host.absf main_arg2
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  let main_c_3 : IVec S_ 1 := constantI S_ 1 1#1
  let main_v12 : IVec S_ 1 := (fun x v => Host.reduce IntOp.andi x v reducesTo_S1024x7168_S_d0_1 h_S_) main_v11 main_c_3
  let main_v13 : IVec S_ 1 := andi main_v8 main_v12
  let main_v14 : FVec F S3x1024 .f32 := Host.absf main_arg3
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg4 main_arg5 main_arg6 main_arg7 main_arg8 main_arg9 main_v13 main_v16
-- ==== Pre_finite_din.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S4x2048x7168 : S_.BroadcastsInDim S4x2048x7168 (![] : Fin 0 → Fin S4x2048x7168.rank)
  reducesTo_S4x2048x7168_S_d0_1_2 : S4x2048x7168.ReducesTo [0, 1, 2] S_

variable [Facts]

def fn_part1 {F : FTy → Type} [FloatOps F] (main_v13 : IVec S_ 1) (main_v16 : IVec S4x2048x7168 1) : IVec S_ 1 :=
  let main_c_5 : IVec S_ 1 := constantI S_ 1 1#1
  let main_v17 : IVec S_ 1 := (fun x v => Host.reduce IntOp.andi x v reducesTo_S4x2048x7168_S_d0_1_2 h_S_) main_v16 main_c_5
  let main_v18 : IVec S_ 1 := andi main_v13 main_v17
  main_v18

def fn {F : FTy → Type} [FloatOps F] (main_arg0 : FVec F S4x2048x1024 .f32) (main_arg1 : FVec F S1024 .f32) (main_arg2 : FVec F S1024x7168 .f32) (main_arg3 : FVec F S4x2048x7168 .f32) (main_arg4 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7168 .f32 := Host.absf main_arg2
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  let main_c_3 : IVec S_ 1 := constantI S_ 1 1#1
  let main_v12 : IVec S_ 1 := (fun x v => Host.reduce IntOp.andi x v reducesTo_S1024x7168_S_d0_1 h_S_) main_v11 main_c_3
  let main_v13 : IVec S_ 1 := andi main_v8 main_v12
  let main_v14 : FVec F S4x2048x7168 .f32 := Host.absf main_arg3
  let main_cst_4 : FVec F S_ .f32 := constant S_ .f32 0x7F800000#32
  let main_v15 : FVec F S4x2048x7168 .f32 := broadcastInDim S4x2048x7168 ![] bcast_S_S4x2048x7168 main_cst_4
  let main_v16 : IVec S4x2048x7168 1 := cmpf .olt main_v14 main_v15
  fn_part1 (F := F) main_v13 main_v16
-- ==== Kernel.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S4x2048x10240 : Shape := ⟨3, ![4, 2048, 10240]⟩
abbrev S8192x10240 : Shape := ⟨2, ![8192, 10240]⟩
abbrev S1024x8x896 : Shape := ⟨3, ![1024, 8, 896]⟩
abbrev S8x1024x896 : Shape := ⟨3, ![8, 1024, 896]⟩
abbrev S8192x1024 : Shape := ⟨2, ![8192, 1024]⟩
abbrev S8x1024 : Shape := ⟨2, ![8, 1024]⟩
abbrev S8192x7168 : Shape := ⟨2, ![8192, 7168]⟩
abbrev S128x1024 : Shape := ⟨2, ![128, 1024]⟩
abbrev S256x1024 : Shape := ⟨2, ![256, 1024]⟩
abbrev S256x10240 : Shape := ⟨2, ![256, 10240]⟩
abbrev S256x7168 : Shape := ⟨2, ![256, 7168]⟩
abbrev S256 : Shape := ⟨1, ![256]⟩
abbrev S256x1 : Shape := ⟨2, ![256, 1]⟩
abbrev S248x1024 : Shape := ⟨2, ![248, 1024]⟩
abbrev S1x1024x896 : Shape := ⟨3, ![1, 1024, 896]⟩
abbrev S1024x896 : Shape := ⟨2, ![1024, 896]⟩
abbrev S1024x1792 : Shape := ⟨2, ![1024, 1792]⟩
abbrev S256x1792 : Shape := ⟨2, ![256, 1792]⟩
abbrev S128 : Shape := ⟨1, ![128]⟩
abbrev S128x1 : Shape := ⟨2, ![128, 1]⟩

abbrev nBuf : Space → Nat
  | .hbm => 139
  | .vmem => 24
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1024, .f32⟩
  | 22 => ⟨S4x2048x1024, .f32⟩
  | 23 => ⟨S1x1x1024, .f32⟩
  | 24 => ⟨S4x2048x1024, .f32⟩
  | 25 => ⟨S4x2048x1024, .f32⟩
  | 26 => ⟨S4x2048x7168, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S_, .f32⟩
  | 36 => ⟨S4x2x1024, .f32⟩
  | 37 => ⟨S4x2050x1024, .f32⟩
  | 38 => ⟨S4x2048x1024, .f32⟩
  | 39 => ⟨S1x1024, .f32⟩
  | 40 => ⟨S1024, .f32⟩
  | 41 => ⟨S1x1x1024, .f32⟩
  | 42 => ⟨S4x2048x1024, .f32⟩
  | 43 => ⟨S4x2048x1024, .f32⟩
  | 44 => ⟨S4x2048x1024, .f32⟩
  | 45 => ⟨S1x1024, .f32⟩
  | 46 => ⟨S1024, .f32⟩
  | 47 => ⟨S1x1x1024, .f32⟩
  | 48 => ⟨S4x2048x1024, .f32⟩
  | 49 => ⟨S4x2048x1024, .f32⟩
  | 50 => ⟨S4x2048x1024, .f32⟩
  | 51 => ⟨S4x2048x1024, .f32⟩
  | 52 => ⟨S1x1024, .f32⟩
  | 53 => ⟨S1024, .f32⟩
  | 54 => ⟨S1x1x1024, .f32⟩
  | 55 => ⟨S4x2048x1024, .f32⟩
  | 56 => ⟨S4x2048x1024, .f32⟩
  | 57 => ⟨S4x2048x1024, .f32⟩
  | 58 => ⟨S_, .f32⟩
  | 59 => ⟨S4x2048, .f32⟩
  | 60 => ⟨S4x2048x1, .f32⟩
  | 61 => ⟨S_, .f32⟩
  | 62 => ⟨S4x2048x1, .f32⟩
  | 63 => ⟨S4x2048x1, .f32⟩
  | 64 => ⟨S4x2048x1024, .f32⟩
  | 65 => ⟨S4x2048x1024, .f32⟩
  | 66 => ⟨S4x2048x1024, .f32⟩
  | 67 => ⟨S_, .f32⟩
  | 68 => ⟨S4x2048, .f32⟩
  | 69 => ⟨S4x2048x1, .f32⟩
  | 70 => ⟨S_, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S4x2048x1, .f32⟩
  | 77 => ⟨S4x2048x1024, .f32⟩
  | 78 => ⟨S4x2048x1024, .f32⟩
  | 79 => ⟨S1x1x1024, .f32⟩
  | 80 => ⟨S4x2048x1024, .f32⟩
  | 81 => ⟨S4x2048x1024, .f32⟩
  | 82 => ⟨S1x1x1024, .f32⟩
  | 83 => ⟨S4x2048x1024, .f32⟩
  | 84 => ⟨S4x2048x1024, .f32⟩
  | 85 => ⟨S4x16x128x8x128, .f32⟩
  | 86 => ⟨S128x128, .i32⟩
  | 87 => ⟨S128x128, .i32⟩
  | 88 => ⟨S128x128, .i1⟩
  | 89 => ⟨S1x128x128, .i1⟩
  | 90 => ⟨S_, .f32⟩
  | 91 => ⟨S8x128x128, .i1⟩
  | 92 => ⟨S8x128x128, .f32⟩
  | 93 => ⟨S8x128x128, .f32⟩
  | 94 => ⟨S8x4x16x128x128, .f32⟩
  | 95 => ⟨S4x16x128x8x128, .f32⟩
  | 96 => ⟨S128x8, .f32⟩
  | 97 => ⟨S1x1x128x8x1, .f32⟩
  | 98 => ⟨S4x16x128x8x128, .f32⟩
  | 99 => ⟨S4x16x128x8x128, .f32⟩
  | 100 => ⟨S4x2048x1024, .f32⟩
  | 101 => ⟨S4x2048x1024, .f32⟩
  | 102 => ⟨S4x2048x1024, .f32⟩
  | 103 => ⟨S_, .f32⟩
  | 104 => ⟨S4x2048x1024, .f32⟩
  | 105 => ⟨S4x2048x1024, .f32⟩
  | 106 => ⟨S_, .f32⟩
  | 107 => ⟨S4x2048x1024, .f32⟩
  | 108 => ⟨S4x2048x1024, .f32⟩
  | 109 => ⟨S4x2048x1024, .f32⟩
  | 110 => ⟨S4x2048x1024, .f32⟩
  | 111 => ⟨S_, .f32⟩
  | 112 => ⟨S4x2048x1024, .f32⟩
  | 113 => ⟨S4x2048x1024, .f32⟩
  | 114 => ⟨S_, .f32⟩
  | 115 => ⟨S4x2048x1024, .f32⟩
  | 116 => ⟨S4x2048x1024, .f32⟩
  | 117 => ⟨S4x2048x10240, .f32⟩
  | 118 => ⟨S8192x10240, .f32⟩
  | 119 => ⟨S8192x10240, .bf16⟩
  | 120 => ⟨S1024x8x896, .f32⟩
  | 121 => ⟨S8x1024x896, .f32⟩
  | 122 => ⟨S8x1024x896, .bf16⟩
  | 123 => ⟨S8192x1024, .f32⟩
  | 124 => ⟨S1024x1024, .bf16⟩
  | 125 => ⟨S_, .i32⟩
  | 126 => ⟨S_, .f32⟩
  | 127 => ⟨S8x1024, .f32⟩
  | _ => ⟨S4x2048x1024, .f32⟩

abbrev hbmTy0_1 (i : Nat) : BufTy := match i % 128 with
  | 0 => ⟨S1x1024, .f32⟩
  | 1 => ⟨S8x128x128, .f32⟩
  | 2 => ⟨S8192x1024, .f32⟩
  | 3 => ⟨S1x1024, .f32⟩
  | 4 => ⟨S8192x7168, .bf16⟩
  | 5 => ⟨S8x1024, .f32⟩
  | 6 => ⟨S8x1024, .f32⟩
  | 7 => ⟨S8x128x128, .f32⟩
  | 8 => ⟨S128x1024, .f32⟩
  | 9 => ⟨S8192x1024, .f32⟩
  | 10 => ⟨S8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x10240, .bf16⟩
  | .local _ .vmem, ⟨3, _⟩ => ⟨S256x10240, .bf16⟩
  | .local _ .vmem, ⟨4, _⟩ => ⟨S1024x1024, .bf16⟩
  | .local _ .vmem, ⟨5, _⟩ => ⟨S8x1024, .f32⟩
  | .local _ .vmem, ⟨6, _⟩ => ⟨S1x1024, .f32⟩
  | .local _ .vmem, ⟨7, _⟩ => ⟨S8x128x128, .f32⟩
  | .local _ .vmem, ⟨8, _⟩ => ⟨S8x1024x896, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x7168, .bf16⟩
  | .local _ .vmem, ⟨13, _⟩ => ⟨S256x7168, .bf16⟩
  | .local _ .vmem, ⟨14, _⟩ => ⟨S8x1024, .f32⟩
  | .local _ .vmem, ⟨15, _⟩ => ⟨S8x1024, .f32⟩
  | .local _ .vmem, ⟨16, _⟩ => ⟨S8x128x128, .f32⟩
  | .local _ .vmem, ⟨17, _⟩ => ⟨S128x1024, .f32⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S256x1024, .f32⟩
  | .local _ .vmem, ⟨22, _⟩ => ⟨S8x1024, .f32⟩
  | .local _ .vmem, ⟨23, _⟩ => ⟨S128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_call0_v0 : Ref sig .tc := ⟨.hbm, 91, rfl⟩
abbrev main_call0_v1 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_v82 : Ref sig .tc := ⟨.hbm, 105, rfl⟩
abbrev main_cst_10 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_11 : Ref sig .tc := ⟨.hbm, 111, rfl⟩
abbrev main_v87 : Ref sig .tc := ⟨.hbm, 112, rfl⟩
abbrev main_v88 : Ref sig .tc := ⟨.hbm, 113, rfl⟩
abbrev main_cst_12 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c : Ref sig .tc := ⟨.hbm, 125, rfl⟩
abbrev main_call1_v0 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104_0 : Ref sig .tc := ⟨.hbm, 132, rfl⟩
abbrev main_v104_1 : Ref sig .tc := ⟨.hbm, 133, rfl⟩
abbrev main_v104_2 : Ref sig .tc := ⟨.hbm, 134, rfl⟩
abbrev main_v104_3 : Ref sig .tc := ⟨.hbm, 135, rfl⟩
abbrev main_v104_4 : Ref sig .tc := ⟨.hbm, 136, rfl⟩
abbrev main_v104_5 : Ref sig .tc := ⟨.hbm, 137, rfl⟩
abbrev main_v104_6 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_286 : BitVec 32 := 31#32
  let v540 : BitVec 1 := Scalar.cmpi .eq arg0 c31_i32_286
  let v541 : BitVec 32 := Scalar.extui v540
  let c0_i32_287 : BitVec 32 := 0#32
  let v542 : BitVec 1 := Scalar.cmpi .ne v541 c0_i32_287
  v542

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4x2048x1024 : Shape := ⟨3, ![4, 2048, 1024]⟩
abbrev S1024 : Shape := ⟨1, ![1024]⟩
abbrev S1024x7168 : Shape := ⟨2, ![1024, 7168]⟩
abbrev S3x1024 : Shape := ⟨2, ![3, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7168 : Shape := ⟨3, ![4, 2048, 7168]⟩
abbrev S4x2x1024 : Shape := ⟨3, ![4, 2, 1024]⟩
abbrev S4x2050x1024 : Shape := ⟨3, ![4, 2050, 1024]⟩
abbrev S1x1024 : Shape := ⟨2, ![1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S8192x7168 : Shape := ⟨2, ![8192, 7168]⟩
abbrev S5x1024 : Shape := ⟨2, ![5, 1024]⟩
abbrev S8x1024 : Shape := ⟨2, ![8, 1024]⟩
abbrev S2x1024 : Shape := ⟨2, ![2, 1024]⟩
abbrev S6x1024 : Shape := ⟨2, ![6, 1024]⟩
abbrev S128x8x1 : Shape := ⟨3, ![128, 8, 1]⟩
abbrev S128x8x128 : Shape := ⟨3, ![128, 8, 128]⟩
abbrev S128x1024 : Shape := ⟨2, ![128, 1024]⟩
abbrev S8192x1024 : Shape := ⟨2, ![8192, 1024]⟩
abbrev S7x1024 : Shape := ⟨2, ![7, 1024]⟩

abbrev nBuf : Space → Nat
  | .hbm => 305
  | .vmem => 0
  | .smem => 0
  | _ => 0

abbrev hbmTy0_0 (i : Nat) : BufTy := match i % 128 with
  | 0 => ⟨S4x2048x1024, .f32⟩
  | 1 => ⟨S1024, .f32⟩
  | 2 => ⟨S1024x7168, .f32⟩
  | 3 => ⟨S3x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S4x2048x7168, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S_, .f32⟩
  | 40 => ⟨S4x2x1024, .f32⟩
  | 41 => ⟨S4x2050x1024, .f32⟩
  | 42 => ⟨S_, .f32⟩
  | 43 => ⟨S4x2x1024, .f32⟩
  | 44 => ⟨S4x2048x1024, .f32⟩
  | 45 => ⟨S1x1024, .f32⟩
  | 46 => ⟨S1024, .f32⟩
  | 47 => ⟨S1x1x1024, .f32⟩
  | 48 => ⟨S4x2048x1024, .f32⟩
  | 49 => ⟨S4x2048x1024, .f32⟩
  | 50 => ⟨S4x2048x1024, .f32⟩
  | 51 => ⟨S1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S4x2048x1024, .f32⟩
  | 72 => ⟨S4x2048x1024, .f32⟩
  | 73 => ⟨S4x2048x1024, .f32⟩
  | 74 => ⟨S_, .f32⟩
  | 75 => ⟨S4x2048, .f32⟩
  | 76 => ⟨S4x2048x1, .f32⟩
  | 77 => ⟨S_, .f32⟩
  | 78 => ⟨S4x2048x1, .f32⟩
  | 79 => ⟨S4x2048x1, .f32⟩
  | 80 => ⟨S_, .f32⟩
  | 81 => ⟨S4x2048x1, .f32⟩
  | 82 => ⟨S4x2048x1, .f32⟩
  | 83 => ⟨S4x2048x1, .f32⟩
  | 84 => ⟨S4x2048x1, .f32⟩
  | 85 => ⟨S_, .f32⟩
  | 86 => ⟨S4x2048x1, .f32⟩
  | 87 => ⟨S4x2048x1, .f32⟩
  | 88 => ⟨S4x2048x1024, .f32⟩
  | 89 => ⟨S4x2048x1024, .f32⟩
  | 90 => ⟨S1x1x1024, .f32⟩
  | 91 => ⟨S4x2048x1024, .f32⟩
  | 92 => ⟨S4x2048x1024, .f32⟩
  | 93 => ⟨S1x1x1024, .f32⟩
  | 94 => ⟨S4x2048x1024, .f32⟩
  | 95 => ⟨S4x2048x1024, .f32⟩
  | 96 => ⟨S4x16x128x8x128, .f32⟩
  | 97 => ⟨S128x128, .i32⟩
  | 98 => ⟨S128x128, .i32⟩
  | 99 => ⟨S128x128, .i1⟩
  | 100 => ⟨S1x128x128, .i1⟩
  | 101 => ⟨S_, .f32⟩
  | 102 => ⟨S8x128x128, .i1⟩
  | 103 => ⟨S8x128x128, .f32⟩
  | 104 => ⟨S8x128x128, .f32⟩
  | 105 => ⟨S_, .f32⟩
  | 106 => ⟨S8x128x128, .f32⟩
  | 107 => ⟨S8x4x16x128x128, .f32⟩
  | 108 => ⟨S4x16x128x8x128, .f32⟩
  | 109 => ⟨S128x8, .f32⟩
  | 110 => ⟨S1x1x128x8x1, .f32⟩
  | 111 => ⟨S4x16x128x8x128, .f32⟩
  | 112 => ⟨S4x16x128x8x128, .f32⟩
  | 113 => ⟨S4x2048x1024, .f32⟩
  | 114 => ⟨S4x2048x1024, .f32⟩
  | 115 => ⟨S4x2048x1024, .f32⟩
  | 116 => ⟨S4x2048x1024, .f32⟩
  | 117 => ⟨S_, .f32⟩
  | 118 => ⟨S4x2048x1024, .f32⟩
  | 119 => ⟨S4x2048x1024, .f32⟩
  | 120 => ⟨S_, .f32⟩
  | 121 => ⟨S4x2048x1024, .f32⟩
  | 122 => ⟨S4x2048x1024, .f32⟩
  | 123 => ⟨S_, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S4x2048x1024, .f32⟩
  | 4 => ⟨S4x2048x1024, .f32⟩
  | 5 => ⟨S_, .f32⟩
  | 6 => ⟨S4x2048x1024, .f32⟩
  | 7 => ⟨S4x2048x1024, .f32⟩
  | 8 => ⟨S_, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S4x16x128x8x128, .f32⟩
  | 25 => ⟨S_, .f32⟩
  | 26 => ⟨S128x8, .f32⟩
  | 27 => ⟨S1x1x128x8x1, .f32⟩
  | 28 => ⟨S_, .f32⟩
  | 29 => ⟨S128x8, .f32⟩
  | 30 => ⟨S8x128, .f32⟩
  | 31 => ⟨S8x4x16x128x128, .f32⟩
  | 32 => ⟨S8x128x128, .f32⟩
  | 33 => ⟨S8x4x16x128x128, .f32⟩
  | 34 => ⟨S4x16x128x8x128, .f32⟩
  | 35 => ⟨S_, .f32⟩
  | 36 => ⟨S8x128x128, .f32⟩
  | 37 => ⟨S8x128x128, .f32⟩
  | 38 => ⟨S4x2048x1024, .f32⟩
  | 39 => ⟨S_, .f32⟩
  | 40 => ⟨S1024, .f32⟩
  | 41 => ⟨S1x1x1024, .f32⟩
  | 42 => ⟨S_, .f32⟩
  | 43 => ⟨S1024, .f32⟩
  | 44 => ⟨S4x2048x1024, .f32⟩
  | 45 => ⟨S_, .f32⟩
  | 46 => ⟨S1024, .f32⟩
  | 47 => ⟨S1x1x1024, .f32⟩
  | 48 => ⟨S4x2048x1024, .f32⟩
  | 49 => ⟨S4x2048x1024, .f32⟩
  | 50 => ⟨S_, .f32⟩
  | 51 => ⟨S1024, .f32⟩
  | 52 => ⟨S4x2048x1024, .f32⟩
  | 53 => ⟨S_, .f32⟩
  | 54 => ⟨S4x2048, .f32⟩
  | 55 => ⟨S4x2048x1, .f32⟩
  | 56 => ⟨S4x2048x1024, .f32⟩
  | 57 => ⟨S4x2048x1024, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048, .f32⟩
  | 64 => ⟨S4x2048x1024, .f32⟩
  | 65 => ⟨S4x2048x1024, .f32⟩
  | 66 => ⟨S4x2048x1024, .f32⟩
  | 67 => ⟨S4x2048x1024, .f32⟩
  | 68 => ⟨S4x2048x1024, .f32⟩
  | 69 => ⟨S4x2048x1024, .f32⟩
  | 70 => ⟨S_, .f32⟩
  | 71 => ⟨S4x2048, .f32⟩
  | 72 => ⟨S4x2048x1, .f32⟩
  | 73 => ⟨S_, .f32⟩
  | 74 => ⟨S4x2048x1, .f32⟩
  | 75 => ⟨S4x2048x1, .f32⟩
  | 76 => ⟨S_, .f32⟩
  | 77 => ⟨S4x2048, .f32⟩
  | 78 => ⟨S4x2048x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S_, .f32⟩
  | 84 => ⟨S1024, .f32⟩
  | 85 => ⟨S1x1x1024, .f32⟩
  | 86 => ⟨S4x2048x1024, .f32⟩
  | 87 => ⟨S4x2048x1024, .f32⟩
  | 88 => ⟨S_, .f32⟩
  | 89 => ⟨S1024, .f32⟩
  | 90 => ⟨S1x1024, .f32⟩
  | 91 => ⟨S_, .f32⟩
  | 92 => ⟨S3x1024, .f32⟩
  | 93 => ⟨S_, .f32⟩
  | 94 => ⟨S4x2050x1024, .f32⟩
  | 95 => ⟨S4x2048x1024, .f32⟩
  | 96 => ⟨S_, .f32⟩
  | 97 => ⟨S1024, .f32⟩
  | 98 => ⟨S1x1x1024, .f32⟩
  | 99 => ⟨S4x2048x1024, .f32⟩
  | 100 => ⟨S4x2048x1024, .f32⟩
  | 101 => ⟨S_, .f32⟩
  | 102 => ⟨S1024, .f32⟩
  | 103 => ⟨S1x1024, .f32⟩
  | 104 => ⟨S_, .f32⟩
  | 105 => ⟨S3x1024, .f32⟩
  | 106 => ⟨S3x1024, .f32⟩
  | 107 => ⟨S_, .f32⟩
  | 108 => ⟨S4x2050x1024, .f32⟩
  | 109 => ⟨S4x2050x1024, .f32⟩
  | 110 => ⟨S4x2048x1024, .f32⟩
  | 111 => ⟨S_, .f32⟩
  | 112 => ⟨S1024, .f32⟩
  | 113 => ⟨S1x1x1024, .f32⟩
  | 114 => ⟨S4x2048x1024, .f32⟩
  | 115 => ⟨S4x2048x1024, .f32⟩
  | 116 => ⟨S_, .f32⟩
  | 117 => ⟨S1024, .f32⟩
  | 118 => ⟨S1x1024, .f32⟩
  | 119 => ⟨S_, .f32⟩
  | 120 => ⟨S3x1024, .f32⟩
  | 121 => ⟨S3x1024, .f32⟩
  | 122 => ⟨S_, .f32⟩
  | 123 => ⟨S4x2050x1024, .f32⟩
  | 124 => ⟨S4x2050x1024, .f32⟩
  | 125 => ⟨S4x2x1024, .f32⟩
  | 126 => ⟨S4x2048x1024, .f32⟩
  | 127 => ⟨S4x2048x1024, .f32⟩
  | _ => ⟨S4x2048x1024, .f32⟩

abbrev hbmTy0_2 (i : Nat) : BufTy := match i % 128 with
  | 0 => ⟨S4x2048x1024, .f32⟩
  | 1 => ⟨S4x2048x7168, .f32⟩
  | 2 => ⟨S4x2048x1024, .f32⟩
  | 3 => ⟨S4x2048x1024, .f32⟩
  | 4 => ⟨S_, .f32⟩
  | 5 => ⟨S1024, .f32⟩
  | 6 => ⟨S1x1x1024, .f32⟩
  | 7 => ⟨S4x2048x1024, .f32⟩
  | 8 => ⟨S4x2048x1024, .f32⟩
  | 9 => ⟨S_, .f32⟩
  | 10 => ⟨S1024, .f32⟩
  | 11 => ⟨S4x2048x1024, .f32⟩
  | 12 => ⟨S_, .f32⟩
  | 13 => ⟨S4x2048, .f32⟩
  | 14 => ⟨S4x2048x1, .f32⟩
  | 15 => ⟨S4x2048x1024, .f32⟩
  | 16 => ⟨S4x2048x1024, .f32⟩
  | 17 => ⟨S4x2048x1, .f32⟩
  | 18 => ⟨S_, .f32⟩
  | 19 => ⟨S4x2048x1, .f32⟩
  | 20 => ⟨S4x2048x1, .f32⟩
  | 21 => ⟨S_, .f32⟩
  | 22 => ⟨S4x2048, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S8192x7168, .f32⟩
  | 29 => ⟨S8192x7168, .bf16⟩
  | 30 => ⟨S_, .f32⟩
  | 31 => ⟨S5x1024, .f32⟩
  | 32 => ⟨S8x1024, .f32⟩
  | 33 => ⟨S1x1024, .f32⟩
  | 34 => ⟨S1x1024, .f32⟩
  | 35 => ⟨S2x1024, .f32⟩
  | 36 => ⟨S_, .f32⟩
  | 37 => ⟨S6x1024, .f32⟩
  | 38 => ⟨S8x1024, .f32⟩
  | 39 => ⟨S128x8, .f32⟩
  | 40 => ⟨S128x8x1, .f32⟩
  | 41 => ⟨S128x8x128, .f32⟩
  | 42 => ⟨S128x1024, .f32⟩
  | 43 => ⟨S4x2048x1024, .f32⟩
  | 44 => ⟨S8192x1024, .f32⟩
  | 45 => ⟨S1x1024, .f32⟩
  | 46 => ⟨S_, .f32⟩
  | 47 => ⟨S7x1024, .f32⟩
  | 48 => ⟨S8x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79_1 : Ref sig .tc := ⟨.hbm, 102, rfl⟩
abbrev main_call0_v1 : Ref sig .tc := ⟨.hbm, 103, rfl⟩
abbrev main_v79_0 : Ref sig .tc := ⟨.hbm, 104, rfl⟩
abbrev main_call0_cst : Ref sig .tc := ⟨.hbm, 105, rfl⟩
abbrev main_v79_2 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_12 : Ref sig .tc := ⟨.hbm, 117, rfl⟩
abbrev main_v90 : Ref sig .tc := ⟨.hbm, 118, rfl⟩
abbrev main_v91 : Ref sig .tc := ⟨.hbm, 119, rfl⟩
abbrev main_cst_13 : Ref sig .tc := ⟨.hbm, 120, rfl⟩
abbrev main_v92 : Ref sig .tc := ⟨.hbm, 121, rfl⟩
abbrev main_v93 : Ref sig .tc := ⟨.hbm, 122, rfl⟩
abbrev main_cst_14 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_15 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_cst_17 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_18 : Ref sig .tc := ⟨.hbm, 153, rfl⟩
abbrev main_v120 : Ref sig .tc := ⟨.hbm, 154, rfl⟩
abbrev main_v121 : Ref sig .tc := ⟨.hbm, 155, rfl⟩
abbrev main_cst_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_call1_cst : Ref sig .tc := ⟨.hbm, 163, rfl⟩
abbrev main_call1_v0 : Ref sig .tc := ⟨.hbm, 164, rfl⟩
abbrev main_v128 : Ref sig .tc := ⟨.hbm, 165, rfl⟩
abbrev main_v129 : Ref sig .tc := ⟨.hbm, 166, rfl⟩
abbrev main_cst_20 : Ref sig .tc := ⟨.hbm, 167, rfl⟩
abbrev main_v130 : Ref sig .tc := ⟨.hbm, 168, rfl⟩
abbrev main_v131 : Ref sig .tc := ⟨.hbm, 169, rfl⟩
abbrev main_cst_21 : Ref sig .tc := ⟨.hbm, 170, rfl⟩
abbrev main_v132 : Ref sig .tc := ⟨.hbm, 171, rfl⟩
abbrev main_v133 : Ref sig .tc := ⟨.hbm, 172, rfl⟩
abbrev main_cst_22 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_23 : Ref sig .tc := ⟨.hbm, 178, rfl⟩
abbrev main_v138 : Ref sig .tc := ⟨.hbm, 179, rfl⟩
abbrev main_v139 : Ref sig .tc := ⟨.hbm, 180, rfl⟩
abbrev main_cst_24 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_25 : Ref sig .tc := ⟨.hbm, 187, rfl⟩
abbrev main_v145 : Ref sig .tc := ⟨.hbm, 188, rfl⟩
abbrev main_v146 : Ref sig .tc := ⟨.hbm, 189, rfl⟩
abbrev main_cst_26 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_27 : Ref sig .tc := ⟨.hbm, 198, rfl⟩
abbrev main_v154 : Ref sig .tc := ⟨.hbm, 199, rfl⟩
abbrev main_v155 : Ref sig .tc := ⟨.hbm, 200, rfl⟩
abbrev main_cst_28 : Ref sig .tc := ⟨.hbm, 201, rfl⟩
abbrev main_v156 : Ref sig .tc := ⟨.hbm, 202, rfl⟩
abbrev main_v157 : Ref sig .tc := ⟨.hbm, 203, rfl⟩
abbrev main_cst_29 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_30 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_31 : Ref sig .tc := ⟨.hbm, 216, rfl⟩
abbrev main_v168 : Ref sig .tc := ⟨.hbm, 217, rfl⟩
abbrev main_v169 : Ref sig .tc := ⟨.hbm, 218, rfl⟩
abbrev main_cst_32 : Ref sig .tc := ⟨.hbm, 219, rfl⟩
abbrev main_v170 : Ref sig .tc := ⟨.hbm, 220, rfl⟩
abbrev main_cst_33 : Ref sig .tc := ⟨.hbm, 221, rfl⟩
abbrev main_v171 : Ref sig .tc := ⟨.hbm, 222, rfl⟩
abbrev main_v172 : Ref sig .tc := ⟨.hbm, 223, rfl⟩
abbrev main_cst_34 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_cst_35 : Ref sig .tc := ⟨.hbm, 229, rfl⟩
abbrev main_v177 : Ref sig .tc := ⟨.hbm, 230, rfl⟩
abbrev main_v178 : Ref sig .tc := ⟨.hbm, 231, rfl⟩
abbrev main_cst_36 : Ref sig .tc := ⟨.hbm, 232, rfl⟩
abbrev main_v179 : Ref sig .tc := ⟨.hbm, 233, rfl⟩
abbrev main_v180 : Ref sig .tc := ⟨.hbm, 234, rfl⟩
abbrev main_cst_37 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_38 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_39 : Ref sig .tc := ⟨.hbm, 244, rfl⟩
abbrev main_v188 : Ref sig .tc := ⟨.hbm, 245, rfl⟩
abbrev main_v189 : Ref sig .tc := ⟨.hbm, 246, rfl⟩
abbrev main_cst_40 : Ref sig .tc := ⟨.hbm, 247, rfl⟩
abbrev main_v190 : Ref sig .tc := ⟨.hbm, 248, rfl⟩
abbrev main_v191 : Ref sig .tc := ⟨.hbm, 249, rfl⟩
abbrev main_cst_41 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_42 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_43 : Ref sig .tc := ⟨.hbm, 265, rfl⟩
abbrev main_v205 : Ref sig .tc := ⟨.hbm, 266, rfl⟩
abbrev main_v206 : Ref sig .tc := ⟨.hbm, 267, rfl⟩
abbrev main_cst_44 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_cst_45 : Ref sig .tc := ⟨.hbm, 274, rfl⟩
abbrev main_v212 : Ref sig .tc := ⟨.hbm, 275, rfl⟩
abbrev main_v213 : Ref sig .tc := ⟨.hbm, 276, rfl⟩
abbrev main_cst_46 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_cst_47 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_cst_48 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_cst_49 : Ref sig .tc := ⟨.hbm, 302, rfl⟩
abbrev main_v236 : Ref sig .tc := ⟨.hbm, 303, rfl⟩
abbrev main_v237 : Ref sig .tc := ⟨.hbm, 304, rfl⟩

abbrev nD : Nat := 1
abbrev τ : Topo := Topo.v7x

variable {F : FTy → Type} [FloatOps F]
-- ==== WgradIn.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x7168 : Shape := ⟨2, ![8192, 7168]⟩
abbrev S8x1024x896 : Shape := ⟨3, ![8, 1024, 896]⟩
abbrev S2048x1024 : Shape := ⟨2, ![2048, 1024]⟩
abbrev S2048x1792 : Shape := ⟨2, ![2048, 1792]⟩
abbrev S2x1024x896 : Shape := ⟨3, ![2, 1024, 896]⟩
abbrev S1024x1792 : Shape := ⟨2, ![1024, 1792]⟩
abbrev S1024x896 : Shape := ⟨2, ![1024, 896]⟩
abbrev S1x1024x896 : Shape := ⟨3, ![1, 1024, 896]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | .hbm, ⟨21, _⟩ => ⟨S8192x1024, .bf16⟩
  | .hbm, ⟨22, _⟩ => ⟨S8192x7168, .f32⟩
  | .hbm, ⟨23, _⟩ => ⟨S8192x7168, .bf16⟩
  | .hbm, ⟨24, _⟩ => ⟨S8x1024x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S2x1024x896, .bf16⟩
  | .local _ .vmem, ⟨5, _⟩ => ⟨S2x1024x896, .bf16⟩
  | .local _ .vmem, ⟨6, _⟩ => ⟨S1024x1792, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradInRefIdeal.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x7168, .f32⟩
  | .hbm, ⟨21, _⟩ => ⟨S7168x1024, .f32⟩
  | .hbm, ⟨22, _⟩ => ⟨S1024x7168, .f32⟩
  | .hbm, ⟨23, _⟩ => ⟨S1024x8x896, .f32⟩
  | .hbm, ⟨24, _⟩ => ⟨S8x1024x896, .f32⟩
  | .hbm, ⟨25, _⟩ => ⟨S8x1024x896, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== WgradUp.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x8x704 : Shape := ⟨3, ![8192, 8, 704]⟩
abbrev S8x8192x704 : Shape := ⟨3, ![8, 8192, 704]⟩
abbrev S8x704x1024 : Shape := ⟨3, ![8, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 26
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | .hbm, ⟨21, _⟩ => ⟨S8192x1024, .bf16⟩
  | .hbm, ⟨22, _⟩ => ⟨S8192x8x704, .f32⟩
  | .hbm, ⟨23, _⟩ => ⟨S8x8192x704, .f32⟩
  | .hbm, ⟨24, _⟩ => ⟨S8x8192x704, .bf16⟩
  | .hbm, ⟨25, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32_7 : BitVec 32 := 3#32
  let v13 : BitVec 1 := Scalar.cmpi .eq arg1 c3_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradUpRefIdeal.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S5632x1024 : Shape := ⟨2, ![5632, 1024]⟩
abbrev S8x704x1024 : Shape := ⟨3, ![8, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S8x704x1024, .f32⟩
  | .hbm, ⟨25, _⟩ => ⟨S8x704x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== WgradDown.lean ====
abbrev S4x2048x5632 : Shape := ⟨3, ![4, 2048, 5632]⟩
abbrev S2816x1024 : Shape := ⟨2, ![2816, 1024]⟩
abbrev S4x2048x1024 : Shape := ⟨3, ![4, 2048, 1024]⟩
abbrev S4x2048x2816 : Shape := ⟨3, ![4, 2048, 2816]⟩
abbrev S_ : Shape := ⟨0, ![]⟩
abbrev S8192x4x704 : Shape := ⟨3, ![8192, 4, 704]⟩
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 20
  | .vmem => 7
  | .smem => 0
  | _ => 0

abbrev bufTy : (tb : Table) → Fin (tcTables nBuf tb) → BufTy
  | .hbm, ⟨0, _⟩ => ⟨S4x2048x5632, .f32⟩
  | .hbm, ⟨1, _⟩ => ⟨S2816x1024, .f32⟩
  | .hbm, ⟨2, _⟩ => ⟨S4x2048x1024, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S_, .f32⟩
  | .hbm, ⟨11, _⟩ => ⟨S4x2048x2816, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S8192x4x704, .f32⟩
  | .hbm, ⟨16, _⟩ => ⟨S4x8192x704, .f32⟩
  | .hbm, ⟨17, _⟩ => ⟨S4x8192x704, .bf16⟩
  | .hbm, ⟨18, _⟩ => ⟨S8192x1024, .f32⟩
  | .hbm, ⟨19, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_7 : BitVec 32 := 3#32
  let v13 : BitVec 1 := Scalar.cmpi .eq arg1 c3_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradDownRefIdeal.lean ====
abbrev S4x2048x5632 : Shape := ⟨3, ![4, 2048, 5632]⟩
abbrev S2816x1024 : Shape := ⟨2, ![2816, 1024]⟩
abbrev S4x2048x1024 : Shape := ⟨3, ![4, 2048, 1024]⟩
abbrev S4x2048x2816 : Shape := ⟨3, ![4, 2048, 2816]⟩
abbrev S_ : Shape := ⟨0, ![]⟩
abbrev S1024x2816 : Shape := ⟨2, ![1024, 2816]⟩
abbrev S4x704x1024 : Shape := ⟨3, ![4, 704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S2816x1024, .f32⟩
  | .hbm, ⟨2, _⟩ => ⟨S4x2048x1024, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S_, .f32⟩
  | .hbm, ⟨11, _⟩ => ⟨S4x2048x2816, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S4x2048x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S4x704x1024, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== WgradOut.lean ====
abbrev S4x2048x1024 : Shape := ⟨3, ![4, 2048, 1024]⟩
abbrev S1024x1024 : Shape := ⟨2, ![1024, 1024]⟩
abbrev S8192x1024 : Shape := ⟨2, ![8192, 1024]⟩
abbrev S1x1024x1024 : Shape := ⟨3, ![1, 1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgradOutRefIdeal.lean ====
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | .hbm, ⟨7, _⟩ => ⟨S1x1024x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgradIn.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S1024x8x896 : Shape := ⟨3, ![1024, 8, 896]⟩
abbrev S8x1024x896 : Shape := ⟨3, ![8, 1024, 896]⟩
abbrev S8192x7168 : Shape := ⟨2, ![8192, 7168]⟩
abbrev S8192x1024 : Shape := ⟨2, ![8192, 1024]⟩
abbrev S1x1024 : Shape := ⟨2, ![1, 1024]⟩
abbrev S4x2x1024x896 : Shape := ⟨4, ![4, 2, 1024, 896]⟩
abbrev S8x1024 : Shape := ⟨2, ![8, 1024]⟩
abbrev S1024x1792 : Shape := ⟨2, ![1024, 1792]⟩
abbrev S1x2x1024x896 : Shape := ⟨4, ![1, 2, 1024, 896]⟩
abbrev S1024x1024 : Shape := ⟨2, ![1024, 1024]⟩
abbrev S1x1x1024x896 : Shape := ⟨4, ![1, 1, 1024, 896]⟩
abbrev S1024x896 : Shape := ⟨2, ![1024, 896]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S1024x8x896, .f32⟩
  | .hbm, ⟨6, _⟩ => ⟨S8x1024x896, .f32⟩
  | .hbm, ⟨7, _⟩ => ⟨S8x1024x896, .bf16⟩
  | .hbm, ⟨8, _⟩ => ⟨S8192x7168, .f32⟩
  | .hbm, ⟨9, _⟩ => ⟨S8192x7168, .bf16⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S4x2x1024x896, .bf16⟩
  | .hbm, ⟨14, _⟩ => ⟨S8192x1024, .f32⟩
  | .hbm, ⟨15, _⟩ => ⟨S8x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x2x1024x896, .bf16⟩
  | .local _ .vmem, ⟨3, _⟩ => ⟨S1x2x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_14 : BitVec 32 := 0#32
  let v21 : BitVec 1 := Scalar.cmpi .ne v20 c0_i32_14
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DgradInRefIdeal.lean ====
abbrev S4x2048x1024 : Shape := ⟨3, ![4, 2048, 1024]⟩
abbrev S1024 : Shape := ⟨1, ![1024]⟩
abbrev S1024x7168 : Shape := ⟨2, ![1024, 7168]⟩
abbrev S4x2048x7168 : Shape := ⟨3, ![4, 2048, 7168]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7168, .f32⟩
  | .hbm, ⟨3, _⟩ => ⟨S4x2048x7168, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x7168, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S_, .f32⟩
  | .hbm, ⟨46, _⟩ => ⟨S4x2048, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== FfnFwd.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S8x704x1024 : Shape := ⟨3, ![8, 704, 1024]⟩
abbrev S_ : Shape := ⟨0, ![]⟩
abbrev S8x5632 : Shape := ⟨2, ![8, 5632]⟩
abbrev S8x8x704 : Shape := ⟨3, ![8, 8, 704]⟩
abbrev S8192x1024 : Shape := ⟨2, ![8192, 1024]⟩
abbrev S1x1024 : Shape := ⟨2, ![1, 1024]⟩
abbrev S4x704x1024 : Shape := ⟨3, ![4, 704, 1024]⟩
abbrev S8x8192x704 : Shape := ⟨3, ![8, 8192, 704]⟩
abbrev S4x8192x704 : Shape := ⟨3, ![4, 8192, 704]⟩
abbrev S256x1024 : Shape := ⟨2, ![256, 1024]⟩
abbrev S8x256x704 : Shape := ⟨3, ![8, 256, 704]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S248x704 : Shape := ⟨2, ![248, 704]⟩
abbrev S1x704 : Shape := ⟨2, ![1, 704]⟩

abbrev nBuf : Space → Nat
  | .hbm => 22
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S5632x1024, .f32⟩
  | .hbm, ⟨6, _⟩ => ⟨S8x704x1024, .f32⟩
  | .hbm, ⟨7, _⟩ => ⟨S8x704x1024, .bf16⟩
  | .hbm, ⟨8, _⟩ => ⟨S_, .i32⟩
  | .hbm, ⟨9, _⟩ => ⟨S_, .f32⟩
  | .hbm, ⟨10, _⟩ => ⟨S8x5632, .f32⟩
  | .hbm, ⟨11, _⟩ => ⟨S8x8x704, .f32⟩
  | .hbm, ⟨12, _⟩ => ⟨S8x8x704, .f32⟩
  | .hbm, ⟨13, _⟩ => ⟨S8192x1024, .f32⟩
  | .hbm, ⟨14, _⟩ => ⟨S1x1024, .f32⟩
  | .hbm, ⟨15, _⟩ => ⟨S4x704x1024, .f32⟩
  | .hbm, ⟨16, _⟩ => ⟨S4x704x1024, .bf16⟩
  | .hbm, ⟨17, _⟩ => ⟨S8192x1024, .bf16⟩
  | .hbm, ⟨18, _⟩ => ⟨S8x8192x704, .f32⟩
  | .hbm, ⟨19, _⟩ => ⟨S8x8192x704, .bf16⟩
  | .hbm, ⟨20, _⟩ => ⟨S4x8192x704, .bf16⟩
  | .hbm, ⟨21, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x704x1024, .bf16⟩
  | .local _ .vmem, ⟨4, _⟩ => ⟨S4x704x1024, .bf16⟩
  | .local _ .vmem, ⟨5, _⟩ => ⟨S8x8x704, .f32⟩
  | .local _ .vmem, ⟨6, _⟩ => ⟨S256x1024, .bf16⟩
  | .local _ .vmem, ⟨7, _⟩ => ⟨S256x1024, .bf16⟩
  | .local _ .vmem, ⟨8, _⟩ => ⟨S8x256x704, .f32⟩
  | .local _ .vmem, ⟨9, _⟩ => ⟨S8x256x704, .f32⟩
  | .local _ .vmem, ⟨10, _⟩ => ⟨S8x256x704, .bf16⟩
  | .local _ .vmem, ⟨11, _⟩ => ⟨S8x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S256x1024, .f32⟩
  | .local _ .vmem, ⟨15, _⟩ => ⟨S256x1024, .f32⟩
  | .local _ .vmem, ⟨16, _⟩ => ⟨S8x8x704, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S4x2048x1024 : Shape := ⟨3, ![4, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x1024 : Shape := ⟨2, ![8192, 1024]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩

abbrev nBuf : Space → Nat
  | .hbm => 97
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x5632, .f32⟩
  | .hbm, ⟨22, _⟩ => ⟨S_, .f32⟩
  | .hbm, ⟨23, _⟩ => ⟨S4x2x5632, .f32⟩
  | .hbm, ⟨24, _⟩ => ⟨S4x2050x5632, .f32⟩
  | .hbm, ⟨25, _⟩ => ⟨S4x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S4x2048x5632, .f32⟩
  | .hbm, ⟨43, _⟩ => ⟨S4x2048x5632, .f32⟩
  | .hbm, ⟨44, _⟩ => ⟨S4x2048x5632, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S_, .f32⟩
  | .hbm, ⟨50, _⟩ => ⟨S4x2048x2816, .f32⟩
  | .hbm, ⟨51, _⟩ => ⟨S4x2048x2816, .f32⟩
  | .hbm, ⟨52, _⟩ => ⟨S_, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S_, .f32⟩
  | .hbm, ⟨58, _⟩ => ⟨S4x2048x2816, .f32⟩
  | .hbm, ⟨59, _⟩ => ⟨S4x2048x2816, .f32⟩
  | .hbm, ⟨60, _⟩ => ⟨S_, .f32⟩
  | .hbm, ⟨61, _⟩ => ⟨S4x2048x2816, .f32⟩
  | .hbm, ⟨62, _⟩ => ⟨S4x2048x2816, .f32⟩
  | .hbm, ⟨63, _⟩ => ⟨S4x2048x2816, .f32⟩
  | .hbm, ⟨64, _⟩ => ⟨S4x2048x2816, .f32⟩
  | .hbm, ⟨65, _⟩ => ⟨S_, .f32⟩
  | .hbm, ⟨66, _⟩ => ⟨S4x2048x2816, .f32⟩
  | .hbm, ⟨67, _⟩ => ⟨S4x2048x2816, .f32⟩
  | .hbm, ⟨68, _⟩ => ⟨S4x2048x2816, .f32⟩
  | .hbm, ⟨69, _⟩ => ⟨S_, .f32⟩
  | .hbm, ⟨70, _⟩ => ⟨S4x2048x2816, .f32⟩
  | .hbm, ⟨71, _⟩ => ⟨S4x2048x2816, .f32⟩
  | .hbm, ⟨72, _⟩ => ⟨S4x2048x2816, .f32⟩
  | .hbm, ⟨73, _⟩ => ⟨S4x2048x2816, .f32⟩
  | .hbm, ⟨74, _⟩ => ⟨S4x2048x2816, .f32⟩
  | .hbm, ⟨75, _⟩ => ⟨S4x2048x2816, .f32⟩
  | .hbm, ⟨76, _⟩ => ⟨S_, .f32⟩
  | .hbm, ⟨77, _⟩ => ⟨S4x2048x2816, .f32⟩
  | .hbm, ⟨78, _⟩ => ⟨S4x2048x2816, .f32⟩
  | .hbm, ⟨79, _⟩ => ⟨S_, .f32⟩
  | .hbm, ⟨80, _⟩ => ⟨S4x2048x2816, .f32⟩
  | .hbm, ⟨81, _⟩ => ⟨S4x2048x2816, .f32⟩
  | .hbm, ⟨82, _⟩ => ⟨S4x2048x2816, .f32⟩
  | .hbm, ⟨83, _⟩ => ⟨S4x2048x5632, .f32⟩
  | .hbm, ⟨84, _⟩ => ⟨S8192x1024, .f32⟩
  | .hbm, ⟨85, _⟩ => ⟨S8192x1024, .bf16⟩
  | .hbm, ⟨86, _⟩ => ⟨S8192x8x704, .f32⟩
  | .hbm, ⟨87, _⟩ => ⟨S8x8192x704, .f32⟩
  | .hbm, ⟨88, _⟩ => ⟨S8192x8x704, .f32⟩
  | .hbm, ⟨89, _⟩ => ⟨S8x8192x704, .f32⟩
  | .hbm, ⟨90, _⟩ => ⟨S8x8192x704, .bf16⟩
  | .hbm, ⟨91, _⟩ => ⟨S8192x4x704, .f32⟩
  | .hbm, ⟨92, _⟩ => ⟨S4x8192x704, .f32⟩
  | .hbm, ⟨93, _⟩ => ⟨S4x8192x704, .bf16⟩
  | .hbm, ⟨94, _⟩ => ⟨S4x2048x1024, .f32⟩
  | .hbm, ⟨95, _⟩ => ⟨S4x2048x1024, .f32⟩
  | .hbm, ⟨96, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Proof.Rows.lean ====
module

public import Idealize.ShloMosaic.Lib.IdealHost

/-!
The two identities of the proof that need finite numbers: the backward pass of the layer norm and of
the root-mean-square norm along one row of 1024 numbers.  The reference differentiates
`xc * rsqrt (mean (xc * xc) + eps)` operation by operation; the kernel uses the closed form.  Both
are read here as functions of one row, in the extended reals, and shown equal where the row and
the incoming gradient are real numbers.
-/

@[expose] public section

noncomputable section

open Idealize.ShloMosaic

namespace Rows

/-- An extended real that is a real number. -/
def IsReal (x : EReal) : Prop := ∃ r : ℝ, x = (r : EReal)

/-- A real number is one. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- Sums of real numbers are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Differences of real numbers are real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Products of real numbers are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of coerced reals is the coerced sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is real. -/
theorem IsReal.sum {ι : Type} [Fintype ι] {f : ι → EReal} (h : ∀ k, IsReal (f k)) :
    IsReal (∑ k, f k) := by
  choose g hg using h
  exact ⟨∑ k, g k, by rw [← coe_sum]; exact Finset.sum_congr rfl fun k _ => hg k⟩

/-- The row length, 1024, as the programs spell it. -/
def c1024 : EReal := Ideal.ofBits .f32 0x44800000#32

/-- The norms' small constant, as the programs spell it. -/
def eps : EReal := Ideal.ofBits .f32 0x358637BD#32

/-- Minus one half, as the reference spells it. -/
def mhalf : EReal := Ideal.ofBits .f32 0xBF000000#32

/-- The row length is the real 1024. -/
theorem c1024_eq : c1024 = ((1024 : ℝ) : EReal) := by
  unfold c1024
  simp [Ideal.ofBits, Ideal.ieee, -EReal.coe_mul]; norm_num

/-- The small constant is a positive real. -/
theorem eps_pos : ∃ e : ℝ, 0 < e ∧ eps = (e : EReal) := by
  refine ⟨8796093 * (2 : ℝ) ^ (-43 : ℤ), by positivity, ?_⟩
  unfold eps
  simp [Ideal.ofBits, Ideal.ieee, -EReal.coe_mul]

/-- The reference's constant is the real minus one half. -/
theorem mhalf_eq : mhalf = ((-(1 / 2) : ℝ) : EReal) := by
  unfold mhalf
  simp [Ideal.ofBits, Ideal.ieee, -EReal.coe_mul, -EReal.coe_neg]; norm_num

/-- The mean of a row. -/
def mean (f : Fin 1024 → EReal) : EReal := Ideal.div (∑ k, f k) c1024

/-- Division of a real by the row length. -/
theorem div_c1024 (a : ℝ) : Ideal.div (a : EReal) c1024 = ((a * (1 / 1024) : ℝ) : EReal) := by
  rw [c1024_eq, Ideal.div_coe (by norm_num), ← EReal.coe_mul]

/-- The mean of a row of reals. -/
theorem mean_coe (f : Fin 1024 → ℝ) :
    mean (fun k => ((f k : ℝ) : EReal)) = (((∑ k, f k) * (1 / 1024) : ℝ) : EReal) := by
  rw [mean, coe_sum, div_c1024]

/-- The mean of real numbers is real. -/
theorem isReal_mean {f : Fin 1024 → EReal} (h : ∀ k, IsReal (f k)) : IsReal (mean f) := by
  choose g hg using h
  rw [funext hg, mean_coe]; exact ⟨_, rfl⟩

/-- The row's reciprocal root mean square. -/
def rms (x : Fin 1024 → EReal) : EReal := Ideal.rsqrt (mean (fun k => x k * x k) + eps)

/-- The row less its mean. -/
def centred (v : Fin 1024 → EReal) (k : Fin 1024) : EReal := v k - mean v

/-- What the reciprocal root mean square of a row of reals is: a real `r` with `r * r * s = 1`,
    `s` being the mean square plus the small constant. -/
theorem rms_spec (x : Fin 1024 → ℝ) : ∃ r s : ℝ, 0 < s ∧ r * r * s = 1 ∧
    mean (fun k => ((x k : ℝ) : EReal) * ((x k : ℝ) : EReal)) + eps = (s : EReal) ∧
    rms (fun k => ((x k : ℝ) : EReal)) = (r : EReal) := by
  obtain ⟨e, he, hee⟩ := eps_pos
  have hm : mean (fun k => ((x k : ℝ) : EReal) * ((x k : ℝ) : EReal)) + eps
      = (((∑ k, x k * x k) * (1 / 1024) + e : ℝ) : EReal) := by
    rw [hee, EReal.coe_add, ← mean_coe]; simp only [EReal.coe_mul]
  have hs : 0 < (∑ k, x k * x k) * (1 / 1024) + e := by
    have : 0 ≤ ∑ k, x k * x k := Finset.sum_nonneg fun k _ => mul_self_nonneg _
    positivity
  refine ⟨(Real.sqrt ((∑ k, x k * x k) * (1 / 1024) + e))⁻¹, _, hs, ?_, hm, ?_⟩
  · have h2 := Real.mul_self_sqrt hs.le
    rw [← mul_inv, h2, inv_mul_cancel₀ hs.ne']
  · rw [rms, hm, Ideal.rsqrt_coe, if_neg (not_lt.2 hs.le), if_neg hs.ne']

/-- The reciprocal root mean square of real numbers is real. -/
theorem isReal_rms {x : Fin 1024 → EReal} (h : ∀ k, IsReal (x k)) : IsReal (rms x) := by
  choose g hg using h
  rw [funext hg]
  obtain ⟨r, s, _, _, _, hr⟩ := rms_spec g
  exact ⟨r, hr⟩

/-- The centred row of real numbers is real. -/
theorem isReal_centred {v : Fin 1024 → EReal} (h : ∀ k, IsReal (v k)) (k : Fin 1024) :
    IsReal (centred v k) := (h k).sub (isReal_mean h)

/-- The reference's coefficient of the row in the gradient of `x * rms x`: the sum of `x * d`,
    times minus one half `rms x / (mean (x * x) + eps)`, over the row length. -/
def coef (x d : Fin 1024 → EReal) : EReal :=
  Ideal.div ((∑ k, x k * d k) * (mhalf * Ideal.div (rms x) (mean (fun k => x k * x k) + eps))) c1024

/-- The reference's gradient of `x * rms x`, with the incoming gradient `d`. -/
def normRef (x d : Fin 1024 → EReal) (k : Fin 1024) : EReal :=
  (d k * rms x + x k * coef x d) + coef x d * x k

/-- The kernel's gradient of the root-mean-square norm. -/
def rmsKer (x d : Fin 1024 → EReal) (k : Fin 1024) : EReal :=
  rms x * (d k - (x k * rms x) * mean (fun j => d j * (x j * rms x)))

/-- The kernel's gradient of the layer norm. -/
def lnKer (v d : Fin 1024 → EReal) (k : Fin 1024) : EReal :=
  rms (centred v) * (d k - mean d
    - (centred v k * rms (centred v)) * mean (fun j => d j * (centred v j * rms (centred v))))

/-- The reference's gradient of the layer norm. -/
def lnRef (v d : Fin 1024 → EReal) (k : Fin 1024) : EReal :=
  normRef (centred v) d k + Ideal.div (∑ j, - normRef (centred v) d j) c1024

/-- The coefficient on reals. -/
theorem coef_coe (x d : Fin 1024 → ℝ) (r s : ℝ) (hs : 0 < s) (hrs : r * r * s = 1)
    (h1 : mean (fun k => ((x k : ℝ) : EReal) * ((x k : ℝ) : EReal)) + eps = (s : EReal))
    (h2 : rms (fun k => ((x k : ℝ) : EReal)) = (r : EReal)) :
    coef (fun k => ((x k : ℝ) : EReal)) (fun k => ((d k : ℝ) : EReal))
      = ((-(1 / 2) * (r * r * r) * ((∑ k, x k * d k) * (1 / 1024)) : ℝ) : EReal) := by
  have h4 : r * (1 / s) = r * r * r := by
    field_simp; linear_combination (-r) * hrs
  unfold coef
  rw [h1, h2, mhalf_eq, Ideal.div_coe hs.ne', ← EReal.coe_mul, h4, ← EReal.coe_mul]
  simp only [← EReal.coe_mul, coe_sum]
  rw [div_c1024]
  exact congrArg _ (by ring)

/-- The two gradients of the root-mean-square norm agree on real numbers. -/
theorem rms_eq {x d : Fin 1024 → EReal} (hx : ∀ k, IsReal (x k)) (hd : ∀ k, IsReal (d k))
    (k : Fin 1024) : normRef x d k = rmsKer x d k := by
  choose a ha using hx
  choose b hb using hd
  rw [funext ha, funext hb]
  obtain ⟨r, s, hs, hrs, h1, h2⟩ := rms_spec a
  unfold normRef rmsKer
  rw [coef_coe a b r s hs hrs h1 h2, h2]
  simp only [← EReal.coe_mul]
  rw [mean_coe]
  simp only [← EReal.coe_mul, ← EReal.coe_add, ← EReal.coe_sub]
  refine congrArg _ ?_
  have h5 : ∑ j, b j * (a j * r) = r * ∑ j, a j * b j := by
    rw [Finset.mul_sum]; exact Finset.sum_congr rfl fun j _ => by ring
  rw [h5]; ring

/-- The two gradients of the layer norm agree on real numbers. -/
theorem ln_eq {v d : Fin 1024 → EReal} (hv : ∀ k, IsReal (v k)) (hd : ∀ k, IsReal (d k))
    (k : Fin 1024) : lnRef v d k = lnKer v d k := by
  choose a ha using hv
  choose b hb using hd
  rw [funext ha, funext hb]
  have hc : centred (fun k => ((a k : ℝ) : EReal))
      = fun k => ((a k - (∑ j, a j) * (1 / 1024) : ℝ) : EReal) := by
    funext j; rw [centred, mean_coe, ← EReal.coe_sub]
  obtain ⟨x, hx⟩ : ∃ x : Fin 1024 → ℝ, x = fun k => a k - (∑ j, a j) * (1 / 1024) := ⟨_, rfl⟩
  have hx0 : ∑ j, x j = 0 := by
    rw [hx, Finset.sum_sub_distrib, Finset.sum_const, Finset.card_univ, Fintype.card_fin]
    simp only [nsmul_eq_mul]; push_cast; ring
  have hc' : centred (fun k => ((a k : ℝ) : EReal)) = fun k => ((x k : ℝ) : EReal) := by
    rw [hc, hx]
  unfold lnRef lnKer normRef
  rw [hc']
  obtain ⟨r, s, hs, hrs, h1, h2⟩ := rms_spec x
  rw [coef_coe x b r s hs hrs h1 h2, h2]
  obtain ⟨q, hq⟩ : ∃ q : ℝ, q = -(1 / 2) * (r * r * r) * ((∑ k, x k * b k) * (1 / 1024)) := ⟨_, rfl⟩
  rw [← hq]
  simp only [← EReal.coe_mul, ← EReal.coe_add, ← EReal.coe_neg, coe_sum, mean_coe, div_c1024,
    ← EReal.coe_sub]
  refine congrArg _ ?_
  have h5 : ∑ j, b j * (x j * r) = r * ∑ j, x j * b j := by
    rw [Finset.mul_sum]; exact Finset.sum_congr rfl fun j _ => by ring
  have h6 : ∑ j, -(b j * r + x j * q + q * x j) = -(r * ∑ j, b j) := by
    have : ∀ j, -(b j * r + x j * q + q * x j) = -r * b j + (-2 * q) * x j := fun j => by ring
    simp only [this, Finset.sum_add_distrib, ← Finset.mul_sum, hx0]; ring
  rw [h5, h6, hq]; ring

/-- The logistic function of a real number, as `1 / (1 + exp (-x))`, is a real number. -/
theorem isReal_sigmoid {x : EReal} (h : IsReal x) : IsReal (Ideal.div 1 (1 + Ideal.exp (-x))) := by
  obtain ⟨a, rfl⟩ := h
  rw [← EReal.coe_neg, Ideal.exp_coe, ← EReal.coe_one, ← EReal.coe_add,
    Ideal.div_coe (by positivity), ← EReal.coe_mul]
  exact ⟨_, rfl⟩

end Rows
-- ==== Proof.Model.lean ====
module

public import proofs.«01_k».proof.Proof.Rows

/-!
The backward pass of the token mixer as plain sums and products over the extended reals, at a flat
token row `R` of 8192 (four sequences of 2048 tokens) and a channel `k` of 1024.  `Saved` holds what
the backward pass starts from: what the forward pass kept, the weights, and the incoming gradient.
Every name below is one quantity of the backward pass.  Both programs are shown to compute these.
-/

@[expose] public section

noncomputable section

open Rows

namespace Model

/-- What the backward pass of the mixer starts from. -/
structure Saved where
  /-- the layer's input -/
  x : Fin 8192 → Fin 1024 → EReal
  /-- the first column group of the projection -/
  b : Fin 8192 → Fin 1024 → EReal
  /-- the second -/
  c : Fin 8192 → Fin 1024 → EReal
  /-- the third -/
  xi : Fin 8192 → Fin 1024 → EReal
  /-- the fourth -/
  u : Fin 8192 → Fin 1024 → EReal
  /-- the fifth -/
  v : Fin 8192 → Fin 1024 → EReal
  /-- the causal convolution of `c * xi` -/
  conv : Fin 8192 → Fin 1024 → EReal
  /-- the layer norm of `v`, mixed along each chunk -/
  mixed : Fin 8192 → Fin 1024 → EReal
  /-- the layer norm of `v` -/
  vn : Fin 8192 → Fin 1024 → EReal
  /-- the gate of the convolution branch -/
  sa : Fin 8192 → Fin 1024 → EReal
  /-- the gate of the mixing branch -/
  sb : Fin 8192 → Fin 1024 → EReal
  /-- the incoming gradient -/
  ct : Fin 8192 → Fin 1024 → EReal
  /-- the output product's weight -/
  wo : Fin 1024 → Fin 1024 → EReal
  /-- the input product's weight -/
  win : Fin 1024 → Fin 7168 → EReal
  /-- the convolution's three taps -/
  cw : Fin 3 → Fin 1024 → EReal
  /-- the layer norm's scale -/
  lg : Fin 1024 → EReal
  /-- the root-mean-square norm's scale -/
  g : Fin 1024 → EReal
  /-- the mixing weights, one 128 by 128 matrix per group of 128 channels -/
  ws : Fin 8 → Fin 128 → Fin 128 → EReal

/-- The group of 128 channels a channel belongs to. -/
def grp (k : Fin 1024) : Fin 8 := ⟨k.val / 128, by omega⟩

/-- A channel from its group and its place there. -/
def chan (g : Fin 8) (c : Fin 128) : Fin 1024 := ⟨g.val * 128 + c.val, by omega⟩

/-- The place of a row in its chunk of 128. -/
def pos (R : Fin 8192) : Fin 128 := ⟨R.val % 128, by omega⟩

/-- The row at place `j` of the chunk `q`. -/
def crow (q : Fin 64) (j : Fin 128) : Fin 8192 := ⟨q.val * 128 + j.val, by omega⟩

/-- The row at place `j` of the chunk the row `R` is in. -/
def mate (R : Fin 8192) (j : Fin 128) : Fin 8192 := ⟨R.val / 128 * 128 + j.val, by omega⟩

/-- The row `i` of the tile `T` of 256 rows. -/
def trow (T : Fin 32) (i : Fin 256) : Fin 8192 := ⟨T.val * 256 + i.val, by omega⟩

/-- The sequence a row belongs to. -/
def bOf (R : Fin 8192) : Fin 4 := ⟨R.val / 2048, by omega⟩

/-- The place of a row in its sequence. -/
def sOf (R : Fin 8192) : Fin 2048 := ⟨R.val % 2048, by omega⟩

/-- `f` at `n` rows later in the same sequence, zero past its end. -/
def later (f : Fin 8192 → Fin 1024 → EReal) (n : ℕ) (R : Fin 8192) (k : Fin 1024) : EReal :=
  if h : R.val % 2048 + n < 2048 then f ⟨R.val + n, by omega⟩ k else 0

variable (M : Saved)

/-- The gradient of the merged branches. -/
def dm (R : Fin 8192) (k : Fin 1024) : EReal := ∑ j, M.ct R j * M.wo k j

/-- The gradient of the first gate's argument. -/
def dga (R : Fin 8192) (k : Fin 1024) : EReal :=
  dm M R k * (M.b R k * M.conv R k) * (M.sa R k * (1 - M.sa R k))

/-- The gradient of the second gate's argument. -/
def dgb (R : Fin 8192) (k : Fin 1024) : EReal :=
  dm M R k * (M.u R k * M.mixed R k) * (M.sb R k * (1 - M.sb R k))

/-- The gradient of the convolution branch. -/
def dya (R : Fin 8192) (k : Fin 1024) : EReal := dm M R k * M.sa R k

/-- The gradient of the mixing branch. -/
def dyb (R : Fin 8192) (k : Fin 1024) : EReal := dm M R k * M.sb R k

/-- The gradient of `b`. -/
def db (R : Fin 8192) (k : Fin 1024) : EReal := dya M R k * M.conv R k

/-- The gradient of the convolution. -/
def dconv (R : Fin 8192) (k : Fin 1024) : EReal := dya M R k * M.b R k

/-- The gradient of `c * xi`. -/
def dcx (R : Fin 8192) (k : Fin 1024) : EReal :=
  dconv M R k * M.cw 2 k + later (dconv M) 1 R k * M.cw 1 k + later (dconv M) 2 R k * M.cw 0 k

/-- The gradient of `c`. -/
def dc (R : Fin 8192) (k : Fin 1024) : EReal := dcx M R k * M.xi R k

/-- The gradient of `xi`. -/
def dxi (R : Fin 8192) (k : Fin 1024) : EReal := dcx M R k * M.c R k

/-- The gradient of `u`. -/
def du (R : Fin 8192) (k : Fin 1024) : EReal := dyb M R k * M.mixed R k

/-- The gradient of the mixed rows. -/
def dmx (R : Fin 8192) (k : Fin 1024) : EReal := dyb M R k * M.u R k

/-- The mixing weight of the place `i` on the place `j`, zero for later `j`. -/
def wm (g : Fin 8) (i j : Fin 128) : EReal := if j.val ≤ i.val then M.ws g i j else 0

/-- The gradient of the layer norm's rows. -/
def dvn (R : Fin 8192) (k : Fin 1024) : EReal :=
  ∑ j, wm M (grp k) j (pos R) * dmx M (mate R j) k

/-- The gradient of the normalised rows. -/
def dvh (R : Fin 8192) (k : Fin 1024) : EReal := dvn M R k * M.lg k

/-- The normalised rows. -/
def vhat (R : Fin 8192) (k : Fin 1024) : EReal := centred (M.v R) k * rms (centred (M.v R))

/-- The gradient of `v`. -/
def dv (R : Fin 8192) (k : Fin 1024) : EReal := lnKer (M.v R) (dvh M R) k

/-- The gradient of the projection, its seven column groups side by side. -/
def dproj (R : Fin 8192) (q : Fin 7168) : EReal :=
  if h : q.val < 1024 then db M R ⟨q.val, h⟩
  else if h : q.val < 2048 then dc M R ⟨q.val - 1024, by omega⟩
  else if h : q.val < 3072 then dxi M R ⟨q.val - 2048, by omega⟩
  else if h : q.val < 4096 then du M R ⟨q.val - 3072, by omega⟩
  else if h : q.val < 5120 then dv M R ⟨q.val - 4096, by omega⟩
  else if h : q.val < 6144 then dga M R ⟨q.val - 5120, by omega⟩
  else dgb M R ⟨q.val - 6144, by omega⟩

/-- The gradient of the normed input. -/
def dh (R : Fin 8192) (k : Fin 1024) : EReal := ∑ q, dproj M R q * M.win k q

/-- The gradient of the normed input before its scale. -/
def dn (R : Fin 8192) (k : Fin 1024) : EReal := dh M R k * M.g k

/-- The gradient of the layer's input. -/
def dx (R : Fin 8192) (k : Fin 1024) : EReal := M.ct R k + rmsKer (M.x R) (dn M R) k

/-- What one row adds to the gradient of the root-mean-square norm's scale. -/
def dgRow (R : Fin 8192) (k : Fin 1024) : EReal := dh M R k * (M.x R k * rms (M.x R))

/-- What one row adds to the gradient of the convolution's tap `a`. -/
def dcwRow (a : Fin 3) (R : Fin 8192) (k : Fin 1024) : EReal :=
  later (dconv M) (2 - a.val) R k * (M.c R k * M.xi R k)

/-- What one row adds to the gradient of the layer norm's scale. -/
def dlgRow (R : Fin 8192) (k : Fin 1024) : EReal := dvn M R k * vhat M R k

/-- What one chunk adds to the gradient of the mixing weights. -/
def dwsChunk (q : Fin 64) (g : Fin 8) (i j : Fin 128) : EReal :=
  ∑ c, dmx M (crow q i) (chan g c) * M.vn (crow q j) (chan g c)

/-- The gradient of the convolution's taps, in eight rows. -/
def dcw (a : Fin 8) (k : Fin 1024) : EReal :=
  if h : a.val < 3 then ∑ R, dcwRow M ⟨a.val, h⟩ R k else 0

/-- The gradients of the layer norm's scale and shift, in eight rows. -/
def dln (a : Fin 8) (k : Fin 1024) : EReal :=
  if a.val = 0 then ∑ R, dlgRow M R k else if a.val = 1 then ∑ R, dvn M R k else 0

/-- The gradient of the mixing weights. -/
def dws (g : Fin 8) (i j : Fin 128) : EReal :=
  if j.val ≤ i.val then ∑ q, dwsChunk M q g i j else 0

/-- The gradient of the mixing biases, each spread over its group of channels. -/
def dbs (i : Fin 128) (k : Fin 1024) : EReal := ∑ c, ∑ q, dmx M (crow q i) (chan (grp k) c)

/-- The gradient of the root-mean-square norm's scale, in eight rows. -/
def dg (a : Fin 8) (k : Fin 1024) : EReal := if a.val = 0 then ∑ R, dgRow M R k else 0

end Model
-- ==== Proof.Sums.lean ====
module

public import proofs.«01_k».proof.Proof.Model
public import Idealize.ShloMosaic.Lib.Pointwise
public import Idealize.ShloMosaic.Lib.WordCmp

/-!
Sums over several axes read as nested sums over coordinates: the host's sum over the first two of
three axes, over three of five axes, and a sum over the flat rows as one over sequences and places.
-/

@[expose] public section

set_option maxRecDepth 16384

noncomputable section

open Idealize.ShloMosaic Model

namespace Sums

/-- The host's sum over the first two of three axes. -/
theorem reduce_01 {n0 n1 n2 : ℕ}
    (h : (⟨3, ![n0, n1, n2]⟩ : Shape).ReducesTo [0, 1] (⟨1, ![n2]⟩ : Shape))
    (x : (⟨3, ![n0, n1, n2]⟩ : Shape).Idx → EReal) (init : EReal) (k : Fin n2) :
    Ideal.hostReduceAdd h x init (ix1 k) = init + ∑ a, ∑ b, x (ix3 a b k) := by
  have hd : ∀ a b c, h.drop (ix3 a b c) = ix1 c := fun a b c => funext fun p => by
    match p with
    | ⟨0, _⟩ => exact Fin.ext rfl
  unfold Ideal.hostReduceAdd
  rw [Finset.sum_filter, sum_idx3]
  refine congrArg (init + ·) (Finset.sum_congr rfl fun a _ => Finset.sum_congr rfl fun b _ => ?_)
  rw [Finset.sum_eq_single k]
  · rw [if_pos (hd a b k)]
  · intro c _ hc
    rw [if_neg]
    rw [hd]; intro e; exact hc (congrFun e 0)
  · intro hk; exact absurd (Finset.mem_univ _) hk

/-- The host's sum over the first two axes and the last of five. -/
theorem reduce_014 {n0 n1 n2 n3 n4 : ℕ}
    (h : (⟨5, ![n0, n1, n2, n3, n4]⟩ : Shape).ReducesTo [0, 1, 4] (⟨2, ![n2, n3]⟩ : Shape))
    (x : (⟨5, ![n0, n1, n2, n3, n4]⟩ : Shape).Idx → EReal) (init : EReal) (i : Fin n2) (j : Fin n3) :
    Ideal.hostReduceAdd h x init (ix2 i j) = init + ∑ a, ∑ b, ∑ e, x (ix5 a b i j e) := by
  have hd : ∀ a b c d e, h.drop (ix5 a b c d e) = ix2 c d := fun a b c d e => funext fun p => by
    match p with
    | ⟨0, _⟩ => exact Fin.ext rfl
    | ⟨1, _⟩ => exact Fin.ext rfl
  unfold Ideal.hostReduceAdd
  rw [Finset.sum_filter, sum_idx5]
  refine congrArg (init + ·) (Finset.sum_congr rfl fun a _ => Finset.sum_congr rfl fun b _ => ?_)
  rw [Finset.sum_eq_single i]
  · rw [Finset.sum_eq_single j]
    · refine Finset.sum_congr rfl fun e _ => ?_
      rw [if_pos (hd a b i j e)]
    · intro d _ hdj
      refine Finset.sum_eq_zero fun e _ => ?_
      rw [if_neg]
      rw [hd]; intro e'; exact hdj (congrFun e' 1)
    · intro hk; exact absurd (Finset.mem_univ _) hk
  · intro c _ hc
    refine Finset.sum_eq_zero fun d _ => Finset.sum_eq_zero fun e _ => ?_
    rw [if_neg]
    rw [hd]; intro e'; exact hc (congrFun e' 0)
  · intro hk; exact absurd (Finset.mem_univ _) hk

/-- A sum over rows is the sum over sequences and places. -/
theorem sum_rows (f : Fin 8192 → EReal) :
    ∑ R, f R = ∑ a : Fin 4, ∑ s : Fin 2048, f ⟨a.val * 2048 + s.val, by omega⟩ :=
  Fin.sum_univ_tiles 4 2048 rfl f

/-- A sum over rows is the sum over chunks and places in the chunk. -/
theorem sum_chunks (f : Fin 8192 → EReal) : ∑ R, f R = ∑ q : Fin 64, ∑ j : Fin 128, f (crow q j) :=
  Fin.sum_univ_tiles 64 128 rfl f

/-- A sum over chunks is the sum over sequences and the chunks of each. -/
theorem sum_chunk_seq (f : Fin 64 → EReal) :
    ∑ q, f q = ∑ a : Fin 4, ∑ n : Fin 16, f ⟨a.val * 16 + n.val, by omega⟩ :=
  Fin.sum_univ_tiles 4 16 rfl f

/-- A sum over rows is the sum over tiles and places in the tile. -/
theorem sum_tiles (f : Fin 8192 → EReal) : ∑ R, f R = ∑ T : Fin 32, ∑ i : Fin 256, f (trow T i) :=
  Fin.sum_univ_tiles 32 256 rfl f

/-- A sum over chunks is the sum over tiles and the two chunks of each. -/
theorem sum_chunk_tiles (f : Fin 64 → EReal) :
    ∑ q, f q = ∑ T : Fin 32, (f ⟨T.val * 2, by omega⟩ + f ⟨T.val * 2 + 1, by omega⟩) := by
  rw [Fin.sum_univ_tiles 32 2 rfl f]
  refine Finset.sum_congr rfl fun T _ => ?_
  rw [Fin.sum_univ_two]; rfl

/-- A sum of `f n * g (n + d)` inside a sequence, over the first factor's places or the second's. -/
theorem sum_shift (d : ℕ) (f g : Fin 2048 → EReal) :
    ∑ s : Fin 2048, (if h : d ≤ s.val then f ⟨s.val - d, by omega⟩ else 0) * g s
      = ∑ s : Fin 2048, (if h : s.val + d < 2048 then g ⟨s.val + d, h⟩ else 0) * f s := by
  have h1 : ∀ s : Fin 2048, (if h : d ≤ s.val then f ⟨s.val - d, by omega⟩ else 0) * g s
      = ∑ r : Fin 2048, if r.val + d = s.val then f r * g s else 0 := fun s => by
    by_cases h : d ≤ s.val
    · rw [dif_pos h, Finset.sum_eq_single (⟨s.val - d, by omega⟩ : Fin 2048)]
      · rw [if_pos (by show s.val - d + d = s.val; omega)]
      · intro r _ hr; rw [if_neg]; intro e; exact hr (Fin.ext (by show r.val = s.val - d; omega))
      · intro hk; exact absurd (Finset.mem_univ _) hk
    · rw [dif_neg h, zero_mul]; symm
      refine Finset.sum_eq_zero fun r _ => if_neg ?_
      omega
  have h2 : ∀ r : Fin 2048, (if h : r.val + d < 2048 then g ⟨r.val + d, h⟩ else 0) * f r
      = ∑ s : Fin 2048, if r.val + d = s.val then f r * g s else 0 := fun r => by
    by_cases h : r.val + d < 2048
    · rw [dif_pos h, Finset.sum_eq_single (⟨r.val + d, h⟩ : Fin 2048)]
      · rw [if_pos rfl, mul_comm]
      · intro s _ hs; rw [if_neg]; intro e; exact hs (Fin.ext e.symm)
      · intro hk; exact absurd (Finset.mem_univ _) hk
    · rw [dif_neg h, zero_mul]; symm
      refine Finset.sum_eq_zero fun s _ => if_neg ?_
      omega
  rw [Finset.sum_congr rfl fun s _ => h1 s, Finset.sum_congr rfl fun r _ => h2 r, Finset.sum_comm]

/-- A choice on a comparison of two counters, at least. -/
theorem select_ge {a b : ℕ} (ha : a < 2 ^ 31) (hb : b < 2 ^ 31) (x y : EReal) :
    Scalar.select (IntOp.cmpi .sge (BitVec.ofNat 32 a) (BitVec.ofNat 32 b)) x y
      = if b ≤ a then x else y := by
  rw [WordCmp.cmpi_sge_ofNat (by simpa using ha) (by simpa using hb), WordCmp.select_ofBool]
  simp only [decide_eq_true_eq]

/-- A choice on a comparison of two counters, at most. -/
theorem select_le {a b : ℕ} (ha : a < 2 ^ 31) (hb : b < 2 ^ 31) (x y : EReal) :
    Scalar.select (IntOp.cmpi .sle (BitVec.ofNat 32 a) (BitVec.ofNat 32 b)) x y
      = if a ≤ b then x else y := by
  rw [WordCmp.cmpi_sle_ofNat (by simpa using ha) (by simpa using hb), WordCmp.select_ofBool]
  simp only [decide_eq_true_eq]

end Sums
-- ==== Proof.KerStages.lean ====
module

public import proofs.«01_k».proof.Proof.Model
public import proofs.«01_k».proof.Proof.Sums
public import proofs.«01_k».proof.Proof.Gen.KernelIdeal.Skeleton

/-!
What one grid point of the kernel computes from its blocks, quantity by quantity: each value the point
forms, at row `i` of its tile `T` and channel `k`, is the model's quantity at the flat row of the tile.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable (M : Saved) (T : Fin 32)

/-- The block `Y` holds the rows of the tile `T` of `f`. -/
def Holds {φ : FTy} (Y : FVec Ideal S256x1024 φ) (f : Fin 8192 → Fin 1024 → EReal) : Prop :=
  ∀ (i : Fin 256) (k : Fin 1024), Y (ix2 i k) = f (trow T i) k

/-- The kept block of b, read wide. -/
theorem k_wide18 (f : Fin 8192 → Fin 1024 → EReal) (Y : Vec Ideal S256x1024 .bf16) (hY : Holds T (φ := .bf16) Y f) :
    Holds T (k0_pay18 (F := Ideal) Y) f := fun i k => by
  pointwise [k0_pay18]
  exact hY i k

/-- The kept block of c, read wide. -/
theorem k_wide19 (f : Fin 8192 → Fin 1024 → EReal) (Y : Vec Ideal S256x1024 .bf16) (hY : Holds T (φ := .bf16) Y f) :
    Holds T (k0_pay19 (F := Ideal) Y) f := fun i k => by
  pointwise [k0_pay19]
  exact hY i k

/-- The kept block of xi, read wide. -/
theorem k_wide20 (f : Fin 8192 → Fin 1024 → EReal) (Y : Vec Ideal S256x1024 .bf16) (hY : Holds T (φ := .bf16) Y f) :
    Holds T (k0_pay20 (F := Ideal) Y) f := fun i k => by
  pointwise [k0_pay20]
  exact hY i k

/-- The kept block of u, read wide. -/
theorem k_wide21 (f : Fin 8192 → Fin 1024 → EReal) (Y : Vec Ideal S256x1024 .bf16) (hY : Holds T (φ := .bf16) Y f) :
    Holds T (k0_pay21 (F := Ideal) Y) f := fun i k => by
  pointwise [k0_pay21]
  exact hY i k

/-- The kept block of conv, read wide. -/
theorem k_wide22 (f : Fin 8192 → Fin 1024 → EReal) (Y : Vec Ideal S256x1024 .bf16) (hY : Holds T (φ := .bf16) Y f) :
    Holds T (k0_pay22 (F := Ideal) Y) f := fun i k => by
  pointwise [k0_pay22]
  exact hY i k

/-- The kept block of mixed, read wide. -/
theorem k_wide23 (f : Fin 8192 → Fin 1024 → EReal) (Y : Vec Ideal S256x1024 .bf16) (hY : Holds T (φ := .bf16) Y f) :
    Holds T (k0_pay23 (F := Ideal) Y) f := fun i k => by
  pointwise [k0_pay23]
  exact hY i k

/-- The kept block of the first gate, read wide. -/
theorem k_wide24 (f : Fin 8192 → Fin 1024 → EReal) (Y : Vec Ideal S256x1024 .bf16) (hY : Holds T (φ := .bf16) Y f) :
    Holds T (k0_pay24 (F := Ideal) Y) f := fun i k => by
  pointwise [k0_pay24]
  exact hY i k

/-- The kept block of the second gate, read wide. -/
theorem k_wide25 (f : Fin 8192 → Fin 1024 → EReal) (Y : Vec Ideal S256x1024 .bf16) (hY : Holds T (φ := .bf16) Y f) :
    Holds T (k0_pay25 (F := Ideal) Y) f := fun i k => by
  pointwise [k0_pay25]
  exact hY i k

/-- The kept block of the normed rows. -/
theorem k_same26 (f : Fin 8192 → Fin 1024 → EReal) (Y : Vec Ideal S256x1024 .bf16) (hY : Holds T (φ := .bf16) Y f) :
    Holds T (k0_pay26 (F := Ideal) Y) f := fun i k => by
  pointwise [k0_pay26]
  exact hY i k

/-- The output product backwards. -/
theorem k_dm (Y : Vec Ideal S256x1024 .f32) (W : Vec Ideal S1024x1024 .bf16)
    (hY : Holds T (φ := .f32) Y M.ct) (hW : ∀ k j : Fin 1024, W (ix2 k j) = M.wo k j) :
    Holds T (k0_pay30 (F := Ideal) Y W) (dm M) := fun i k => by
  unfold Holds at hY
  pointwise [k0_pay30, hY, hW]
  rfl

/-- The first gate's argument. -/
theorem k_dga (B : FVec Ideal S256x1024 .f32) (SA : FVec Ideal S256x1024 .f32) (D : FVec Ideal S256x1024 .f32) (X : Vec Ideal S256x1024 .bf16) (hB : Holds T B (M.b)) (hSA : Holds T SA (M.sa)) (hD : Holds T D (dm M)) (hX : Holds T (φ := .bf16) X M.conv) :
    Holds T (k0_pay32 (F := Ideal) SA D (k0_pay31 B X)) (dga M) := fun i k => by
  unfold Holds at hB hSA hD hX
  pointwise [k0_pay32, k0_pay31, k0_pay22, hB, hSA, hD, hX]
  rfl

/-- The second gate's argument. -/
theorem k_dgb (U : FVec Ideal S256x1024 .f32) (MX : FVec Ideal S256x1024 .f32) (SB : FVec Ideal S256x1024 .f32) (D : FVec Ideal S256x1024 .f32) (hU : Holds T U (M.u)) (hMX : Holds T MX (M.mixed)) (hSB : Holds T SB (M.sb)) (hD : Holds T D (dm M)) :
    Holds T (k0_pay33 (F := Ideal) U MX SB D) (dgb M) := fun i k => by
  unfold Holds at hU hMX hSB hD
  pointwise [k0_pay33, hU, hMX, hSB, hD]
  rfl

/-- The convolution branch. -/
theorem k_dya (SA : FVec Ideal S256x1024 .f32) (D : FVec Ideal S256x1024 .f32) (hSA : Holds T SA (M.sa)) (hD : Holds T D (dm M)) :
    Holds T (k0_pay34 (F := Ideal) SA D) (dya M) := fun i k => by
  unfold Holds at hSA hD
  pointwise [k0_pay34, hSA, hD]
  rfl

/-- The mixing branch. -/
theorem k_dyb (SB : FVec Ideal S256x1024 .f32) (D : FVec Ideal S256x1024 .f32) (hSB : Holds T SB (M.sb)) (hD : Holds T D (dm M)) :
    Holds T (k0_pay35 (F := Ideal) SB D) (dyb M) := fun i k => by
  unfold Holds at hSB hD
  pointwise [k0_pay35, hSB, hD]
  rfl

/-- The gradient of `b`. -/
theorem k_db (CV : FVec Ideal S256x1024 .f32) (SA : FVec Ideal S256x1024 .f32) (D : FVec Ideal S256x1024 .f32) (hCV : Holds T CV (M.conv)) (hSA : Holds T SA (M.sa)) (hD : Holds T D (dm M)) :
    Holds T (k0_pay36 (F := Ideal) CV SA D) (db M) := fun i k => by
  unfold Holds at hCV hSA hD
  pointwise [k0_pay36, k0_pay34, hCV, hSA, hD]
  rfl

/-- The gradient of the convolution. -/
theorem k_dconv (B : FVec Ideal S256x1024 .f32) (SA : FVec Ideal S256x1024 .f32) (D : FVec Ideal S256x1024 .f32) (hB : Holds T B (M.b)) (hSA : Holds T SA (M.sa)) (hD : Holds T D (dm M)) :
    Holds T (k0_pay37 (F := Ideal) B SA D) (dconv M) := fun i k => by
  unfold Holds at hB hSA hD
  pointwise [k0_pay37, k0_pay34, hB, hSA, hD]
  rfl

/-- The gradient of `u`. -/
theorem k_du (MX : FVec Ideal S256x1024 .f32) (E : FVec Ideal S256x1024 .f32) (hMX : Holds T MX (M.mixed)) (hE : Holds T E (dyb M)) :
    Holds T (k0_pay52 (F := Ideal) MX E) (du M) := fun i k => by
  unfold Holds at hMX hE
  pointwise [k0_pay52, hMX, hE]
  rfl

/-- The gradient of the mixed rows. -/
theorem k_dmx (U : FVec Ideal S256x1024 .f32) (E : FVec Ideal S256x1024 .f32) (hU : Holds T U (M.u)) (hE : Holds T E (dyb M)) :
    Holds T (k0_pay54 (F := Ideal) U E) (dmx M) := fun i k => by
  unfold Holds at hU hE
  pointwise [k0_pay54, k0_pay53, hU, hE]
  rfl

/-- A later row of the same tile. -/
theorem later_in (f : Fin 8192 → Fin 1024 → EReal) (n : ℕ) (i : Fin 256) (k : Fin 1024) (h : i.val + n < 256) :
    later f n (trow T i) k = f (trow T ⟨i.val + n, h⟩) k := by
  have hi : (trow T i).val = T.val * 256 + i.val := rfl
  unfold later
  rw [dif_pos (by omega)]
  exact congrArg (f · k) (Fin.ext (by show T.val * 256 + i.val + n = T.val * 256 + (i.val + n); omega))

/-- A later row of the next tile, counted from the tile's first row. -/
theorem later_out (f : Fin 8192 → Fin 1024 → EReal) (n j : ℕ) (i : Fin 256) (k : Fin 1024) (h : i.val + n = 256 + j) :
    later f (256 + j) (trow T 0) k = later f n (trow T i) k := by
  have hi : (trow T i).val = T.val * 256 + i.val := rfl
  have h0 : (trow T 0).val = T.val * 256 + 0 := rfl
  unfold later
  by_cases hl : (trow T i).val % 2048 + n < 2048
  · rw [dif_pos hl, dif_pos (by omega)]
    exact congrArg (f · k) (Fin.ext (by show (trow T 0).val + (256 + j) = (trow T i).val + n; omega))
  · rw [dif_neg hl, dif_neg (by omega)]

/-- The first rows of the next tile, as the block `N` of eight rows holds them. -/
def Next (N : FVec Ideal S8x1024 .f32) : Prop :=
  ∀ (j : Fin 8) (k : Fin 1024), N (ix2 j k) = later (dconv M) (256 + j.val) (trow T 0) k

/-- The rows one later in the sequence. -/
theorem k_later1 (s : Ideal .f32) (B SA D : FVec Ideal S256x1024 .f32) (C : Vec Ideal S8x1024 .f32)
    (hD : Holds T (k0_pay37 (F := Ideal) B SA D) (dconv M)) (hC : Next M T (k0_pay38 (F := Ideal) s C)) :
    Holds T (k0_pay40 (F := Ideal) s B SA D C) (later (dconv M) 1) := fun i k => by
  unfold Holds at hD; unfold Next at hC
  pointwise [k0_pay40, hD, hC]
  by_cases h : i.val < 248
  · rw [dif_pos h, later_in T _ 1 i k (by omega)]
    exact congrArg (dconv M · k) (congrArg (trow T) (Fin.ext (by show (i.val + 256 - 255) % 256 = i.val + 1; omega)))
  · rw [dif_neg h, select_ge (by omega) (by omega)]
    by_cases h7 : 7 ≤ i.val - 248
    · rw [if_pos h7]
      exact later_out T _ 1 _ i k (by omega)
    · rw [if_neg h7, later_in T _ 1 i k (by omega)]
      exact congrArg (dconv M · k) (congrArg (trow T) (Fin.ext (by
        show (248 + (i.val - 248) + 256 - 255) % 256 = i.val + 1; omega)))

/-- The rows two later in the sequence. -/
theorem k_later2 (s : Ideal .f32) (B SA D : FVec Ideal S256x1024 .f32) (C : Vec Ideal S8x1024 .f32)
    (hD : Holds T (k0_pay37 (F := Ideal) B SA D) (dconv M)) (hC : Next M T (k0_pay38 (F := Ideal) s C)) :
    Holds T (k0_pay43 (F := Ideal) (k0_pay41 B SA D) (k0_pay42 s C)) (later (dconv M) 2) := fun i k => by
  unfold Holds at hD; unfold Next at hC
  pointwise [k0_pay43, k0_pay41, k0_pay42, hD, hC]
  by_cases h : i.val < 248
  · rw [dif_pos h, later_in T _ 2 i k (by omega)]
    exact congrArg (dconv M · k) (congrArg (trow T) (Fin.ext (by show (i.val + 256 - 254) % 256 = i.val + 2; omega)))
  · rw [dif_neg h, select_ge (by omega) (by omega)]
    by_cases h7 : 6 ≤ i.val - 248
    · rw [if_pos h7]
      exact later_out T _ 2 _ i k (by omega)
    · rw [if_neg h7, later_in T _ 2 i k (by omega)]
      exact congrArg (dconv M · k) (congrArg (trow T) (Fin.ext (by
        show (248 + (i.val - 248) + 256 - 254) % 256 = i.val + 2; omega)))

/-- The taps, as the block of eight rows holds them. -/
def Taps (W : FVec Ideal S8x1024 .f32) : Prop :=
  ∀ (a : Fin 3) (k : Fin 1024), W (ix2 ⟨a.val, by omega⟩ k) = M.cw a k

/-- The taps' block, read. -/
theorem k_taps (W : Vec Ideal S8x1024 .f32) (hW : Taps M W) : Taps M (k0_pay16 (F := Ideal) W) := fun a k => by
  pointwise [k0_pay16]
  exact hW a k

/-- The gradient of `c * xi`. -/
theorem k_dcx (W : FVec Ideal S8x1024 .f32) (D L1 : FVec Ideal S256x1024 .f32) (X : FVec Ideal S256x1024 .f32)
    (Y : FVec Ideal S8x1024 .f32) (hW : Taps M W)
    (hD : Holds T D (dconv M)) (h1 : Holds T L1 (later (dconv M) 1))
    (h2 : Holds T (k0_pay43 (F := Ideal) X Y) (later (dconv M) 2)) :
    Holds T (k0_pay44 (F := Ideal) W D L1 X Y) (dcx M) := fun i k => by
  unfold Holds at hD h1 h2
  pointwise [k0_pay44, hD, h1, h2]
  exact congrArg₂ (· + ·) (congrArg₂ (· + ·) (congrArg (_ * ·) (hW 2 k)) (congrArg (_ * ·) (hW 1 k)))
    (congrArg (_ * ·) (hW 0 k))

/-- The gradient of `c`. -/
theorem k_dc (W : FVec Ideal S8x1024 .f32) (XI D L1 : FVec Ideal S256x1024 .f32) (X : FVec Ideal S256x1024 .f32)
    (Y : FVec Ideal S8x1024 .f32) (hx : Holds T XI M.xi)
    (h : Holds T (k0_pay44 (F := Ideal) W D L1 X Y) (dcx M)) :
    Holds T (k0_pay50 (F := Ideal) (k0_pay49 W XI D L1 X Y)) (dc M) := fun i k => by
  unfold Holds at hx h
  pointwise [k0_pay50, k0_pay49, hx, h]
  rfl

/-- The gradient of `xi`. -/
theorem k_dxi (C E : FVec Ideal S256x1024 .f32) (hC : Holds T C M.c) (hE : Holds T E (dcx M)) :
    Holds T (k0_pay51 (F := Ideal) C E) (dxi M) := fun i k => by
  unfold Holds at hC hE
  pointwise [k0_pay51, hC, hE]
  rfl

/-- The block `G` is the constant row `g` of a scale. -/
def Scale {φ : FTy} (G : FVec Ideal S1x1024 φ) (g : Fin 1024 → EReal) : Prop := ∀ k : Fin 1024, G (ix2 0 k) = g k

/-- The layer norm's scale, read. -/
theorem k_scale17 (g : Fin 1024 → EReal) (G : Vec Ideal S1x1024 .f32) (h : Scale (φ := .f32) G g) :
    Scale (k0_pay17 (F := Ideal) G) g := fun k => by
  pointwise [k0_pay17]
  exact h k

/-- The normalised rows and the gradient of `v`. -/
theorem k_dv (G : FVec Ideal S1x1024 .f32) (V : Vec Ideal S256x1024 .bf16) (E : FVec Ideal S256x1024 .f32)
    (hG : Scale G M.lg) (hV : Holds T (φ := .bf16) V M.v) (hE : Holds T E (dvn M)) :
    Holds T (k0_pay106 (F := Ideal) G (k0_pay28 V) (k0_pay29 V) E) (dv M) := fun i k => by
  unfold Holds at hV hE; unfold Scale at hG
  pointwise [k0_pay106, k0_pay29, k0_pay28, k0_pay27, hV, hE, hG]
  rfl

/-- The normalised rows. -/
theorem k_vhat (V : Vec Ideal S256x1024 .bf16) (hV : Holds T (φ := .bf16) V M.v) :
    Holds T (k0_pay29 (F := Ideal) V) (vhat M) := fun i k => by
  unfold Holds at hV
  pointwise [k0_pay29, k0_pay28, k0_pay27, hV]
  rfl

/-- The columns of one quarter of the projection's gradient. -/
def Quarter (n : Fin 4) (P : FVec Ideal S256x1792 .bf16) : Prop :=
  ∀ (i : Fin 256) (q : Fin 1792), P (ix2 i q) = dproj M (trow T i) ⟨n.val * 1792 + q.val, by omega⟩

/-- One of the eight column groups of the input product's weight. -/
def Cols (n : Fin 8) (W : FVec Ideal S1x1024x896 .bf16) : Prop :=
  ∀ (k : Fin 1024) (q : Fin 896), W (ix3 0 k q) = M.win k ⟨n.val * 896 + q.val, by omega⟩

/-- The gradient of the normed input. -/
theorem k_dh (W0 W1 W2 W3 W4 W5 W6 W7 : Vec Ideal S1x1024x896 .bf16) (P0 P1 P2 P3 : Vec Ideal S256x1792 .bf16)
    (w0 : Cols M 0 W0) (w1 : Cols M 1 W1) (w2 : Cols M 2 W2) (w3 : Cols M 3 W3)
    (w4 : Cols M 4 W4) (w5 : Cols M 5 W5) (w6 : Cols M 6 W6) (w7 : Cols M 7 W7)
    (p0 : Quarter M T 0 P0) (p1 : Quarter M T 1 P1) (p2 : Quarter M T 2 P2) (p3 : Quarter M T 3 P3) :
    Holds T (k0_pay111 (F := Ideal) (k0_pay109 k0_pay107 (k0_pay108 W0) W1 P0 W2 W3 P1 W4 W5 P2) (k0_pay110 W6 W7) P3)
      (dh M) := fun i k => by
  unfold Cols at w0 w1 w2 w3 w4 w5 w6 w7
  unfold Quarter at p0 p1 p2 p3
  pointwise [k0_pay111, k0_pay109, k0_pay107, k0_pay108, k0_pay110, w0, w1, w2, w3, w4, w5, w6, w7, p0, p1, p2, p3]
  have e : dh M (trow T i) k = _ :=
    Fin.sum_univ_tiles 8 896 rfl fun q => dproj M (trow T i) q * M.win k q
  rw [e, Fin.sum_univ_eight]
  simp only [← add_assoc]
  have s : ∀ a b c : Fin 896 → Fin 7168, (∀ x, (a x).val = (c x).val) → (∀ x, (b x).val = (c x).val) →
      ∑ x, dproj M (trow T i) (a x) * M.win k (b x) = ∑ x, dproj M (trow T i) (c x) * M.win k (c x) :=
    fun a b c h g => Finset.sum_congr rfl fun x _ => by rw [Fin.ext (h x), Fin.ext (g x)]
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals exact s _ _ _ (fun x => by simp <;> omega) (fun x => by simp <;> omega)

/-- The gradient of the layer's input. -/
theorem k_dx (E : FVec Ideal S256x1024 .f32) (W : FVec Ideal S1024x1792 .bf16) (P : Vec Ideal S256x1792 .bf16)
    (X CT : Vec Ideal S256x1024 .f32) (G : Vec Ideal S1x1024 .f32)
    (hE : Holds T (k0_pay111 (F := Ideal) E W P) (dh M)) (hX : Holds T (φ := .f32) X M.x)
    (hG : Scale (φ := .f32) G M.g) (hC : Holds T (φ := .f32) CT M.ct) :
    Holds T (k0_pay115 (F := Ideal) E W P X G CT) (dx M) := fun i k => by
  unfold Holds at hE hX hC; unfold Scale at hG
  pointwise [k0_pay115, k0_pay114, k0_pay113, k0_pay112, hE, hX, hG, hC]
  rfl

end KerSide
-- ==== Proof.KerMix.lean ====
module

public import proofs.«01_k».proof.Proof.KerStages

/-!
The mixing along a chunk, backwards, as one grid point computes it: for each of the eight groups of 128
channels and the two chunks of 128 rows in the tile, one 128 by 128 product each for the gradient of the
layer norm's rows and for the gradient of the mixing weights.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable (M : Saved) (T : Fin 32)

/-- The row `i` of the chunk `a` of a tile. -/
def half (a : Fin 2) (i : Fin 128) : Fin 256 := ⟨a.val * 128 + i.val, by omega⟩

/-- The 128 by 128 square of chunk `a` and group `g` of the gradient of the layer norm's rows. -/
def Square (a : Fin 2) (g : Fin 8) (P : FVec Ideal S128x128 .f32) : Prop :=
  ∀ i c : Fin 128, P (ix2 i c) = dvn M (trow T (half a i)) (chan g c)

/-- One group's mixing weights, transposed, as a block holds them. -/
def Mat (g : Fin 8) (W : FVec Ideal S1x128x128 .f32) : Prop :=
  ∀ i j : Fin 128, W (ix3 0 j i) = M.ws g i j

/-- A choice on a comparison of two places, at most. -/
theorem select_le_fin (i j : Fin 128) (x y : EReal) :
    Scalar.select (IntOp.cmpi .sle (BitVec.ofNat 32 i.val) (BitVec.ofNat 32 j.val)) x y
      = if i.val ≤ j.val then x else y := select_le (by omega) (by omega) x y

/-- The product over one chunk with the weights zeroed for earlier places is the gradient of the layer norm's rows. -/
theorem square_sum (a : Fin 2) (g : Fin 8) (i c : Fin 128) (W : FVec Ideal S1x128x128 .f32) (hW : Mat M g W)
    (X : FVec Ideal S256x1024 .bf16) (hX : Holds T X (dmx M)) (r : Fin 128 → Fin 256) (k : Fin 1024)
    (hr : ∀ j, (r j).val = a.val * 128 + j.val) (hk : k.val = g.val * 128 + c.val) :
    (∑ j : Fin 128, if i.val ≤ j.val then W (ix3 0 i j) * X (ix2 (r j) k) else 0)
      = dvn M (trow T (half a i)) (chan g c) := by
  unfold dvn
  refine Finset.sum_congr rfl fun j _ => ?_
  have e1 : r j = half a j := Fin.ext (hr j)
  have e2 : k = chan g c := Fin.ext hk
  rw [e1, e2, hX, hW]
  have h1 : grp (chan g c) = g := Fin.ext (by show (g.val * 128 + c.val) / 128 = g.val; omega)
  have h2 : pos (trow T (half a i)) = i := Fin.ext (by
    show (T.val * 256 + (a.val * 128 + i.val)) % 128 = i.val; omega)
  have h3 : mate (trow T (half a i)) j = trow T (half a j) := Fin.ext (by
    show (T.val * 256 + (a.val * 128 + i.val)) / 128 * 128 + j.val = T.val * 256 + (a.val * 128 + j.val); omega)
  rw [h1, h2, h3]
  unfold wm
  by_cases h : i.val ≤ j.val
  · rw [if_pos h, if_pos h]
  · rw [if_neg h, if_neg h, zero_mul]

/-- What the tile's two chunks add to the gradient of one mixing weight. -/
def dwsTile (g : Fin 8) (i j : Fin 128) : EReal :=
  if j.val ≤ i.val then dwsChunk M ⟨2 * T.val, by omega⟩ g i j + dwsChunk M ⟨2 * T.val + 1, by omega⟩ g i j else 0

/-- The two chunks' products are what the tile adds to the gradient of the mixing weights. -/
theorem ws_sum (g : Fin 8) (i j : Fin 128) (X N : FVec Ideal S256x1024 .bf16) (hX : Holds T X (dmx M)) (hN : Holds T N M.vn)
    (O : EReal) (r0 r0' r1 r1' : Fin 256) (k k' l l' : Fin 128 → Fin 1024)
    (h0 : r0.val = i.val) (h0' : r0'.val = j.val) (h1 : r1.val = 128 + i.val) (h1' : r1'.val = 128 + j.val)
    (hk : ∀ c, (k c).val = g.val * 128 + c.val) (hk' : ∀ c, (k' c).val = g.val * 128 + c.val)
    (hl : ∀ c, (l c).val = g.val * 128 + c.val) (hl' : ∀ c, (l' c).val = g.val * 128 + c.val) :
    O + (if j.val ≤ i.val then (∑ c, X (ix2 r0 (k c)) * N (ix2 r0' (k' c))) + (∑ c, X (ix2 r1 (l c)) * N (ix2 r1' (l' c)))
        else 0) = O + dwsTile M T g i j := by
  have ek : ∀ c, k c = chan g c := fun c => Fin.ext (hk c)
  have ek' : ∀ c, k' c = chan g c := fun c => Fin.ext (hk' c)
  have el : ∀ c, l c = chan g c := fun c => Fin.ext (hl c)
  have el' : ∀ c, l' c = chan g c := fun c => Fin.ext (hl' c)
  have e0 : trow T r0 = crow ⟨2 * T.val, by omega⟩ i := Fin.ext (by
    show T.val * 256 + r0.val = 2 * T.val * 128 + i.val; omega)
  have e0' : trow T r0' = crow ⟨2 * T.val, by omega⟩ j := Fin.ext (by
    show T.val * 256 + r0'.val = 2 * T.val * 128 + j.val; omega)
  have e1 : trow T r1 = crow ⟨2 * T.val + 1, by omega⟩ i := Fin.ext (by
    show T.val * 256 + r1.val = (2 * T.val + 1) * 128 + i.val; omega)
  have e1' : trow T r1' = crow ⟨2 * T.val + 1, by omega⟩ j := Fin.ext (by
    show T.val * 256 + r1'.val = (2 * T.val + 1) * 128 + j.val; omega)
  unfold dwsTile dwsChunk
  simp only [hX _ _, hN _ _, e0, e0', e1, e1', ek, ek', el, el']

/-- Chunk 0, group 0. -/
theorem k_square60 (U E : FVec Ideal S256x1024 .f32) (W : Vec Ideal S1x128x128 .f32) (hX : Holds T (k0_pay54 (F := Ideal) U E) (dmx M)) (hW : Mat M 0 W) :
    Square M T 0 0 (k0_pay60 (F := Ideal) U E W) := fun i c => by
  pointwise [k0_pay60, k0_pay58, k0_pay56, k0_pay54, k0_pay53]
  simp only [select_le_fin]
  exact square_sum M T 0 0 i c W hW (k0_pay54 U E) hX (fun j => ⟨j.val, by omega⟩) ⟨c.val, by omega⟩ (fun j => by simp) (by simp)

/-- Chunk 1, group 0. -/
theorem k_square63 (X : FVec Ideal S256x1024 .bf16) (W : Vec Ideal S1x128x128 .f32) (hX : Holds T X (dmx M)) (hW : Mat M 0 W) :
    Square M T 1 0 (k0_pay63 (F := Ideal) X (k0_pay58 W)) := fun i c => by
  pointwise [k0_pay63, k0_pay58, k0_pay56]
  simp only [select_le_fin]
  exact square_sum M T 1 0 i c W hW X hX (fun j => ⟨128 + j.val, by omega⟩) ⟨c.val, by omega⟩ (fun j => by simp) (by simp)

/-- Chunk 0, group 1. -/
theorem k_square66 (X : FVec Ideal S256x1024 .bf16) (W : Vec Ideal S1x128x128 .f32) (hX : Holds T X (dmx M)) (hW : Mat M 1 W) :
    Square M T 0 1 (k0_pay66 (F := Ideal) X k0_pay56 W) := fun i c => by
  pointwise [k0_pay66, k0_pay65, k0_pay56]
  simp only [select_le_fin]
  exact square_sum M T 0 1 i c W hW X hX (fun j => ⟨j.val, by omega⟩) ⟨128 + c.val, by omega⟩ (fun j => by simp) (by simp)

/-- Chunk 1, group 1. -/
theorem k_square69 (X : FVec Ideal S256x1024 .bf16) (W : Vec Ideal S1x128x128 .f32) (hX : Holds T X (dmx M)) (hW : Mat M 1 W) :
    Square M T 1 1 (k0_pay69 (F := Ideal) (k0_pay65 k0_pay56 W) (k0_pay68 X) (constant S128x128 .f32 0x00000000#32)) := fun i c => by
  pointwise [k0_pay69, k0_pay65, k0_pay68, k0_pay56]
  simp only [select_le_fin]
  exact square_sum M T 1 1 i c W hW X hX (fun j => ⟨128 + j.val, by omega⟩) ⟨128 + c.val, by omega⟩ (fun j => by simp) (by simp)

/-- Chunk 0, group 2. -/
theorem k_square72 (X : FVec Ideal S256x1024 .bf16) (W : Vec Ideal S1x128x128 .f32) (hX : Holds T X (dmx M)) (hW : Mat M 2 W) :
    Square M T 0 2 (k0_pay72 (F := Ideal) X k0_pay56 W) := fun i c => by
  pointwise [k0_pay72, k0_pay71, k0_pay56]
  simp only [select_le_fin]
  exact square_sum M T 0 2 i c W hW X hX (fun j => ⟨j.val, by omega⟩) ⟨256 + c.val, by omega⟩ (fun j => by simp) (by simp)

/-- Chunk 1, group 2. -/
theorem k_square75 (X : FVec Ideal S256x1024 .bf16) (W : Vec Ideal S1x128x128 .f32) (hX : Holds T X (dmx M)) (hW : Mat M 2 W) :
    Square M T 1 2 (k0_pay75 (F := Ideal) (k0_pay74 X k0_pay56 W)) := fun i c => by
  pointwise [k0_pay75, k0_pay74, k0_pay71, k0_pay56]
  simp only [select_le_fin]
  exact square_sum M T 1 2 i c W hW X hX (fun j => ⟨128 + j.val, by omega⟩) ⟨256 + c.val, by omega⟩ (fun j => by simp) (by simp)

/-- Chunk 0, group 3. -/
theorem k_square78 (X : FVec Ideal S256x1024 .bf16) (W : Vec Ideal S1x128x128 .f32) (hX : Holds T X (dmx M)) (hW : Mat M 3 W) :
    Square M T 0 3 (k0_pay78 (F := Ideal) X k0_pay56 W) := fun i c => by
  pointwise [k0_pay78, k0_pay77, k0_pay56]
  simp only [select_le_fin]
  exact square_sum M T 0 3 i c W hW X hX (fun j => ⟨j.val, by omega⟩) ⟨384 + c.val, by omega⟩ (fun j => by simp) (by simp)

/-- Chunk 1, group 3. -/
theorem k_square80 (X : FVec Ideal S256x1024 .bf16) (W : Vec Ideal S1x128x128 .f32) (hX : Holds T X (dmx M)) (hW : Mat M 3 W) :
    Square M T 1 3 (k0_pay80 (F := Ideal) X k0_pay56 W) := fun i c => by
  pointwise [k0_pay80, k0_pay77, k0_pay56]
  simp only [select_le_fin]
  exact square_sum M T 1 3 i c W hW X hX (fun j => ⟨128 + j.val, by omega⟩) ⟨384 + c.val, by omega⟩ (fun j => by simp) (by simp)

/-- Chunk 0, group 4. -/
theorem k_square85 (X : FVec Ideal S256x1024 .bf16) (W : Vec Ideal S1x128x128 .f32) (hX : Holds T X (dmx M)) (hW : Mat M 4 W) :
    Square M T 0 4 (k0_pay85 (F := Ideal) X k0_pay56 W) := fun i c => by
  pointwise [k0_pay85, k0_pay84, k0_pay56]
  simp only [select_le_fin]
  exact square_sum M T 0 4 i c W hW X hX (fun j => ⟨j.val, by omega⟩) ⟨512 + c.val, by omega⟩ (fun j => by simp) (by simp)

/-- Chunk 1, group 4. -/
theorem k_square86 (X : FVec Ideal S256x1024 .bf16) (W : Vec Ideal S1x128x128 .f32) (hX : Holds T X (dmx M)) (hW : Mat M 4 W) :
    Square M T 1 4 (k0_pay86 (F := Ideal) X k0_pay56 W) := fun i c => by
  pointwise [k0_pay86, k0_pay84, k0_pay56]
  simp only [select_le_fin]
  exact square_sum M T 1 4 i c W hW X hX (fun j => ⟨128 + j.val, by omega⟩) ⟨512 + c.val, by omega⟩ (fun j => by simp) (by simp)

/-- Chunk 0, group 5. -/
theorem k_square90 (X : FVec Ideal S256x1024 .bf16) (W : Vec Ideal S1x128x128 .f32) (hX : Holds T X (dmx M)) (hW : Mat M 5 W) :
    Square M T 0 5 (k0_pay90 (F := Ideal) X k0_pay56 W) := fun i c => by
  pointwise [k0_pay90, k0_pay89, k0_pay56]
  simp only [select_le_fin]
  exact square_sum M T 0 5 i c W hW X hX (fun j => ⟨j.val, by omega⟩) ⟨640 + c.val, by omega⟩ (fun j => by simp) (by simp)

/-- Chunk 1, group 5. -/
theorem k_square91 (X : FVec Ideal S256x1024 .bf16) (W : Vec Ideal S1x128x128 .f32) (hX : Holds T X (dmx M)) (hW : Mat M 5 W) :
    Square M T 1 5 (k0_pay91 (F := Ideal) X k0_pay56 W) := fun i c => by
  pointwise [k0_pay91, k0_pay89, k0_pay56]
  simp only [select_le_fin]
  exact square_sum M T 1 5 i c W hW X hX (fun j => ⟨128 + j.val, by omega⟩) ⟨640 + c.val, by omega⟩ (fun j => by simp) (by simp)

/-- Chunk 0, group 6. -/
theorem k_square96 (X : FVec Ideal S256x1024 .bf16) (W : Vec Ideal S1x128x128 .f32) (hX : Holds T X (dmx M)) (hW : Mat M 6 W) :
    Square M T 0 6 (k0_pay96 (F := Ideal) X k0_pay56 W) := fun i c => by
  pointwise [k0_pay96, k0_pay95, k0_pay56]
  simp only [select_le_fin]
  exact square_sum M T 0 6 i c W hW X hX (fun j => ⟨j.val, by omega⟩) ⟨768 + c.val, by omega⟩ (fun j => by simp) (by simp)

/-- Chunk 1, group 6. -/
theorem k_square97 (X : FVec Ideal S256x1024 .bf16) (W : Vec Ideal S1x128x128 .f32) (hX : Holds T X (dmx M)) (hW : Mat M 6 W) :
    Square M T 1 6 (k0_pay97 (F := Ideal) X k0_pay56 W) := fun i c => by
  pointwise [k0_pay97, k0_pay95, k0_pay56]
  simp only [select_le_fin]
  exact square_sum M T 1 6 i c W hW X hX (fun j => ⟨128 + j.val, by omega⟩) ⟨768 + c.val, by omega⟩ (fun j => by simp) (by simp)

/-- Chunk 0, group 7. -/
theorem k_square101 (X : FVec Ideal S256x1024 .bf16) (W : Vec Ideal S1x128x128 .f32) (hX : Holds T X (dmx M)) (hW : Mat M 7 W) :
    Square M T 0 7 (k0_pay101 (F := Ideal) X k0_pay56 W) := fun i c => by
  pointwise [k0_pay101, k0_pay100, k0_pay56]
  simp only [select_le_fin]
  exact square_sum M T 0 7 i c W hW X hX (fun j => ⟨j.val, by omega⟩) ⟨896 + c.val, by omega⟩ (fun j => by simp) (by simp)

/-- Chunk 1, group 7. -/
theorem k_square102 (X : FVec Ideal S256x1024 .bf16) (W : Vec Ideal S1x128x128 .f32) (hX : Holds T X (dmx M)) (hW : Mat M 7 W) :
    Square M T 1 7 (k0_pay102 (F := Ideal) X k0_pay56 W) := fun i c => by
  pointwise [k0_pay102, k0_pay100, k0_pay56]
  simp only [select_le_fin]
  exact square_sum M T 1 7 i c W hW X hX (fun j => ⟨128 + j.val, by omega⟩) ⟨896 + c.val, by omega⟩ (fun j => by simp) (by simp)

/-- Group 0 of the gradient of the mixing weights. -/
theorem k_ws64 (N : FVec Ideal S256x1024 .bf16) (U E : FVec Ideal S256x1024 .f32) (O : Vec Ideal S1x128x128 .f32) (hN : Holds T N M.vn)
    (hX : Holds T (k0_pay54 (F := Ideal) U E) (dmx M)) (i j : Fin 128) :
    (k0_pay64 (F := Ideal) N (k0_pay54 U E) k0_pay55 k0_pay59 (k0_pay61 U E) (k0_pay62 N) O) (ix3 0 i j) = (show FVec Ideal S1x128x128 .f32 from O) (ix3 0 i j) + dwsTile M T 0 i j := by
  pointwise [k0_pay64, k0_pay59, k0_pay61, k0_pay62, k0_pay55]
  rw [select_ge (show i.val < 2 ^ 31 by omega) (show j.val < 2 ^ 31 by omega)]
  exact ws_sum M T 0 i j (k0_pay54 U E) N hX hN _ ⟨i.val, by omega⟩ ⟨j.val, by omega⟩ ⟨128 + i.val, by omega⟩ ⟨128 + j.val, by omega⟩ (fun c => ⟨c.val, by omega⟩) (fun c => ⟨c.val, by omega⟩) (fun c => ⟨c.val, by omega⟩) (fun c => ⟨c.val, by omega⟩) rfl rfl rfl rfl
    (fun c => by simp) (fun c => by simp) (fun c => by simp) (fun c => by simp)

/-- Group 1 of the gradient of the mixing weights. -/
theorem k_ws70 (N : FVec Ideal S256x1024 .bf16) (X : FVec Ideal S256x1024 .bf16) (O : Vec Ideal S1x128x128 .f32) (hN : Holds T N M.vn)
    (hX : Holds T X (dmx M)) (i j : Fin 128) :
    (k0_pay70 (F := Ideal) N X k0_pay55 (k0_pay67 N X) O) (ix3 0 i j) = (show FVec Ideal S1x128x128 .f32 from O) (ix3 0 i j) + dwsTile M T 1 i j := by
  pointwise [k0_pay70, k0_pay67, k0_pay55]
  rw [select_ge (show i.val < 2 ^ 31 by omega) (show j.val < 2 ^ 31 by omega)]
  exact ws_sum M T 1 i j X N hX hN _ ⟨i.val, by omega⟩ ⟨j.val, by omega⟩ ⟨128 + i.val, by omega⟩ ⟨128 + j.val, by omega⟩ (fun c => ⟨128 + c.val, by omega⟩) (fun c => ⟨128 + c.val, by omega⟩) (fun c => ⟨128 + c.val, by omega⟩) (fun c => ⟨128 + c.val, by omega⟩) rfl rfl rfl rfl
    (fun c => by simp) (fun c => by simp) (fun c => by simp) (fun c => by simp)

/-- Group 2 of the gradient of the mixing weights. -/
theorem k_ws76 (N : FVec Ideal S256x1024 .bf16) (X : FVec Ideal S256x1024 .bf16) (O : Vec Ideal S1x128x128 .f32) (hN : Holds T N M.vn)
    (hX : Holds T X (dmx M)) (i j : Fin 128) :
    (k0_pay76 (F := Ideal) N X k0_pay55 (k0_pay73 N X) O) (ix3 0 i j) = (show FVec Ideal S1x128x128 .f32 from O) (ix3 0 i j) + dwsTile M T 2 i j := by
  pointwise [k0_pay76, k0_pay73, k0_pay55]
  rw [select_ge (show i.val < 2 ^ 31 by omega) (show j.val < 2 ^ 31 by omega)]
  exact ws_sum M T 2 i j X N hX hN _ ⟨i.val, by omega⟩ ⟨j.val, by omega⟩ ⟨128 + i.val, by omega⟩ ⟨128 + j.val, by omega⟩ (fun c => ⟨256 + c.val, by omega⟩) (fun c => ⟨256 + c.val, by omega⟩) (fun c => ⟨256 + c.val, by omega⟩) (fun c => ⟨256 + c.val, by omega⟩) rfl rfl rfl rfl
    (fun c => by simp) (fun c => by simp) (fun c => by simp) (fun c => by simp)

/-- Group 3 of the gradient of the mixing weights. -/
theorem k_ws83 (N : FVec Ideal S256x1024 .bf16) (X : FVec Ideal S256x1024 .bf16) (O : Vec Ideal S1x128x128 .f32) (hN : Holds T N M.vn)
    (hX : Holds T X (dmx M)) (i j : Fin 128) :
    (k0_pay83 (F := Ideal) k0_pay55 (k0_pay79 N X) (k0_pay81 X) (k0_pay82 N) (constant S128x128 .f32 0x00000000#32) O) (ix3 0 i j) = (show FVec Ideal S1x128x128 .f32 from O) (ix3 0 i j) + dwsTile M T 3 i j := by
  pointwise [k0_pay83, k0_pay79, k0_pay81, k0_pay82, k0_pay55]
  rw [select_ge (show i.val < 2 ^ 31 by omega) (show j.val < 2 ^ 31 by omega)]
  exact ws_sum M T 3 i j X N hX hN _ ⟨i.val, by omega⟩ ⟨j.val, by omega⟩ ⟨128 + i.val, by omega⟩ ⟨128 + j.val, by omega⟩ (fun c => ⟨384 + c.val, by omega⟩) (fun c => ⟨384 + c.val, by omega⟩) (fun c => ⟨384 + c.val, by omega⟩) (fun c => ⟨384 + c.val, by omega⟩) rfl rfl rfl rfl
    (fun c => by simp) (fun c => by simp) (fun c => by simp) (fun c => by simp)

/-- Group 4 of the gradient of the mixing weights. -/
theorem k_ws88 (N : FVec Ideal S256x1024 .bf16) (X : FVec Ideal S256x1024 .bf16) (O : Vec Ideal S1x128x128 .f32) (hN : Holds T N M.vn)
    (hX : Holds T X (dmx M)) (i j : Fin 128) :
    (k0_pay88 (F := Ideal) k0_pay55 (k0_pay87 N X) O) (ix3 0 i j) = (show FVec Ideal S1x128x128 .f32 from O) (ix3 0 i j) + dwsTile M T 4 i j := by
  pointwise [k0_pay88, k0_pay87, k0_pay55]
  rw [select_ge (show i.val < 2 ^ 31 by omega) (show j.val < 2 ^ 31 by omega)]
  exact ws_sum M T 4 i j X N hX hN _ ⟨i.val, by omega⟩ ⟨j.val, by omega⟩ ⟨128 + i.val, by omega⟩ ⟨128 + j.val, by omega⟩ (fun c => ⟨512 + c.val, by omega⟩) (fun c => ⟨512 + c.val, by omega⟩) (fun c => ⟨512 + c.val, by omega⟩) (fun c => ⟨512 + c.val, by omega⟩) rfl rfl rfl rfl
    (fun c => by simp) (fun c => by simp) (fun c => by simp) (fun c => by simp)

/-- Group 5 of the gradient of the mixing weights. -/
theorem k_ws94 (N : FVec Ideal S256x1024 .bf16) (X : FVec Ideal S256x1024 .bf16) (O : Vec Ideal S1x128x128 .f32) (hN : Holds T N M.vn)
    (hX : Holds T X (dmx M)) (i j : Fin 128) :
    (k0_pay94 (F := Ideal) (k0_pay92 O) (k0_pay93 N X k0_pay55)) (ix3 0 i j) = (show FVec Ideal S1x128x128 .f32 from O) (ix3 0 i j) + dwsTile M T 5 i j := by
  pointwise [k0_pay94, k0_pay92, k0_pay93, k0_pay55]
  rw [select_ge (show i.val < 2 ^ 31 by omega) (show j.val < 2 ^ 31 by omega)]
  exact ws_sum M T 5 i j X N hX hN _ ⟨i.val, by omega⟩ ⟨j.val, by omega⟩ ⟨128 + i.val, by omega⟩ ⟨128 + j.val, by omega⟩ (fun c => ⟨640 + c.val, by omega⟩) (fun c => ⟨640 + c.val, by omega⟩) (fun c => ⟨640 + c.val, by omega⟩) (fun c => ⟨640 + c.val, by omega⟩) rfl rfl rfl rfl
    (fun c => by simp) (fun c => by simp) (fun c => by simp) (fun c => by simp)

/-- Group 6 of the gradient of the mixing weights. -/
theorem k_ws99 (N : FVec Ideal S256x1024 .bf16) (X : FVec Ideal S256x1024 .bf16) (O : Vec Ideal S1x128x128 .f32) (hN : Holds T N M.vn)
    (hX : Holds T X (dmx M)) (i j : Fin 128) :
    (k0_pay99 (F := Ideal) (k0_pay98 N X k0_pay55 O)) (ix3 0 i j) = (show FVec Ideal S1x128x128 .f32 from O) (ix3 0 i j) + dwsTile M T 6 i j := by
  pointwise [k0_pay99, k0_pay98, k0_pay55]
  rw [select_ge (show i.val < 2 ^ 31 by omega) (show j.val < 2 ^ 31 by omega)]
  exact ws_sum M T 6 i j X N hX hN _ ⟨i.val, by omega⟩ ⟨j.val, by omega⟩ ⟨128 + i.val, by omega⟩ ⟨128 + j.val, by omega⟩ (fun c => ⟨768 + c.val, by omega⟩) (fun c => ⟨768 + c.val, by omega⟩) (fun c => ⟨768 + c.val, by omega⟩) (fun c => ⟨768 + c.val, by omega⟩) rfl rfl rfl rfl
    (fun c => by simp) (fun c => by simp) (fun c => by simp) (fun c => by simp)

/-- Group 7 of the gradient of the mixing weights. -/
theorem k_ws103 (N : FVec Ideal S256x1024 .bf16) (X : FVec Ideal S256x1024 .bf16) (O : Vec Ideal S1x128x128 .f32) (hN : Holds T N M.vn)
    (hX : Holds T X (dmx M)) (i j : Fin 128) :
    (k0_pay103 (F := Ideal) N X k0_pay55 O) (ix3 0 i j) = (show FVec Ideal S1x128x128 .f32 from O) (ix3 0 i j) + dwsTile M T 7 i j := by
  pointwise [k0_pay103, k0_pay55]
  rw [select_ge (show i.val < 2 ^ 31 by omega) (show j.val < 2 ^ 31 by omega)]
  exact ws_sum M T 7 i j X N hX hN _ ⟨i.val, by omega⟩ ⟨j.val, by omega⟩ ⟨128 + i.val, by omega⟩ ⟨128 + j.val, by omega⟩ (fun c => ⟨896 + c.val, by omega⟩) (fun c => ⟨896 + c.val, by omega⟩) (fun c => ⟨896 + c.val, by omega⟩) (fun c => ⟨896 + c.val, by omega⟩) rfl rfl rfl rfl
    (fun c => by simp) (fun c => by simp) (fun c => by simp) (fun c => by simp)

end KerSide
-- ==== Proof.KerInputs.lean ====
module

public import proofs.«01_k».proof.Proof.KerStages
public import proofs.«01_k».proof.Proof.Gen.KernelIdeal.Value
public import Idealize.ShloMosaic.Lib.Pipeline.ValueKit
public import Idealize.ShloMosaic.Lib.Pipeline.ReadBack
public import Idealize.ShloMosaic.Lib.Pointwise

/-!
What the kernel's nine input arrays hold when it starts, and what a grid point therefore finds in its
blocks.  Point `t` of 32 works on the tile `31 - t` of 256 rows: the sweep goes from the last tile down.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable (m : (ℓ : Loc nD τ sig) → Buf (Elt Ideal) ℓ)

/-- The kept array's column group `n` holds `f`. -/
def Kept (d : Dev nD) (n : Fin 10) (f : Fin 8192 → Fin 1024 → EReal) : Prop :=
  ∀ (R : Fin 8192) (k : Fin 1024),
    (show Vec Ideal S8192x10240 .bf16 from V m d main_v93) (ix2 R ⟨n.val * 1024 + k.val, by omega⟩) = f R k

/-- The kernel's input arrays hold the quantities of `M`. -/
structure Inputs (d : Dev nD) (M : Saved) : Prop where
  ct : ∀ (R : Fin 8192) (k : Fin 1024), (show Vec Ideal S8192x1024 .f32 from V m d main_v97) (ix2 R k) = M.ct R k
  b : Kept m d 0 M.b
  c : Kept m d 1 M.c
  xi : Kept m d 2 M.xi
  u : Kept m d 3 M.u
  v : Kept m d 4 M.v
  conv : Kept m d 5 M.conv
  mixed : Kept m d 6 M.mixed
  vn : Kept m d 7 M.vn
  sa : Kept m d 8 M.sa
  sb : Kept m d 9 M.sb
  wo : ∀ k j : Fin 1024, (show Vec Ideal S1024x1024 .bf16 from V m d main_v98) (ix2 k j) = M.wo k j
  cw : ∀ (a : Fin 3) (k : Fin 1024),
    (show Vec Ideal S8x1024 .f32 from V m d main_v99) (ix2 ⟨a.val, by omega⟩ k) = M.cw a k
  lg : ∀ k : Fin 1024, (show Vec Ideal S1x1024 .f32 from V m d main_v100) (ix2 0 k) = M.lg k
  ws : ∀ (g : Fin 8) (i j : Fin 128), (show Vec Ideal S8x128x128 .f32 from V m d main_v101) (ix3 g j i) = M.ws g i j
  win : ∀ (a : Fin 8) (k : Fin 1024) (q : Fin 896),
    (show Vec Ideal S8x1024x896 .bf16 from V m d main_v96) (ix3 a k q) = M.win k ⟨a.val * 896 + q.val, by omega⟩
  x : ∀ (R : Fin 8192) (k : Fin 1024), (show Vec Ideal S8192x1024 .f32 from V m d main_v102) (ix2 R k) = M.x R k
  g : ∀ k : Fin 1024, (show Vec Ideal S1x1024 .f32 from V m d main_v103) (ix2 0 k) = M.g k

/-- The tile a point works on. -/
def tile (t : Fin cfg0.N) : Fin 32 := ⟨31 - t.val, by omega⟩

/-- The tile of a grid point, counted. -/
theorem tile_val (t : Fin cfg0.N) : (tile t).val = 31 - t.val := rfl

/-- Where each input window's block lies. -/
theorem idx : ∀ t : Fin cfg0.N, win0_0.index t = ![31 - t.val, 0] ∧ win0_1.index t = ![31 - t.val, 0]
    ∧ win0_2.index t = ![0, 0] ∧ win0_3.index t = ![0, 0] ∧ win0_4.index t = ![0, 0] ∧ win0_5.index t = ![0, 0, 0]
    ∧ win0_6.index t = ![0, 0, 0] ∧ win0_7.index t = ![31 - t.val, 0] ∧ win0_8.index t = ![0, 0]
    ∧ win0_9.index t = ![31 - t.val, 0] ∧ win0_14.index t = ![31 - t.val, 0] :=
  (by decide +kernel : ∀ t : Fin grid0.N, _)

variable {m} {d : Dev nD} {M : Saved} (I : Inputs m d M) (t : Fin cfg0.N)

/-- A load of column group `n` of the kept block holds that quantity's rows. -/
theorem kept_at {n : Fin 10} {f : Fin 8192 → Fin 1024 → EReal} (h : Kept m d n f) (X : Vec Ideal S256x1024 .bf16)
    (hX : ∀ (i : Fin 256) (k : Fin 1024),
      X (ix2 i k) = (show Vec Ideal S256x10240 .bf16 from iblk m d 1 t) (ix2 i ⟨n.val * 1024 + k.val, by omega⟩)) :
    Holds (tile t) (φ := .bf16) X f := fun i k => by
  rw [hX, ← h]; blk_ext [iblk, idx t, tile_val, trow]

include I

/-- The block of the incoming gradient. -/
theorem ct_at : Holds (tile t) (φ := .f32) (iblk m d 0 t) M.ct := fun i k => by
  rw [← I.ct]; blk_ext [iblk, idx t, tile_val, trow]

/-- The block of the layer's input. -/
theorem x_at : Holds (tile t) (φ := .f32) (iblk m d 7 t) M.x := fun i k => by
  rw [← I.x]; blk_ext [iblk, idx t, tile_val, trow]

/-- The output product's weight. -/
theorem wo_at (k j : Fin 1024) : (show Vec Ideal S1024x1024 .bf16 from iblk m d 2 t) (ix2 k j) = M.wo k j := by
  rw [← I.wo]; blk_ext [iblk, idx t]

/-- The taps. -/
theorem cw_at : Taps M (iblk m d 3 t) := fun a k => by
  rw [← I.cw]; blk_ext [iblk, idx t]

/-- The layer norm's scale. -/
theorem lg_at : Scale (φ := .f32) (iblk m d 4 t) M.lg := fun k => by
  rw [← I.lg]; blk_ext [iblk, idx t]

/-- The root-mean-square norm's scale. -/
theorem g_at : Scale (φ := .f32) (iblk m d 8 t) M.g := fun k => by
  rw [← I.g]; blk_ext [iblk, idx t]

/-- The mixing weights, each group's matrix transposed. -/
theorem ws_at (g : Fin 8) (i j : Fin 128) :
    (show Vec Ideal S8x128x128 .f32 from iblk m d 5 t) (ix3 g j i) = M.ws g i j := by
  rw [← I.ws]; blk_ext [iblk, idx t]

/-- A load of one of the eight column groups of the input product's weight. -/
theorem cols_at (n : Fin 8) (X : Vec Ideal S1x1024x896 .bf16)
    (hX : ∀ (k : Fin 1024) (q : Fin 896),
      X (ix3 0 k q) = (show Vec Ideal S8x1024x896 .bf16 from iblk m d 6 t) (ix3 n k q)) : Cols M n X := fun k q => by
  rw [hX, ← I.win]; blk_ext [iblk, idx t]

end KerSide
-- ==== Proof.KerRows.lean ====
module

public import proofs.«01_k».proof.Proof.KerMix
public import proofs.«01_k».proof.Proof.KerInputs

/-!
What one grid point adds to the sums it carries from point to point, and what it hands to the next point.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable (M : Saved) (T : Fin 32)

/-- No rows later is the row itself. -/
theorem later_zero (f : Fin 8192 → Fin 1024 → EReal) (R : Fin 8192) (k : Fin 1024) : later f 0 R k = f R k := by
  unfold later
  rw [dif_pos (by omega)]
  rfl

/-- What the tile adds to the gradient of the first tap. -/
theorem k_row46 (C XI X : FVec Ideal S256x1024 .f32) (Y : FVec Ideal S8x1024 .f32) (O : Vec Ideal S1x1024 .f32)
    (hC : Holds T C M.c) (hX : Holds T XI M.xi) (h2 : Holds T (k0_pay43 (F := Ideal) X Y) (later (dconv M) 2))
    (k : Fin 1024) :
    k0_pay46 (F := Ideal) C XI X Y O (ix2 0 k)
      = (show FVec Ideal S1x1024 .f32 from O) (ix2 0 k) + ∑ i, dcwRow M 0 (trow T i) k := by
  unfold Holds at hC hX h2
  pointwise [k0_pay46, k0_pay45, hC, hX, h2]
  rfl

/-- What the tile adds to the gradient of the second tap. -/
theorem k_row47 (C XI L : FVec Ideal S256x1024 .f32) (O : Vec Ideal S1x1024 .f32)
    (hC : Holds T C M.c) (hX : Holds T XI M.xi) (h1 : Holds T L (later (dconv M) 1)) (k : Fin 1024) :
    k0_pay47 (F := Ideal) C XI L O (ix2 0 k)
      = (show FVec Ideal S1x1024 .f32 from O) (ix2 0 k) + ∑ i, dcwRow M 1 (trow T i) k := by
  unfold Holds at hC hX h1
  pointwise [k0_pay47, k0_pay45, hC, hX, h1]
  rfl

/-- What the tile adds to the gradient of the third tap. -/
theorem k_row48 (C XI D : FVec Ideal S256x1024 .f32) (O : Vec Ideal S1x1024 .f32)
    (hC : Holds T C M.c) (hX : Holds T XI M.xi) (h0 : Holds T D (dconv M)) (k : Fin 1024) :
    k0_pay48 (F := Ideal) C XI D O (ix2 0 k)
      = (show FVec Ideal S1x1024 .f32 from O) (ix2 0 k) + ∑ i, dcwRow M 2 (trow T i) k := by
  have e : ∀ i, dcwRow M 2 (trow T i) k = dconv M (trow T i) k * (M.c (trow T i) k * M.xi (trow T i) k) := fun i =>
    congrArg (· * _) (later_zero (dconv M) (trow T i) k)
  unfold Holds at hC hX h0
  simp only [e]
  pointwise [k0_pay48, k0_pay45, hC, hX, h0]

/-- What the tile adds to the gradient of one mixing bias in one channel. -/
def dbsTile (i : Fin 128) (k : Fin 1024) : EReal :=
  dmx M (crow ⟨2 * T.val, by omega⟩ i) k + dmx M (crow ⟨2 * T.val + 1, by omega⟩ i) k

/-- What the tile adds to the mixing biases' sums. -/
theorem k_row57 (U E : FVec Ideal S256x1024 .f32) (O : Vec Ideal S128x1024 .f32)
    (hU : Holds T U M.u) (hE : Holds T E (dyb M)) (i : Fin 128) (k : Fin 1024) :
    k0_pay57 (F := Ideal) U E O (ix2 i k)
      = (show FVec Ideal S128x1024 .f32 from O) (ix2 i k) + dbsTile M T i k := by
  unfold Holds at hU hE
  have e0 : crow ⟨2 * T.val, by omega⟩ i = trow T ⟨i.val, by omega⟩ := Fin.ext (by
    show 2 * T.val * 128 + i.val = T.val * 256 + i.val; omega)
  have e1 : crow ⟨2 * T.val + 1, by omega⟩ i = trow T ⟨128 + i.val, by omega⟩ := Fin.ext (by
    show (2 * T.val + 1) * 128 + i.val = T.val * 256 + (128 + i.val); omega)
  unfold dbsTile
  rw [e0, e1]
  pointwise [k0_pay57, k0_pay53, hU, hE]
  rfl

/-- What the tile adds to the gradient of the layer norm's scale. -/
theorem k_row104 (VH E : FVec Ideal S256x1024 .f32) (O : Vec Ideal S1x1024 .f32)
    (hV : Holds T VH (vhat M)) (hE : Holds T E (dvn M)) (k : Fin 1024) :
    k0_pay104 (F := Ideal) VH E O (ix2 0 k)
      = (show FVec Ideal S1x1024 .f32 from O) (ix2 0 k) + ∑ i, dlgRow M (trow T i) k := by
  unfold Holds at hV hE
  pointwise [k0_pay104, hV, hE]
  rfl

/-- What the tile adds to the gradient of the layer norm's shift. -/
theorem k_row105 (E : FVec Ideal S256x1024 .f32) (O : Vec Ideal S1x1024 .f32)
    (hE : Holds T E (dvn M)) (k : Fin 1024) :
    k0_pay105 (F := Ideal) E O (ix2 0 k)
      = (show FVec Ideal S1x1024 .f32 from O) (ix2 0 k) + ∑ i, dvn M (trow T i) k := by
  unfold Holds at hE
  pointwise [k0_pay105, hE]

/-- What the tile adds to the gradient of the root-mean-square norm's scale. -/
theorem k_row116 (E : FVec Ideal S256x1024 .f32) (W : FVec Ideal S1024x1792 .bf16) (P : Vec Ideal S256x1792 .bf16)
    (X : Vec Ideal S256x1024 .f32) (O : Vec Ideal S1x1024 .f32)
    (hE : Holds T (k0_pay111 (F := Ideal) E W P) (dh M)) (hX : Holds T (φ := .f32) X M.x) (k : Fin 1024) :
    k0_pay116 (F := Ideal) E W P X O (ix2 0 k)
      = (show FVec Ideal S1x1024 .f32 from O) (ix2 0 k) + ∑ i, dgRow M (trow T i) k := by
  unfold Holds at hE hX
  pointwise [k0_pay116, k0_pay114, k0_pay113, k0_pay112, hE, hX]
  rfl

/-- A 128 by 128 square's row sums, spread over the row. -/
theorem k_spread1 (P : Vec Ideal S128x128 .f32) (i c : Fin 128) :
    k0_pay1 (F := Ideal) P (ix2 i c) = ∑ b : Fin 128, (show FVec Ideal S128x128 .f32 from P) (ix2 i b) := by
  pointwise [k0_pay1]

/-- A 128 by 128 square's row sums, spread over the row. -/
theorem k_spread2 (P : Vec Ideal S128x128 .f32) (i c : Fin 128) :
    k0_pay2 (F := Ideal) P (ix2 i c) = ∑ b : Fin 128, (show FVec Ideal S128x128 .f32 from P) (ix2 i b) := by
  pointwise [k0_pay2]

/-- A 128 by 128 square's row sums, spread over the row. -/
theorem k_spread3 (P : Vec Ideal S128x128 .f32) (i c : Fin 128) :
    k0_pay3 (F := Ideal) P (ix2 i c) = ∑ b : Fin 128, (show FVec Ideal S128x128 .f32 from P) (ix2 i b) := by
  pointwise [k0_pay3]

/-- A 128 by 128 square's row sums, spread over the row. -/
theorem k_spread4 (P : Vec Ideal S128x128 .f32) (i c : Fin 128) :
    k0_pay4 (F := Ideal) P (ix2 i c) = ∑ b : Fin 128, (show FVec Ideal S128x128 .f32 from P) (ix2 i b) := by
  pointwise [k0_pay4]

/-- A 128 by 128 square's row sums, spread over the row. -/
theorem k_spread5 (P : Vec Ideal S128x128 .f32) (i c : Fin 128) :
    k0_pay5 (F := Ideal) P (ix2 i c) = ∑ b : Fin 128, (show FVec Ideal S128x128 .f32 from P) (ix2 i b) := by
  pointwise [k0_pay5]

/-- A 128 by 128 square's row sums, spread over the row. -/
theorem k_spread6 (P : Vec Ideal S128x128 .f32) (i c : Fin 128) :
    k0_pay6 (F := Ideal) P (ix2 i c) = ∑ b : Fin 128, (show FVec Ideal S128x128 .f32 from P) (ix2 i b) := by
  pointwise [k0_pay6]

/-- A 128 by 128 square's row sums, spread over the row. -/
theorem k_spread7 (P : Vec Ideal S128x128 .f32) (i c : Fin 128) :
    k0_pay7 (F := Ideal) P (ix2 i c) = ∑ b : Fin 128, (show FVec Ideal S128x128 .f32 from P) (ix2 i b) := by
  pointwise [k0_pay7]

/-- A 128 by 128 square's row sums, spread over the row. -/
theorem k_spread8 (P : Vec Ideal S128x128 .f32) (i c : Fin 128) :
    k0_pay8 (F := Ideal) P (ix2 i c) = ∑ b : Fin 128, (show FVec Ideal S128x128 .f32 from P) (ix2 i b) := by
  pointwise [k0_pay8]

/-- The rows the point hands on: the first eight of its tile's gradient of the convolution. -/
theorem k_hand (B SA D : FVec Ideal S256x1024 .f32) (hD : Holds T (k0_pay37 (F := Ideal) B SA D) (dconv M))
    (j : Fin 8) (k : Fin 1024) :
    k0_pay39 (F := Ideal) B SA D (ix2 j k) = dconv M (trow T ⟨j.val, by omega⟩) k := by
  unfold Holds at hD
  pointwise [k0_pay39, hD]

/-- The factor on the rows handed over: zero where the tile ends a sequence, one elsewhere. -/
theorem k_factor (t : Fin cfg0.N) :
    k0_pay15 (F := Ideal) (grid0.coords t) = if t.val % 8 = 0 then (0 : EReal) else 1 := by
  have h : ∀ t : Fin grid0.N, Scalar.cmpi .eq (Scalar.select (Scalar.andi (Scalar.xori
      (Scalar.cmpi .slt (Scalar.remsi (Scalar.subi 31#32 (BitVec.ofNat 32 (grid0.coords t 0).val))
        (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (Scalar.subi 31#32 (BitVec.ofNat 32 (grid0.coords t 0).val))
        (Scalar.select (Scalar.cmpi .eq 8#32 0#32) 1#32 8#32)) 0#32))
      (Scalar.addi (Scalar.remsi (Scalar.subi 31#32 (BitVec.ofNat 32 (grid0.coords t 0).val))
        (Scalar.select (Scalar.cmpi .eq 8#32 0#32) 1#32 8#32)) (Scalar.select (Scalar.cmpi .eq 8#32 0#32) 1#32 8#32))
      (Scalar.remsi (Scalar.subi 31#32 (BitVec.ofNat 32 (grid0.coords t 0).val))
        (Scalar.select (Scalar.cmpi .eq 8#32 0#32) 1#32 8#32))) 7#32 = if t.val % 8 = 0 then 1#1 else 0#1 := by
    decide +kernel
  refine (congrArg (fun b => Scalar.select b (Scalar.ofBits (F := Ideal) .f32 0x00000000#32)
    (Scalar.ofBits (F := Ideal) .f32 0x3F800000#32)) (h t)).trans ?_
  by_cases ht : t.val % 8 = 0
  · rw [if_pos ht, if_pos ht]
    pointwise
  · rw [if_neg ht, if_neg ht]
    pointwise

/-- At a point where the tile ends a sequence, nothing follows. -/
theorem k_next_end (t : Fin cfg0.N) (ht : t.val % 8 = 0) (C : Vec Ideal S8x1024 .f32) :
    Next M (tile t) (k0_pay38 (F := Ideal) (k0_pay15 (grid0.coords t)) C) := fun j k => by
  rw [k_factor, if_pos ht]
  pointwise [k0_pay38]
  unfold later
  have hN : t.val < 32 := lt_of_lt_of_eq t.isLt N_0
  have h0 : (trow (tile t) 0).val = (31 - t.val) * 256 + 0 := rfl
  rw [dif_neg (by omega)]
  exact mul_zero _

/-- Elsewhere the first rows of the next tile follow. -/
theorem k_next_mid (t : Fin cfg0.N) (ht : ¬t.val % 8 = 0) (C : Vec Ideal S8x1024 .f32)
    (hC : ∀ (j : Fin 8) (k : Fin 1024), (show FVec Ideal S8x1024 .f32 from C) (ix2 j k)
      = dconv M (trow ⟨32 - t.val, by omega⟩ ⟨j.val, by omega⟩) k) :
    Next M (tile t) (k0_pay38 (F := Ideal) (k0_pay15 (grid0.coords t)) C) := fun j k => by
  rw [k_factor, if_neg ht]
  pointwise [k0_pay38, hC]
  unfold later
  have hN : t.val < 32 := lt_of_lt_of_eq t.isLt N_0
  have h0 : (trow (tile t) 0).val = (31 - t.val) * 256 + 0 := rfl
  rw [dif_pos (by omega)]
  exact congrArg (dconv M · k) (Fin.ext (by
    show (32 - t.val) * 256 + j.val = (31 - t.val) * 256 + 0 + (256 + j.val); omega))

end KerSide
-- ==== Proof.KerPoint.lean ====
module

public import proofs.«01_k».proof.Proof.KerRows

/-!
Reading a block at an index, and the rows a grid point hands to the next one.
-/

@[expose] public section

set_option maxRecDepth 16384

noncomputable section

open Idealize.ShloMosaic Idealize.ShloMosaic.TcCoe Idealize.SL.Sem
open Cert.KernelIdeal Cert.KernelIdeal.Gen
open Rows Model Sums

namespace KerSide

/-- A block that holds the rows of a tile, at an index. -/
theorem Holds.at' {T : Fin 32} {φ : FTy} {Y : FVec Ideal S256x1024 φ} {f : Fin 8192 → Fin 1024 → EReal}
    (h : Holds T Y f) (x : S256x1024.Idx) (R : Fin 8192) (k : Fin 1024) (hR : R.val = T.val * 256 + (x 0 : ℕ))
    (hk : k.val = (x 1 : ℕ)) : Y x = f R k := by
  have e : x = ix2 (x 0) (x 1) := eq_ix2 x
  have e1 : k = x 1 := Fin.ext hk
  have e2 : R = trow T (x 0) := Fin.ext hR
  rw [e1, e2]
  exact (congrArg Y e).trans (h _ _)

/-- A 128 by 128 square of the gradient of the layer norm's rows, at an index. -/
theorem square_at {M : Saved} {T : Fin 32} {a : Fin 2} {g : Fin 8} {P : FVec Ideal S128x128 .f32}
    (h : Square M T a g P) (z : S128x128.Idx) (i : Fin 256) (k : Fin 1024) (h0 : i.val = a.val * 128 + (z 0 : ℕ))
    (h1 : k.val = g.val * 128 + (z 1 : ℕ)) : P z = dvn M (trow T i) k := by
  have e : z = ix2 (z 0) (z 1) := eq_ix2 z
  have e0 : i = half a (z 0) := Fin.ext h0
  have e1 : k = chan g (z 1) := Fin.ext h1
  rw [e0, e1]
  exact (congrArg P e).trans (h _ _)

/-- The first column group of the projection's gradient. -/
theorem dproj_db (M : Saved) (R : Fin 8192) (q : Fin 7168) (k : Fin 1024) (h : q.val = k.val) :
    db M R k = dproj M R q := by
  unfold dproj
  rw [dif_pos (by omega)]
  exact congrArg (db M R) (Fin.ext (by show k.val = q.val; omega))

/-- The second column group of the projection's gradient. -/
theorem dproj_dc (M : Saved) (R : Fin 8192) (q : Fin 7168) (k : Fin 1024) (h : q.val = 1024 + k.val) :
    dc M R k = dproj M R q := by
  unfold dproj
  rw [dif_neg (by omega), dif_pos (by omega)]
  exact congrArg (dc M R) (Fin.ext (by show k.val = q.val - 1024; omega))

/-- The third column group of the projection's gradient. -/
theorem dproj_dxi (M : Saved) (R : Fin 8192) (q : Fin 7168) (k : Fin 1024) (h : q.val = 2048 + k.val) :
    dxi M R k = dproj M R q := by
  unfold dproj
  rw [dif_neg (by omega), dif_neg (by omega), dif_pos (by omega)]
  exact congrArg (dxi M R) (Fin.ext (by show k.val = q.val - 2048; omega))

/-- The fourth column group of the projection's gradient. -/
theorem dproj_du (M : Saved) (R : Fin 8192) (q : Fin 7168) (k : Fin 1024) (h : q.val = 3072 + k.val) :
    du M R k = dproj M R q := by
  unfold dproj
  rw [dif_neg (by omega), dif_neg (by omega), dif_neg (by omega), dif_pos (by omega)]
  exact congrArg (du M R) (Fin.ext (by show k.val = q.val - 3072; omega))

/-- The fifth column group of the projection's gradient. -/
theorem dproj_dv (M : Saved) (R : Fin 8192) (q : Fin 7168) (k : Fin 1024) (h : q.val = 4096 + k.val) :
    dv M R k = dproj M R q := by
  unfold dproj
  rw [dif_neg (by omega), dif_neg (by omega), dif_neg (by omega), dif_neg (by omega), dif_pos (by omega)]
  exact congrArg (dv M R) (Fin.ext (by show k.val = q.val - 4096; omega))

/-- The sixth column group of the projection's gradient. -/
theorem dproj_dga (M : Saved) (R : Fin 8192) (q : Fin 7168) (k : Fin 1024) (h : q.val = 5120 + k.val) :
    dga M R k = dproj M R q := by
  unfold dproj
  rw [dif_neg (by omega), dif_neg (by omega), dif_neg (by omega), dif_neg (by omega), dif_neg (by omega), dif_pos (by omega)]
  exact congrArg (dga M R) (Fin.ext (by show k.val = q.val - 5120; omega))

/-- The seventh column group of the projection's gradient. -/
theorem dproj_dgb (M : Saved) (R : Fin 8192) (q : Fin 7168) (k : Fin 1024) (h : q.val = 6144 + k.val) :
    dgb M R k = dproj M R q := by
  unfold dproj
  rw [dif_neg (by omega), dif_neg (by omega), dif_neg (by omega), dif_neg (by omega), dif_neg (by omega), dif_neg (by omega)]
  exact congrArg (dgb M R) (Fin.ext (by show k.val = q.val - 6144; omega))

variable {m : (ℓ : Loc nD τ sig) → Buf (Elt Ideal) ℓ} {d : Dev nD} {M : Saved} (I : Inputs m d M) (t : Fin cfg0.N)

include I

/-- A load of one group of the mixing weights' block. -/
theorem mat_at (g : Fin 8) (X : Vec Ideal S1x128x128 .f32)
    (hX : ∀ i j : Fin 128, X (ix3 0 j i) = (show Vec Ideal S8x128x128 .f32 from iblk m d 5 t) (ix3 g j i)) :
    Mat M g X := fun i j => by rw [hX, ws_at I]

/-- The gradient of the mixed rows, from the blocks. -/
theorem dmx_at (X Y : Vec Ideal S256x1024 .bf16)
    (hX : ∀ (i : Fin 256) (k : Fin 1024),
      X (ix2 i k) = (show Vec Ideal S256x10240 .bf16 from iblk m d 1 t) (ix2 i ⟨(3 : Fin 10).val * 1024 + k.val, by omega⟩))
    (hY : ∀ (i : Fin 256) (k : Fin 1024),
      Y (ix2 i k) = (show Vec Ideal S256x10240 .bf16 from iblk m d 1 t) (ix2 i ⟨(9 : Fin 10).val * 1024 + k.val, by omega⟩)) :
    Holds (tile t) (k0_pay54 (F := Ideal) (k0_pay21 X) (k0_pay35 (k0_pay25 Y) (k0_pay30 (iblk m d 0 t) (iblk m d 2 t))))
      (dmx M) :=
  k_dmx M (tile t) _ _ (k_wide21 _ _ _ (kept_at t I.u X hX)) (k_dyb M (tile t) _ _ (k_wide25 _ _ _ (kept_at t I.sb Y hY))
    (k_dm M (tile t) _ _ (ct_at I t) (wo_at I t)))

/-- At the first point, the rows handed on. -/
theorem carry_A (e0 : t.val % 32 = 0) (e1 : ¬t.val % 32 = 31) (j : Fin 8) (k : Fin 1024) :
    (show FVec Ideal S8x1024 .f32 from (outsAt0 m d t.val t.isLt).2.2.2.2.2.2.2.1) (ix2 j k)
      = dconv M (trow (tile t) ⟨j.val, by omega⟩) k := by
  rw [outsAt0_A m d t e0 e1]
  frame_out
  refine k_hand M (tile t) _ _ _ ?_ j k
  repeat' first
    | with_reducible exact ct_at I t
    | with_reducible exact wo_at I t
    | with_reducible exact kept_at t I.b _ (fun i k => by pointwise)
    | with_reducible exact kept_at t I.sa _ (fun i k => by pointwise)
    | with_reducible apply k_dconv
    | with_reducible apply k_dm
    | with_reducible apply k_wide18
    | with_reducible apply k_wide24

/-- At a middle point, the rows handed on. -/
theorem carry_B (e0 : ¬t.val % 32 = 0) (e1 : ¬t.val % 32 = 31) (j : Fin 8) (k : Fin 1024) :
    (show FVec Ideal S8x1024 .f32 from (outsAt0 m d t.val t.isLt).2.2.2.2.2.2.2.1) (ix2 j k)
      = dconv M (trow (tile t) ⟨j.val, by omega⟩) k := by
  rw [outsAt0_B m d t e0 e1]
  frame_out
  refine k_hand M (tile t) _ _ _ ?_ j k
  repeat' first
    | with_reducible exact ct_at I t
    | with_reducible exact wo_at I t
    | with_reducible exact kept_at t I.b _ (fun i k => by pointwise)
    | with_reducible exact kept_at t I.sa _ (fun i k => by pointwise)
    | with_reducible apply k_dconv
    | with_reducible apply k_dm
    | with_reducible apply k_wide18
    | with_reducible apply k_wide24

/-- At the last point, the rows handed on. -/
theorem carry_C (e0 : ¬t.val % 32 = 0) (e1 : t.val % 32 = 31) (j : Fin 8) (k : Fin 1024) :
    (show FVec Ideal S8x1024 .f32 from (outsAt0 m d t.val t.isLt).2.2.2.2.2.2.2.1) (ix2 j k)
      = dconv M (trow (tile t) ⟨j.val, by omega⟩) k := by
  rw [outsAt0_C m d t e0 e1]
  frame_out
  refine k_hand M (tile t) _ _ _ ?_ j k
  repeat' first
    | with_reducible exact ct_at I t
    | with_reducible exact wo_at I t
    | with_reducible exact kept_at t I.b _ (fun i k => by pointwise)
    | with_reducible exact kept_at t I.sa _ (fun i k => by pointwise)
    | with_reducible apply k_dconv
    | with_reducible apply k_dm
    | with_reducible apply k_wide18
    | with_reducible apply k_wide24

/-- The rows a point hands on are the first eight of its tile's gradient of the convolution. -/
theorem carry_at (j : Fin 8) (k : Fin 1024) :
    (show FVec Ideal S8x1024 .f32 from (outsAt0 m d t.val t.isLt).2.2.2.2.2.2.2.1) (ix2 j k)
      = dconv M (trow (tile t) ⟨j.val, by omega⟩) k := by
  by_cases e0 : t.val % 32 = 0
  · exact carry_A I t e0 (by omega) j k
  · by_cases e1 : t.val % 32 = 31
    · exact carry_C I t e0 e1 j k
    · exact carry_B I t e0 e1 j k

/-- So a point that does not end a sequence finds the first rows of the next tile. -/
theorem carry_before (h8 : ¬t.val % 8 = 0) (j : Fin 8) (k : Fin 1024) :
    (show FVec Ideal S8x1024 .f32 from (outsAt0 m d (t.val - 1) (by omega)).2.2.2.2.2.2.2.1) (ix2 j k)
      = dconv M (trow ⟨32 - t.val, by omega⟩ ⟨j.val, by omega⟩) k := by
  have hN : t.val < 32 := lt_of_lt_of_eq t.isLt N_0
  have h := carry_at I ⟨t.val - 1, by omega⟩ j k
  have e : tile ⟨t.val - 1, by omega⟩ = ⟨32 - t.val, by omega⟩ := Fin.ext (by
    show 31 - (t.val - 1) = 32 - t.val; omega)
  rw [e] at h
  exact h

end KerSide
-- ==== Proof.KerProj.lean ====
module

public import proofs.«01_k».proof.Proof.KerPoint

/-!
At every grid point, the block of the projection's gradient holds the seven column groups of the tile.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable {m : (ℓ : Loc nD τ sig) → Buf (Elt Ideal) ℓ} {d : Dev nD} {M : Saved} (I : Inputs m d M) (t : Fin cfg0.N)

include I

/-- At the first point, the block of the projection's gradient. -/
theorem proj_A (e0 : t.val % 32 = 0) (e1 : ¬t.val % 32 = 31) (y : S256x7168.Idx) :
    (outsAt0 m d t.val t.isLt).1 y = dproj M (trow (tile t) (y 0)) (y 1) := by
  rw [outsAt0_A m d t e0 e1]
  frame_out
  canon_tiles x h
  case piece0 =>
    refine (Holds.at' (T := tile t) (f := dv M) (φ := .bf16) ?_ x (trow (tile t) (y 0)) ⟨(x 1 : ℕ), x1_lt⟩ ?_ rfl).trans
      (dproj_dv M _ _ _ ?_)
    rotate_left
    · exact congrArg ((tile t).val * 256 + ·) h0
    · exact h1
    clear h0 x0_lt h1 x1_lt
    repeat' first
      | with_reducible exact lg_at I t
      | with_reducible exact kept_at t I.v _ (fun i k => by pointwise)
      | with_reducible apply k_dv
      | with_reducible apply k_scale17
    intro i k
    rw [View.readCov_eq_canon']
    canon_tiles z h
    all_goals simp at h0 h1
    case piece0 =>
      refine square_at (k_square102 M (tile t) _ _ ?_ ?_) z i k (by simpa using h0) (by simpa using h1)
      · exact dmx_at I t _ _ (fun i k => by pointwise) (fun i k => by pointwise)
      · exact mat_at I t _ _ (fun i j => by pointwise)
    case piece1 =>
      refine square_at (k_square101 M (tile t) _ _ ?_ ?_) z i k (by simpa using h0) (by simpa using h1)
      · exact dmx_at I t _ _ (fun i k => by pointwise) (fun i k => by pointwise)
      · exact mat_at I t _ _ (fun i j => by pointwise)
    case piece2 =>
      refine square_at (k_square97 M (tile t) _ _ ?_ ?_) z i k (by simpa using h0) (by simpa using h1)
      · exact dmx_at I t _ _ (fun i k => by pointwise) (fun i k => by pointwise)
      · exact mat_at I t _ _ (fun i j => by pointwise)
    case piece3 =>
      refine square_at (k_square96 M (tile t) _ _ ?_ ?_) z i k (by simpa using h0) (by simpa using h1)
      · exact dmx_at I t _ _ (fun i k => by pointwise) (fun i k => by pointwise)
      · exact mat_at I t _ _ (fun i j => by pointwise)
    case piece4 =>
      refine square_at (k_square91 M (tile t) _ _ ?_ ?_) z i k (by simpa using h0) (by simpa using h1)
      · exact dmx_at I t _ _ (fun i k => by pointwise) (fun i k => by pointwise)
      · exact mat_at I t _ _ (fun i j => by pointwise)
    case piece5 =>
      refine square_at (k_square90 M (tile t) _ _ ?_ ?_) z i k (by simpa using h0) (by simpa using h1)
      · exact dmx_at I t _ _ (fun i k => by pointwise) (fun i k => by pointwise)
      · exact mat_at I t _ _ (fun i j => by pointwise)
    case piece6 =>
      refine square_at (k_square86 M (tile t) _ _ ?_ ?_) z i k (by simpa using h0) (by simpa using h1)
      · exact dmx_at I t _ _ (fun i k => by pointwise) (fun i k => by pointwise)
      · exact mat_at I t _ _ (fun i j => by pointwise)
    case piece7 =>
      refine square_at (k_square85 M (tile t) _ _ ?_ ?_) z i k (by simpa using h0) (by simpa using h1)
      · exact dmx_at I t _ _ (fun i k => by pointwise) (fun i k => by pointwise)
      · exact mat_at I t _ _ (fun i j => by pointwise)
    case piece8 =>
      refine square_at (k_square80 M (tile t) _ _ ?_ ?_) z i k (by simpa using h0) (by simpa using h1)
      · exact dmx_at I t _ _ (fun i k => by pointwise) (fun i k => by pointwise)
      · exact mat_at I t _ _ (fun i j => by pointwise)
    case piece9 =>
      refine square_at (k_square78 M (tile t) _ _ ?_ ?_) z i k (by simpa using h0) (by simpa using h1)
      · exact dmx_at I t _ _ (fun i k => by pointwise) (fun i k => by pointwise)
      · exact mat_at I t _ _ (fun i j => by pointwise)
    case piece10 =>
      refine square_at (k_square75 M (tile t) _ _ ?_ ?_) z i k (by simpa using h0) (by simpa using h1)
      · exact dmx_at I t _ _ (fun i k => by pointwise) (fun i k => by pointwise)
      · exact mat_at I t _ _ (fun i j => by pointwise)
    case piece11 =>
      refine square_at (k_square72 M (tile t) _ _ ?_ ?_) z i k (by simpa using h0) (by simpa using h1)
      · exact dmx_at I t _ _ (fun i k => by pointwise) (fun i k => by pointwise)
      · exact mat_at I t _ _ (fun i j => by pointwise)
    case piece12 =>
      refine square_at (k_square69 M (tile t) _ _ ?_ ?_) z i k (by simpa using h0) (by simpa using h1)
      · exact dmx_at I t _ _ (fun i k => by pointwise) (fun i k => by pointwise)
      · exact mat_at I t _ _ (fun i j => by pointwise)
    case piece13 =>
      refine square_at (k_square66 M (tile t) _ _ ?_ ?_) z i k (by simpa using h0) (by simpa using h1)
      · exact dmx_at I t _ _ (fun i k => by pointwise) (fun i k => by pointwise)
      · exact mat_at I t _ _ (fun i j => by pointwise)
    case piece14 =>
      refine square_at (k_square63 M (tile t) _ _ ?_ ?_) z i k (by simpa using h0) (by simpa using h1)
      · exact dmx_at I t _ _ (fun i k => by pointwise) (fun i k => by pointwise)
      · exact mat_at I t _ _ (fun i j => by pointwise)
    case piece15 =>
      refine square_at (k_square60 M (tile t) _ _ _ ?_ ?_) z i k (by simpa using h0) (by simpa using h1)
      · exact dmx_at I t _ _ (fun i k => by pointwise) (fun i k => by pointwise)
      · exact mat_at I t _ _ (fun i j => by pointwise)
  case piece1 =>
    refine (Holds.at' (T := tile t) (f := du M) (φ := .bf16) ?_ x (trow (tile t) (y 0)) ⟨(x 1 : ℕ), x1_lt⟩ ?_ rfl).trans
      (dproj_du M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.mixed _ (fun i k => by pointwise)
      | with_reducible exact kept_at t I.sb _ (fun i k => by pointwise)
      | with_reducible apply k_du
      | with_reducible apply k_dyb
      | with_reducible apply k_dm
      | with_reducible apply k_wide23
      | with_reducible apply k_wide25
  case piece2 =>
    refine (Holds.at' (T := tile t) (f := dxi M) (φ := .bf16) ?_ x (trow (tile t) (y 0)) ⟨(x 1 : ℕ), x1_lt⟩ ?_ rfl).trans
      (dproj_dxi M _ _ _ ?_)
    rotate_left
    · exact congrArg ((tile t).val * 256 + ·) h0
    · exact h1
    clear h0 x0_lt h1 x1_lt
    repeat' first
      | with_reducible exact ct_at I t
      | with_reducible exact wo_at I t
      | with_reducible exact cw_at I t
      | with_reducible exact kept_at t I.b _ (fun i k => by pointwise)
      | with_reducible exact kept_at t I.c _ (fun i k => by pointwise)
      | with_reducible exact kept_at t I.sa _ (fun i k => by pointwise)
      | with_reducible apply k_dxi
      | with_reducible apply k_dcx
      | with_reducible apply k_later1
      | with_reducible apply k_later2
      | with_reducible apply k_dconv
      | with_reducible apply k_dm
      | with_reducible apply k_taps
      | with_reducible apply k_wide18
      | with_reducible apply k_wide19
      | with_reducible apply k_wide24
    all_goals exact k_next_end M t (by omega) _
  case piece3 =>
    refine (Holds.at' (T := tile t) (f := dc M) (φ := .bf16) ?_ x (trow (tile t) (y 0)) ⟨(x 1 : ℕ), x1_lt⟩ ?_ rfl).trans
      (dproj_dc M _ _ _ ?_)
    rotate_left
    · exact congrArg ((tile t).val * 256 + ·) h0
    · exact h1
    clear h0 x0_lt h1 x1_lt
    repeat' first
      | with_reducible exact ct_at I t
      | with_reducible exact wo_at I t
      | with_reducible exact cw_at I t
      | with_reducible exact kept_at t I.b _ (fun i k => by pointwise)
      | with_reducible exact kept_at t I.xi _ (fun i k => by pointwise)
      | with_reducible exact kept_at t I.sa _ (fun i k => by pointwise)
      | with_reducible apply k_dc
      | with_reducible apply k_dcx
      | with_reducible apply k_later1
      | with_reducible apply k_later2
      | with_reducible apply k_dconv
      | with_reducible apply k_dm
      | with_reducible apply k_taps
      | with_reducible apply k_wide18
      | with_reducible apply k_wide20
      | with_reducible apply k_wide24
    all_goals exact k_next_end M t (by omega) _
  case piece4 =>
    refine (Holds.at' (T := tile t) (f := db M) (φ := .bf16) ?_ x (trow (tile t) (y 0)) ⟨(x 1 : ℕ), x1_lt⟩ ?_ rfl).trans
      (dproj_db M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.conv _ (fun i k => by pointwise)
      | with_reducible exact kept_at t I.sa _ (fun i k => by pointwise)
      | with_reducible apply k_db
      | with_reducible apply k_dm
      | with_reducible apply k_wide22
      | with_reducible apply k_wide24
  case piece5 =>
    refine (Holds.at' (T := tile t) (f := dgb M) (φ := .bf16) ?_ x (trow (tile t) (y 0)) ⟨(x 1 : ℕ), x1_lt⟩ ?_ rfl).trans
      (dproj_dgb M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.u _ (fun i k => by pointwise)
      | with_reducible exact kept_at t I.mixed _ (fun i k => by pointwise)
      | with_reducible exact kept_at t I.sb _ (fun i k => by pointwise)
      | with_reducible apply k_dgb
      | with_reducible apply k_dm
      | with_reducible apply k_wide21
      | with_reducible apply k_wide23
      | with_reducible apply k_wide25
  case piece6 =>
    refine (Holds.at' (T := tile t) (f := dga M) (φ := .bf16) ?_ x (trow (tile t) (y 0)) ⟨(x 1 : ℕ), x1_lt⟩ ?_ rfl).trans
      (dproj_dga M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.b _ (fun i k => by pointwise)
      | with_reducible exact kept_at t I.conv _ (fun i k => by pointwise)
      | with_reducible exact kept_at t I.sa _ (fun i k => by pointwise)
      | with_reducible apply k_dga
      | with_reducible apply k_dm
      | with_reducible apply k_wide18
      | with_reducible apply k_wide22
      | with_reducible apply k_wide24

/-- At a middle point, the block of the projection's gradient. -/
theorem proj_B (e0 : ¬t.val % 32 = 0) (e1 : ¬t.val % 32 = 31) (y : S256x7168.Idx) :
    (outsAt0 m d t.val t.isLt).1 y = dproj M (trow (tile t) (y 0)) (y 1) := by
  rw [outsAt0_B m d t e0 e1]
  frame_out
  canon_tiles x h
  case piece0 =>
    refine (Holds.at' (T := tile t) (f := dv M) (φ := .bf16) ?_ x (trow (tile t) (y 0)) ⟨(x 1 : ℕ), x1_lt⟩ ?_ rfl).trans
      (dproj_dv M _ _ _ ?_)
    rotate_left
    · exact congrArg ((tile t).val * 256 + ·) h0
    · exact h1
    clear h0 x0_lt h1 x1_lt
    repeat' first
      | with_reducible exact lg_at I t
      | with_reducible exact kept_at t I.v _ (fun i k => by pointwise)
      | with_reducible apply k_dv
      | with_reducible apply k_scale17
    intro i k
    rw [View.readCov_eq_canon']
    canon_tiles z h
    all_goals simp at h0 h1
    case piece0 =>
      refine square_at (k_square102 M (tile t) _ _ ?_ ?_) z i k (by simpa using h0) (by simpa using h1)
      · exact dmx_at I t _ _ (fun i k => by pointwise) (fun i k => by pointwise)
      · exact mat_at I t _ _ (fun i j => by pointwise)
    case piece1 =>
      refine square_at (k_square101 M (tile t) _ _ ?_ ?_) z i k (by simpa using h0) (by simpa using h1)
      · exact dmx_at I t _ _ (fun i k => by pointwise) (fun i k => by pointwise)
      · exact mat_at I t _ _ (fun i j => by pointwise)
    case piece2 =>
      refine square_at (k_square97 M (tile t) _ _ ?_ ?_) z i k (by simpa using h0) (by simpa using h1)
      · exact dmx_at I t _ _ (fun i k => by pointwise) (fun i k => by pointwise)
      · exact mat_at I t _ _ (fun i j => by pointwise)
    case piece3 =>
      refine square_at (k_square96 M (tile t) _ _ ?_ ?_) z i k (by simpa using h0) (by simpa using h1)
      · exact dmx_at I t _ _ (fun i k => by pointwise) (fun i k => by pointwise)
      · exact mat_at I t _ _ (fun i j => by pointwise)
    case piece4 =>
      refine square_at (k_square91 M (tile t) _ _ ?_ ?_) z i k (by simpa using h0) (by simpa using h1)
      · exact dmx_at I t _ _ (fun i k => by pointwise) (fun i k => by pointwise)
      · exact mat_at I t _ _ (fun i j => by pointwise)
    case piece5 =>
      refine square_at (k_square90 M (tile t) _ _ ?_ ?_) z i k (by simpa using h0) (by simpa using h1)
      · exact dmx_at I t _ _ (fun i k => by pointwise) (fun i k => by pointwise)
      · exact mat_at I t _ _ (fun i j => by pointwise)
    case piece6 =>
      refine square_at (k_square86 M (tile t) _ _ ?_ ?_) z i k (by simpa using h0) (by simpa using h1)
      · exact dmx_at I t _ _ (fun i k => by pointwise) (fun i k => by pointwise)
      · exact mat_at I t _ _ (fun i j => by pointwise)
    case piece7 =>
      refine square_at (k_square85 M (tile t) _ _ ?_ ?_) z i k (by simpa using h0) (by simpa using h1)
      · exact dmx_at I t _ _ (fun i k => by pointwise) (fun i k => by pointwise)
      · exact mat_at I t _ _ (fun i j => by pointwise)
    case piece8 =>
      refine square_at (k_square80 M (tile t) _ _ ?_ ?_) z i k (by simpa using h0) (by simpa using h1)
      · exact dmx_at I t _ _ (fun i k => by pointwise) (fun i k => by pointwise)
      · exact mat_at I t _ _ (fun i j => by pointwise)
    case piece9 =>
      refine square_at (k_square78 M (tile t) _ _ ?_ ?_) z i k (by simpa using h0) (by simpa using h1)
      · exact dmx_at I t _ _ (fun i k => by pointwise) (fun i k => by pointwise)
      · exact mat_at I t _ _ (fun i j => by pointwise)
    case piece10 =>
      refine square_at (k_square75 M (tile t) _ _ ?_ ?_) z i k (by simpa using h0) (by simpa using h1)
      · exact dmx_at I t _ _ (fun i k => by pointwise) (fun i k => by pointwise)
      · exact mat_at I t _ _ (fun i j => by pointwise)
    case piece11 =>
      refine square_at (k_square72 M (tile t) _ _ ?_ ?_) z i k (by simpa using h0) (by simpa using h1)
      · exact dmx_at I t _ _ (fun i k => by pointwise) (fun i k => by pointwise)
      · exact mat_at I t _ _ (fun i j => by pointwise)
    case piece12 =>
      refine square_at (k_square69 M (tile t) _ _ ?_ ?_) z i k (by simpa using h0) (by simpa using h1)
      · exact dmx_at I t _ _ (fun i k => by pointwise) (fun i k => by pointwise)
      · exact mat_at I t _ _ (fun i j => by pointwise)
    case piece13 =>
      refine square_at (k_square66 M (tile t) _ _ ?_ ?_) z i k (by simpa using h0) (by simpa using h1)
      · exact dmx_at I t _ _ (fun i k => by pointwise) (fun i k => by pointwise)
      · exact mat_at I t _ _ (fun i j => by pointwise)
    case piece14 =>
      refine square_at (k_square63 M (tile t) _ _ ?_ ?_) z i k (by simpa using h0) (by simpa using h1)
      · exact dmx_at I t _ _ (fun i k => by pointwise) (fun i k => by pointwise)
      · exact mat_at I t _ _ (fun i j => by pointwise)
    case piece15 =>
      refine square_at (k_square60 M (tile t) _ _ _ ?_ ?_) z i k (by simpa using h0) (by simpa using h1)
      · exact dmx_at I t _ _ (fun i k => by pointwise) (fun i k => by pointwise)
      · exact mat_at I t _ _ (fun i j => by pointwise)
  case piece1 =>
    refine (Holds.at' (T := tile t) (f := du M) (φ := .bf16) ?_ x (trow (tile t) (y 0)) ⟨(x 1 : ℕ), x1_lt⟩ ?_ rfl).trans
      (dproj_du M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.mixed _ (fun i k => by pointwise)
      | with_reducible exact kept_at t I.sb _ (fun i k => by pointwise)
      | with_reducible apply k_du
      | with_reducible apply k_dyb
      | with_reducible apply k_dm
      | with_reducible apply k_wide23
      | with_reducible apply k_wide25
  case piece2 =>
    refine (Holds.at' (T := tile t) (f := dxi M) (φ := .bf16) ?_ x (trow (tile t) (y 0)) ⟨(x 1 : ℕ), x1_lt⟩ ?_ rfl).trans
      (dproj_dxi M _ _ _ ?_)
    rotate_left
    · exact congrArg ((tile t).val * 256 + ·) h0
    · exact h1
    clear h0 x0_lt h1 x1_lt
    repeat' first
      | with_reducible exact ct_at I t
      | with_reducible exact wo_at I t
      | with_reducible exact cw_at I t
      | with_reducible exact kept_at t I.b _ (fun i k => by pointwise)
      | with_reducible exact kept_at t I.c _ (fun i k => by pointwise)
      | with_reducible exact kept_at t I.sa _ (fun i k => by pointwise)
      | with_reducible apply k_dxi
      | with_reducible apply k_dcx
      | with_reducible apply k_later1
      | with_reducible apply k_later2
      | with_reducible apply k_dconv
      | with_reducible apply k_dm
      | with_reducible apply k_taps
      | with_reducible apply k_wide18
      | with_reducible apply k_wide19
      | with_reducible apply k_wide24
    all_goals
      by_cases h8 : t.val % 8 = 0
      · exact k_next_end M t h8 _
      · exact k_next_mid M t h8 _ (fun j k => (congrFun (read_unread_whole _ _ _) _).trans (carry_before I t h8 j k))
  case piece3 =>
    refine (Holds.at' (T := tile t) (f := dc M) (φ := .bf16) ?_ x (trow (tile t) (y 0)) ⟨(x 1 : ℕ), x1_lt⟩ ?_ rfl).trans
      (dproj_dc M _ _ _ ?_)
    rotate_left
    · exact congrArg ((tile t).val * 256 + ·) h0
    · exact h1
    clear h0 x0_lt h1 x1_lt
    repeat' first
      | with_reducible exact ct_at I t
      | with_reducible exact wo_at I t
      | with_reducible exact cw_at I t
      | with_reducible exact kept_at t I.b _ (fun i k => by pointwise)
      | with_reducible exact kept_at t I.xi _ (fun i k => by pointwise)
      | with_reducible exact kept_at t I.sa _ (fun i k => by pointwise)
      | with_reducible apply k_dc
      | with_reducible apply k_dcx
      | with_reducible apply k_later1
      | with_reducible apply k_later2
      | with_reducible apply k_dconv
      | with_reducible apply k_dm
      | with_reducible apply k_taps
      | with_reducible apply k_wide18
      | with_reducible apply k_wide20
      | with_reducible apply k_wide24
    all_goals
      by_cases h8 : t.val % 8 = 0
      · exact k_next_end M t h8 _
      · exact k_next_mid M t h8 _ (fun j k => (congrFun (read_unread_whole _ _ _) _).trans (carry_before I t h8 j k))
  case piece4 =>
    refine (Holds.at' (T := tile t) (f := db M) (φ := .bf16) ?_ x (trow (tile t) (y 0)) ⟨(x 1 : ℕ), x1_lt⟩ ?_ rfl).trans
      (dproj_db M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.conv _ (fun i k => by pointwise)
      | with_reducible exact kept_at t I.sa _ (fun i k => by pointwise)
      | with_reducible apply k_db
      | with_reducible apply k_dm
      | with_reducible apply k_wide22
      | with_reducible apply k_wide24
  case piece5 =>
    refine (Holds.at' (T := tile t) (f := dgb M) (φ := .bf16) ?_ x (trow (tile t) (y 0)) ⟨(x 1 : ℕ), x1_lt⟩ ?_ rfl).trans
      (dproj_dgb M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.u _ (fun i k => by pointwise)
      | with_reducible exact kept_at t I.mixed _ (fun i k => by pointwise)
      | with_reducible exact kept_at t I.sb _ (fun i k => by pointwise)
      | with_reducible apply k_dgb
      | with_reducible apply k_dm
      | with_reducible apply k_wide21
      | with_reducible apply k_wide23
      | with_reducible apply k_wide25
  case piece6 =>
    refine (Holds.at' (T := tile t) (f := dga M) (φ := .bf16) ?_ x (trow (tile t) (y 0)) ⟨(x 1 : ℕ), x1_lt⟩ ?_ rfl).trans
      (dproj_dga M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.b _ (fun i k => by pointwise)
      | with_reducible exact kept_at t I.conv _ (fun i k => by pointwise)
      | with_reducible exact kept_at t I.sa _ (fun i k => by pointwise)
      | with_reducible apply k_dga
      | with_reducible apply k_dm
      | with_reducible apply k_wide18
      | with_reducible apply k_wide22
      | with_reducible apply k_wide24

/-- At the last point, the block of the projection's gradient. -/
theorem proj_C (e0 : ¬t.val % 32 = 0) (e1 : t.val % 32 = 31) (y : S256x7168.Idx) :
    (outsAt0 m d t.val t.isLt).1 y = dproj M (trow (tile t) (y 0)) (y 1) := by
  rw [outsAt0_C m d t e0 e1]
  frame_out
  canon_tiles x h
  case piece0 =>
    refine (Holds.at' (T := tile t) (f := dv M) (φ := .bf16) ?_ x (trow (tile t) (y 0)) ⟨(x 1 : ℕ), x1_lt⟩ ?_ rfl).trans
      (dproj_dv M _ _ _ ?_)
    rotate_left
    · exact congrArg ((tile t).val * 256 + ·) h0
    · exact h1
    clear h0 x0_lt h1 x1_lt
    repeat' first
      | with_reducible exact lg_at I t
      | with_reducible exact kept_at t I.v _ (fun i k => by pointwise)
      | with_reducible apply k_dv
      | with_reducible apply k_scale17
    intro i k
    rw [View.readCov_eq_canon']
    canon_tiles z h
    all_goals simp at h0 h1
    case piece0 =>
      refine square_at (k_square102 M (tile t) _ _ ?_ ?_) z i k (by simpa using h0) (by simpa using h1)
      · exact dmx_at I t _ _ (fun i k => by pointwise) (fun i k => by pointwise)
      · exact mat_at I t _ _ (fun i j => by pointwise)
    case piece1 =>
      refine square_at (k_square101 M (tile t) _ _ ?_ ?_) z i k (by simpa using h0) (by simpa using h1)
      · exact dmx_at I t _ _ (fun i k => by pointwise) (fun i k => by pointwise)
      · exact mat_at I t _ _ (fun i j => by pointwise)
    case piece2 =>
      refine square_at (k_square97 M (tile t) _ _ ?_ ?_) z i k (by simpa using h0) (by simpa using h1)
      · exact dmx_at I t _ _ (fun i k => by pointwise) (fun i k => by pointwise)
      · exact mat_at I t _ _ (fun i j => by pointwise)
    case piece3 =>
      refine square_at (k_square96 M (tile t) _ _ ?_ ?_) z i k (by simpa using h0) (by simpa using h1)
      · exact dmx_at I t _ _ (fun i k => by pointwise) (fun i k => by pointwise)
      · exact mat_at I t _ _ (fun i j => by pointwise)
    case piece4 =>
      refine square_at (k_square91 M (tile t) _ _ ?_ ?_) z i k (by simpa using h0) (by simpa using h1)
      · exact dmx_at I t _ _ (fun i k => by pointwise) (fun i k => by pointwise)
      · exact mat_at I t _ _ (fun i j => by pointwise)
    case piece5 =>
      refine square_at (k_square90 M (tile t) _ _ ?_ ?_) z i k (by simpa using h0) (by simpa using h1)
      · exact dmx_at I t _ _ (fun i k => by pointwise) (fun i k => by pointwise)
      · exact mat_at I t _ _ (fun i j => by pointwise)
    case piece6 =>
      refine square_at (k_square86 M (tile t) _ _ ?_ ?_) z i k (by simpa using h0) (by simpa using h1)
      · exact dmx_at I t _ _ (fun i k => by pointwise) (fun i k => by pointwise)
      · exact mat_at I t _ _ (fun i j => by pointwise)
    case piece7 =>
      refine square_at (k_square85 M (tile t) _ _ ?_ ?_) z i k (by simpa using h0) (by simpa using h1)
      · exact dmx_at I t _ _ (fun i k => by pointwise) (fun i k => by pointwise)
      · exact mat_at I t _ _ (fun i j => by pointwise)
    case piece8 =>
      refine square_at (k_square80 M (tile t) _ _ ?_ ?_) z i k (by simpa using h0) (by simpa using h1)
      · exact dmx_at I t _ _ (fun i k => by pointwise) (fun i k => by pointwise)
      · exact mat_at I t _ _ (fun i j => by pointwise)
    case piece9 =>
      refine square_at (k_square78 M (tile t) _ _ ?_ ?_) z i k (by simpa using h0) (by simpa using h1)
      · exact dmx_at I t _ _ (fun i k => by pointwise) (fun i k => by pointwise)
      · exact mat_at I t _ _ (fun i j => by pointwise)
    case piece10 =>
      refine square_at (k_square75 M (tile t) _ _ ?_ ?_) z i k (by simpa using h0) (by simpa using h1)
      · exact dmx_at I t _ _ (fun i k => by pointwise) (fun i k => by pointwise)
      · exact mat_at I t _ _ (fun i j => by pointwise)
    case piece11 =>
      refine square_at (k_square72 M (tile t) _ _ ?_ ?_) z i k (by simpa using h0) (by simpa using h1)
      · exact dmx_at I t _ _ (fun i k => by pointwise) (fun i k => by pointwise)
      · exact mat_at I t _ _ (fun i j => by pointwise)
    case piece12 =>
      refine square_at (k_square69 M (tile t) _ _ ?_ ?_) z i k (by simpa using h0) (by simpa using h1)
      · exact dmx_at I t _ _ (fun i k => by pointwise) (fun i k => by pointwise)
      · exact mat_at I t _ _ (fun i j => by pointwise)
    case piece13 =>
      refine square_at (k_square66 M (tile t) _ _ ?_ ?_) z i k (by simpa using h0) (by simpa using h1)
      · exact dmx_at I t _ _ (fun i k => by pointwise) (fun i k => by pointwise)
      · exact mat_at I t _ _ (fun i j => by pointwise)
    case piece14 =>
      refine square_at (k_square63 M (tile t) _ _ ?_ ?_) z i k (by simpa using h0) (by simpa using h1)
      · exact dmx_at I t _ _ (fun i k => by pointwise) (fun i k => by pointwise)
      · exact mat_at I t _ _ (fun i j => by pointwise)
    case piece15 =>
      refine square_at (k_square60 M (tile t) _ _ _ ?_ ?_) z i k (by simpa using h0) (by simpa using h1)
      · exact dmx_at I t _ _ (fun i k => by pointwise) (fun i k => by pointwise)
      · exact mat_at I t _ _ (fun i j => by pointwise)
  case piece1 =>
    refine (Holds.at' (T := tile t) (f := du M) (φ := .bf16) ?_ x (trow (tile t) (y 0)) ⟨(x 1 : ℕ), x1_lt⟩ ?_ rfl).trans
      (dproj_du M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.mixed _ (fun i k => by pointwise)
      | with_reducible exact kept_at t I.sb _ (fun i k => by pointwise)
      | with_reducible apply k_du
      | with_reducible apply k_dyb
      | with_reducible apply k_dm
      | with_reducible apply k_wide23
      | with_reducible apply k_wide25
  case piece2 =>
    refine (Holds.at' (T := tile t) (f := dxi M) (φ := .bf16) ?_ x (trow (tile t) (y 0)) ⟨(x 1 : ℕ), x1_lt⟩ ?_ rfl).trans
      (dproj_dxi M _ _ _ ?_)
    rotate_left
    · exact congrArg ((tile t).val * 256 + ·) h0
    · exact h1
    clear h0 x0_lt h1 x1_lt
    repeat' first
      | with_reducible exact ct_at I t
      | with_reducible exact wo_at I t
      | with_reducible exact cw_at I t
      | with_reducible exact kept_at t I.b _ (fun i k => by pointwise)
      | with_reducible exact kept_at t I.c _ (fun i k => by pointwise)
      | with_reducible exact kept_at t I.sa _ (fun i k => by pointwise)
      | with_reducible apply k_dxi
      | with_reducible apply k_dcx
      | with_reducible apply k_later1
      | with_reducible apply k_later2
      | with_reducible apply k_dconv
      | with_reducible apply k_dm
      | with_reducible apply k_taps
      | with_reducible apply k_wide18
      | with_reducible apply k_wide19
      | with_reducible apply k_wide24
    all_goals
      by_cases h8 : t.val % 8 = 0
      · exact k_next_end M t h8 _
      · exact k_next_mid M t h8 _ (fun j k => (congrFun (read_unread_whole _ _ _) _).trans (carry_before I t h8 j k))
  case piece3 =>
    refine (Holds.at' (T := tile t) (f := dc M) (φ := .bf16) ?_ x (trow (tile t) (y 0)) ⟨(x 1 : ℕ), x1_lt⟩ ?_ rfl).trans
      (dproj_dc M _ _ _ ?_)
    rotate_left
    · exact congrArg ((tile t).val * 256 + ·) h0
    · exact h1
    clear h0 x0_lt h1 x1_lt
    repeat' first
      | with_reducible exact ct_at I t
      | with_reducible exact wo_at I t
      | with_reducible exact cw_at I t
      | with_reducible exact kept_at t I.b _ (fun i k => by pointwise)
      | with_reducible exact kept_at t I.xi _ (fun i k => by pointwise)
      | with_reducible exact kept_at t I.sa _ (fun i k => by pointwise)
      | with_reducible apply k_dc
      | with_reducible apply k_dcx
      | with_reducible apply k_later1
      | with_reducible apply k_later2
      | with_reducible apply k_dconv
      | with_reducible apply k_dm
      | with_reducible apply k_taps
      | with_reducible apply k_wide18
      | with_reducible apply k_wide20
      | with_reducible apply k_wide24
    all_goals
      by_cases h8 : t.val % 8 = 0
      · exact k_next_end M t h8 _
      · exact k_next_mid M t h8 _ (fun j k => (congrFun (read_unread_whole _ _ _) _).trans (carry_before I t h8 j k))
  case piece4 =>
    refine (Holds.at' (T := tile t) (f := db M) (φ := .bf16) ?_ x (trow (tile t) (y 0)) ⟨(x 1 : ℕ), x1_lt⟩ ?_ rfl).trans
      (dproj_db M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.conv _ (fun i k => by pointwise)
      | with_reducible exact kept_at t I.sa _ (fun i k => by pointwise)
      | with_reducible apply k_db
      | with_reducible apply k_dm
      | with_reducible apply k_wide22
      | with_reducible apply k_wide24
  case piece5 =>
    refine (Holds.at' (T := tile t) (f := dgb M) (φ := .bf16) ?_ x (trow (tile t) (y 0)) ⟨(x 1 : ℕ), x1_lt⟩ ?_ rfl).trans
      (dproj_dgb M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.u _ (fun i k => by pointwise)
      | with_reducible exact kept_at t I.mixed _ (fun i k => by pointwise)
      | with_reducible exact kept_at t I.sb _ (fun i k => by pointwise)
      | with_reducible apply k_dgb
      | with_reducible apply k_dm
      | with_reducible apply k_wide21
      | with_reducible apply k_wide23
      | with_reducible apply k_wide25
  case piece6 =>
    refine (Holds.at' (T := tile t) (f := dga M) (φ := .bf16) ?_ x (trow (tile t) (y 0)) ⟨(x 1 : ℕ), x1_lt⟩ ?_ rfl).trans
      (dproj_dga M _ _ _ ?_)
    rotate_left
    · exact congrArg ((tile t).val * 256 + ·) h0
    · exact h1
    clear h0 x0_lt h1 x1_lt
    repeat' first
      | with_reducible exact ct_at I t
      | with_reducible exact wo_at I t
      | with_reducible exact kept_at t I.b _ (fun i k => by pointwise)
      | with_reducible exact kept_at t I.conv _ (fun i k => by pointwise)
      | with_reducible exact kept_at t I.sa _ (fun i k => by pointwise)
      | with_reducible apply k_dga
      | with_reducible apply k_dm
      | with_reducible apply k_wide18
      | with_reducible apply k_wide22
      | with_reducible apply k_wide24

/-- The block of the projection's gradient. -/
theorem proj_at (y : S256x7168.Idx) :
    (outsAt0 m d t.val t.isLt).1 y = dproj M (trow (tile t) (y 0)) (y 1) := by
  by_cases e0 : t.val % 32 = 0
  · exact proj_A I t e0 (by omega) y
  · by_cases e1 : t.val % 32 = 31
    · exact proj_C I t e0 e1 y
    · exact proj_B I t e0 e1 y

end KerSide
-- ==== Proof.KerWrites.lean ====
module

public import proofs.«01_k».proof.Proof.KerProj
public import Idealize.ShloMosaic.Lib.WritesUnit

/-!
What a buffer of eight rows of 1024 channels holds after stores of whole rows.
-/

@[expose] public section

set_option maxRecDepth 16384

noncomputable section

open Idealize.ShloMosaic Idealize.ShloMosaic.TcCoe Idealize.SL.Sem
open Cert.KernelIdeal Cert.KernelIdeal.Gen
open Rows Model Sums

namespace KerSide

/-- The newest store of a whole row, read in that row. -/
theorem canon_hit {o : ℕ} (inb : ∀ a : Fin 2, (![o, 0] : Fin 2 → ℕ) a + (![1, 1024] : Fin 2 → ℕ) a ≤ S8x1024.size a)
    (w : S1x1024.Idx → EReal) (L : List (View.Piece (Elt Ideal) S8x1024 .f32)) (y : S8x1024.Idx) (h : (y 0).val = o) :
    View.canon ((⟨Rect.unit (s := S8x1024) ![o, 0] ![1, 1024] inb, w⟩ : View.Piece (Elt Ideal) S8x1024 .f32) :: L) y
      = w (ix2 0 (y 1)) := by
  have e : (Rect.unit (s := S8x1024) ![o, 0] ![1, 1024] inb).emb (ix2 0 (y 1) : S1x1024.Idx) = y :=
    funext (Fin.forall_fin_two.mpr ⟨Fin.ext (by show o + 1 * 0 = (y 0).val; omega),
      Fin.ext (by show 0 + 1 * (y 1).val = (y 1).val; omega)⟩)
  refine (congrArg (View.canon _) e.symm).trans ?_
  exact View.canon_cons_emb (Val := Elt Ideal) (e := .f32) (Rect.unit (s := S8x1024) ![o, 0] ![1, 1024] inb) w L _

/-- The newest store of a whole row, read in another row. -/
theorem canon_miss {o : ℕ} (inb : ∀ a : Fin 2, (![o, 0] : Fin 2 → ℕ) a + (![1, 1024] : Fin 2 → ℕ) a ≤ S8x1024.size a)
    (w : S1x1024.Idx → EReal) (L : List (View.Piece (Elt Ideal) S8x1024 .f32)) (y : S8x1024.Idx) (h : ¬(y 0).val = o) :
    View.canon ((⟨Rect.unit (s := S8x1024) ![o, 0] ![1, 1024] inb, w⟩ : View.Piece (Elt Ideal) S8x1024 .f32) :: L) y
      = View.canon L y := by
  refine View.canon_cons_of_not_mem _ _ fun hm => h ?_
  have h0 := Rect.mem_set_unit.mp
    (show y ∈ (Rect.unit (s := S8x1024) ![o, 0] ![1, 1024] inb).set from hm) 0
  have h1 : o ≤ (y 0).val ∧ (y 0).val < o + 1 := h0
  omega

/-- A buffer wholly overwritten. -/
theorem canon_whole {S : Shape} {off : Fin S.rank → ℕ} (hoff : off = fun _ => 0) (inb : ∀ a, off a + S.size a ≤ S.size a)
    (w : S.Idx → EReal) {z : EReal} (L : List (View.Piece (Elt Ideal) S .f32)) (y : S.Idx) (hw : w y = z) :
    View.canon ((⟨Rect.unit off S.size inb, w⟩ : View.Piece (Elt Ideal) S .f32) :: L) y = z :=
  (congrFun (View.canon_cons_unit_zero (Val := Elt Ideal) (e := .f32) hoff inb w L) y).trans hw

/-- Two zero offsets. -/
theorem off2 : (![0, 0] : Fin 2 → ℕ) = fun _ => 0 := by decide

/-- Three zero offsets. -/
theorem off3 : (![0, 0, 0] : Fin 3 → ℕ) = fun _ => 0 := by decide

/-- The newest store of a whole row into a buffer that held `f`, read in that row. -/
theorem writes_hit {sig : RefSig} {κ : Kind} {sp : Space} (v : View sig κ sp S8x1024 .f32)
    (f : v.ty.Contents (Elt Ideal)) {o : ℕ}
    (inb : ∀ a : Fin 2, (![o, 0] : Fin 2 → ℕ) a + (![1, 1024] : Fin 2 → ℕ) a ≤ S8x1024.size a)
    (w : S1x1024.Idx → EReal) (L : List (View.Piece (Elt Ideal) S8x1024 .f32)) (y : S8x1024.Idx) (h : (y 0).val = o) :
    v.read (Elt Ideal) (v.writes (Elt Ideal) f
      ((⟨Rect.unit (s := S8x1024) ![o, 0] ![1, 1024] inb, w⟩ : View.Piece (Elt Ideal) S8x1024 .f32) :: L)) y
      = w (ix2 0 (y 1)) :=
  View.read_writes_cons_rows_of_mem (o := o) v f inb w L y (ix2 0 (y 1) : S1x1024.Idx) rfl h rfl

/-- The newest store of a whole row into a buffer that held `f`, read in another row. -/
theorem writes_miss {sig : RefSig} {κ : Kind} {sp : Space} (v : View sig κ sp S8x1024 .f32)
    (f : v.ty.Contents (Elt Ideal)) {o : ℕ}
    (inb : ∀ a : Fin 2, (![o, 0] : Fin 2 → ℕ) a + (![1, 1024] : Fin 2 → ℕ) a ≤ S8x1024.size a)
    (w : S1x1024.Idx → EReal) (L : List (View.Piece (Elt Ideal) S8x1024 .f32)) (y : S8x1024.Idx) (h : ¬(y 0).val = o) :
    v.read (Elt Ideal) (v.writes (Elt Ideal) f
      ((⟨Rect.unit (s := S8x1024) ![o, 0] ![1, 1024] inb, w⟩ : View.Piece (Elt Ideal) S8x1024 .f32) :: L)) y
      = v.read (Elt Ideal) (v.writes (Elt Ideal) f L) y :=
  View.read_writes_cons_rows_of_not_mem (o := o) (W := 1) v f inb w L y rfl rfl (by omega)

end KerSide
-- ==== Proof.KerTaps.lean ====
module

public import proofs.«01_k».proof.Proof.KerWrites

/-!
What every grid point adds to the gradient of the convolution's taps.
-/

@[expose] public section

set_option maxRecDepth 16384

noncomputable section

open Idealize.ShloMosaic Idealize.ShloMosaic.TcCoe Idealize.SL.Sem
open Cert.KernelIdeal Cert.KernelIdeal.Gen
open Rows Model Sums

namespace KerSide

/-- What the tile adds to the gradient of the convolution's taps, in eight rows. -/
def dcwTile (M : Saved) (T : Fin 32) (a : Fin 8) (k : Fin 1024) : EReal :=
  if h : a.val < 3 then ∑ i, dcwRow M ⟨a.val, h⟩ (trow T i) k else 0

/-- A tap's row. -/
theorem dcwTile_row (M : Saved) (T : Fin 32) (a : Fin 8) (n : Fin 3) (h : a.val = n.val) (k : Fin 1024) :
    ∑ i, dcwRow M n (trow T i) k = dcwTile M T a k := by
  unfold dcwTile
  rw [dif_pos (by omega)]
  have e : (⟨a.val, by omega⟩ : Fin 3) = n := Fin.ext h
  rw [e]

/-- A row past the taps. -/
theorem dcwTile_rest (M : Saved) (T : Fin 32) (a : Fin 8) (h2 : ¬a.val = 2) (h1 : ¬a.val = 1) (h0 : ¬a.val = 0)
    (k : Fin 1024) : dcwTile M T a k = 0 := by
  unfold dcwTile
  rw [dif_neg (by omega)]

variable {m : (ℓ : Loc nD τ sig) → Buf (Elt Ideal) ℓ} {d : Dev nD} {M : Saved} (I : Inputs m d M) (t : Fin cfg0.N)

include I

/-- At the first point, the gradient of the taps is what the tile adds. -/
theorem taps_A (e0 : t.val % 32 = 0) (e1 : ¬t.val % 32 = 31) (y : S8x1024.Idx) :
    (outsAt0 m d t.val t.isLt).2.1 y
      = 0 + dcwTile M (tile t) (y 0) (y 1) := by
  rw [outsAt0_A m d t e0 e1]
  frame_out
  by_cases r2 : (y 0).val = 2
  · refine (canon_hit _ _ _ _ r2).trans ?_
    refine (k_row48 M (tile t) _ _ _ _ ?_ ?_ ?_ (y 1)).trans (congrArg₂ (· + ·) ?_ (dcwTile_row M (tile t) (y 0) 2 r2 (y 1)))
    rotate_left 3
    · rw [View.readCov_eq_canon']
      exact ((canon_miss _ _ _ _ (by simp)).trans ((canon_miss _ _ _ _ (by simp)).trans (canon_whole off2 _ _ _ _ (by pointwise [k0_pay9]))))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_dconv
      | with_reducible apply k_dm
      | with_reducible apply k_wide18
      | with_reducible apply k_wide19
      | with_reducible apply k_wide20
      | with_reducible apply k_wide24
  refine (canon_miss _ _ _ _ r2).trans ?_
  by_cases r1 : (y 0).val = 1
  · refine (canon_hit _ _ _ _ r1).trans ?_
    refine (k_row47 M (tile t) _ _ _ _ ?_ ?_ ?_ (y 1)).trans (congrArg₂ (· + ·) ?_ (dcwTile_row M (tile t) (y 0) 1 r1 (y 1)))
    rotate_left 3
    · rw [View.readCov_eq_canon']
      exact ((canon_miss _ _ _ _ (by simp)).trans (canon_whole off2 _ _ _ _ (by pointwise [k0_pay9])))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_later1
      | with_reducible apply k_dconv
      | with_reducible apply k_dm
      | with_reducible apply k_wide18
      | with_reducible apply k_wide19
      | with_reducible apply k_wide20
      | with_reducible apply k_wide24
    all_goals exact k_next_end M t (by omega) _
  refine (canon_miss _ _ _ _ r1).trans ?_
  by_cases r0 : (y 0).val = 0
  · refine (canon_hit _ _ _ _ r0).trans ?_
    refine (k_row46 M (tile t) _ _ _ _ _ ?_ ?_ ?_ (y 1)).trans (congrArg₂ (· + ·) ?_ (dcwTile_row M (tile t) (y 0) 0 r0 (y 1)))
    rotate_left 3
    · rw [View.readCov_eq_canon']
      exact (canon_whole off2 _ _ _ _ (by pointwise [k0_pay9]))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_later2
      | with_reducible apply k_dconv
      | with_reducible apply k_dm
      | with_reducible apply k_wide18
      | with_reducible apply k_wide19
      | with_reducible apply k_wide20
      | with_reducible apply k_wide24
    all_goals exact k_next_end M t (by omega) _
  refine (canon_miss _ _ _ _ r0).trans ?_
  refine Eq.trans ?_ ((add_zero _).symm.trans (congrArg (_ + ·) (dcwTile_rest M (tile t) (y 0) r2 r1 r0 (y 1)).symm))
  exact (canon_whole off2 _ _ _ _ (by pointwise [k0_pay9]))

/-- At a middle point, the gradient of the taps is what the tile adds to what it was. -/
theorem taps_B (e0 : ¬t.val % 32 = 0) (e1 : ¬t.val % 32 = 31) (y : S8x1024.Idx) :
    (outsAt0 m d t.val t.isLt).2.1 y
      = (outsAt0 m d (t.val - 1) (Nat.lt_of_le_of_lt (Nat.sub_le _ _) t.isLt)).2.1 y + dcwTile M (tile t) (y 0) (y 1) := by
  rw [outsAt0_B m d t e0 e1]
  frame_out
  by_cases r2 : (y 0).val = 2
  · refine (writes_hit _ _ _ _ _ _ r2).trans ?_
    refine (k_row48 M (tile t) _ _ _ _ ?_ ?_ ?_ (y 1)).trans (congrArg₂ (· + ·) ?_ (dcwTile_row M (tile t) (y 0) 2 r2 (y 1)))
    rotate_left 3
    · exact congrArg (outsAt0 m d (t.val - 1) (Nat.lt_of_le_of_lt (Nat.sub_le _ _) t.isLt)).2.1
        (funext (Fin.forall_fin_two.mpr ⟨Fin.ext (by simpa using r2.symm), Fin.ext (by simp)⟩))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_dconv
      | with_reducible apply k_dm
      | with_reducible apply k_wide18
      | with_reducible apply k_wide19
      | with_reducible apply k_wide20
      | with_reducible apply k_wide24
  refine (writes_miss _ _ _ _ _ _ r2).trans ?_
  by_cases r1 : (y 0).val = 1
  · refine (writes_hit _ _ _ _ _ _ r1).trans ?_
    refine (k_row47 M (tile t) _ _ _ _ ?_ ?_ ?_ (y 1)).trans (congrArg₂ (· + ·) ?_ (dcwTile_row M (tile t) (y 0) 1 r1 (y 1)))
    rotate_left 3
    · exact congrArg (outsAt0 m d (t.val - 1) (Nat.lt_of_le_of_lt (Nat.sub_le _ _) t.isLt)).2.1
        (funext (Fin.forall_fin_two.mpr ⟨Fin.ext (by simpa using r1.symm), Fin.ext (by simp)⟩))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_later1
      | with_reducible apply k_dconv
      | with_reducible apply k_dm
      | with_reducible apply k_wide18
      | with_reducible apply k_wide19
      | with_reducible apply k_wide20
      | with_reducible apply k_wide24
    all_goals
      by_cases h8 : t.val % 8 = 0
      · exact k_next_end M t h8 _
      · exact k_next_mid M t h8 _ (fun j k => (congrFun (read_unread_whole _ _ _) _).trans (carry_before I t h8 j k))
  refine (writes_miss _ _ _ _ _ _ r1).trans ?_
  by_cases r0 : (y 0).val = 0
  · refine (writes_hit _ _ _ _ _ _ r0).trans ?_
    refine (k_row46 M (tile t) _ _ _ _ _ ?_ ?_ ?_ (y 1)).trans (congrArg₂ (· + ·) ?_ (dcwTile_row M (tile t) (y 0) 0 r0 (y 1)))
    rotate_left 3
    · exact congrArg (outsAt0 m d (t.val - 1) (Nat.lt_of_le_of_lt (Nat.sub_le _ _) t.isLt)).2.1
        (funext (Fin.forall_fin_two.mpr ⟨Fin.ext (by simpa using r0.symm), Fin.ext (by simp)⟩))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_later2
      | with_reducible apply k_dconv
      | with_reducible apply k_dm
      | with_reducible apply k_wide18
      | with_reducible apply k_wide19
      | with_reducible apply k_wide20
      | with_reducible apply k_wide24
    all_goals
      by_cases h8 : t.val % 8 = 0
      · exact k_next_end M t h8 _
      · exact k_next_mid M t h8 _ (fun j k => (congrFun (read_unread_whole _ _ _) _).trans (carry_before I t h8 j k))
  refine (writes_miss _ _ _ _ _ _ r0).trans ?_
  refine Eq.trans ?_ ((add_zero _).symm.trans (congrArg (_ + ·) (dcwTile_rest M (tile t) (y 0) r2 r1 r0 (y 1)).symm))
  exact congrFun (Memref.IsWhole.read_unread _ _) y

/-- At the last point, the gradient of the taps is what the tile adds to what it was. -/
theorem taps_C (e0 : ¬t.val % 32 = 0) (e1 : t.val % 32 = 31) (y : S8x1024.Idx) :
    (outsAt0 m d t.val t.isLt).2.1 y
      = (outsAt0 m d (t.val - 1) (Nat.lt_of_le_of_lt (Nat.sub_le _ _) t.isLt)).2.1 y + dcwTile M (tile t) (y 0) (y 1) := by
  rw [outsAt0_C m d t e0 e1]
  frame_out
  by_cases r2 : (y 0).val = 2
  · refine (writes_hit _ _ _ _ _ _ r2).trans ?_
    refine (k_row48 M (tile t) _ _ _ _ ?_ ?_ ?_ (y 1)).trans (congrArg₂ (· + ·) ?_ (dcwTile_row M (tile t) (y 0) 2 r2 (y 1)))
    rotate_left 3
    · exact congrArg (outsAt0 m d (t.val - 1) (Nat.lt_of_le_of_lt (Nat.sub_le _ _) t.isLt)).2.1
        (funext (Fin.forall_fin_two.mpr ⟨Fin.ext (by simpa using r2.symm), Fin.ext (by simp)⟩))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_dconv
      | with_reducible apply k_dm
      | with_reducible apply k_wide18
      | with_reducible apply k_wide19
      | with_reducible apply k_wide20
      | with_reducible apply k_wide24
  refine (writes_miss _ _ _ _ _ _ r2).trans ?_
  by_cases r1 : (y 0).val = 1
  · refine (writes_hit _ _ _ _ _ _ r1).trans ?_
    refine (k_row47 M (tile t) _ _ _ _ ?_ ?_ ?_ (y 1)).trans (congrArg₂ (· + ·) ?_ (dcwTile_row M (tile t) (y 0) 1 r1 (y 1)))
    rotate_left 3
    · exact congrArg (outsAt0 m d (t.val - 1) (Nat.lt_of_le_of_lt (Nat.sub_le _ _) t.isLt)).2.1
        (funext (Fin.forall_fin_two.mpr ⟨Fin.ext (by simpa using r1.symm), Fin.ext (by simp)⟩))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_later1
      | with_reducible apply k_dconv
      | with_reducible apply k_dm
      | with_reducible apply k_wide18
      | with_reducible apply k_wide19
      | with_reducible apply k_wide20
      | with_reducible apply k_wide24
    all_goals
      by_cases h8 : t.val % 8 = 0
      · exact k_next_end M t h8 _
      · exact k_next_mid M t h8 _ (fun j k => (congrFun (read_unread_whole _ _ _) _).trans (carry_before I t h8 j k))
  refine (writes_miss _ _ _ _ _ _ r1).trans ?_
  by_cases r0 : (y 0).val = 0
  · refine (writes_hit _ _ _ _ _ _ r0).trans ?_
    refine (k_row46 M (tile t) _ _ _ _ _ ?_ ?_ ?_ (y 1)).trans (congrArg₂ (· + ·) ?_ (dcwTile_row M (tile t) (y 0) 0 r0 (y 1)))
    rotate_left 3
    · exact congrArg (outsAt0 m d (t.val - 1) (Nat.lt_of_le_of_lt (Nat.sub_le _ _) t.isLt)).2.1
        (funext (Fin.forall_fin_two.mpr ⟨Fin.ext (by simpa using r0.symm), Fin.ext (by simp)⟩))
    repeat' first
      | with_reducible exact ct_at I t
      | with_reducible exact wo_at I t
      | with_reducible exact kept_at t I.b _ (fun i k => by pointwise)
      | with_reducible exact kept_at t I.c _ (fun i k => by pointwise)
      | with_reducible exact kept_at t I.xi _ (fun i k => by pointwise)
      | with_reducible exact kept_at t I.sa _ (fun i k => by pointwise)
      | with_reducible apply k_later2
      | with_reducible apply k_dconv
      | with_reducible apply k_dm
      | with_reducible apply k_wide18
      | with_reducible apply k_wide19
      | with_reducible apply k_wide20
      | with_reducible apply k_wide24
    all_goals
      by_cases h8 : t.val % 8 = 0
      · exact k_next_end M t h8 _
      · exact k_next_mid M t h8 _ (fun j k => (congrFun (read_unread_whole _ _ _) _).trans (carry_before I t h8 j k))
  refine (writes_miss _ _ _ _ _ _ r0).trans ?_
  refine Eq.trans ?_ ((add_zero _).symm.trans (congrArg (_ + ·) (dcwTile_rest M (tile t) (y 0) r2 r1 r0 (y 1)).symm))
  exact congrFun (Memref.IsWhole.read_unread _ _) y

/-- At a first point, the gradient of the taps is what the tile adds. -/
theorem taps_reset (e0 : t.val % 32 = 0) (y : S8x1024.Idx) :
    (outsAt0 m d t.val t.isLt).2.1 y = 0 + dcwTile M (tile t) (y 0) (y 1) := taps_A I t e0 (by omega) y

/-- At a later point, the gradient of the taps grows by what the tile adds. -/
theorem taps_step (e0 : ¬t.val % 32 = 0) (y : S8x1024.Idx) :
    (outsAt0 m d t.val t.isLt).2.1 y
      = (outsAt0 m d (t.val - 1) (Nat.lt_of_le_of_lt (Nat.sub_le _ _) t.isLt)).2.1 y + dcwTile M (tile t) (y 0) (y 1) := by
  by_cases e1 : t.val % 32 = 31
  · exact taps_C I t e0 e1 y
  · exact taps_B I t e0 e1 y

end KerSide
-- ==== Proof.KerNorms.lean ====
module

public import proofs.«01_k».proof.Proof.KerWrites

/-!
What every grid point adds to the gradients of the two norms' scales and shift.
-/

@[expose] public section

set_option maxRecDepth 16384

noncomputable section

open Idealize.ShloMosaic Idealize.ShloMosaic.TcCoe Idealize.SL.Sem
open Cert.KernelIdeal Cert.KernelIdeal.Gen
open Rows Model Sums

namespace KerSide

/-- What the tile adds to the gradients of the layer norm's scale and shift, in eight rows. -/
def dlnTile (M : Saved) (T : Fin 32) (a : Fin 8) (k : Fin 1024) : EReal :=
  if a.val = 0 then ∑ i, dlgRow M (trow T i) k else if a.val = 1 then ∑ i, dvn M (trow T i) k else 0

/-- The scale's row. -/
theorem dlnTile_0 (M : Saved) (T : Fin 32) (a : Fin 8) (h : a.val = 0) (k : Fin 1024) :
    ∑ i, dlgRow M (trow T i) k = dlnTile M T a k := by
  unfold dlnTile
  rw [if_pos h]

/-- The shift's row. -/
theorem dlnTile_1 (M : Saved) (T : Fin 32) (a : Fin 8) (h : a.val = 1) (k : Fin 1024) :
    ∑ i, dvn M (trow T i) k = dlnTile M T a k := by
  unfold dlnTile
  rw [if_neg (by omega), if_pos h]

/-- A row past them. -/
theorem dlnTile_rest (M : Saved) (T : Fin 32) (a : Fin 8) (h1 : ¬a.val = 1) (h0 : ¬a.val = 0) (k : Fin 1024) :
    dlnTile M T a k = 0 := by
  unfold dlnTile
  rw [if_neg h0, if_neg h1]

/-- What the tile adds to the gradient of the root-mean-square norm's scale, in eight rows. -/
def dgTile (M : Saved) (T : Fin 32) (a : Fin 8) (k : Fin 1024) : EReal :=
  if a.val = 0 then ∑ i, dgRow M (trow T i) k else 0

/-- The scale's row. -/
theorem dgTile_0 (M : Saved) (T : Fin 32) (a : Fin 8) (h : a.val = 0) (k : Fin 1024) :
    ∑ i, dgRow M (trow T i) k = dgTile M T a k := by
  unfold dgTile
  rw [if_pos h]

/-- A row past it. -/
theorem dgTile_rest (M : Saved) (T : Fin 32) (a : Fin 8) (h0 : ¬a.val = 0) (k : Fin 1024) : dgTile M T a k = 0 := by
  unfold dgTile
  rw [if_neg h0]

variable {m : (ℓ : Loc nD τ sig) → Buf (Elt Ideal) ℓ} {d : Dev nD} {M : Saved} (I : Inputs m d M) (t : Fin cfg0.N)

include I

/-- At the first point, the gradient of the layer norm's scale and shift is what the tile adds. -/
theorem scale_A (e0 : t.val % 32 = 0) (e1 : ¬t.val % 32 = 31) (y : S8x1024.Idx) :
    (outsAt0 m d t.val t.isLt).2.2.1 y
      = 0 + dlnTile M (tile t) (y 0) (y 1) := by
  rw [outsAt0_A m d t e0 e1]
  frame_out
  by_cases r1 : (y 0).val = 1
  · refine (canon_hit _ _ _ _ r1).trans ?_
    refine (k_row105 M (tile t) _ _ ?_ (y 1)).trans (congrArg₂ (· + ·) ?_ (dlnTile_1 M (tile t) (y 0) r1 (y 1)))
    rotate_left 1
    · rw [View.readCov_eq_canon']
      exact ((canon_miss _ _ _ _ (by simp)).trans (canon_whole off2 _ _ _ _ (by pointwise [k0_pay10])))
    intro i k
    rw [View.readCov_eq_canon']
    canon_tiles z h
    all_goals simp at h0 h1
    case piece0 =>
      refine square_at (k_square102 M (tile t) _ _ ?_ ?_) z i k (by simpa using h0) (by simpa using h1)
      · exact dmx_at I t _ _ (fun i k => by pointwise) (fun i k => by pointwise)
      · exact mat_at I t _ _ (fun i j => by pointwise)
    case piece1 =>
      refine square_at (k_square101 M (tile t) _ _ ?_ ?_) z i k (by simpa using h0) (by simpa using h1)
      · exact dmx_at I t _ _ (fun i k => by pointwise) (fun i k => by pointwise)
      · exact mat_at I t _ _ (fun i j => by pointwise)
    case piece2 =>
      refine square_at (k_square97 M (tile t) _ _ ?_ ?_) z i k (by simpa using h0) (by simpa using h1)
      · exact dmx_at I t _ _ (fun i k => by pointwise) (fun i k => by pointwise)
      · exact mat_at I t _ _ (fun i j => by pointwise)
    case piece3 =>
      refine square_at (k_square96 M (tile t) _ _ ?_ ?_) z i k (by simpa using h0) (by simpa using h1)
      · exact dmx_at I t _ _ (fun i k => by pointwise) (fun i k => by pointwise)
      · exact mat_at I t _ _ (fun i j => by pointwise)
    case piece4 =>
      refine square_at (k_square91 M (tile t) _ _ ?_ ?_) z i k (by simpa using h0) (by simpa using h1)
      · exact dmx_at I t _ _ (fun i k => by pointwise) (fun i k => by pointwise)
      · exact mat_at I t _ _ (fun i j => by pointwise)
    case piece5 =>
      refine square_at (k_square90 M (tile t) _ _ ?_ ?_) z i k (by simpa using h0) (by simpa using h1)
      · exact dmx_at I t _ _ (fun i k => by pointwise) (fun i k => by pointwise)
      · exact mat_at I t _ _ (fun i j => by pointwise)
    case piece6 =>
      refine square_at (k_square86 M (tile t) _ _ ?_ ?_) z i k (by simpa using h0) (by simpa using h1)
      · exact dmx_at I t _ _ (fun i k => by pointwise) (fun i k => by pointwise)
      · exact mat_at I t _ _ (fun i j => by pointwise)
    case piece7 =>
      refine square_at (k_square85 M (tile t) _ _ ?_ ?_) z i k (by simpa using h0) (by simpa using h1)
      · exact dmx_at I t _ _ (fun i k => by pointwise) (fun i k => by pointwise)
      · exact mat_at I t _ _ (fun i j => by pointwise)
    case piece8 =>
      refine square_at (k_square80 M (tile t) _ _ ?_ ?_) z i k (by simpa using h0) (by simpa using h1)
      · exact dmx_at I t _ _ (fun i k => by pointwise) (fun i k => by pointwise)
      · exact mat_at I t _ _ (fun i j => by pointwise)
    case piece9 =>
      refine square_at (k_square78 M (tile t) _ _ ?_ ?_) z i k (by simpa using h0) (by simpa using h1)
      · exact dmx_at I t _ _ (fun i k => by pointwise) (fun i k => by pointwise)
      · exact mat_at I t _ _ (fun i j => by pointwise)
    case piece10 =>
      refine square_at (k_square75 M (tile t) _ _ ?_ ?_) z i k (by simpa using h0) (by simpa using h1)
      · exact dmx_at I t _ _ (fun i k => by pointwise) (fun i k => by pointwise)
      · exact mat_at I t _ _ (fun i j => by pointwise)
    case piece11 =>
      refine square_at (k_square72 M (tile t) _ _ ?_ ?_) z i k (by simpa using h0) (by simpa using h1)
      · exact dmx_at I t _ _ (fun i k => by pointwise) (fun i k => by pointwise)
      · exact mat_at I t _ _ (fun i j => by pointwise)
    case piece12 =>
      refine square_at (k_square69 M (tile t) _ _ ?_ ?_) z i k (by simpa using h0) (by simpa using h1)
      · exact dmx_at I t _ _ (fun i k => by pointwise) (fun i k => by pointwise)
      · exact mat_at I t _ _ (fun i j => by pointwise)
    case piece13 =>
      refine square_at (k_square66 M (tile t) _ _ ?_ ?_) z i k (by simpa using h0) (by simpa using h1)
      · exact dmx_at I t _ _ (fun i k => by pointwise) (fun i k => by pointwise)
      · exact mat_at I t _ _ (fun i j => by pointwise)
    case piece14 =>
      refine square_at (k_square63 M (tile t) _ _ ?_ ?_) z i k (by simpa using h0) (by simpa using h1)
      · exact dmx_at I t _ _ (fun i k => by pointwise) (fun i k => by pointwise)
      · exact mat_at I t _ _ (fun i j => by pointwise)
    case piece15 =>
      refine square_at (k_square60 M (tile t) _ _ _ ?_ ?_) z i k (by simpa using h0) (by simpa using h1)
      · exact dmx_at I t _ _ (fun i k => by pointwise) (fun i k => by pointwise)
      · exact mat_at I t _ _ (fun i j => by pointwise)
  refine (canon_miss _ _ _ _ r1).trans ?_
  by_cases r0 : (y 0).val = 0
  · refine (canon_hit _ _ _ _ r0).trans ?_
    refine (k_row104 M (tile t) _ _ _ ?_ ?_ (y 1)).trans (congrArg₂ (· + ·) ?_ (dlnTile_0 M (tile t) (y 0) r0 (y 1)))
    rotate_left 2
    · rw [View.readCov_eq_canon']
      exact (canon_whole off2 _ _ _ _ (by pointwise [k0_pay10]))
    · repeat' first
        | with_reducible exact kept_at t I.v _ (fun i k => by pointwise)
        | with_reducible apply k_vhat
    · intro i k
      rw [View.readCov_eq_canon']
      canon_tiles z h
      all_goals simp at h0 h1
      case piece0 =>
        refine square_at (k_square102 M (tile t) _ _ ?_ ?_) z i k (by simpa using h0) (by simpa using h1)
        · exact dmx_at I t _ _ (fun i k => by pointwise) (fun i k => by pointwise)
        · exact mat_at I t _ _ (fun i j => by pointwise)
      case piece1 =>
        refine square_at (k_square101 M (tile t) _ _ ?_ ?_) z i k (by simpa using h0) (by simpa using h1)
        · exact dmx_at I t _ _ (fun i k => by pointwise) (fun i k => by pointwise)
        · exact mat_at I t _ _ (fun i j => by pointwise)
      case piece2 =>
        refine square_at (k_square97 M (tile t) _ _ ?_ ?_) z i k (by simpa using h0) (by simpa using h1)
        · exact dmx_at I t _ _ (fun i k => by pointwise) (fun i k => by pointwise)
        · exact mat_at I t _ _ (fun i j => by pointwise)
      case piece3 =>
        refine square_at (k_square96 M (tile t) _ _ ?_ ?_) z i k (by simpa using h0) (by simpa using h1)
        · exact dmx_at I t _ _ (fun i k => by pointwise) (fun i k => by pointwise)
        · exact mat_at I t _ _ (fun i j => by pointwise)
      case piece4 =>
        refine square_at (k_square91 M (tile t) _ _ ?_ ?_) z i k (by simpa using h0) (by simpa using h1)
        · exact dmx_at I t _ _ (fun i k => by pointwise) (fun i k => by pointwise)
        · exact mat_at I t _ _ (fun i j => by pointwise)
      case piece5 =>
        refine square_at (k_square90 M (tile t) _ _ ?_ ?_) z i k (by simpa using h0) (by simpa using h1)
        · exact dmx_at I t _ _ (fun i k => by pointwise) (fun i k => by pointwise)
        · exact mat_at I t _ _ (fun i j => by pointwise)
      case piece6 =>
        refine square_at (k_square86 M (tile t) _ _ ?_ ?_) z i k (by simpa using h0) (by simpa using h1)
        · exact dmx_at I t _ _ (fun i k => by pointwise) (fun i k => by pointwise)
        · exact mat_at I t _ _ (fun i j => by pointwise)
      case piece7 =>
        refine square_at (k_square85 M (tile t) _ _ ?_ ?_) z i k (by simpa using h0) (by simpa using h1)
        · exact dmx_at I t _ _ (fun i k => by pointwise) (fun i k => by pointwise)
        · exact mat_at I t _ _ (fun i j => by pointwise)
      case piece8 =>
        refine square_at (k_square80 M (tile t) _ _ ?_ ?_) z i k (by simpa using h0) (by simpa using h1)
        · exact dmx_at I t _ _ (fun i k => by pointwise) (fun i k => by pointwise)
        · exact mat_at I t _ _ (fun i j => by pointwise)
      case piece9 =>
        refine square_at (k_square78 M (tile t) _ _ ?_ ?_) z i k (by simpa using h0) (by simpa using h1)
        · exact dmx_at I t _ _ (fun i k => by pointwise) (fun i k => by pointwise)
        · exact mat_at I t _ _ (fun i j => by pointwise)
      case piece10 =>
        refine square_at (k_square75 M (tile t) _ _ ?_ ?_) z i k (by simpa using h0) (by simpa using h1)
        · exact dmx_at I t _ _ (fun i k => by pointwise) (fun i k => by pointwise)
        · exact mat_at I t _ _ (fun i j => by pointwise)
      case piece11 =>
        refine square_at (k_square72 M (tile t) _ _ ?_ ?_) z i k (by simpa using h0) (by simpa using h1)
        · exact dmx_at I t _ _ (fun i k => by pointwise) (fun i k => by pointwise)
        · exact mat_at I t _ _ (fun i j => by pointwise)
      case piece12 =>
        refine square_at (k_square69 M (tile t) _ _ ?_ ?_) z i k (by simpa using h0) (by simpa using h1)
        · exact dmx_at I t _ _ (fun i k => by pointwise) (fun i k => by pointwise)
        · exact mat_at I t _ _ (fun i j => by pointwise)
      case piece13 =>
        refine square_at (k_square66 M (tile t) _ _ ?_ ?_) z i k (by simpa using h0) (by simpa using h1)
        · exact dmx_at I t _ _ (fun i k => by pointwise) (fun i k => by pointwise)
        · exact mat_at I t _ _ (fun i j => by pointwise)
      case piece14 =>
        refine square_at (k_square63 M (tile t) _ _ ?_ ?_) z i k (by simpa using h0) (by simpa using h1)
        · exact dmx_at I t _ _ (fun i k => by pointwise) (fun i k => by pointwise)
        · exact mat_at I t _ _ (fun i j => by pointwise)
      case piece15 =>
        refine square_at (k_square60 M (tile t) _ _ _ ?_ ?_) z i k (by simpa using h0) (by simpa using h1)
        · exact dmx_at I t _ _ (fun i k => by pointwise) (fun i k => by pointwise)
        · exact mat_at I t _ _ (fun i j => by pointwise)
  refine (canon_miss _ _ _ _ r0).trans ?_
  refine Eq.trans ?_ ((add_zero _).symm.trans (congrArg (_ + ·) (dlnTile_rest M (tile t) (y 0) r1 r0 (y 1)).symm))
  exact (canon_whole off2 _ _ _ _ (by pointwise [k0_pay10]))

/-- At a middle point, the gradient of the layer norm's scale and shift is what the tile adds to what it was. -/
theorem scale_B (e0 : ¬t.val % 32 = 0) (e1 : ¬t.val % 32 = 31) (y : S8x1024.Idx) :
    (outsAt0 m d t.val t.isLt).2.2.1 y
      = (outsAt0 m d (t.val - 1) (Nat.lt_of_le_of_lt (Nat.sub_le _ _) t.isLt)).2.2.1 y + dlnTile M (tile t) (y 0) (y 1) := by
  rw [outsAt0_B m d t e0 e1]
  frame_out
  by_cases r1 : (y 0).val = 1
  · refine (writes_hit _ _ _ _ _ _ r1).trans ?_
    refine (k_row105 M (tile t) _ _ ?_ (y 1)).trans (congrArg₂ (· + ·) ?_ (dlnTile_1 M (tile t) (y 0) r1 (y 1)))
    rotate_left 1
    · exact congrArg (outsAt0 m d (t.val - 1) (Nat.lt_of_le_of_lt (Nat.sub_le _ _) t.isLt)).2.2.1
        (funext (Fin.forall_fin_two.mpr ⟨Fin.ext (by simpa using r1.symm), Fin.ext (by simp)⟩))
    intro i k
    rw [View.readCov_eq_canon']
    canon_tiles z h
    all_goals simp at h0 h1
    case piece0 =>
      refine square_at (k_square102 M (tile t) _ _ ?_ ?_) z i k (by simpa using h0) (by simpa using h1)
      · exact dmx_at I t _ _ (fun i k => by pointwise) (fun i k => by pointwise)
      · exact mat_at I t _ _ (fun i j => by pointwise)
    case piece1 =>
      refine square_at (k_square101 M (tile t) _ _ ?_ ?_) z i k (by simpa using h0) (by simpa using h1)
      · exact dmx_at I t _ _ (fun i k => by pointwise) (fun i k => by pointwise)
      · exact mat_at I t _ _ (fun i j => by pointwise)
    case piece2 =>
      refine square_at (k_square97 M (tile t) _ _ ?_ ?_) z i k (by simpa using h0) (by simpa using h1)
      · exact dmx_at I t _ _ (fun i k => by pointwise) (fun i k => by pointwise)
      · exact mat_at I t _ _ (fun i j => by pointwise)
    case piece3 =>
      refine square_at (k_square96 M (tile t) _ _ ?_ ?_) z i k (by simpa using h0) (by simpa using h1)
      · exact dmx_at I t _ _ (fun i k => by pointwise) (fun i k => by pointwise)
      · exact mat_at I t _ _ (fun i j => by pointwise)
    case piece4 =>
      refine square_at (k_square91 M (tile t) _ _ ?_ ?_) z i k (by simpa using h0) (by simpa using h1)
      · exact dmx_at I t _ _ (fun i k => by pointwise) (fun i k => by pointwise)
      · exact mat_at I t _ _ (fun i j => by pointwise)
    case piece5 =>
      refine square_at (k_square90 M (tile t) _ _ ?_ ?_) z i k (by simpa using h0) (by simpa using h1)
      · exact dmx_at I t _ _ (fun i k => by pointwise) (fun i k => by pointwise)
      · exact mat_at I t _ _ (fun i j => by pointwise)
    case piece6 =>
      refine square_at (k_square86 M (tile t) _ _ ?_ ?_) z i k (by simpa using h0) (by simpa using h1)
      · exact dmx_at I t _ _ (fun i k => by pointwise) (fun i k => by pointwise)
      · exact mat_at I t _ _ (fun i j => by pointwise)
    case piece7 =>
      refine square_at (k_square85 M (tile t) _ _ ?_ ?_) z i k (by simpa using h0) (by simpa using h1)
      · exact dmx_at I t _ _ (fun i k => by pointwise) (fun i k => by pointwise)
      · exact mat_at I t _ _ (fun i j => by pointwise)
    case piece8 =>
      refine square_at (k_square80 M (tile t) _ _ ?_ ?_) z i k (by simpa using h0) (by simpa using h1)
      · exact dmx_at I t _ _ (fun i k => by pointwise) (fun i k => by pointwise)
      · exact mat_at I t _ _ (fun i j => by pointwise)
    case piece9 =>
      refine square_at (k_square78 M (tile t) _ _ ?_ ?_) z i k (by simpa using h0) (by simpa using h1)
      · exact dmx_at I t _ _ (fun i k => by pointwise) (fun i k => by pointwise)
      · exact mat_at I t _ _ (fun i j => by pointwise)
    case piece10 =>
      refine square_at (k_square75 M (tile t) _ _ ?_ ?_) z i k (by simpa using h0) (by simpa using h1)
      · exact dmx_at I t _ _ (fun i k => by pointwise) (fun i k => by pointwise)
      · exact mat_at I t _ _ (fun i j => by pointwise)
    case piece11 =>
      refine square_at (k_square72 M (tile t) _ _ ?_ ?_) z i k (by simpa using h0) (by simpa using h1)
      · exact dmx_at I t _ _ (fun i k => by pointwise) (fun i k => by pointwise)
      · exact mat_at I t _ _ (fun i j => by pointwise)
    case piece12 =>
      refine square_at (k_square69 M (tile t) _ _ ?_ ?_) z i k (by simpa using h0) (by simpa using h1)
      · exact dmx_at I t _ _ (fun i k => by pointwise) (fun i k => by pointwise)
      · exact mat_at I t _ _ (fun i j => by pointwise)
    case piece13 =>
      refine square_at (k_square66 M (tile t) _ _ ?_ ?_) z i k (by simpa using h0) (by simpa using h1)
      · exact dmx_at I t _ _ (fun i k => by pointwise) (fun i k => by pointwise)
      · exact mat_at I t _ _ (fun i j => by pointwise)
    case piece14 =>
      refine square_at (k_square63 M (tile t) _ _ ?_ ?_) z i k (by simpa using h0) (by simpa using h1)
      · exact dmx_at I t _ _ (fun i k => by pointwise) (fun i k => by pointwise)
      · exact mat_at I t _ _ (fun i j => by pointwise)
    case piece15 =>
      refine square_at (k_square60 M (tile t) _ _ _ ?_ ?_) z i k (by simpa using h0) (by simpa using h1)
      · exact dmx_at I t _ _ (fun i k => by pointwise) (fun i k => by pointwise)
      · exact mat_at I t _ _ (fun i j => by pointwise)
  refine (writes_miss _ _ _ _ _ _ r1).trans ?_
  by_cases r0 : (y 0).val = 0
  · refine (writes_hit _ _ _ _ _ _ r0).trans ?_
    refine (k_row104 M (tile t) _ _ _ ?_ ?_ (y 1)).trans (congrArg₂ (· + ·) ?_ (dlnTile_0 M (tile t) (y 0) r0 (y 1)))
    rotate_left 2
    · exact congrArg (outsAt0 m d (t.val - 1) (Nat.lt_of_le_of_lt (Nat.sub_le _ _) t.isLt)).2.2.1
        (funext (Fin.forall_fin_two.mpr ⟨Fin.ext (by simpa using r0.symm), Fin.ext (by simp)⟩))
    · repeat' first
        | with_reducible exact kept_at t I.v _ (fun i k => by pointwise)
        | with_reducible apply k_vhat
    · intro i k
      rw [View.readCov_eq_canon']
      canon_tiles z h
      all_goals simp at h0 h1
      case piece0 =>
        refine square_at (k_square102 M (tile t) _ _ ?_ ?_) z i k (by simpa using h0) (by simpa using h1)
        · exact dmx_at I t _ _ (fun i k => by pointwise) (fun i k => by pointwise)
        · exact mat_at I t _ _ (fun i j => by pointwise)
      case piece1 =>
        refine square_at (k_square101 M (tile t) _ _ ?_ ?_) z i k (by simpa using h0) (by simpa using h1)
        · exact dmx_at I t _ _ (fun i k => by pointwise) (fun i k => by pointwise)
        · exact mat_at I t _ _ (fun i j => by pointwise)
      case piece2 =>
        refine square_at (k_square97 M (tile t) _ _ ?_ ?_) z i k (by simpa using h0) (by simpa using h1)
        · exact dmx_at I t _ _ (fun i k => by pointwise) (fun i k => by pointwise)
        · exact mat_at I t _ _ (fun i j => by pointwise)
      case piece3 =>
        refine square_at (k_square96 M (tile t) _ _ ?_ ?_) z i k (by simpa using h0) (by simpa using h1)
        · exact dmx_at I t _ _ (fun i k => by pointwise) (fun i k => by pointwise)
        · exact mat_at I t _ _ (fun i j => by pointwise)
      case piece4 =>
        refine square_at (k_square91 M (tile t) _ _ ?_ ?_) z i k (by simpa using h0) (by simpa using h1)
        · exact dmx_at I t _ _ (fun i k => by pointwise) (fun i k => by pointwise)
        · exact mat_at I t _ _ (fun i j => by pointwise)
      case piece5 =>
        refine square_at (k_square90 M (tile t) _ _ ?_ ?_) z i k (by simpa using h0) (by simpa using h1)
        · exact dmx_at I t _ _ (fun i k => by pointwise) (fun i k => by pointwise)
        · exact mat_at I t _ _ (fun i j => by pointwise)
      case piece6 =>
        refine square_at (k_square86 M (tile t) _ _ ?_ ?_) z i k (by simpa using h0) (by simpa using h1)
        · exact dmx_at I t _ _ (fun i k => by pointwise) (fun i k => by pointwise)
        · exact mat_at I t _ _ (fun i j => by pointwise)
      case piece7 =>
        refine square_at (k_square85 M (tile t) _ _ ?_ ?_) z i k (by simpa using h0) (by simpa using h1)
        · exact dmx_at I t _ _ (fun i k => by pointwise) (fun i k => by pointwise)
        · exact mat_at I t _ _ (fun i j => by pointwise)
      case piece8 =>
        refine square_at (k_square80 M (tile t) _ _ ?_ ?_) z i k (by simpa using h0) (by simpa using h1)
        · exact dmx_at I t _ _ (fun i k => by pointwise) (fun i k => by pointwise)
        · exact mat_at I t _ _ (fun i j => by pointwise)
      case piece9 =>
        refine square_at (k_square78 M (tile t) _ _ ?_ ?_) z i k (by simpa using h0) (by simpa using h1)
        · exact dmx_at I t _ _ (fun i k => by pointwise) (fun i k => by pointwise)
        · exact mat_at I t _ _ (fun i j => by pointwise)
      case piece10 =>
        refine square_at (k_square75 M (tile t) _ _ ?_ ?_) z i k (by simpa using h0) (by simpa using h1)
        · exact dmx_at I t _ _ (fun i k => by pointwise) (fun i k => by pointwise)
        · exact mat_at I t _ _ (fun i j => by pointwise)
      case piece11 =>
        refine square_at (k_square72 M (tile t) _ _ ?_ ?_) z i k (by simpa using h0) (by simpa using h1)
        · exact dmx_at I t _ _ (fun i k => by pointwise) (fun i k => by pointwise)
        · exact mat_at I t _ _ (fun i j => by pointwise)
      case piece12 =>
        refine square_at (k_square69 M (tile t) _ _ ?_ ?_) z i k (by simpa using h0) (by simpa using h1)
        · exact dmx_at I t _ _ (fun i k => by pointwise) (fun i k => by pointwise)
        · exact mat_at I t _ _ (fun i j => by pointwise)
      case piece13 =>
        refine square_at (k_square66 M (tile t) _ _ ?_ ?_) z i k (by simpa using h0) (by simpa using h1)
        · exact dmx_at I t _ _ (fun i k => by pointwise) (fun i k => by pointwise)
        · exact mat_at I t _ _ (fun i j => by pointwise)
      case piece14 =>
        refine square_at (k_square63 M (tile t) _ _ ?_ ?_) z i k (by simpa using h0) (by simpa using h1)
        · exact dmx_at I t _ _ (fun i k => by pointwise) (fun i k => by pointwise)
        · exact mat_at I t _ _ (fun i j => by pointwise)
      case piece15 =>
        refine square_at (k_square60 M (tile t) _ _ _ ?_ ?_) z i k (by simpa using h0) (by simpa using h1)
        · exact dmx_at I t _ _ (fun i k => by pointwise) (fun i k => by pointwise)
        · exact mat_at I t _ _ (fun i j => by pointwise)
  refine (writes_miss _ _ _ _ _ _ r0).trans ?_
  refine Eq.trans ?_ ((add_zero _).symm.trans (congrArg (_ + ·) (dlnTile_rest M (tile t) (y 0) r1 r0 (y 1)).symm))
  exact congrFun (Memref.IsWhole.read_unread _ _) y

/-- At the last point, the gradient of the layer norm's scale and shift is what the tile adds to what it was. -/
theorem scale_C (e0 : ¬t.val % 32 = 0) (e1 : t.val % 32 = 31) (y : S8x1024.Idx) :
    (outsAt0 m d t.val t.isLt).2.2.1 y
      = (outsAt0 m d (t.val - 1) (Nat.lt_of_le_of_lt (Nat.sub_le _ _) t.isLt)).2.2.1 y + dlnTile M (tile t) (y 0) (y 1) := by
  rw [outsAt0_C m d t e0 e1]
  frame_out
  by_cases r1 : (y 0).val = 1
  · refine (writes_hit _ _ _ _ _ _ r1).trans ?_
    refine (k_row105 M (tile t) _ _ ?_ (y 1)).trans (congrArg₂ (· + ·) ?_ (dlnTile_1 M (tile t) (y 0) r1 (y 1)))
    rotate_left 1
    · exact congrArg (outsAt0 m d (t.val - 1) (Nat.lt_of_le_of_lt (Nat.sub_le _ _) t.isLt)).2.2.1
        (funext (Fin.forall_fin_two.mpr ⟨Fin.ext (by simpa using r1.symm), Fin.ext (by simp)⟩))
    intro i k
    rw [View.readCov_eq_canon']
    canon_tiles z h
    all_goals simp at h0 h1
    case piece0 =>
      refine square_at (k_square102 M (tile t) _ _ ?_ ?_) z i k (by simpa using h0) (by simpa using h1)
      · exact dmx_at I t _ _ (fun i k => by pointwise) (fun i k => by pointwise)
      · exact mat_at I t _ _ (fun i j => by pointwise)
    case piece1 =>
      refine square_at (k_square101 M (tile t) _ _ ?_ ?_) z i k (by simpa using h0) (by simpa using h1)
      · exact dmx_at I t _ _ (fun i k => by pointwise) (fun i k => by pointwise)
      · exact mat_at I t _ _ (fun i j => by pointwise)
    case piece2 =>
      refine square_at (k_square97 M (tile t) _ _ ?_ ?_) z i k (by simpa using h0) (by simpa using h1)
      · exact dmx_at I t _ _ (fun i k => by pointwise) (fun i k => by pointwise)
      · exact mat_at I t _ _ (fun i j => by pointwise)
    case piece3 =>
      refine square_at (k_square96 M (tile t) _ _ ?_ ?_) z i k (by simpa using h0) (by simpa using h1)
      · exact dmx_at I t _ _ (fun i k => by pointwise) (fun i k => by pointwise)
      · exact mat_at I t _ _ (fun i j => by pointwise)
    case piece4 =>
      refine square_at (k_square91 M (tile t) _ _ ?_ ?_) z i k (by simpa using h0) (by simpa using h1)
      · exact dmx_at I t _ _ (fun i k => by pointwise) (fun i k => by pointwise)
      · exact mat_at I t _ _ (fun i j => by pointwise)
    case piece5 =>
      refine square_at (k_square90 M (tile t) _ _ ?_ ?_) z i k (by simpa using h0) (by simpa using h1)
      · exact dmx_at I t _ _ (fun i k => by pointwise) (fun i k => by pointwise)
      · exact mat_at I t _ _ (fun i j => by pointwise)
    case piece6 =>
      refine square_at (k_square86 M (tile t) _ _ ?_ ?_) z i k (by simpa using h0) (by simpa using h1)
      · exact dmx_at I t _ _ (fun i k => by pointwise) (fun i k => by pointwise)
      · exact mat_at I t _ _ (fun i j => by pointwise)
    case piece7 =>
      refine square_at (k_square85 M (tile t) _ _ ?_ ?_) z i k (by simpa using h0) (by simpa using h1)
      · exact dmx_at I t _ _ (fun i k => by pointwise) (fun i k => by pointwise)
      · exact mat_at I t _ _ (fun i j => by pointwise)
    case piece8 =>
      refine square_at (k_square80 M (tile t) _ _ ?_ ?_) z i k (by simpa using h0) (by simpa using h1)
      · exact dmx_at I t _ _ (fun i k => by pointwise) (fun i k => by pointwise)
      · exact mat_at I t _ _ (fun i j => by pointwise)
    case piece9 =>
      refine square_at (k_square78 M (tile t) _ _ ?_ ?_) z i k (by simpa using h0) (by simpa using h1)
      · exact dmx_at I t _ _ (fun i k => by pointwise) (fun i k => by pointwise)
      · exact mat_at I t _ _ (fun i j => by pointwise)
    case piece10 =>
      refine square_at (k_square75 M (tile t) _ _ ?_ ?_) z i k (by simpa using h0) (by simpa using h1)
      · exact dmx_at I t _ _ (fun i k => by pointwise) (fun i k => by pointwise)
      · exact mat_at I t _ _ (fun i j => by pointwise)
    case piece11 =>
      refine square_at (k_square72 M (tile t) _ _ ?_ ?_) z i k (by simpa using h0) (by simpa using h1)
      · exact dmx_at I t _ _ (fun i k => by pointwise) (fun i k => by pointwise)
      · exact mat_at I t _ _ (fun i j => by pointwise)
    case piece12 =>
      refine square_at (k_square69 M (tile t) _ _ ?_ ?_) z i k (by simpa using h0) (by simpa using h1)
      · exact dmx_at I t _ _ (fun i k => by pointwise) (fun i k => by pointwise)
      · exact mat_at I t _ _ (fun i j => by pointwise)
    case piece13 =>
      refine square_at (k_square66 M (tile t) _ _ ?_ ?_) z i k (by simpa using h0) (by simpa using h1)
      · exact dmx_at I t _ _ (fun i k => by pointwise) (fun i k => by pointwise)
      · exact mat_at I t _ _ (fun i j => by pointwise)
    case piece14 =>
      refine square_at (k_square63 M (tile t) _ _ ?_ ?_) z i k (by simpa using h0) (by simpa using h1)
      · exact dmx_at I t _ _ (fun i k => by pointwise) (fun i k => by pointwise)
      · exact mat_at I t _ _ (fun i j => by pointwise)
    case piece15 =>
      refine square_at (k_square60 M (tile t) _ _ _ ?_ ?_) z i k (by simpa using h0) (by simpa using h1)
      · exact dmx_at I t _ _ (fun i k => by pointwise) (fun i k => by pointwise)
      · exact mat_at I t _ _ (fun i j => by pointwise)
  refine (writes_miss _ _ _ _ _ _ r1).trans ?_
  by_cases r0 : (y 0).val = 0
  · refine (writes_hit _ _ _ _ _ _ r0).trans ?_
    refine (k_row104 M (tile t) _ _ _ ?_ ?_ (y 1)).trans (congrArg₂ (· + ·) ?_ (dlnTile_0 M (tile t) (y 0) r0 (y 1)))
    rotate_left 2
    · exact congrArg (outsAt0 m d (t.val - 1) (Nat.lt_of_le_of_lt (Nat.sub_le _ _) t.isLt)).2.2.1
        (funext (Fin.forall_fin_two.mpr ⟨Fin.ext (by simpa using r0.symm), Fin.ext (by simp)⟩))
    · repeat' first
        | with_reducible exact kept_at t I.v _ (fun i k => by pointwise)
        | with_reducible apply k_vhat
    · intro i k
      rw [View.readCov_eq_canon']
      canon_tiles z h
      all_goals simp at h0 h1
      case piece0 =>
        refine square_at (k_square102 M (tile t) _ _ ?_ ?_) z i k (by simpa using h0) (by simpa using h1)
        · exact dmx_at I t _ _ (fun i k => by pointwise) (fun i k => by pointwise)
        · exact mat_at I t _ _ (fun i j => by pointwise)
      case piece1 =>
        refine square_at (k_square101 M (tile t) _ _ ?_ ?_) z i k (by simpa using h0) (by simpa using h1)
        · exact dmx_at I t _ _ (fun i k => by pointwise) (fun i k => by pointwise)
        · exact mat_at I t _ _ (fun i j => by pointwise)
      case piece2 =>
        refine square_at (k_square97 M (tile t) _ _ ?_ ?_) z i k (by simpa using h0) (by simpa using h1)
        · exact dmx_at I t _ _ (fun i k => by pointwise) (fun i k => by pointwise)
        · exact mat_at I t _ _ (fun i j => by pointwise)
      case piece3 =>
        refine square_at (k_square96 M (tile t) _ _ ?_ ?_) z i k (by simpa using h0) (by simpa using h1)
        · exact dmx_at I t _ _ (fun i k => by pointwise) (fun i k => by pointwise)
        · exact mat_at I t _ _ (fun i j => by pointwise)
      case piece4 =>
        refine square_at (k_square91 M (tile t) _ _ ?_ ?_) z i k (by simpa using h0) (by simpa using h1)
        · exact dmx_at I t _ _ (fun i k => by pointwise) (fun i k => by pointwise)
        · exact mat_at I t _ _ (fun i j => by pointwise)
      case piece5 =>
        refine square_at (k_square90 M (tile t) _ _ ?_ ?_) z i k (by simpa using h0) (by simpa using h1)
        · exact dmx_at I t _ _ (fun i k => by pointwise) (fun i k => by pointwise)
        · exact mat_at I t _ _ (fun i j => by pointwise)
      case piece6 =>
        refine square_at (k_square86 M (tile t) _ _ ?_ ?_) z i k (by simpa using h0) (by simpa using h1)
        · exact dmx_at I t _ _ (fun i k => by pointwise) (fun i k => by pointwise)
        · exact mat_at I t _ _ (fun i j => by pointwise)
      case piece7 =>
        refine square_at (k_square85 M (tile t) _ _ ?_ ?_) z i k (by simpa using h0) (by simpa using h1)
        · exact dmx_at I t _ _ (fun i k => by pointwise) (fun i k => by pointwise)
        · exact mat_at I t _ _ (fun i j => by pointwise)
      case piece8 =>
        refine square_at (k_square80 M (tile t) _ _ ?_ ?_) z i k (by simpa using h0) (by simpa using h1)
        · exact dmx_at I t _ _ (fun i k => by pointwise) (fun i k => by pointwise)
        · exact mat_at I t _ _ (fun i j => by pointwise)
      case piece9 =>
        refine square_at (k_square78 M (tile t) _ _ ?_ ?_) z i k (by simpa using h0) (by simpa using h1)
        · exact dmx_at I t _ _ (fun i k => by pointwise) (fun i k => by pointwise)
        · exact mat_at I t _ _ (fun i j => by pointwise)
      case piece10 =>
        refine square_at (k_square75 M (tile t) _ _ ?_ ?_) z i k (by simpa using h0) (by simpa using h1)
        · exact dmx_at I t _ _ (fun i k => by pointwise) (fun i k => by pointwise)
        · exact mat_at I t _ _ (fun i j => by pointwise)
      case piece11 =>
        refine square_at (k_square72 M (tile t) _ _ ?_ ?_) z i k (by simpa using h0) (by simpa using h1)
        · exact dmx_at I t _ _ (fun i k => by pointwise) (fun i k => by pointwise)
        · exact mat_at I t _ _ (fun i j => by pointwise)
      case piece12 =>
        refine square_at (k_square69 M (tile t) _ _ ?_ ?_) z i k (by simpa using h0) (by simpa using h1)
        · exact dmx_at I t _ _ (fun i k => by pointwise) (fun i k => by pointwise)
        · exact mat_at I t _ _ (fun i j => by pointwise)
      case piece13 =>
        refine square_at (k_square66 M (tile t) _ _ ?_ ?_) z i k (by simpa using h0) (by simpa using h1)
        · exact dmx_at I t _ _ (fun i k => by pointwise) (fun i k => by pointwise)
        · exact mat_at I t _ _ (fun i j => by pointwise)
      case piece14 =>
        refine square_at (k_square63 M (tile t) _ _ ?_ ?_) z i k (by simpa using h0) (by simpa using h1)
        · exact dmx_at I t _ _ (fun i k => by pointwise) (fun i k => by pointwise)
        · exact mat_at I t _ _ (fun i j => by pointwise)
      case piece15 =>
        refine square_at (k_square60 M (tile t) _ _ _ ?_ ?_) z i k (by simpa using h0) (by simpa using h1)
        · exact dmx_at I t _ _ (fun i k => by pointwise) (fun i k => by pointwise)
        · exact mat_at I t _ _ (fun i j => by pointwise)
  refine (writes_miss _ _ _ _ _ _ r0).trans ?_
  refine Eq.trans ?_ ((add_zero _).symm.trans (congrArg (_ + ·) (dlnTile_rest M (tile t) (y 0) r1 r0 (y 1)).symm))
  exact congrFun (Memref.IsWhole.read_unread _ _) y

/-- At a first point, the gradient of the layer norm's scale and shift is what the tile adds. -/
theorem scale_reset (e0 : t.val % 32 = 0) (y : S8x1024.Idx) :
    (outsAt0 m d t.val t.isLt).2.2.1 y = 0 + dlnTile M (tile t) (y 0) (y 1) := scale_A I t e0 (by omega) y

/-- At a later point, the gradient of the layer norm's scale and shift grows by what the tile adds. -/
theorem scale_step (e0 : ¬t.val % 32 = 0) (y : S8x1024.Idx) :
    (outsAt0 m d t.val t.isLt).2.2.1 y
      = (outsAt0 m d (t.val - 1) (Nat.lt_of_le_of_lt (Nat.sub_le _ _) t.isLt)).2.2.1 y + dlnTile M (tile t) (y 0) (y 1) := by
  by_cases e1 : t.val % 32 = 31
  · exact scale_C I t e0 e1 y
  · exact scale_B I t e0 e1 y

/-- At the first point, the gradient of the root-mean-square norm's scale is what the tile adds. -/
theorem gain_A (e0 : t.val % 32 = 0) (e1 : ¬t.val % 32 = 31) (y : S8x1024.Idx) :
    (outsAt0 m d t.val t.isLt).2.2.2.2.2.2.1 y
      = 0 + dgTile M (tile t) (y 0) (y 1) := by
  rw [outsAt0_A m d t e0 e1]
  frame_out
  by_cases r0 : (y 0).val = 0
  · refine (canon_hit _ _ _ _ r0).trans ?_
    refine (k_row116 M (tile t) _ _ _ _ _ ?_ ?_ (y 1)).trans (congrArg₂ (· + ·) ?_ (dgTile_0 M (tile t) (y 0) r0 (y 1)))
    rotate_left 2
    · rw [View.readCov_eq_canon']
      exact (canon_whole off2 _ _ _ _ (by pointwise [k0_pay13]))
    · apply k_dh
      all_goals try exact cols_at I t _ _ (fun k q => by pointwise)
      · intro i q
        rw [View.readCov_eq_canon']
        refine Eq.trans ?_ (proj_at I t (ix2 i ⟨(0 : Fin 4).val * 1792 + q.val, by omega⟩))
        rw [outsAt0_A m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(1 : Fin 4).val * 1792 + q.val, by omega⟩))
        rw [outsAt0_A m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(2 : Fin 4).val * 1792 + q.val, by omega⟩))
        rw [outsAt0_A m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(3 : Fin 4).val * 1792 + q.val, by omega⟩))
        rw [outsAt0_A m d t e0 e1]
        frame_out
        exact congrArg (View.canon _) (funext (Fin.forall_fin_two.mpr ⟨Fin.ext (by simp), Fin.ext (by simp)⟩))
    · exact x_at I t
  refine (canon_miss _ _ _ _ r0).trans ?_
  refine Eq.trans ?_ ((add_zero _).symm.trans (congrArg (_ + ·) (dgTile_rest M (tile t) (y 0) r0 (y 1)).symm))
  exact (canon_whole off2 _ _ _ _ (by pointwise [k0_pay13]))

/-- At a middle point, the gradient of the root-mean-square norm's scale is what the tile adds to what it was. -/
theorem gain_B (e0 : ¬t.val % 32 = 0) (e1 : ¬t.val % 32 = 31) (y : S8x1024.Idx) :
    (outsAt0 m d t.val t.isLt).2.2.2.2.2.2.1 y
      = (outsAt0 m d (t.val - 1) (Nat.lt_of_le_of_lt (Nat.sub_le _ _) t.isLt)).2.2.2.2.2.2.1 y + dgTile M (tile t) (y 0) (y 1) := by
  rw [outsAt0_B m d t e0 e1]
  frame_out
  by_cases r0 : (y 0).val = 0
  · refine (writes_hit _ _ _ _ _ _ r0).trans ?_
    refine (k_row116 M (tile t) _ _ _ _ _ ?_ ?_ (y 1)).trans (congrArg₂ (· + ·) ?_ (dgTile_0 M (tile t) (y 0) r0 (y 1)))
    rotate_left 2
    · exact congrArg (outsAt0 m d (t.val - 1) (Nat.lt_of_le_of_lt (Nat.sub_le _ _) t.isLt)).2.2.2.2.2.2.1
        (funext (Fin.forall_fin_two.mpr ⟨Fin.ext (by simpa using r0.symm), Fin.ext (by simp)⟩))
    · apply k_dh
      all_goals try exact cols_at I t _ _ (fun k q => by pointwise)
      · intro i q
        rw [View.readCov_eq_canon']
        refine Eq.trans ?_ (proj_at I t (ix2 i ⟨(0 : Fin 4).val * 1792 + q.val, by omega⟩))
        rw [outsAt0_B m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(1 : Fin 4).val * 1792 + q.val, by omega⟩))
        rw [outsAt0_B m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(2 : Fin 4).val * 1792 + q.val, by omega⟩))
        rw [outsAt0_B m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(3 : Fin 4).val * 1792 + q.val, by omega⟩))
        rw [outsAt0_B m d t e0 e1]
        frame_out
        exact congrArg (View.canon _) (funext (Fin.forall_fin_two.mpr ⟨Fin.ext (by simp), Fin.ext (by simp)⟩))
    · exact x_at I t
  refine (writes_miss _ _ _ _ _ _ r0).trans ?_
  refine Eq.trans ?_ ((add_zero _).symm.trans (congrArg (_ + ·) (dgTile_rest M (tile t) (y 0) r0 (y 1)).symm))
  exact congrFun (Memref.IsWhole.read_unread _ _) y

/-- At the last point, the gradient of the root-mean-square norm's scale is what the tile adds to what it was. -/
theorem gain_C (e0 : ¬t.val % 32 = 0) (e1 : t.val % 32 = 31) (y : S8x1024.Idx) :
    (outsAt0 m d t.val t.isLt).2.2.2.2.2.2.1 y
      = (outsAt0 m d (t.val - 1) (Nat.lt_of_le_of_lt (Nat.sub_le _ _) t.isLt)).2.2.2.2.2.2.1 y + dgTile M (tile t) (y 0) (y 1) := by
  rw [outsAt0_C m d t e0 e1]
  frame_out
  by_cases r0 : (y 0).val = 0
  · refine (writes_hit _ _ _ _ _ _ r0).trans ?_
    refine (k_row116 M (tile t) _ _ _ _ _ ?_ ?_ (y 1)).trans (congrArg₂ (· + ·) ?_ (dgTile_0 M (tile t) (y 0) r0 (y 1)))
    rotate_left 2
    · exact congrArg (outsAt0 m d (t.val - 1) (Nat.lt_of_le_of_lt (Nat.sub_le _ _) t.isLt)).2.2.2.2.2.2.1
        (funext (Fin.forall_fin_two.mpr ⟨Fin.ext (by simpa using r0.symm), Fin.ext (by simp)⟩))
    · apply k_dh
      all_goals try exact cols_at I t _ _ (fun k q => by pointwise)
      · intro i q
        rw [View.readCov_eq_canon']
        refine Eq.trans ?_ (proj_at I t (ix2 i ⟨(0 : Fin 4).val * 1792 + q.val, by omega⟩))
        rw [outsAt0_C m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(1 : Fin 4).val * 1792 + q.val, by omega⟩))
        rw [outsAt0_C m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(2 : Fin 4).val * 1792 + q.val, by omega⟩))
        rw [outsAt0_C m d t e0 e1]
        frame_out
        exact congrArg (View.canon _) (funext (Fin.forall_fin_two.mpr ⟨Fin.ext (by simp), Fin.ext (by simp)⟩))
      · intro i q
        rw [View.readCov_eq_canon']
        refine Eq.trans ?_ (proj_at I t (ix2 i ⟨(3 : Fin 4).val * 1792 + q.val, by omega⟩))
        rw [outsAt0_C m d t e0 e1]
        frame_out
        exact congrArg (View.canon _) (funext (Fin.forall_fin_two.mpr ⟨Fin.ext (by simp), Fin.ext (by simp)⟩))
    · exact x_at I t
  refine (writes_miss _ _ _ _ _ _ r0).trans ?_
  refine Eq.trans ?_ ((add_zero _).symm.trans (congrArg (_ + ·) (dgTile_rest M (tile t) (y 0) r0 (y 1)).symm))
  exact congrFun (Memref.IsWhole.read_unread _ _) y

/-- At a first point, the gradient of the root-mean-square norm's scale is what the tile adds. -/
theorem gain_reset (e0 : t.val % 32 = 0) (y : S8x1024.Idx) :
    (outsAt0 m d t.val t.isLt).2.2.2.2.2.2.1 y = 0 + dgTile M (tile t) (y 0) (y 1) := gain_A I t e0 (by omega) y

/-- At a later point, the gradient of the root-mean-square norm's scale grows by what the tile adds. -/
theorem gain_step (e0 : ¬t.val % 32 = 0) (y : S8x1024.Idx) :
    (outsAt0 m d t.val t.isLt).2.2.2.2.2.2.1 y
      = (outsAt0 m d (t.val - 1) (Nat.lt_of_le_of_lt (Nat.sub_le _ _) t.isLt)).2.2.2.2.2.2.1 y + dgTile M (tile t) (y 0) (y 1) := by
  by_cases e1 : t.val % 32 = 31
  · exact gain_C I t e0 e1 y
  · exact gain_B I t e0 e1 y

end KerSide
-- ==== Proof.KerMixw.lean ====
module

public import proofs.«01_k».proof.Proof.KerWrites

/-!
What every grid point adds to the gradient of the mixing weights.
-/

@[expose] public section

set_option maxRecDepth 16384

noncomputable section

open Idealize.ShloMosaic Idealize.ShloMosaic.TcCoe Idealize.SL.Sem
open Cert.KernelIdeal Cert.KernelIdeal.Gen
open Rows Model Sums

namespace KerSide

/-- The newest store of a group's matrix, read in that group. -/
theorem canon_hit3 {o : ℕ}
    (inb : ∀ a : Fin 3, (![o, 0, 0] : Fin 3 → ℕ) a + (![1, 128, 128] : Fin 3 → ℕ) a ≤ S8x128x128.size a)
    (w : S1x128x128.Idx → EReal) (L : List (View.Piece (Elt Ideal) S8x128x128 .f32)) (y : S8x128x128.Idx)
    (h : (y 0).val = o) :
    View.canon ((⟨Rect.unit (s := S8x128x128) ![o, 0, 0] ![1, 128, 128] inb, w⟩ :
      View.Piece (Elt Ideal) S8x128x128 .f32) :: L) y = w (ix3 0 (y 1) (y 2)) := by
  have e : (Rect.unit (s := S8x128x128) ![o, 0, 0] ![1, 128, 128] inb).emb (ix3 0 (y 1) (y 2) : S1x128x128.Idx) = y :=
    funext fun a => by
      fin_cases a
      · exact Fin.ext (by show o + 1 * 0 = (y 0).val; omega)
      · exact Fin.ext (by show 0 + 1 * (y 1).val = (y 1).val; omega)
      · exact Fin.ext (by show 0 + 1 * (y 2).val = (y 2).val; omega)
  refine (congrArg (View.canon _) e.symm).trans ?_
  exact View.canon_cons_emb (Val := Elt Ideal) (e := .f32) (Rect.unit (s := S8x128x128) ![o, 0, 0] ![1, 128, 128] inb)
    w L _

/-- The newest store of a group's matrix, read in another group. -/
theorem canon_miss3 {o : ℕ}
    (inb : ∀ a : Fin 3, (![o, 0, 0] : Fin 3 → ℕ) a + (![1, 128, 128] : Fin 3 → ℕ) a ≤ S8x128x128.size a)
    (w : S1x128x128.Idx → EReal) (L : List (View.Piece (Elt Ideal) S8x128x128 .f32)) (y : S8x128x128.Idx)
    (h : ¬(y 0).val = o) :
    View.canon ((⟨Rect.unit (s := S8x128x128) ![o, 0, 0] ![1, 128, 128] inb, w⟩ :
      View.Piece (Elt Ideal) S8x128x128 .f32) :: L) y = View.canon L y := by
  refine View.canon_cons_of_not_mem _ _ fun hm => h ?_
  have h0 := Rect.mem_set_unit.mp
    (show y ∈ (Rect.unit (s := S8x128x128) ![o, 0, 0] ![1, 128, 128] inb).set from hm) 0
  have h1 : o ≤ (y 0).val ∧ (y 0).val < o + 1 := h0
  omega

/-- The group an index is in. -/
theorem dwsTile_grp (M : Saved) (T : Fin 32) (a g : Fin 8) (h : a.val = g.val) (i j : Fin 128) :
    dwsTile M T g i j = dwsTile M T a i j := by
  rw [show a = g from Fin.ext h]

variable {m : (ℓ : Loc nD τ sig) → Buf (Elt Ideal) ℓ} {d : Dev nD} {M : Saved} (I : Inputs m d M) (t : Fin cfg0.N)

include I

/-- At the first point, the gradient of the mixing weights is what the tile adds. -/
theorem mixw_A (e0 : t.val % 32 = 0) (e1 : ¬t.val % 32 = 31) (y : S8x128x128.Idx) :
    (outsAt0 m d t.val t.isLt).2.2.2.1 y
      = 0 + dwsTile M (tile t) (y 0) (y 1) (y 2) := by
  have y0 : (y 0).val < 8 := (y 0).isLt
  rw [outsAt0_A m d t e0 e1]
  frame_out
  by_cases r7 : (y 0).val = 7
  · refine (canon_hit3 _ _ _ _ r7).trans ?_
    refine (k_ws103 M (tile t) _ _ _ ?_ ?_ (y 1) (y 2)).trans
      (congrArg₂ (· + ·) ?_ (dwsTile_grp M (tile t) (y 0) 7 r7 (y 1) (y 2)))
    rotate_left 2
    · rw [View.readCov_eq_canon']
      exact ((canon_miss3 _ _ _ _ (by simp)).trans ((canon_miss3 _ _ _ _ (by simp)).trans ((canon_miss3 _ _ _ _ (by simp)).trans ((canon_miss3 _ _ _ _ (by simp)).trans ((canon_miss3 _ _ _ _ (by simp)).trans ((canon_miss3 _ _ _ _ (by simp)).trans ((canon_miss3 _ _ _ _ (by simp)).trans (canon_whole off3 _ _ _ _ (by pointwise [k0_pay11])))))))))
    · exact k_same26 _ _ _ (kept_at t I.vn _ (fun i k => by pointwise))
    · exact dmx_at I t _ _ (fun i k => by pointwise) (fun i k => by pointwise)
  refine (canon_miss3 _ _ _ _ r7).trans ?_
  by_cases r6 : (y 0).val = 6
  · refine (canon_hit3 _ _ _ _ r6).trans ?_
    refine (k_ws99 M (tile t) _ _ _ ?_ ?_ (y 1) (y 2)).trans
      (congrArg₂ (· + ·) ?_ (dwsTile_grp M (tile t) (y 0) 6 r6 (y 1) (y 2)))
    rotate_left 2
    · rw [View.readCov_eq_canon']
      exact ((canon_miss3 _ _ _ _ (by simp)).trans ((canon_miss3 _ _ _ _ (by simp)).trans ((canon_miss3 _ _ _ _ (by simp)).trans ((canon_miss3 _ _ _ _ (by simp)).trans ((canon_miss3 _ _ _ _ (by simp)).trans ((canon_miss3 _ _ _ _ (by simp)).trans (canon_whole off3 _ _ _ _ (by pointwise [k0_pay11]))))))))
    · exact k_same26 _ _ _ (kept_at t I.vn _ (fun i k => by pointwise))
    · exact dmx_at I t _ _ (fun i k => by pointwise) (fun i k => by pointwise)
  refine (canon_miss3 _ _ _ _ r6).trans ?_
  by_cases r5 : (y 0).val = 5
  · refine (canon_hit3 _ _ _ _ r5).trans ?_
    refine (k_ws94 M (tile t) _ _ _ ?_ ?_ (y 1) (y 2)).trans
      (congrArg₂ (· + ·) ?_ (dwsTile_grp M (tile t) (y 0) 5 r5 (y 1) (y 2)))
    rotate_left 2
    · rw [View.readCov_eq_canon']
      exact ((canon_miss3 _ _ _ _ (by simp)).trans ((canon_miss3 _ _ _ _ (by simp)).trans ((canon_miss3 _ _ _ _ (by simp)).trans ((canon_miss3 _ _ _ _ (by simp)).trans ((canon_miss3 _ _ _ _ (by simp)).trans (canon_whole off3 _ _ _ _ (by pointwise [k0_pay11])))))))
    · exact k_same26 _ _ _ (kept_at t I.vn _ (fun i k => by pointwise))
    · exact dmx_at I t _ _ (fun i k => by pointwise) (fun i k => by pointwise)
  refine (canon_miss3 _ _ _ _ r5).trans ?_
  by_cases r4 : (y 0).val = 4
  · refine (canon_hit3 _ _ _ _ r4).trans ?_
    refine (k_ws88 M (tile t) _ _ _ ?_ ?_ (y 1) (y 2)).trans
      (congrArg₂ (· + ·) ?_ (dwsTile_grp M (tile t) (y 0) 4 r4 (y 1) (y 2)))
    rotate_left 2
    · rw [View.readCov_eq_canon']
      exact ((canon_miss3 _ _ _ _ (by simp)).trans ((canon_miss3 _ _ _ _ (by simp)).trans ((canon_miss3 _ _ _ _ (by simp)).trans ((canon_miss3 _ _ _ _ (by simp)).trans (canon_whole off3 _ _ _ _ (by pointwise [k0_pay11]))))))
    · exact k_same26 _ _ _ (kept_at t I.vn _ (fun i k => by pointwise))
    · exact dmx_at I t _ _ (fun i k => by pointwise) (fun i k => by pointwise)
  refine (canon_miss3 _ _ _ _ r4).trans ?_
  by_cases r3 : (y 0).val = 3
  · refine (canon_hit3 _ _ _ _ r3).trans ?_
    refine (k_ws83 M (tile t) _ _ _ ?_ ?_ (y 1) (y 2)).trans
      (congrArg₂ (· + ·) ?_ (dwsTile_grp M (tile t) (y 0) 3 r3 (y 1) (y 2)))
    rotate_left 2
    · rw [View.readCov_eq_canon']
      exact ((canon_miss3 _ _ _ _ (by simp)).trans ((canon_miss3 _ _ _ _ (by simp)).trans ((canon_miss3 _ _ _ _ (by simp)).trans (canon_whole off3 _ _ _ _ (by pointwise [k0_pay11])))))
    · exact k_same26 _ _ _ (kept_at t I.vn _ (fun i k => by pointwise))
    · exact dmx_at I t _ _ (fun i k => by pointwise) (fun i k => by pointwise)
  refine (canon_miss3 _ _ _ _ r3).trans ?_
  by_cases r2 : (y 0).val = 2
  · refine (canon_hit3 _ _ _ _ r2).trans ?_
    refine (k_ws76 M (tile t) _ _ _ ?_ ?_ (y 1) (y 2)).trans
      (congrArg₂ (· + ·) ?_ (dwsTile_grp M (tile t) (y 0) 2 r2 (y 1) (y 2)))
    rotate_left 2
    · rw [View.readCov_eq_canon']
      exact ((canon_miss3 _ _ _ _ (by simp)).trans ((canon_miss3 _ _ _ _ (by simp)).trans (canon_whole off3 _ _ _ _ (by pointwise [k0_pay11]))))
    · exact k_same26 _ _ _ (kept_at t I.vn _ (fun i k => by pointwise))
    · exact dmx_at I t _ _ (fun i k => by pointwise) (fun i k => by pointwise)
  refine (canon_miss3 _ _ _ _ r2).trans ?_
  by_cases r1 : (y 0).val = 1
  · refine (canon_hit3 _ _ _ _ r1).trans ?_
    refine (k_ws70 M (tile t) _ _ _ ?_ ?_ (y 1) (y 2)).trans
      (congrArg₂ (· + ·) ?_ (dwsTile_grp M (tile t) (y 0) 1 r1 (y 1) (y 2)))
    rotate_left 2
    · rw [View.readCov_eq_canon']
      exact ((canon_miss3 _ _ _ _ (by simp)).trans (canon_whole off3 _ _ _ _ (by pointwise [k0_pay11])))
    · exact k_same26 _ _ _ (kept_at t I.vn _ (fun i k => by pointwise))
    · exact dmx_at I t _ _ (fun i k => by pointwise) (fun i k => by pointwise)
  refine (canon_miss3 _ _ _ _ r1).trans ?_
  by_cases r0 : (y 0).val = 0
  · refine (canon_hit3 _ _ _ _ r0).trans ?_
    refine (k_ws64 M (tile t) _ _ _ _ ?_ ?_ (y 1) (y 2)).trans
      (congrArg₂ (· + ·) ?_ (dwsTile_grp M (tile t) (y 0) 0 r0 (y 1) (y 2)))
    rotate_left 2
    · rw [View.readCov_eq_canon']
      exact (canon_whole off3 _ _ _ _ (by pointwise [k0_pay11]))
    · exact k_same26 _ _ _ (kept_at t I.vn _ (fun i k => by pointwise))
    · exact dmx_at I t _ _ (fun i k => by pointwise) (fun i k => by pointwise)
  omega

/-- At a middle point, the gradient of the mixing weights is what the tile adds to what it was. -/
theorem mixw_B (e0 : ¬t.val % 32 = 0) (e1 : ¬t.val % 32 = 31) (y : S8x128x128.Idx) :
    (outsAt0 m d t.val t.isLt).2.2.2.1 y
      = (outsAt0 m d (t.val - 1) (Nat.lt_of_le_of_lt (Nat.sub_le _ _) t.isLt)).2.2.2.1 y + dwsTile M (tile t) (y 0) (y 1) (y 2) := by
  have y0 : (y 0).val < 8 := (y 0).isLt
  rw [outsAt0_B m d t e0 e1]
  frame_out
  by_cases r7 : (y 0).val = 7
  · refine (canon_hit3 _ _ _ _ r7).trans ?_
    refine (k_ws103 M (tile t) _ _ _ ?_ ?_ (y 1) (y 2)).trans
      (congrArg₂ (· + ·) ?_ (dwsTile_grp M (tile t) (y 0) 7 r7 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r7.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r7).trans ?_
  by_cases r6 : (y 0).val = 6
  · refine (canon_hit3 _ _ _ _ r6).trans ?_
    refine (k_ws99 M (tile t) _ _ _ ?_ ?_ (y 1) (y 2)).trans
      (congrArg₂ (· + ·) ?_ (dwsTile_grp M (tile t) (y 0) 6 r6 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r6.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r6).trans ?_
  by_cases r5 : (y 0).val = 5
  · refine (canon_hit3 _ _ _ _ r5).trans ?_
    refine (k_ws94 M (tile t) _ _ _ ?_ ?_ (y 1) (y 2)).trans
      (congrArg₂ (· + ·) ?_ (dwsTile_grp M (tile t) (y 0) 5 r5 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r5.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r5).trans ?_
  by_cases r4 : (y 0).val = 4
  · refine (canon_hit3 _ _ _ _ r4).trans ?_
    refine (k_ws88 M (tile t) _ _ _ ?_ ?_ (y 1) (y 2)).trans
      (congrArg₂ (· + ·) ?_ (dwsTile_grp M (tile t) (y 0) 4 r4 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r4.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r4).trans ?_
  by_cases r3 : (y 0).val = 3
  · refine (canon_hit3 _ _ _ _ r3).trans ?_
    refine (k_ws83 M (tile t) _ _ _ ?_ ?_ (y 1) (y 2)).trans
      (congrArg₂ (· + ·) ?_ (dwsTile_grp M (tile t) (y 0) 3 r3 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r3.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r3).trans ?_
  by_cases r2 : (y 0).val = 2
  · refine (canon_hit3 _ _ _ _ r2).trans ?_
    refine (k_ws76 M (tile t) _ _ _ ?_ ?_ (y 1) (y 2)).trans
      (congrArg₂ (· + ·) ?_ (dwsTile_grp M (tile t) (y 0) 2 r2 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r2.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r2).trans ?_
  by_cases r1 : (y 0).val = 1
  · refine (canon_hit3 _ _ _ _ r1).trans ?_
    refine (k_ws70 M (tile t) _ _ _ ?_ ?_ (y 1) (y 2)).trans
      (congrArg₂ (· + ·) ?_ (dwsTile_grp M (tile t) (y 0) 1 r1 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r1.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r1).trans ?_
  by_cases r0 : (y 0).val = 0
  · refine (canon_hit3 _ _ _ _ r0).trans ?_
    refine (k_ws64 M (tile t) _ _ _ _ ?_ ?_ (y 1) (y 2)).trans
      (congrArg₂ (· + ·) ?_ (dwsTile_grp M (tile t) (y 0) 0 r0 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r0.symm)
      · exact Fin.ext (by simp)
      · exact Fin.ext (by simp)
    · exact k_same26 _ _ _ (kept_at t I.vn _ (fun i k => by pointwise))
    · exact dmx_at I t _ _ (fun i k => by pointwise) (fun i k => by pointwise)
  omega

/-- At the last point, the gradient of the mixing weights is what the tile adds to what it was. -/
theorem mixw_C (e0 : ¬t.val % 32 = 0) (e1 : t.val % 32 = 31) (y : S8x128x128.Idx) :
    (outsAt0 m d t.val t.isLt).2.2.2.1 y
      = (outsAt0 m d (t.val - 1) (Nat.lt_of_le_of_lt (Nat.sub_le _ _) t.isLt)).2.2.2.1 y + dwsTile M (tile t) (y 0) (y 1) (y 2) := by
  have y0 : (y 0).val < 8 := (y 0).isLt
  rw [outsAt0_C m d t e0 e1]
  frame_out
  by_cases r7 : (y 0).val = 7
  · refine (canon_hit3 _ _ _ _ r7).trans ?_
    refine (k_ws103 M (tile t) _ _ _ ?_ ?_ (y 1) (y 2)).trans
      (congrArg₂ (· + ·) ?_ (dwsTile_grp M (tile t) (y 0) 7 r7 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r7.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r7).trans ?_
  by_cases r6 : (y 0).val = 6
  · refine (canon_hit3 _ _ _ _ r6).trans ?_
    refine (k_ws99 M (tile t) _ _ _ ?_ ?_ (y 1) (y 2)).trans
      (congrArg₂ (· + ·) ?_ (dwsTile_grp M (tile t) (y 0) 6 r6 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r6.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r6).trans ?_
  by_cases r5 : (y 0).val = 5
  · refine (canon_hit3 _ _ _ _ r5).trans ?_
    refine (k_ws94 M (tile t) _ _ _ ?_ ?_ (y 1) (y 2)).trans
      (congrArg₂ (· + ·) ?_ (dwsTile_grp M (tile t) (y 0) 5 r5 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r5.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r5).trans ?_
  by_cases r4 : (y 0).val = 4
  · refine (canon_hit3 _ _ _ _ r4).trans ?_
    refine (k_ws88 M (tile t) _ _ _ ?_ ?_ (y 1) (y 2)).trans
      (congrArg₂ (· + ·) ?_ (dwsTile_grp M (tile t) (y 0) 4 r4 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r4.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r4).trans ?_
  by_cases r3 : (y 0).val = 3
  · refine (canon_hit3 _ _ _ _ r3).trans ?_
    refine (k_ws83 M (tile t) _ _ _ ?_ ?_ (y 1) (y 2)).trans
      (congrArg₂ (· + ·) ?_ (dwsTile_grp M (tile t) (y 0) 3 r3 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r3.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r3).trans ?_
  by_cases r2 : (y 0).val = 2
  · refine (canon_hit3 _ _ _ _ r2).trans ?_
    refine (k_ws76 M (tile t) _ _ _ ?_ ?_ (y 1) (y 2)).trans
      (congrArg₂ (· + ·) ?_ (dwsTile_grp M (tile t) (y 0) 2 r2 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r2.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r2).trans ?_
  by_cases r1 : (y 0).val = 1
  · refine (canon_hit3 _ _ _ _ r1).trans ?_
    refine (k_ws70 M (tile t) _ _ _ ?_ ?_ (y 1) (y 2)).trans
      (congrArg₂ (· + ·) ?_ (dwsTile_grp M (tile t) (y 0) 1 r1 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r1.symm)
      · exact Fin.ext (by simp)
      · exact Fin.ext (by simp)
    · exact k_same26 _ _ _ (kept_at t I.vn _ (fun i k => by pointwise))
    · exact dmx_at I t _ _ (fun i k => by pointwise) (fun i k => by pointwise)
  refine (canon_miss3 _ _ _ _ r1).trans ?_
  by_cases r0 : (y 0).val = 0
  · refine (canon_hit3 _ _ _ _ r0).trans ?_
    refine (k_ws64 M (tile t) _ _ _ _ ?_ ?_ (y 1) (y 2)).trans
      (congrArg₂ (· + ·) ?_ (dwsTile_grp M (tile t) (y 0) 0 r0 (y 1) (y 2)))
    rotate_left 2
    · refine congrArg (outsAt0 m d (t.val - 1) (Nat.lt_of_le_of_lt (Nat.sub_le _ _) t.isLt)).2.2.2.1 (funext fun a => ?_)
      fin_cases a
      · exact Fin.ext (by simpa using r0.symm)
      · exact Fin.ext (by simp)
      · exact Fin.ext (by simp)
    · exact k_same26 _ _ _ (kept_at t I.vn _ (fun i k => by pointwise))
    · exact dmx_at I t _ _ (fun i k => by pointwise) (fun i k => by pointwise)
  omega

/-- At a first point, the gradient of the mixing weights is what the tile adds. -/
theorem mixw_reset (e0 : t.val % 32 = 0) (y : S8x128x128.Idx) :
    (outsAt0 m d t.val t.isLt).2.2.2.1 y = 0 + dwsTile M (tile t) (y 0) (y 1) (y 2) := mixw_A I t e0 (by omega) y

/-- At a later point, the gradient of the mixing weights grows by what the tile adds. -/
theorem mixw_step (e0 : ¬t.val % 32 = 0) (y : S8x128x128.Idx) :
    (outsAt0 m d t.val t.isLt).2.2.2.1 y
      = (outsAt0 m d (t.val - 1) (Nat.lt_of_le_of_lt (Nat.sub_le _ _) t.isLt)).2.2.2.1 y + dwsTile M (tile t) (y 0) (y 1) (y 2) := by
  by_cases e1 : t.val % 32 = 31
  · exact mixw_C I t e0 e1 y
  · exact mixw_B I t e0 e1 y

end KerSide
-- ==== Proof.KerBias.lean ====
module

public import proofs.«01_k».proof.Proof.KerWrites

/-!
What every grid point adds to the gradient of the mixing biases, and the sum the last one hands out.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable {m : (ℓ : Loc nD τ sig) → Buf (Elt Ideal) ℓ} {d : Dev nD} {M : Saved} (I : Inputs m d M) (t : Fin cfg0.N)

include I

/-- At the first point, the running sum of the gradient of the mixed rows is what the tile adds. -/
theorem bias_A (e0 : t.val % 32 = 0) (e1 : ¬t.val % 32 = 31) (y : S128x1024.Idx) :
    (outsAt0 m d t.val t.isLt).2.2.2.2.2.2.2.2 y
      = 0 + dbsTile M (tile t) (y 0) (y 1) := by
  rw [outsAt0_A m d t e0 e1]
  frame_out
  refine (congrArg _ (eq_ix2 y)).trans ((k_row57 M (tile t) _ _ _ ?_ ?_ (y 0) (y 1)).trans (congrArg (· + _) ?_))
  rotate_left 2
  · pointwise [k0_pay12]
  repeat' first
    | with_reducible exact ct_at I t
    | with_reducible exact wo_at I t
    | with_reducible exact kept_at t I.u _ (fun i k => by pointwise)
    | with_reducible exact kept_at t I.sb _ (fun i k => by pointwise)
    | with_reducible apply k_dyb
    | with_reducible apply k_dm
    | with_reducible apply k_wide21
    | with_reducible apply k_wide25

/-- At a middle point, the running sum of the gradient of the mixed rows is what the tile adds to what it was. -/
theorem bias_B (e0 : ¬t.val % 32 = 0) (e1 : ¬t.val % 32 = 31) (y : S128x1024.Idx) :
    (outsAt0 m d t.val t.isLt).2.2.2.2.2.2.2.2 y
      = (outsAt0 m d (t.val - 1) (Nat.lt_of_le_of_lt (Nat.sub_le _ _) t.isLt)).2.2.2.2.2.2.2.2 y + dbsTile M (tile t) (y 0) (y 1) := by
  rw [outsAt0_B m d t e0 e1]
  frame_out
  refine (congrArg _ (eq_ix2 y)).trans ((k_row57 M (tile t) _ _ _ ?_ ?_ (y 0) (y 1)).trans (congrArg (· + _) ?_))
  rotate_left 2
  · exact (congrFun (read_unread_whole _ _ _) _).trans (congrArg _ (eq_ix2 y).symm)
  repeat' first
    | with_reducible exact ct_at I t
    | with_reducible exact wo_at I t
    | with_reducible exact kept_at t I.u _ (fun i k => by pointwise)
    | with_reducible exact kept_at t I.sb _ (fun i k => by pointwise)
    | with_reducible apply k_dyb
    | with_reducible apply k_dm
    | with_reducible apply k_wide21
    | with_reducible apply k_wide25

/-- At the last point, the running sum of the gradient of the mixed rows is what the tile adds to what it was. -/
theorem bias_C (e0 : ¬t.val % 32 = 0) (e1 : t.val % 32 = 31) (y : S128x1024.Idx) :
    (outsAt0 m d t.val t.isLt).2.2.2.2.2.2.2.2 y
      = (outsAt0 m d (t.val - 1) (Nat.lt_of_le_of_lt (Nat.sub_le _ _) t.isLt)).2.2.2.2.2.2.2.2 y + dbsTile M (tile t) (y 0) (y 1) := by
  rw [outsAt0_C m d t e0 e1]
  frame_out
  refine (congrArg _ (eq_ix2 y)).trans ((k_row57 M (tile t) _ _ _ ?_ ?_ (y 0) (y 1)).trans (congrArg (· + _) ?_))
  rotate_left 2
  · exact (congrFun (read_unread_whole _ _ _) _).trans (congrArg _ (eq_ix2 y).symm)
  repeat' first
    | with_reducible exact ct_at I t
    | with_reducible exact wo_at I t
    | with_reducible exact kept_at t I.u _ (fun i k => by pointwise)
    | with_reducible exact kept_at t I.sb _ (fun i k => by pointwise)
    | with_reducible apply k_dyb
    | with_reducible apply k_dm
    | with_reducible apply k_wide21
    | with_reducible apply k_wide25

/-- At a first point, the running sum of the gradient of the mixed rows is what the tile adds. -/
theorem bias_reset (e0 : t.val % 32 = 0) (y : S128x1024.Idx) :
    (outsAt0 m d t.val t.isLt).2.2.2.2.2.2.2.2 y = 0 + dbsTile M (tile t) (y 0) (y 1) := bias_A I t e0 (by omega) y

/-- At a later point, the running sum of the gradient of the mixed rows grows by what the tile adds. -/
theorem bias_step (e0 : ¬t.val % 32 = 0) (y : S128x1024.Idx) :
    (outsAt0 m d t.val t.isLt).2.2.2.2.2.2.2.2 y
      = (outsAt0 m d (t.val - 1) (Nat.lt_of_le_of_lt (Nat.sub_le _ _) t.isLt)).2.2.2.2.2.2.2.2 y + dbsTile M (tile t) (y 0) (y 1) := by
  by_cases e1 : t.val % 32 = 31
  · exact bias_C I t e0 e1 y
  · exact bias_B I t e0 e1 y

/-- At the last point, the gradient of the mixing biases is the running sum, summed over each group of channels. -/
theorem bias_out (e0 : ¬t.val % 32 = 0) (e1 : t.val % 32 = 31) (y : S128x1024.Idx) :
    (outsAt0 m d t.val t.isLt).2.2.2.2.1 y
      = ∑ c, (show FVec Ideal S128x1024 .f32 from (outsAt0 m d t.val t.isLt).2.2.2.2.2.2.2.2) (ix2 (y 0) (chan (grp (y 1)) c)) := by
  have step : ∀ z : S128x1024.Idx, (outsAt0 m d t.val t.isLt).2.2.2.2.2.2.2.2 z
      = (outsAt0 m d (t.val - 1) (Nat.lt_of_le_of_lt (Nat.sub_le _ _) t.isLt)).2.2.2.2.2.2.2.2 z + dbsTile M (tile t) (z 0) (z 1) := bias_C I t e0 e1
  generalize (outsAt0 m d t.val t.isLt).2.2.2.2.2.2.2.2 = A at step ⊢
  rw [outsAt0_C m d t e0 e1]
  frame_out
  canon_tiles x h
  case piece0 =>
    refine (congrArg _ (eq_ix2 x)).trans ((k_spread8 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 7 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece1 =>
    refine (congrArg _ (eq_ix2 x)).trans ((k_spread7 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 6 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece2 =>
    refine (congrArg _ (eq_ix2 x)).trans ((k_spread6 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 5 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece3 =>
    refine (congrArg _ (eq_ix2 x)).trans ((k_spread5 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 4 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece4 =>
    refine (congrArg _ (eq_ix2 x)).trans ((k_spread4 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 3 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece5 =>
    refine (congrArg _ (eq_ix2 x)).trans ((k_spread3 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 2 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece6 =>
    refine (congrArg _ (eq_ix2 x)).trans ((k_spread2 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 1 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25
  case piece7 =>
    refine (congrArg _ (eq_ix2 x)).trans ((k_spread1 _ (x 0) (x 1)).trans (Finset.sum_congr rfl fun c _ => ?_))
    rw [step]
    refine (congrFun (View.readCov_eq_canon' _ _ _) _).trans ?_
    refine (congrArg (View.canon _) (show _ = ix2 (y 0) (chan (grp (y 1)) c) from ?_)).trans (canon_whole off2 _ _ _ _
      ((k_row57 M (tile t) _ _ _ ?_ ?_ (y 0) (chan (grp (y 1)) c)).trans
        (congrArg (· + _) (congrFun (read_unread_whole _ _ _) _))))
    · refine funext (Fin.forall_fin_two.mpr ⟨Fin.ext ?_, Fin.ext ?_⟩)
      · simpa using h0.symm
      · have e : (y 1).val / 128 = 0 := by omega
        simp [chan, grp, e]
    repeat' first
      | with_reducible exact ct_at I t
      | with_reducible exact wo_at I t
      | with_reducible exact kept_at t I.u _ (fun i k => by pointwise)
      | with_reducible exact kept_at t I.sb _ (fun i k => by pointwise)
      | with_reducible apply k_dyb
      | with_reducible apply k_dm
      | with_reducible apply k_wide21
      | with_reducible apply k_wide25

end KerSide
-- ==== Proof.KerDx.lean ====
module

public import proofs.«01_k».proof.Proof.KerProj

/-!
At every grid point, the block of the gradient of the layer's input.
-/

@[expose] public section

set_option maxRecDepth 16384

noncomputable section

open Idealize.ShloMosaic Idealize.ShloMosaic.TcCoe Idealize.SL.Sem
open Cert.KernelIdeal Cert.KernelIdeal.Gen
open Rows Model Sums

namespace KerSide

variable {m : (ℓ : Loc nD τ sig) → Buf (Elt Ideal) ℓ} {d : Dev nD} {M : Saved} (I : Inputs m d M) (t : Fin cfg0.N)

include I

/-- At the first point, the block of the gradient of the layer's input. -/
theorem dx_A (e0 : t.val % 32 = 0) (e1 : ¬t.val % 32 = 31) (y : S256x1024.Idx) :
    (outsAt0 m d t.val t.isLt).2.2.2.2.2.1 y = dx M (trow (tile t) (y 0)) (y 1) := by
  rw [outsAt0_A m d t e0 e1]
  frame_out
  refine Holds.at' (T := tile t) (f := dx M) (φ := .f32) ?_ y (trow (tile t) (y 0)) (y 1) rfl rfl
  refine k_dx M (tile t) _ _ _ _ _ _ ?_ (x_at I t) (g_at I t) (ct_at I t)
  apply k_dh
  all_goals try exact cols_at I t _ _ (fun k q => by pointwise)
  · intro i q
    rw [View.readCov_eq_canon']
    refine Eq.trans ?_ (proj_at I t (ix2 i ⟨(0 : Fin 4).val * 1792 + q.val, by omega⟩))
    rw [outsAt0_A m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(1 : Fin 4).val * 1792 + q.val, by omega⟩))
    rw [outsAt0_A m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(2 : Fin 4).val * 1792 + q.val, by omega⟩))
    rw [outsAt0_A m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(3 : Fin 4).val * 1792 + q.val, by omega⟩))
    rw [outsAt0_A m d t e0 e1]
    frame_out
    exact congrArg (View.canon _) (funext (Fin.forall_fin_two.mpr ⟨Fin.ext (by simp), Fin.ext (by simp)⟩))

/-- At a middle point, the block of the gradient of the layer's input. -/
theorem dx_B (e0 : ¬t.val % 32 = 0) (e1 : ¬t.val % 32 = 31) (y : S256x1024.Idx) :
    (outsAt0 m d t.val t.isLt).2.2.2.2.2.1 y = dx M (trow (tile t) (y 0)) (y 1) := by
  rw [outsAt0_B m d t e0 e1]
  frame_out
  refine Holds.at' (T := tile t) (f := dx M) (φ := .f32) ?_ y (trow (tile t) (y 0)) (y 1) rfl rfl
  refine k_dx M (tile t) _ _ _ _ _ _ ?_ (x_at I t) (g_at I t) (ct_at I t)
  apply k_dh
  all_goals try exact cols_at I t _ _ (fun k q => by pointwise)
  · intro i q
    rw [View.readCov_eq_canon']
    refine Eq.trans ?_ (proj_at I t (ix2 i ⟨(0 : Fin 4).val * 1792 + q.val, by omega⟩))
    rw [outsAt0_B m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(1 : Fin 4).val * 1792 + q.val, by omega⟩))
    rw [outsAt0_B m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(2 : Fin 4).val * 1792 + q.val, by omega⟩))
    rw [outsAt0_B m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(3 : Fin 4).val * 1792 + q.val, by omega⟩))
    rw [outsAt0_B m d t e0 e1]
    frame_out
    exact congrArg (View.canon _) (funext (Fin.forall_fin_two.mpr ⟨Fin.ext (by simp), Fin.ext (by simp)⟩))

/-- At the last point, the block of the gradient of the layer's input. -/
theorem dx_C (e0 : ¬t.val % 32 = 0) (e1 : t.val % 32 = 31) (y : S256x1024.Idx) :
    (outsAt0 m d t.val t.isLt).2.2.2.2.2.1 y = dx M (trow (tile t) (y 0)) (y 1) := by
  rw [outsAt0_C m d t e0 e1]
  frame_out
  refine Holds.at' (T := tile t) (f := dx M) (φ := .f32) ?_ y (trow (tile t) (y 0)) (y 1) rfl rfl
  refine k_dx M (tile t) _ _ _ _ _ _ ?_ (x_at I t) (g_at I t) (ct_at I t)
  apply k_dh
  all_goals try exact cols_at I t _ _ (fun k q => by pointwise)
  · intro i q
    rw [View.readCov_eq_canon']
    refine Eq.trans ?_ (proj_at I t (ix2 i ⟨(0 : Fin 4).val * 1792 + q.val, by omega⟩))
    rw [outsAt0_C m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(1 : Fin 4).val * 1792 + q.val, by omega⟩))
    rw [outsAt0_C m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(2 : Fin 4).val * 1792 + q.val, by omega⟩))
    rw [outsAt0_C m d t e0 e1]
    frame_out
    exact congrArg (View.canon _) (funext (Fin.forall_fin_two.mpr ⟨Fin.ext (by simp), Fin.ext (by simp)⟩))
  · intro i q
    rw [View.readCov_eq_canon']
    refine Eq.trans ?_ (proj_at I t (ix2 i ⟨(3 : Fin 4).val * 1792 + q.val, by omega⟩))
    rw [outsAt0_C m d t e0 e1]
    frame_out
    exact congrArg (View.canon _) (funext (Fin.forall_fin_two.mpr ⟨Fin.ext (by simp), Fin.ext (by simp)⟩))

/-- The block of the gradient of the layer's input. -/
theorem dx_at (y : S256x1024.Idx) :
    (outsAt0 m d t.val t.isLt).2.2.2.2.2.1 y = dx M (trow (tile t) (y 0)) (y 1) := by
  by_cases e0 : t.val % 32 = 0
  · exact dx_A I t e0 (by omega) y
  · by_cases e1 : t.val % 32 = 31
    · exact dx_C I t e0 e1 y
    · exact dx_B I t e0 e1 y

end KerSide
-- ==== Proof.KerFinal.lean ====
module

public import proofs.«01_k».proof.Proof.KerTaps
public import proofs.«01_k».proof.Proof.KerNorms
public import proofs.«01_k».proof.Proof.KerMixw
public import proofs.«01_k».proof.Proof.KerBias
public import proofs.«01_k».proof.Proof.KerDx

/-!
The seven arrays the grid leaves: the quantities of the backward pass.
-/

@[expose] public section

set_option maxRecDepth 16384

noncomputable section

open Idealize.ShloMosaic Idealize.ShloMosaic.TcCoe Idealize.SL.Sem
open Cert.KernelIdeal Cert.KernelIdeal.Gen
open Rows Model Sums

namespace KerSide

/-- A sum built up point by point over the grid is the sum over the tiles. -/
theorem run_sum {ι : Type} (f : (n : ℕ) → n < cfg0.N → ι → EReal) (term : Fin 32 → ι → EReal)
    (e0 : ∀ t : Fin cfg0.N, t.val % 32 = 0 → ∀ y, f t.val t.isLt y = 0 + term (tile t) y)
    (es : ∀ t : Fin cfg0.N, ¬t.val % 32 = 0 → ∀ y, f t.val t.isLt y
      = f (t.val - 1) (Nat.lt_of_le_of_lt (Nat.sub_le _ _) t.isLt) y + term (tile t) y)
    (t : Fin cfg0.N) (e1 : t.val % 32 = 31) (y : ι) : f t.val t.isLt y = ∑ T, term T y := by
  have hN : t.val < 32 := lt_of_lt_of_eq t.isLt N_0
  rw [Pipeline.eq_sum_fin_of_reset_step_apply_of_flush f 32 (fun _ => 0) (fun t y => term (tile t) y) e0 es t e1 y,
    zero_add]
  refine Fintype.sum_equiv Fin.revPerm _ _ fun s => congrArg (fun T => term T y) (Fin.ext ?_)
  show 31 - (32 * (t.val / 32) + s.val) = 32 - (s.val + 1)
  omega

/-- The taps' gradient from the tiles' parts. -/
theorem dcw_tiles (M : Saved) (a : Fin 8) (k : Fin 1024) : ∑ T, dcwTile M T a k = dcw M a k := by
  unfold dcwTile dcw
  by_cases h : a.val < 3
  · simp only [dif_pos h]
    exact (sum_tiles fun R => dcwRow M ⟨a.val, h⟩ R k).symm
  · simp only [dif_neg h]
    exact Finset.sum_const_zero

/-- The layer norm's gradients from the tiles' parts. -/
theorem dln_tiles (M : Saved) (a : Fin 8) (k : Fin 1024) : ∑ T, dlnTile M T a k = dln M a k := by
  unfold dlnTile dln
  by_cases h : a.val = 0
  · simp only [if_pos h]
    exact (sum_tiles fun R => dlgRow M R k).symm
  · by_cases h1 : a.val = 1
    · simp only [if_neg h, if_pos h1]
      exact (sum_tiles fun R => dvn M R k).symm
    · simp only [if_neg h, if_neg h1]
      exact Finset.sum_const_zero

/-- The root-mean-square norm's gradient from the tiles' parts. -/
theorem dg_tiles (M : Saved) (a : Fin 8) (k : Fin 1024) : ∑ T, dgTile M T a k = dg M a k := by
  unfold dgTile dg
  by_cases h : a.val = 0
  · simp only [if_pos h]
    exact (sum_tiles fun R => dgRow M R k).symm
  · simp only [if_neg h]
    exact Finset.sum_const_zero

/-- The mixing weights' gradient from the tiles' parts. -/
theorem dws_tiles (M : Saved) (g : Fin 8) (i j : Fin 128) : ∑ T, dwsTile M T g i j = dws M g i j := by
  unfold dwsTile dws
  by_cases h : j ≤ i
  · simp only [if_pos h, if_pos (show j.val ≤ i.val from h)]
    refine Eq.trans (Finset.sum_congr rfl fun T _ => ?_) (sum_chunk_tiles fun q => dwsChunk M q g i j).symm
    exact congrArg₂ (fun p q => dwsChunk M p g i j + dwsChunk M q g i j) (Fin.ext (Nat.mul_comm _ _))
      (Fin.ext (congrArg (· + 1) (Nat.mul_comm _ _)))
  · simp only [if_neg h, if_neg (show ¬j.val ≤ i.val from h)]
    exact Finset.sum_const_zero

/-- The mixed rows' gradient summed over the chunks, from the tiles' parts. -/
theorem dbs_tiles (M : Saved) (i : Fin 128) (k : Fin 1024) : ∑ T, dbsTile M T i k = ∑ q, dmx M (crow q i) k := by
  unfold dbsTile
  refine Eq.trans (Finset.sum_congr rfl fun T _ => ?_) (sum_chunk_tiles fun q => dmx M (crow q i) k).symm
  exact congrArg₂ (fun p q => dmx M (crow p i) k + dmx M (crow q i) k) (Fin.ext (Nat.mul_comm _ _))
    (Fin.ext (congrArg (· + 1) (Nat.mul_comm _ _)))

/-- Where the accumulated blocks lie. -/
theorem idx' : ∀ t : Fin cfg0.N, win0_10.index t = ![0, 0] ∧ win0_11.index t = ![0, 0] ∧ win0_12.index t = ![0, 0, 0]
    ∧ win0_13.index t = ![0, 0] ∧ win0_15.index t = ![0, 0] :=
  (by decide +kernel : ∀ t : Fin grid0.N, _)

/-- Equal arguments give equal values. -/
theorem congr3 {α β γ δ : Type} (f : α → β → γ → δ) {a a' : α} {b b' : β} {c c' : γ} (ha : a = a') (hb : b = b')
    (hc : c = c') : f a b c = f a' b' c' := by rw [ha, hb, hc]

variable {m : (ℓ : Loc nD τ sig) → Buf (Elt Ideal) ℓ} {d : Dev nD} {M : Saved} (I : Inputs m d M)

include I

/-- The array of the projection's gradient. -/
theorem proj_final : (dats m 0 d).arrAt 9 cfg0.N = fun y : S8192x7168.Idx => dproj M (y 0) (y 1) := by
  refine (dats m 0 d).arrAt_eq_of_covers 9 _ (by decide +kernel) fun t _ y => ?_
  blk_simp
  rw [after0_9]
  refine (proj_at I t _).trans (congrArg₂ (dproj M) (Fin.ext ?_) (Fin.ext ?_))
  · blk_simp [idx t]
    show (31 - t.val) * 256 + _ = _
    rfl
  · blk_simp [idx t]

/-- The array of the input's gradient. -/
theorem dx_final : (dats m 0 d).arrAt 14 cfg0.N = fun y : S8192x1024.Idx => dx M (y 0) (y 1) := by
  refine (dats m 0 d).arrAt_eq_of_covers 14 _ (by decide +kernel) fun t _ y => ?_
  blk_simp
  rw [after0_14]
  refine (dx_at I t _).trans (congrArg₂ (dx M) (Fin.ext ?_) (Fin.ext ?_))
  · blk_simp [idx t]
    show (31 - t.val) * 256 + _ = _
    rfl
  · blk_simp [idx t]

/-- The array of the taps' gradient. -/
theorem taps_final : (dats m 0 d).arrAt 10 cfg0.N = fun y : S8x1024.Idx => dcw M (y 0) (y 1) := by
  refine (dats m 0 d).arrAt_eq_of_covers 10 _ (by decide +kernel) fun t hf y => ?_
  blk_simp
  rw [after0_10]
  refine (run_sum (fun n h => (outsAt0 m d n h).2.1) (fun T (y : S8x1024.Idx) => dcwTile M T (y 0) (y 1)) (taps_reset I) (taps_step I) t
    ((flush0_10 t).mp hf) _).trans ?_
  refine (dcw_tiles M _ _ ).trans (congrArg₂ (dcw M) (Fin.ext ?_) (Fin.ext ?_) )
  all_goals blk_simp [idx' t]

/-- The array of the gradient of the layer norm's scale and shift. -/
theorem scale_final : (dats m 0 d).arrAt 11 cfg0.N = fun y : S8x1024.Idx => dln M (y 0) (y 1) := by
  refine (dats m 0 d).arrAt_eq_of_covers 11 _ (by decide +kernel) fun t hf y => ?_
  blk_simp
  rw [after0_11]
  refine (run_sum (fun n h => (outsAt0 m d n h).2.2.1) (fun T (y : S8x1024.Idx) => dlnTile M T (y 0) (y 1)) (scale_reset I) (scale_step I) t
    ((flush0_11 t).mp hf) _).trans ?_
  refine (dln_tiles M _ _ ).trans (congrArg₂ (dln M) (Fin.ext ?_) (Fin.ext ?_) )
  all_goals blk_simp [idx' t]

/-- The array of the mixing weights' gradient. -/
theorem mixw_final : (dats m 0 d).arrAt 12 cfg0.N = fun y : S8x128x128.Idx => dws M (y 0) (y 1) (y 2) := by
  refine (dats m 0 d).arrAt_eq_of_covers 12 _ (by decide +kernel) fun t hf y => ?_
  blk_simp
  rw [after0_12]
  refine (run_sum (fun n h => (outsAt0 m d n h).2.2.2.1) (fun T (y : S8x128x128.Idx) => dwsTile M T (y 0) (y 1) (y 2)) (mixw_reset I) (mixw_step I) t
    ((flush0_12 t).mp hf) _).trans ?_
  refine (dws_tiles M _ _ _ ).trans (congr3 (dws M) (Fin.ext ?_) (Fin.ext ?_) (Fin.ext ?_) )
  all_goals blk_simp [idx' t]

/-- The array of the gradient of the root-mean-square norm's scale. -/
theorem gain_final : (dats m 0 d).arrAt 15 cfg0.N = fun y : S8x1024.Idx => dg M (y 0) (y 1) := by
  refine (dats m 0 d).arrAt_eq_of_covers 15 _ (by decide +kernel) fun t hf y => ?_
  blk_simp
  rw [after0_15]
  refine (run_sum (fun n h => (outsAt0 m d n h).2.2.2.2.2.2.1) (fun T (y : S8x1024.Idx) => dgTile M T (y 0) (y 1)) (gain_reset I) (gain_step I) t
    ((flush0_15 t).mp hf) _).trans ?_
  refine (dg_tiles M _ _ ).trans (congrArg₂ (dg M) (Fin.ext ?_) (Fin.ext ?_) )
  all_goals blk_simp [idx' t]

/-- The array of the mixing biases' gradient. -/
theorem bias_final : (dats m 0 d).arrAt 13 cfg0.N = fun y : S128x1024.Idx => dbs M (y 0) (y 1) := by
  refine (dats m 0 d).arrAt_eq_of_covers 13 _ (by decide +kernel) fun t hf y => ?_
  blk_simp
  rw [after0_13]
  have e1 := (flush0_13 t).mp hf
  refine (bias_out I t (by omega) e1 _).trans ?_
  refine Eq.trans (Finset.sum_congr rfl fun c _ => (run_sum (fun n h => (outsAt0 m d n h).2.2.2.2.2.2.2.2)
    (fun T (y : S128x1024.Idx) => dbsTile M T (y 0) (y 1)) (bias_reset I) (bias_step I) t e1 _).trans (dbs_tiles M _ _))
    (congrArg₂ (dbs M) (Fin.ext ?_) (Fin.ext ?_))
  all_goals blk_simp [idx' t]

end KerSide
-- ==== Proof.RefSaved.lean ====
module

public import proofs.«01_k».proof.Proof.Model
public import proofs.«01_k».proof.Proof.Gen.ReferenceIdeal.Read
public import Idealize.ShloMosaic.Lib.Pointwise

/-!
What the reference's forward pass leaves for its backward pass, as the model's `Saved`: each field
is one operation of the reference, read at a row of the flat token axis.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

/-- The reference's ten arguments, as arrays of extended reals. -/
structure Args where
  /-- the layer's input -/
  x0 : FVec Ideal S4x2048x1024 .f32
  /-- the root-mean-square norm's scale -/
  x1 : FVec Ideal S1024 .f32
  /-- the input product's weight -/
  x2 : FVec Ideal S1024x7168 .f32
  /-- the convolution's taps -/
  x3 : FVec Ideal S3x1024 .f32
  /-- the layer norm's scale -/
  x4 : FVec Ideal S1024 .f32
  /-- the layer norm's shift -/
  x5 : FVec Ideal S1024 .f32
  /-- the mixing weights -/
  x6 : FVec Ideal S8x128x128 .f32
  /-- the mixing biases -/
  x7 : FVec Ideal S8x128 .f32
  /-- the output product's weight -/
  x8 : FVec Ideal S1024x1024 .f32
  /-- the incoming gradient -/
  x9 : FVec Ideal S4x2048x1024 .f32

variable (A : Args)

/-- An array of four sequences read at a flat row. -/
def atRow (f : FVec Ideal S4x2048x1024 .f32) (R : Fin 8192) (k : Fin 1024) : EReal :=
  f (ix3 (bOf R) (sOf R) k)

/-- What the reference's forward pass leaves for its backward pass. -/
def saved : Saved where
  x := atRow A.x0
  b := atRow (val_main_v17 (F := Ideal) A.x0 A.x1 A.x2)
  c := atRow (val_main_v18 (F := Ideal) A.x0 A.x1 A.x2)
  xi := atRow (val_main_v19 (F := Ideal) A.x0 A.x1 A.x2)
  u := atRow (val_main_v20 (F := Ideal) A.x0 A.x1 A.x2)
  v := atRow (val_main_v21 (F := Ideal) A.x0 A.x1 A.x2)
  conv := atRow (val_main_v47 (F := Ideal) A.x0 A.x1 A.x2 A.x3)
  mixed := atRow (val_main_v86 (F := Ideal) A.x0 A.x1 A.x2 A.x4 A.x5 A.x6 A.x7)
  vn := atRow (val_main_v73 (F := Ideal) A.x0 A.x1 A.x2 A.x4 A.x5)
  sa := atRow (val_main_v93 (F := Ideal) A.x0 A.x1 A.x2)
  sb := atRow (val_main_v103 (F := Ideal) A.x0 A.x1 A.x2)
  ct := atRow A.x9
  wo := fun k j => A.x8 (ix2 k j)
  win := fun k q => A.x2 (ix2 k q)
  cw := fun a k => A.x3 (ix2 a k)
  lg := fun k => A.x4 (ix1 k)
  g := fun k => A.x1 (ix1 k)
  ws := fun g i j => A.x6 (ix3 g i j)

end RefSide
-- ==== Proof.KerHost.lean ====
module

public import proofs.«01_k».proof.Proof.RefSaved
public import proofs.«01_k».proof.Proof.KerInputs

/-!
What the kernel finds in its nine arguments when it starts: the host operations before it compute the
same forward pass the reference does, so each buffer is one of the reference's values, and the kept
rows are ten of them side by side.
-/

@[expose] public section

set_option maxRecDepth 16384

noncomputable section

open Idealize.ShloMosaic Idealize.ShloMosaic.TcCoe Idealize.SL.Sem Idealize.ShloMosaic.Tactic
open Cert.KernelIdeal Cert.KernelIdeal.Gen
open Rows Model

namespace KerSide

variable (m : (ℓ : Loc nD τ sig) → Buf (Elt Ideal) ℓ) (d : Dev nD)

/-- The kernel side's ten arguments, as the reference's. -/
def args : RefSide.Args where
  x0 := m ((d : Thread nD τ).loc main_arg0)
  x1 := m ((d : Thread nD τ).loc main_arg1)
  x2 := m ((d : Thread nD τ).loc main_arg2)
  x3 := m ((d : Thread nD τ).loc main_arg3)
  x4 := m ((d : Thread nD τ).loc main_arg4)
  x5 := m ((d : Thread nD τ).loc main_arg5)
  x6 := m ((d : Thread nD τ).loc main_arg6)
  x7 := m ((d : Thread nD τ).loc main_arg7)
  x8 := m ((d : Thread nD τ).loc main_arg8)
  x9 := m ((d : Thread nD τ).loc main_arg9)

/-- The host operations up to the end of the mask of the mixing weights. -/
abbrev early : List (HloOp τ sig (Elt Ideal)) := hostOps0 ++ hostOps0_1

/-- The host operations after that. -/
abbrev late : List (HloOp τ sig (Elt Ideal)) := hostOps0_2 ++ (hostOps0_3 ++ hostOps0_4)

/-- What the kernel finds, as the later host operations on what the earlier ones leave. -/
theorem entry_late (b : Ref sig .tc) :
    V m d b = StableHlo.after late (StableHlo.after early (fun b => m (d, b))) (Proc.devRef .tc b) := by
  rw [← StableHlo.after_append]; rfl

/-- The first column group, as the reference computes it. -/
theorem entry_b : V m d main_v14
    = Cert.ReferenceIdeal.Read.val_main_v17 (F := Ideal) (args m d).x0 (args m d).x1 (args m d).x2 := rfl

/-- The second column group, as the reference computes it. -/
theorem entry_c : V m d main_v15
    = Cert.ReferenceIdeal.Read.val_main_v18 (F := Ideal) (args m d).x0 (args m d).x1 (args m d).x2 := rfl

/-- The third column group, as the reference computes it. -/
theorem entry_xi : V m d main_v16
    = Cert.ReferenceIdeal.Read.val_main_v19 (F := Ideal) (args m d).x0 (args m d).x1 (args m d).x2 := rfl

/-- The fourth column group, as the reference computes it. -/
theorem entry_u : V m d main_v17
    = Cert.ReferenceIdeal.Read.val_main_v20 (F := Ideal) (args m d).x0 (args m d).x1 (args m d).x2 := rfl

/-- The fifth column group, as the reference computes it. -/
theorem entry_v : V m d main_v18
    = Cert.ReferenceIdeal.Read.val_main_v21 (F := Ideal) (args m d).x0 (args m d).x1 (args m d).x2 := rfl

/-- The causal convolution, as the reference computes it. -/
theorem entry_conv : V m d main_v43
    = Cert.ReferenceIdeal.Read.val_main_v47 (F := Ideal) (args m d).x0 (args m d).x1 (args m d).x2 (args m d).x3 := rfl

/-- The layer norm's rows, as the reference computes them. -/
theorem entry_vn : V m d main_v65
    = Cert.ReferenceIdeal.Read.val_main_v73 (F := Ideal) (args m d).x0 (args m d).x1 (args m d).x2 (args m d).x4 (args m d).x5 := rfl

/-- The first gate, as the reference computes it. -/
theorem entry_sa : V m d main_v84
    = Cert.ReferenceIdeal.Read.val_main_v93 (F := Ideal) (args m d).x0 (args m d).x1 (args m d).x2 := rfl

/-- The second gate, as the reference computes it. -/
theorem entry_sb : V m d main_v90
    = Cert.ReferenceIdeal.Read.val_main_v103 (F := Ideal) (args m d).x0 (args m d).x1 (args m d).x2 := rfl

/-- The mixing weights `w`, zero where a place would mix in a later one. -/
def maskOf (w : FVec Ideal S8x128x128 .f32) : FVec Ideal S8x128x128 .f32 :=
  (select (broadcastInDim S8x128x128 ![0, 1, 2] bcast_S1x128x128_S8x128x128_0_1_2
        (broadcastInDim S1x128x128 ![1, 2] bcast_S128x128_S1x128x128_1_2
          (cmpi .sge (iotaInDim S128x128 32 0) (iotaInDim S128x128 32 1)))) w
      (broadcastInDim S8x128x128 ![] bcast_S_S8x128x128 (constant S_ .f32 0x00000000#32)))

/-- The mixing of the layer norm's rows `f` along each chunk, with the masked weights `w` and the biases `s`. -/
def mixOf (f : FVec Ideal S4x2048x1024 .f32) (w : FVec Ideal S8x128x128 .f32)
    (s : FVec Ideal S8x128 .f32) : FVec Ideal S4x2048x1024 .f32 :=
  shapeCast S4x2048x1024
    (addf
      (transpose S4x16x128x8x128 [1, 2, 4, 0, 3]
        (Host.dotGeneral (F := Ideal) dot_S4x16x128x8x128_S8x128x128_S8x4x16x128x128_2_2_014_1_3_0 none
          (shapeCast S4x16x128x8x128 f shapeCasts_S4x2048x1024_S4x16x128x8x128)
          w)
        transposes_S8x4x16x128x128_S4x16x128x8x128_1_2_4_0_3)
      (broadcastInDim S4x16x128x8x128 ![0, 1, 2, 3, 4] bcast_S1x1x128x8x1_S4x16x128x8x128_0_1_2_3_4
        (broadcastInDim S1x1x128x8x1 ![2, 3] bcast_S128x8_S1x1x128x8x1_2_3
          (transpose S128x8 [1, 0] s transposes_S8x128_S128x8_1_0))))
    shapeCasts_S4x16x128x8x128_S4x2048x1024

/-- What the earlier operations leave, in terms of what the whole host line leaves. -/
theorem early_mask : StableHlo.after early (fun b => m (d, b)) (Proc.devRef .tc main_v71) = maskOf (args m d).x6 := by
  simp only [early, hostOps0, hostOps0_1, List.cons_append, List.nil_append]
  after_results_simp
  rfl

/-- The mixed rows' reshaped operand is the layer norm's rows. -/
theorem early_rows : StableHlo.after early (fun b => m (d, b)) (Proc.devRef .tc main_v66)
    = shapeCast S4x16x128x8x128 (show Vec Ideal S4x2048x1024 .f32 from
        StableHlo.after early (fun b => m (d, b)) (Proc.devRef .tc main_v65)) shapeCasts_S4x2048x1024_S4x16x128x8x128 := by
  simp only [early, hostOps0, hostOps0_1, List.cons_append, List.nil_append]
  after_results_simp
  rfl

/-- The later operations' mixed rows. -/
theorem late_mixed (W : Valuation τ sig (Elt Ideal)) (f : FVec Ideal S4x2048x1024 .f32) (w : FVec Ideal S8x128x128 .f32)
    (s : FVec Ideal S8x128 .f32)
    (h66 : W (Proc.devRef .tc main_v66) = shapeCast S4x16x128x8x128 f shapeCasts_S4x2048x1024_S4x16x128x8x128)
    (h71 : W (Proc.devRef .tc main_v71) = w) (h7 : W (Proc.devRef .tc main_arg7) = s) :
    StableHlo.after late W (Proc.devRef .tc main_v78) = mixOf f w s := by
  simp only [late, hostOps0_2, hostOps0_3, hostOps0_4, List.cons_append, List.nil_append]
  after_results_simp
  rw [h66, h71, h7]
  rfl

/-- The mixed rows, as the reference computes them. -/
theorem entry_mixed : V m d main_v78
    = Cert.ReferenceIdeal.Read.val_main_v86 (F := Ideal) (args m d).x0 (args m d).x1 (args m d).x2 (args m d).x4
        (args m d).x5 (args m d).x6 (args m d).x7 := by
  rw [entry_late m d main_v78, late_mixed _ _ _ _ (early_rows m d) (early_mask m d) rfl]
  rw [show (StableHlo.after early (fun b => m (d, b)) (Proc.devRef .tc main_v65)) = V m d main_v65 from by
    rw [entry_late m d main_v65]
    generalize StableHlo.after early (fun b => m (d, b)) = W
    simp only [late, hostOps0_2, hostOps0_3, hostOps0_4, List.cons_append, List.nil_append]
    after_results_simp]
  rw [show V m d main_v65 = Cert.ReferenceIdeal.Read.val_main_v73 (F := Ideal) (args m d).x0 (args m d).x1 (args m d).x2
    (args m d).x4 (args m d).x5 from entry_vn m d]
  rfl

/-- Ten arrays side by side, as the host lays out the kept rows. -/
def catOf (f0 f1 f2 f3 f4 f5 f6 f7 f8 f9 : FVec Ideal S4x2048x1024 .f32) : FVec Ideal S8192x10240 .bf16 :=
  truncf .bf16 (shapeCast S8192x10240 (concatenate S4x2048x10240 2 [⟨S4x2048x1024, f0⟩, ⟨S4x2048x1024, f1⟩, ⟨S4x2048x1024, f2⟩, ⟨S4x2048x1024, f3⟩, ⟨S4x2048x1024, f4⟩, ⟨S4x2048x1024, f5⟩, ⟨S4x2048x1024, f6⟩, ⟨S4x2048x1024, f7⟩, ⟨S4x2048x1024, f8⟩, ⟨S4x2048x1024, f9⟩]
    concatenates_S4x2048x1024_S4x2048x1024_S4x2048x1024_S4x2048x1024_S4x2048x1024_S4x2048x1024_S4x2048x1024_S4x2048x1024_S4x2048x1024_S4x2048x1024_S4x2048x10240_d2) shapeCasts_S4x2048x10240_S8192x10240) bitsLt_bf16_f32

/-- The kept rows are ten of the host's arrays side by side. -/
theorem entry_kept : V m d main_v93 = catOf (V m d main_v14) (V m d main_v15) (V m d main_v16) (V m d main_v17) (V m d main_v18) (V m d main_v43) (V m d main_v78) (V m d main_v65) (V m d main_v84) (V m d main_v90) := by
  rw [entry_late m d main_v93, entry_late m d main_v14, entry_late m d main_v15, entry_late m d main_v16, entry_late m d main_v17, entry_late m d main_v18, entry_late m d main_v43, entry_late m d main_v78, entry_late m d main_v65, entry_late m d main_v84, entry_late m d main_v90]
  generalize StableHlo.after early (fun b => m (d, b)) = W
  simp only [late, hostOps0_2, hostOps0_3, hostOps0_4, List.cons_append, List.nil_append]
  after_results_simp
  try dsimp only [Matrix.cons_val]
  try after_results_simp
  rfl

section

variable (f0 f1 f2 f3 f4 f5 f6 f7 f8 f9 : FVec Ideal S4x2048x1024 .f32) (R : Fin 8192) (k : Fin 1024)

/-- The zeroth of ten arrays side by side. -/
theorem cat_0 : catOf f0 f1 f2 f3 f4 f5 f6 f7 f8 f9 (ix2 R ⟨(0 : Fin 10).val * 1024 + k.val, by omega⟩)
    = RefSide.atRow f0 R k := by
  pointwise [catOf, RefSide.atRow, bOf, sOf]

/-- The first of ten arrays side by side. -/
theorem cat_1 : catOf f0 f1 f2 f3 f4 f5 f6 f7 f8 f9 (ix2 R ⟨(1 : Fin 10).val * 1024 + k.val, by omega⟩)
    = RefSide.atRow f1 R k := by
  pointwise [catOf, RefSide.atRow, bOf, sOf]

/-- The second of ten arrays side by side. -/
theorem cat_2 : catOf f0 f1 f2 f3 f4 f5 f6 f7 f8 f9 (ix2 R ⟨(2 : Fin 10).val * 1024 + k.val, by omega⟩)
    = RefSide.atRow f2 R k := by
  pointwise [catOf, RefSide.atRow, bOf, sOf]
  rw [dif_neg (by omega), dif_neg (by omega)]
  rw [dif_pos (by omega)]
  exact congrArg _ (congrArg (ix3 _ _) (Fin.ext (by dsimp only; omega)))

/-- The third of ten arrays side by side. -/
theorem cat_3 : catOf f0 f1 f2 f3 f4 f5 f6 f7 f8 f9 (ix2 R ⟨(3 : Fin 10).val * 1024 + k.val, by omega⟩)
    = RefSide.atRow f3 R k := by
  pointwise [catOf, RefSide.atRow, bOf, sOf]
  rw [dif_neg (by omega), dif_neg (by omega), dif_neg (by omega)]
  rw [dif_pos (by omega)]
  exact congrArg _ (congrArg (ix3 _ _) (Fin.ext (by dsimp only; omega)))

/-- The fourth of ten arrays side by side. -/
theorem cat_4 : catOf f0 f1 f2 f3 f4 f5 f6 f7 f8 f9 (ix2 R ⟨(4 : Fin 10).val * 1024 + k.val, by omega⟩)
    = RefSide.atRow f4 R k := by
  pointwise [catOf, RefSide.atRow, bOf, sOf]
  rw [dif_neg (by omega), dif_neg (by omega), dif_neg (by omega), dif_neg (by omega)]
  rw [dif_pos (by omega)]
  exact congrArg _ (congrArg (ix3 _ _) (Fin.ext (by dsimp only; omega)))

/-- The fifth of ten arrays side by side. -/
theorem cat_5 : catOf f0 f1 f2 f3 f4 f5 f6 f7 f8 f9 (ix2 R ⟨(5 : Fin 10).val * 1024 + k.val, by omega⟩)
    = RefSide.atRow f5 R k := by
  pointwise [catOf, RefSide.atRow, bOf, sOf]
  rw [dif_neg (by omega), dif_neg (by omega), dif_neg (by omega), dif_neg (by omega), dif_neg (by omega)]
  rw [dif_pos (by omega)]
  exact congrArg _ (congrArg (ix3 _ _) (Fin.ext (by dsimp only; omega)))

/-- The sixth of ten arrays side by side. -/
theorem cat_6 : catOf f0 f1 f2 f3 f4 f5 f6 f7 f8 f9 (ix2 R ⟨(6 : Fin 10).val * 1024 + k.val, by omega⟩)
    = RefSide.atRow f6 R k := by
  pointwise [catOf, RefSide.atRow, bOf, sOf]
  rw [dif_neg (by omega), dif_neg (by omega), dif_neg (by omega), dif_neg (by omega), dif_neg (by omega), dif_neg (by omega)]
  rw [dif_pos (by omega)]
  exact congrArg _ (congrArg (ix3 _ _) (Fin.ext (by dsimp only; omega)))

/-- The seventh of ten arrays side by side. -/
theorem cat_7 : catOf f0 f1 f2 f3 f4 f5 f6 f7 f8 f9 (ix2 R ⟨(7 : Fin 10).val * 1024 + k.val, by omega⟩)
    = RefSide.atRow f7 R k := by
  pointwise [catOf, RefSide.atRow, bOf, sOf]
  rw [dif_neg (by omega), dif_neg (by omega), dif_neg (by omega), dif_neg (by omega), dif_neg (by omega), dif_neg (by omega), dif_neg (by omega)]
  rw [dif_pos (by omega)]
  exact congrArg _ (congrArg (ix3 _ _) (Fin.ext (by dsimp only; omega)))

/-- The eighth of ten arrays side by side. -/
theorem cat_8 : catOf f0 f1 f2 f3 f4 f5 f6 f7 f8 f9 (ix2 R ⟨(8 : Fin 10).val * 1024 + k.val, by omega⟩)
    = RefSide.atRow f8 R k := by
  pointwise [catOf, RefSide.atRow, bOf, sOf]
  rw [dif_neg (by omega), dif_neg (by omega), dif_neg (by omega), dif_neg (by omega), dif_neg (by omega), dif_neg (by omega), dif_neg (by omega), dif_neg (by omega)]
  rw [dif_pos (by omega)]
  exact congrArg _ (congrArg (ix3 _ _) (Fin.ext (by dsimp only; omega)))

/-- The ninth of ten arrays side by side. -/
theorem cat_9 : catOf f0 f1 f2 f3 f4 f5 f6 f7 f8 f9 (ix2 R ⟨(9 : Fin 10).val * 1024 + k.val, by omega⟩)
    = RefSide.atRow f9 R k := by
  pointwise [catOf, RefSide.atRow, bOf, sOf]
  rw [dif_neg (by omega), dif_neg (by omega), dif_neg (by omega), dif_neg (by omega), dif_neg (by omega), dif_neg (by omega), dif_neg (by omega), dif_neg (by omega), dif_neg (by omega)]
  exact congrArg _ (congrArg (ix3 _ _) (Fin.ext (by dsimp only; omega)))

end

/-- The incoming gradient. -/
theorem e_ct (R : Fin 8192) (k : Fin 1024) :
    (show Vec Ideal S8192x1024 .f32 from V m d main_v97) (ix2 R k)
    = (RefSide.saved (args m d)).ct R k := by
  rw [show V m d main_v97 = shapeCast S8192x1024 (args m d).x9 shapeCasts_S4x2048x1024_S8192x1024 from rfl]
  pointwise [RefSide.saved, RefSide.atRow, bOf, sOf]

/-- The layer's input. -/
theorem e_x (R : Fin 8192) (k : Fin 1024) :
    (show Vec Ideal S8192x1024 .f32 from V m d main_v102) (ix2 R k)
    = (RefSide.saved (args m d)).x R k := by
  rw [show V m d main_v102 = shapeCast S8192x1024 (args m d).x0 shapeCasts_S4x2048x1024_S8192x1024 from rfl]
  pointwise [RefSide.saved, RefSide.atRow, bOf, sOf]

/-- The output product's weight. -/
theorem e_wo (k j : Fin 1024) : (show Vec Ideal S1024x1024 .bf16 from V m d main_v98) (ix2 k j)
    = (RefSide.saved (args m d)).wo k j := by
  rw [show V m d main_v98 = truncf (φ := .f32) .bf16 (args m d).x8 bitsLt_bf16_f32 from rfl]
  pointwise [RefSide.saved]

/-- The taps, padded to eight rows. -/
theorem e_cw (a : Fin 3) (k : Fin 1024) :
    (show Vec Ideal S8x1024 .f32 from V m d main_v99) (ix2 ⟨a.val, by omega⟩ k)
    = (RefSide.saved (args m d)).cw a k := by
  rw [show V m d main_v99 = pad S8x1024 ![0, 0] ![5, 0] ![0, 0] (args m d).x3
    (show Vec Ideal S_ .f32 from sitofp (F := Ideal) .f32 (constantI S_ 32 0#32))
    pads_S3x1024_S8x1024_050_000 h_S_ from rfl]
  pointwise [RefSide.saved]

/-- The layer norm's scale. -/
theorem e_lg (k : Fin 1024) : (show Vec Ideal S1x1024 .f32 from V m d main_v100) (ix2 0 k)
    = (RefSide.saved (args m d)).lg k := by
  rw [show V m d main_v100 = broadcastInDim S1x1024 ![1] bcast_S1024_S1x1024_1 (args m d).x4 from rfl]
  pointwise [RefSide.saved]

/-- The root-mean-square norm's scale. -/
theorem e_g (k : Fin 1024) : (show Vec Ideal S1x1024 .f32 from V m d main_v103) (ix2 0 k)
    = (RefSide.saved (args m d)).g k := by
  rw [show V m d main_v103 = broadcastInDim S1x1024 ![1] bcast_S1024_S1x1024_1 (args m d).x1 from rfl]
  pointwise [RefSide.saved]

/-- The mixing weights, each group's matrix transposed. -/
theorem e_ws (g : Fin 8) (i j : Fin 128) : (show Vec Ideal S8x128x128 .f32 from V m d main_v101) (ix3 g j i)
    = (RefSide.saved (args m d)).ws g i j := by
  rw [show V m d main_v101 = transpose S8x128x128 [0, 2, 1] (args m d).x6 transposes_S8x128x128_S8x128x128_0_2_1 from rfl]
  pointwise [RefSide.saved]

/-- The input product's weight, in eight column groups. -/
theorem e_win (a : Fin 8) (k : Fin 1024) (q : Fin 896) :
    (show Vec Ideal S8x1024x896 .bf16 from V m d main_v96) (ix3 a k q)
    = (RefSide.saved (args m d)).win k ⟨a.val * 896 + q.val, by omega⟩ := by
  rw [show V m d main_v96 = truncf (φ := .f32) .bf16
    (transpose S8x1024x896 [1, 0, 2] (shapeCast S1024x8x896 (args m d).x2 shapeCasts_S1024x7168_S1024x8x896)
      transposes_S1024x8x896_S8x1024x896_1_0_2) bitsLt_bf16_f32 from rfl]
  pointwise [RefSide.saved]

/-- The kept rows are ten of the reference's values side by side. -/
theorem entry_rows : V m d main_v93 = catOf
    (Cert.ReferenceIdeal.Read.val_main_v17 (F := Ideal) (args m d).x0 (args m d).x1 (args m d).x2)
    (Cert.ReferenceIdeal.Read.val_main_v18 (F := Ideal) (args m d).x0 (args m d).x1 (args m d).x2)
    (Cert.ReferenceIdeal.Read.val_main_v19 (F := Ideal) (args m d).x0 (args m d).x1 (args m d).x2)
    (Cert.ReferenceIdeal.Read.val_main_v20 (F := Ideal) (args m d).x0 (args m d).x1 (args m d).x2)
    (Cert.ReferenceIdeal.Read.val_main_v21 (F := Ideal) (args m d).x0 (args m d).x1 (args m d).x2)
    (Cert.ReferenceIdeal.Read.val_main_v47 (F := Ideal) (args m d).x0 (args m d).x1 (args m d).x2 (args m d).x3)
    (Cert.ReferenceIdeal.Read.val_main_v86 (F := Ideal) (args m d).x0 (args m d).x1 (args m d).x2 (args m d).x4 (args m d).x5 (args m d).x6 (args m d).x7)
    (Cert.ReferenceIdeal.Read.val_main_v73 (F := Ideal) (args m d).x0 (args m d).x1 (args m d).x2 (args m d).x4 (args m d).x5)
    (Cert.ReferenceIdeal.Read.val_main_v93 (F := Ideal) (args m d).x0 (args m d).x1 (args m d).x2)
    (Cert.ReferenceIdeal.Read.val_main_v103 (F := Ideal) (args m d).x0 (args m d).x1 (args m d).x2) := by
  rw [entry_kept, entry_b, entry_c, entry_xi, entry_u, entry_v, entry_conv, entry_mixed, entry_vn, entry_sa, entry_sb]

/-- The kernel finds what the reference's forward pass leaves. -/
theorem inputs : Inputs m d (RefSide.saved (args m d)) where
  ct := e_ct m d
  b := fun R k => (congrFun (entry_rows m d) _).trans (cat_0 _ _ _ _ _ _ _ _ _ _ R k)
  c := fun R k => (congrFun (entry_rows m d) _).trans (cat_1 _ _ _ _ _ _ _ _ _ _ R k)
  xi := fun R k => (congrFun (entry_rows m d) _).trans (cat_2 _ _ _ _ _ _ _ _ _ _ R k)
  u := fun R k => (congrFun (entry_rows m d) _).trans (cat_3 _ _ _ _ _ _ _ _ _ _ R k)
  v := fun R k => (congrFun (entry_rows m d) _).trans (cat_4 _ _ _ _ _ _ _ _ _ _ R k)
  conv := fun R k => (congrFun (entry_rows m d) _).trans (cat_5 _ _ _ _ _ _ _ _ _ _ R k)
  mixed := fun R k => (congrFun (entry_rows m d) _).trans (cat_6 _ _ _ _ _ _ _ _ _ _ R k)
  vn := fun R k => (congrFun (entry_rows m d) _).trans (cat_7 _ _ _ _ _ _ _ _ _ _ R k)
  sa := fun R k => (congrFun (entry_rows m d) _).trans (cat_8 _ _ _ _ _ _ _ _ _ _ R k)
  sb := fun R k => (congrFun (entry_rows m d) _).trans (cat_9 _ _ _ _ _ _ _ _ _ _ R k)
  wo := e_wo m d
  cw := e_cw m d
  lg := e_lg m d
  ws := e_ws m d
  win := e_win m d
  x := e_x m d
  g := e_g m d

end KerSide
-- ==== Proof.RefStages.lean ====
module

public import proofs.«01_k».proof.Proof.RefSaved

/-!
The reference's backward pass, operation by operation, is the model's: the products before the
norms, at a row of the flat token axis.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

variable (A : Args) (R : Fin 8192) (k : Fin 1024)

/-- The flat row of a place of a sequence. -/
def flat (b : Fin 4) (s : Fin 2048) : Fin 8192 := ⟨b.val * 2048 + s.val, by omega⟩

/-- Its sequence. -/
theorem bOf_flat (b : Fin 4) (s : Fin 2048) : bOf (flat b s) = b :=
  Fin.ext (by show (b.val * 2048 + s.val) / 2048 = b.val; omega)

/-- Its place. -/
theorem sOf_flat (b : Fin 4) (s : Fin 2048) : sOf (flat b s) = s :=
  Fin.ext (by show (b.val * 2048 + s.val) % 2048 = s.val; omega)

/-- A statement at every flat row, at a place of a sequence. -/
theorem at_flat {f : FVec Ideal S4x2048x1024 .f32} {g : Fin 8192 → Fin 1024 → EReal}
    (h : ∀ R k, f (ix3 (bOf R) (sOf R) k) = g R k) (b : Fin 4) (s : Fin 2048) (k : Fin 1024) :
    f (ix3 b s k) = g (flat b s) k := by
  have := h (flat b s) k
  rwa [bOf_flat, sOf_flat] at this

/-- The output product backwards. -/
theorem ref_dm : val_main_v110 (F := Ideal) A.x8 A.x9 (ix3 (bOf R) (sOf R) k) = dm (saved A) R k := by
  pointwise [val_main_v110]
  rfl

/-- The first branch's gradient. -/
theorem ref_dya : val_main_v114 (F := Ideal) A.x0 A.x1 A.x2 A.x8 A.x9 (ix3 (bOf R) (sOf R) k)
    = dya (saved A) R k := by
  pointwise [val_main_v114, ref_dm]
  exact mul_comm _ _

/-- The second branch's gradient. -/
theorem ref_dyb : val_main_v111 (F := Ideal) A.x0 A.x1 A.x2 A.x8 A.x9 (ix3 (bOf R) (sOf R) k)
    = dyb (saved A) R k := by
  pointwise [val_main_v111, ref_dm]
  exact mul_comm _ _

/-- The first gate. -/
theorem ref_dga : val_main_v116 (F := Ideal) A.x0 A.x1 A.x2 A.x3 A.x8 A.x9 (ix3 (bOf R) (sOf R) k)
    = dga (saved A) R k := by
  pointwise [val_main_v116, val_main_v115, val_main_v96, val_main_v95, val_main_v94,
    val_main_cst_14, val_main_v48, ref_dm]
  rfl

/-- The second gate. -/
theorem ref_dgb : val_main_v113 (F := Ideal) A.x0 A.x1 A.x2 A.x4 A.x5 A.x6 A.x7 A.x8 A.x9
    (ix3 (bOf R) (sOf R) k) = dgb (saved A) R k := by
  pointwise [val_main_v113, val_main_v112, val_main_v106, val_main_v105, val_main_v104,
    val_main_cst_17, val_main_v87, ref_dm]
  rfl

/-- The gradient of `b`. -/
theorem ref_db : val_main_v162 (F := Ideal) A.x0 A.x1 A.x2 A.x3 A.x8 A.x9 (ix3 (bOf R) (sOf R) k)
    = db (saved A) R k := by
  pointwise [val_main_v162, ref_dya]
  rfl

/-- The gradient of the convolution. -/
theorem ref_dconv : val_main_v161 (F := Ideal) A.x0 A.x1 A.x2 A.x8 A.x9 (ix3 (bOf R) (sOf R) k)
    = dconv (saved A) R k := by
  pointwise [val_main_v161, ref_dya]
  exact mul_comm _ _

/-- The gradient of `u`. -/
theorem ref_du : val_main_v118 (F := Ideal) A.x0 A.x1 A.x2 A.x4 A.x5 A.x6 A.x7 A.x8 A.x9
    (ix3 (bOf R) (sOf R) k) = du (saved A) R k := by
  pointwise [val_main_v118, ref_dyb]
  rfl

/-- The gradient of the mixed rows. -/
theorem ref_dmx : val_main_v117 (F := Ideal) A.x0 A.x1 A.x2 A.x8 A.x9 (ix3 (bOf R) (sOf R) k)
    = dmx (saved A) R k := by
  pointwise [val_main_v117, ref_dyb]
  exact mul_comm _ _

end RefSide
-- ==== Proof.RefConv.lean ====
module

public import proofs.«01_k».proof.Proof.RefStages

/-!
The reference's backward pass through the convolution: three shifted arrays added over the padded
sequence, which is the model's sum over later rows.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

variable (A : Args) (R : Fin 8192) (k : Fin 1024)

/-- The gradient of `c * xi`. -/
theorem ref_dcx : val_main_v195 (F := Ideal) A.x0 A.x1 A.x2 A.x3 A.x8 A.x9 (ix3 (bOf R) (sOf R) k)
    = dcx (saved A) R k := by
  pointwise [val_main_v195, val_main_v193, val_main_v182, val_main_v171, val_main_v181, val_main_v192,
    val_main_v167, val_main_v176, val_main_v187, val_main_v166, val_main_v175, val_main_v186,
    val_main_v44, val_main_v43, val_main_v42, val_main_v37, val_main_v36, val_main_v35,
    val_main_v31, val_main_v30, val_main_v29, val_main_cst_33, val_main_cst_37, val_main_cst_41]
  have e1 : (if h : 1 ≤ 2 + (sOf R).val ∧ 2 + (sOf R).val - 1 < 2048 then
        val_main_v161 (F := Ideal) A.x0 A.x1 A.x2 A.x8 A.x9 (ix3 (bOf R) ⟨2 + (sOf R).val - 1, h.2⟩ k)
          * A.x3 (ix2 1 k) else 0) = later (dconv (saved A)) 1 R k * (saved A).cw 1 k := by
    have hs : (sOf R).val = R.val % 2048 := rfl
    have hb : (bOf R).val = R.val / 2048 := rfl
    unfold later
    by_cases h : R.val % 2048 + 1 < 2048
    · rw [dif_pos h, dif_pos (by omega), at_flat (ref_dconv A)]
      refine congrArg (· * _) (congrArg (dconv (saved A) · k) (Fin.ext ?_))
      show (bOf R).val * 2048 + (2 + (sOf R).val - 1) = R.val + 1
      omega
    · rw [dif_neg h, dif_neg (by omega), zero_mul]
  have e2 : (if h : 2 + (sOf R).val < 2048 then
        val_main_v161 (F := Ideal) A.x0 A.x1 A.x2 A.x8 A.x9 (ix3 (bOf R) ⟨2 + (sOf R).val, h⟩ k)
          * A.x3 (ix2 0 k) else 0) = later (dconv (saved A)) 2 R k * (saved A).cw 0 k := by
    have hs : (sOf R).val = R.val % 2048 := rfl
    have hb : (bOf R).val = R.val / 2048 := rfl
    unfold later
    by_cases h : R.val % 2048 + 2 < 2048
    · rw [dif_pos h, dif_pos (by omega), at_flat (ref_dconv A)]
      refine congrArg (· * _) (congrArg (dconv (saved A) · k) (Fin.ext ?_))
      show (bOf R).val * 2048 + (2 + (sOf R).val) = R.val + 2
      omega
    · rw [dif_neg h, dif_neg (by omega), zero_mul]
  refine (congrArg₂ (· + ·) (congrArg₂ (· + ·) ?_ e1) e2)
  rw [ref_dconv]; rfl

/-- The gradient of `c`. -/
theorem ref_dc : val_main_v197 (F := Ideal) A.x0 A.x1 A.x2 A.x3 A.x8 A.x9 (ix3 (bOf R) (sOf R) k)
    = dc (saved A) R k := by
  pointwise [val_main_v197, ref_dcx]
  rfl

/-- The gradient of `xi`. -/
theorem ref_dxi : val_main_v196 (F := Ideal) A.x0 A.x1 A.x2 A.x3 A.x8 A.x9 (ix3 (bOf R) (sOf R) k)
    = dxi (saved A) R k := by
  pointwise [val_main_v196, ref_dcx]
  exact mul_comm _ _

end RefSide
-- ==== Proof.RefMix.lean ====
module

public import proofs.«01_k».proof.Proof.RefStages
public import proofs.«01_k».proof.Proof.Sums

/-!
The reference's backward pass through the mixing product and the two norms.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

variable (A : Args) (R : Fin 8192) (k : Fin 1024)

/-- The gradient of the layer norm's rows. -/
theorem ref_dvn : val_main_v129 (F := Ideal) A.x0 A.x1 A.x2 A.x6 A.x8 A.x9 (ix3 (bOf R) (sOf R) k)
    = dvn (saved A) R k := by
  pointwise [val_main_v129, val_main_v127, val_main_v126, val_main_v124, val_main_v119, val_main_v79_0,
    val_main_v79_1, val_main_v78, val_main_v77, val_main_v76, val_main_v75, val_main_call0_v1, val_main_v79_2,val_main_call0_cst, val_main_cst_11]
  unfold dvn
  refine Finset.sum_congr rfl fun x _ => ?_
  rw [Sums.select_ge (by omega) (by omega), at_flat (ref_dmx A)]
  unfold wm
  have hs : (sOf R).val = R.val % 2048 := rfl
  have hb : (bOf R).val = R.val / 2048 := rfl
  have hp : (sOf R).val % 128 = (pos R).val := by show (sOf R).val % 128 = R.val % 128; omega
  have hR : flat (bOf R) ⟨(sOf R).val / 128 * 128 + x.val, by omega⟩ = mate R x := Fin.ext (by
    show (bOf R).val * 2048 + ((sOf R).val / 128 * 128 + x.val) = R.val / 128 * 128 + x.val
    omega)
  by_cases h : (sOf R).val % 128 ≤ x.val
  · rw [if_pos h, if_pos (by omega), mul_comm, hR]
    refine congrArg (· * _) (congrArg (fun p => A.x6 (ix3 (grp k) x p)) (Fin.ext hp))
  · rw [if_neg h, if_neg (by omega), zero_mul]

/-- The gradient of the normalised rows. -/
theorem ref_dvh : val_main_v137 (F := Ideal) A.x0 A.x1 A.x2 A.x4 A.x6 A.x8 A.x9 (ix3 (bOf R) (sOf R) k)
    = dvh (saved A) R k := by
  pointwise [val_main_v137, val_main_v136, val_main_v68, ref_dvn]
  rfl

end RefSide
-- ==== Proof.RefNorm.lean ====
module

public import proofs.«01_k».proof.Proof.RefConv
public import proofs.«01_k».proof.Proof.RefMix

/-!
The reference's backward pass through the two norms, and the products around them: the gradient of
the projection, of the normed input and of the input.  The norms' gradients are left in the
reference's own form (`normRef`, `lnRef`).
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

variable (A : Args) (R : Fin 8192) (k : Fin 1024)

/-- The layer norm's centred row. -/
theorem ref_xc : val_main_v54 (F := Ideal) A.x0 A.x1 A.x2 (ix3 (bOf R) (sOf R) k)
    = centred ((saved A).v R) k := by
  pointwise [val_main_v54, val_main_v53, val_main_v52, val_main_v51, val_main_v50, val_main_v49,
    val_main_cst_5, val_main_cst_6]
  rfl

/-- The layer norm's mean square plus its constant. -/
theorem ref_ms (z : Fin 1) : val_main_v61 (F := Ideal) A.x0 A.x1 A.x2 (ix3 (bOf R) (sOf R) z)
    = mean (fun j => centred ((saved A).v R) j * centred ((saved A).v R) j) + eps := by
  pointwise [val_main_v61, val_main_v60, val_main_v59, val_main_v58, val_main_v57, val_main_v56,
    val_main_v55, val_main_cst_7, val_main_cst_8, val_main_cst_9, ref_xc]
  rfl

/-- Its reciprocal root. -/
theorem ref_rstd (z : Fin 1) : val_main_v62 (F := Ideal) A.x0 A.x1 A.x2 (ix3 (bOf R) (sOf R) z)
    = rms (centred ((saved A).v R)) := by
  pointwise [val_main_v62, ref_ms]
  rfl

/-- The normalised row. -/
theorem ref_vhat : val_main_v67 (F := Ideal) A.x0 A.x1 A.x2 (ix3 (bOf R) (sOf R) k)
    = vhat (saved A) R k := by
  pointwise [val_main_v67, val_main_v66, ref_rstd, ref_xc]
  rfl

/-- The coefficient of the centred row in the layer norm's gradient. -/
theorem ref_coef : val_main_v147 (F := Ideal) A.x0 A.x1 A.x2 A.x4 A.x6 A.x8 A.x9 (ix2 (bOf R) (sOf R))
    = coef (centred ((saved A).v R)) (dvh (saved A) R) := by
  pointwise [val_main_v147, val_main_v146, val_main_v145, val_main_v144, val_main_v141, val_main_v140,
    val_main_v139, val_main_v65, val_main_v64, val_main_v63, val_main_cst_24, val_main_cst_25,
    val_main_cst_26, val_main_cst_10, ref_rstd, ref_ms, ref_xc, ref_dvh]
  simp only [zero_add, Finset.sum_const, Finset.card_univ, Fintype.card_fin, one_smul]
  rfl

/-- The gradient of the centred row. -/
theorem ref_dxc : val_main_v152 (F := Ideal) A.x0 A.x1 A.x2 A.x4 A.x6 A.x8 A.x9 (ix3 (bOf R) (sOf R) k)
    = normRef (centred ((saved A).v R)) (dvh (saved A) R) k := by
  pointwise [val_main_v152, val_main_v151, val_main_v150, val_main_v149, val_main_v148, val_main_v143,
    val_main_v142, ref_coef, ref_rstd, ref_xc, ref_dvh]
  rfl

/-- The gradient of `v`, in the reference's form. -/
theorem ref_dv : val_main_v160 (F := Ideal) A.x0 A.x1 A.x2 A.x4 A.x6 A.x8 A.x9 (ix3 (bOf R) (sOf R) k)
    = lnRef ((saved A).v R) (dvh (saved A) R) k := by
  pointwise [val_main_v160, val_main_v159, val_main_v158, val_main_v157, val_main_v156, val_main_v155,
    val_main_v154, val_main_v153, val_main_cst_27, val_main_cst_28, val_main_cst_29, ref_dxc]
  simp only [zero_add, Finset.sum_const, Finset.card_univ, Fintype.card_fin, one_smul]
  rfl

/-- The input's mean square plus the small constant. -/
theorem ref_ms0 (z : Fin 1) : val_main_v6 (F := Ideal) A.x0 (ix3 (bOf R) (sOf R) z)
    = mean (fun j => (saved A).x R j * (saved A).x R j) + eps := by
  pointwise [val_main_v6, val_main_v5, val_main_v4, val_main_v3, val_main_v2, val_main_v1,
    val_main_v0, val_main_cst, val_main_cst_0, val_main_cst_1]
  rfl

/-- Its reciprocal root. -/
theorem ref_rms0 (z : Fin 1) : val_main_v7 (F := Ideal) A.x0 (ix3 (bOf R) (sOf R) z)
    = rms ((saved A).x R) := by
  pointwise [val_main_v7, ref_ms0]
  rfl

/-- The gradient of the projection, its seven column groups side by side; the layer norm's in the
    reference's form. -/
theorem ref_dproj (hv : ∀ k, lnRef ((saved A).v R) (dvh (saved A) R) k = dv (saved A) R k)
    (q : Fin 7168) :
    val_main_v198 (F := Ideal) A.x0 A.x1 A.x2 A.x3 A.x4 A.x5 A.x6 A.x7 A.x8 A.x9 (ix3 (bOf R) (sOf R) q)
      = dproj (saved A) R q := by
  pointwise [val_main_v198, ref_db, ref_dc, ref_dxi, ref_du, ref_dv, ref_dga, ref_dgb]
  unfold dproj
  by_cases h0 : q.val < 1024
  · rw [dif_pos (show q.val < 1024 by omega), dif_pos h0]
  rw [dif_neg (show ¬ q.val < 1024 by omega), dif_neg h0]
  by_cases h1 : q.val < 2048
  · rw [dif_pos (show q.val - 1024 < 1024 by omega), dif_pos h1]
  rw [dif_neg (show ¬ q.val - 1024 < 1024 by omega), dif_neg h1]
  by_cases h2 : q.val < 3072
  · rw [dif_pos (show q.val - 1024 - 1024 < 1024 by omega), dif_pos h2]
    exact congrArg (dxi (saved A) R) (Fin.ext (by show q.val - 1024 - 1024 = q.val - 2048; omega))
  rw [dif_neg (show ¬ q.val - 1024 - 1024 < 1024 by omega), dif_neg h2]
  by_cases h3 : q.val < 4096
  · rw [dif_pos (show q.val - 1024 - 1024 - 1024 < 1024 by omega), dif_pos h3]
    exact congrArg (du (saved A) R) (Fin.ext (by show q.val - 1024 - 1024 - 1024 = q.val - 3072; omega))
  rw [dif_neg (show ¬ q.val - 1024 - 1024 - 1024 < 1024 by omega), dif_neg h3]
  by_cases h4 : q.val < 5120
  · rw [dif_pos (show q.val - 1024 - 1024 - 1024 - 1024 < 1024 by omega), dif_pos h4]
    rw [hv]
    exact congrArg (dv (saved A) R) (Fin.ext (by show q.val - 1024 - 1024 - 1024 - 1024 = q.val - 4096; omega))
  rw [dif_neg (show ¬ q.val - 1024 - 1024 - 1024 - 1024 < 1024 by omega), dif_neg h4]
  by_cases h5 : q.val < 6144
  · rw [dif_pos (show q.val - 1024 - 1024 - 1024 - 1024 - 1024 < 1024 by omega), dif_pos h5]
    exact congrArg (dga (saved A) R) (Fin.ext (by show q.val - 1024 - 1024 - 1024 - 1024 - 1024 = q.val - 5120; omega))
  rw [dif_neg (show ¬ q.val - 1024 - 1024 - 1024 - 1024 - 1024 < 1024 by omega), dif_neg h5]
  exact congrArg (dgb (saved A) R) (Fin.ext (by show q.val - 1024 - 1024 - 1024 - 1024 - 1024 - 1024 = q.val - 6144; omega))

/-- The gradient of the normed input. -/
theorem ref_dh (hv : ∀ k, lnRef ((saved A).v R) (dvh (saved A) R) k = dv (saved A) R k) :
    val_main_v199 (F := Ideal) A.x0 A.x1 A.x2 A.x3 A.x4 A.x5 A.x6 A.x7 A.x8 A.x9 (ix3 (bOf R) (sOf R) k)
      = dh (saved A) R k := by
  pointwise [val_main_v199]
  unfold dh
  exact Finset.sum_congr rfl fun q _ => by rw [ref_dproj A R hv]; rfl

/-- The gradient of the normed input before its scale. -/
theorem ref_dn (hv : ∀ k, lnRef ((saved A).v R) (dvh (saved A) R) k = dv (saved A) R k) :
    val_main_v204 (F := Ideal) A.x0 A.x1 A.x2 A.x3 A.x4 A.x5 A.x6 A.x7 A.x8 A.x9 (ix3 (bOf R) (sOf R) k)
      = dn (saved A) R k := by
  pointwise [val_main_v204, val_main_v203, val_main_v13, ref_dh A R _ hv]
  rfl

/-- The coefficient of the row in the root-mean-square norm's gradient. -/
theorem ref_coef0 (hv : ∀ k, lnRef ((saved A).v R) (dvh (saved A) R) k = dv (saved A) R k) :
    val_main_v214 (F := Ideal) A.x0 A.x1 A.x2 A.x3 A.x4 A.x5 A.x6 A.x7 A.x8 A.x9 (ix2 (bOf R) (sOf R))
      = coef ((saved A).x R) (dn (saved A) R) := by
  pointwise [val_main_v214, val_main_v213, val_main_v212, val_main_v211, val_main_v208, val_main_v207,
    val_main_v206, val_main_v10, val_main_v9, val_main_v8, val_main_cst_2, val_main_cst_44,
    val_main_cst_45, val_main_cst_46, ref_rms0, ref_ms0, ref_dn A R _ hv]
  simp only [zero_add, Finset.sum_const, Finset.card_univ, Fintype.card_fin, one_smul]
  rfl

/-- The gradient of the input through the norm, in the reference's form. -/
theorem ref_dx (hv : ∀ k, lnRef ((saved A).v R) (dvh (saved A) R) k = dv (saved A) R k) :
    val_main_v219 (F := Ideal) A.x0 A.x1 A.x2 A.x3 A.x4 A.x5 A.x6 A.x7 A.x8 A.x9 (ix3 (bOf R) (sOf R) k)
      = normRef ((saved A).x R) (dn (saved A) R) k := by
  pointwise [val_main_v219, val_main_v218, val_main_v217, val_main_v216, val_main_v215, val_main_v210,
    val_main_v209, ref_coef0 A R hv, ref_rms0, ref_dn A R _ hv]
  rfl

end RefSide
-- ==== Proof.RefSums.lean ====
module

public import proofs.«01_k».proof.Proof.RefNorm

/-!
The reference's gradients of the weights: sums over every token, which are the model's sums over the
flat rows.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model Sums

namespace RefSide

variable (A : Args) (k : Fin 1024)

/-- A sum of an array over sequences and places is the sum over rows of what it holds there. -/
theorem sum_flat (f : FVec Ideal S4x2048x1024 .f32) (g : Fin 8192 → Fin 1024 → EReal)
    (h : ∀ R k, f (ix3 (bOf R) (sOf R) k) = g R k) :
    ∑ a, ∑ b, f (ix3 a b k) = ∑ R, g R k := by
  rw [sum_rows]
  exact Finset.sum_congr rfl fun a _ => Finset.sum_congr rfl fun b _ => at_flat h a b k

/-- The gradient of the layer norm's shift. -/
theorem ref_dlb : val_main_v132 (F := Ideal) A.x0 A.x1 A.x2 A.x6 A.x8 A.x9 (ix1 k)
    = ∑ R, dvn (saved A) R k := by
  pointwise [val_main_v132, val_main_v131, val_main_v130, val_main_cst_20, val_main_cst_21, reduce_01]
  simp only [zero_add, Finset.sum_const, Finset.card_univ, Fintype.card_fin, one_smul]
  exact sum_flat k _ _ (ref_dvn A)

/-- The gradient of the layer norm's scale. -/
theorem ref_dlg : val_main_v138 (F := Ideal) A.x0 A.x1 A.x2 A.x6 A.x8 A.x9 (ix1 k)
    = ∑ R, dlgRow (saved A) R k := by
  pointwise [val_main_v138, val_main_v135, val_main_v134, val_main_cst_22, val_main_cst_23, reduce_01]
  simp only [zero_add, Finset.sum_const, Finset.card_univ, Fintype.card_fin, one_smul]
  refine sum_flat k _ _ fun R k => ?_
  pointwise [val_main_v133, ref_vhat, ref_dvn]
  exact mul_comm _ _

/-- The gradient of the root-mean-square norm's scale. -/
theorem ref_dg (hv : ∀ R k, lnRef ((saved A).v R) (dvh (saved A) R) k = dv (saved A) R k) :
    val_main_v205 (F := Ideal) A.x0 A.x1 A.x2 A.x3 A.x4 A.x5 A.x6 A.x7 A.x8 A.x9 (ix1 k)
      = ∑ R, dgRow (saved A) R k := by
  pointwise [val_main_v205, val_main_v202, val_main_v201, val_main_cst_42, val_main_cst_43, reduce_01]
  simp only [zero_add, Finset.sum_const, Finset.card_univ, Fintype.card_fin, one_smul]
  refine sum_flat k _ _ fun R k => ?_
  pointwise [val_main_v200, val_main_v12, val_main_v11, ref_rms0, ref_dh A R _ (hv R)]
  exact mul_comm _ _

/-- The convolution's input, `c * xi`, at a place of a sequence. -/
def cxi (a : Fin 4) (s : Fin 2048) : EReal :=
  (saved A).c (flat a s) k * (saved A).xi (flat a s) k

/-- What it is in the reference. -/
theorem ref_cxi (a : Fin 4) (s : Fin 2048) :
    val_main_v18 (F := Ideal) A.x0 A.x1 A.x2 (ix3 a s k)
      * val_main_v19 (F := Ideal) A.x0 A.x1 A.x2 (ix3 a s k) = cxi A k a s := by
  unfold cxi saved atRow
  simp only [bOf_flat, sOf_flat]

/-- A tap's row by sequence and place, the gradient of the convolution at a later place. -/
theorem dcwRow_flat (p : Fin 3) (a : Fin 4) (s : Fin 2048) :
    dcwRow (saved A) p (flat a s) k
      = (if h : s.val + (2 - p.val) < 2048 then dconv (saved A) (flat a ⟨s.val + (2 - p.val), h⟩) k else 0)
          * cxi A k a s := by
  have e : (flat a s).val % 2048 = s.val := congrArg Fin.val (sOf_flat a s)
  unfold dcwRow later
  refine congrArg₂ (· * ·) ?_ rfl
  by_cases h : s.val + (2 - p.val) < 2048
  · rw [dif_pos h, dif_pos (by omega)]
    refine congrArg (dconv (saved A) · k) (Fin.ext ?_)
    show a.val * 2048 + s.val + (2 - p.val) = a.val * 2048 + (s.val + (2 - p.val))
    omega
  · rw [dif_neg h, dif_neg (by omega)]

/-- The gradient of the convolution's last tap. -/
theorem ref_dcw2 : val_main_v168 (F := Ideal) A.x0 A.x1 A.x2 A.x8 A.x9 (ix1 k)
    = ∑ R, dcwRow (saved A) 2 R k := by
  pointwise [val_main_v168, val_main_v165, val_main_v164, val_main_cst_30, val_main_cst_31, reduce_01]
  simp only [zero_add, Finset.sum_const, Finset.card_univ, Fintype.card_fin, one_smul]
  pointwise [val_main_v163, val_main_v41, val_main_v26, val_main_v25, val_main_cst_3, val_main_v24]
  rw [sum_rows]
  refine Finset.sum_congr rfl fun a _ => Finset.sum_congr rfl fun s _ => ?_
  refine Eq.trans ?_ (dcwRow_flat A k 2 a s).symm
  rw [ref_cxi, at_flat (ref_dconv A), dif_pos (by show s.val + 0 < 2048; omega)]
  exact mul_comm _ _

/-- The gradient of the convolution's middle tap. -/
theorem ref_dcw1 : val_main_v177 (F := Ideal) A.x0 A.x1 A.x2 A.x8 A.x9 (ix1 k)
    = ∑ R, dcwRow (saved A) 1 R k := by
  pointwise [val_main_v177, val_main_v174, val_main_v173, val_main_cst_34, val_main_cst_35, reduce_01]
  simp only [zero_add, Finset.sum_const, Finset.card_univ, Fintype.card_fin, one_smul]
  pointwise [val_main_v172, val_main_v34, val_main_v26, val_main_v25, val_main_cst_3, val_main_v24]
  rw [sum_rows]
  refine Finset.sum_congr rfl fun a _ => ?_
  refine Eq.trans ?_ ((sum_shift 1 (cxi A k a) (fun s => dconv (saved A) (flat a s) k)).trans
    (Finset.sum_congr rfl fun s _ => (dcwRow_flat A k 1 a s).symm))
  refine Finset.sum_congr rfl fun s _ => congrArg₂ (· * ·) ?_ (at_flat (ref_dconv A) a s k)
  by_cases h : 1 ≤ s.val
  · rw [dif_pos h, dif_neg (by omega), ref_cxi]
    exact congrArg (cxi A k a) (Fin.ext (by show 1 + s.val - 2 = s.val - 1; omega))
  · rw [dif_neg h, dif_pos (by omega)]

/-- The gradient of the convolution's first tap. -/
theorem ref_dcw0 : val_main_v188 (F := Ideal) A.x0 A.x1 A.x2 A.x8 A.x9 (ix1 k)
    = ∑ R, dcwRow (saved A) 0 R k := by
  pointwise [val_main_v188, val_main_v185, val_main_v184, val_main_cst_38, val_main_cst_39, reduce_01]
  simp only [zero_add, Finset.sum_const, Finset.card_univ, Fintype.card_fin, one_smul]
  pointwise [val_main_v183, val_main_v28, val_main_v26, val_main_v25, val_main_cst_3, val_main_v24]
  rw [sum_rows]
  refine Finset.sum_congr rfl fun a _ => ?_
  refine Eq.trans ?_ ((sum_shift 2 (cxi A k a) (fun s => dconv (saved A) (flat a s) k)).trans
    (Finset.sum_congr rfl fun s _ => (dcwRow_flat A k 0 a s).symm))
  refine Eq.trans ?_ (Fin.sum_univ_add (a := 2) (b := 2046) _).symm
  refine congrArg₂ (· + ·) (Finset.sum_congr rfl fun s _ => ?_) (Finset.sum_congr rfl fun s _ => ?_)
  · have hs : ¬2 ≤ (Fin.castAdd 2046 s).val := Nat.not_le.mpr s.isLt
    rw [dif_neg hs, zero_mul, zero_mul]
  · have hs : 2 ≤ (Fin.natAdd 2 s).val := Nat.le_add_right 2 s.val
    rw [dif_pos hs, ref_cxi, at_flat (ref_dconv A)]
    refine congrArg (· * _) (congrArg (cxi A k a) (Fin.ext ?_))
    show s.val = 2 + s.val - 2
    omega

/-- The gradient of the mixing biases, before it is spread. -/
theorem ref_dbs (i : Fin 128) (g : Fin 8) :
    val_main_v122 (F := Ideal) A.x0 A.x1 A.x2 A.x8 A.x9 (ix2 i g)
      = ∑ c, ∑ q, dmx (saved A) (crow q i) (chan g c) := by
  pointwise [val_main_v122, val_main_v121, val_main_v120, val_main_cst_18, val_main_cst_19, reduce_014]
  simp only [zero_add, Finset.sum_const, Finset.card_univ, Fintype.card_fin, one_smul]
  pointwise [val_main_v119]
  refine Eq.trans ?_ (Finset.sum_comm.trans (sum_chunk_seq _)).symm
  refine Finset.sum_congr rfl fun a _ => Finset.sum_congr rfl fun n _ => Finset.sum_congr rfl fun c _ => ?_
  rw [at_flat (ref_dmx A)]
  exact congrArg (dmx (saved A) · _) (Fin.ext (by
    show a.val * 2048 + (n.val * 128 + i.val) = (a.val * 16 + n.val) * 128 + i.val; omega))

/-- A place of the three axes the mixing weights' gradient is summed over: sequence, chunk, channel. -/
def at3 (a : Fin 4) (n : Fin 16) (c : Fin 128) :
    dot_S8x4x16x128x128_S4x16x128x8x128_S8x128x128_123_014_4_2_0_3.contr.Idx := fun p => match p with
  | ⟨0, _⟩ => a
  | ⟨1, _⟩ => n
  | ⟨2, _⟩ => c

/-- The places of the three axes are the triples. -/
def at3Equiv : Fin 4 × Fin 16 × Fin 128
    ≃ dot_S8x4x16x128x128_S4x16x128x8x128_S8x128x128_123_014_4_2_0_3.contr.Idx where
  toFun p := at3 p.1 p.2.1 p.2.2
  invFun q := (q ⟨0, by decide⟩, q ⟨1, by decide⟩, q ⟨2, by decide⟩)
  left_inv _ := rfl
  right_inv q := funext fun p => match p with
    | ⟨0, _⟩ => rfl
    | ⟨1, _⟩ => rfl
    | ⟨2, _⟩ => rfl

/-- The gradient of the mixing weights, before the mask. -/
theorem ref_dws (g : Fin 8) (i j : Fin 128) :
    val_main_v125 (F := Ideal) A.x0 A.x1 A.x2 A.x4 A.x5 A.x8 A.x9 (ix3 g i j)
      = ∑ q, dwsChunk (saved A) q g i j := by
  pointwise [val_main_v125]
  unfold Ideal.matmul
  rw [← Equiv.sum_comp at3Equiv]
  simp only [Fintype.sum_prod_type]
  pointwise [val_main_v124, val_main_v119, val_main_v74]
  rw [sum_chunk_seq]
  refine Finset.sum_congr rfl fun a _ => Finset.sum_congr rfl fun n _ => Finset.sum_congr rfl fun c _ => ?_
  have hr : ∀ l : Fin 128, flat a ⟨n.val * 128 + l.val, by omega⟩
      = crow ⟨a.val * 16 + n.val, by omega⟩ l := fun l => Fin.ext (by
    show a.val * 2048 + (n.val * 128 + l.val) = (a.val * 16 + n.val) * 128 + l.val; omega)
  refine congrArg₂ (· * ·) ?_ ?_
  · refine (at_flat (ref_dmx A) a ⟨n.val * 128 + i.val, by omega⟩ (chan g c)).trans ?_
    rw [hr]
  · refine (at_flat (f := val_main_v73 (F := Ideal) A.x0 A.x1 A.x2 A.x4 A.x5) (g := (saved A).vn)
      (fun _ _ => rfl) a ⟨n.val * 128 + j.val, by omega⟩ (chan g c)).trans ?_
    rw [hr]

end RefSide
-- ==== Proof.RefResults.lean ====
module

public import proofs.«01_k».proof.Proof.RefSums

/-!
The reference's seven results, each at a place: the model's quantities over flat rows.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model Sums

namespace RefSide

variable (A : Args)

/-- The taps' gradient. -/
theorem res_dcw (a : Fin 8) (k : Fin 1024) :
    val_main_v223 (F := Ideal) A.x0 A.x1 A.x2 A.x8 A.x9 (ix2 a k) = dcw (saved A) a k := by
  pointwise [val_main_v223, val_main_v222, val_main_cst_47, val_main_v191, val_main_v180, val_main_v170,
    val_main_v179, val_main_v190, val_main_v169, val_main_v178, val_main_v189, ref_dcw0, ref_dcw1, ref_dcw2,
    val_main_cst_32, val_main_cst_36, val_main_cst_40]
  unfold dcw
  rcases a with ⟨a, ha⟩
  rcases a with _ | _ | _ | a <;> simp <;> rfl

/-- The layer norm's gradients. -/
theorem res_dln (a : Fin 8) (k : Fin 1024) :
    val_main_v228 (F := Ideal) A.x0 A.x1 A.x2 A.x6 A.x8 A.x9 (ix2 a k) = dln (saved A) a k := by
  pointwise [val_main_v228, val_main_v227, val_main_cst_48, val_main_v226, val_main_v225, val_main_v224,
    ref_dlg, ref_dlb]
  unfold dln
  rcases a with ⟨a, ha⟩
  rcases a with _ | _ | a <;> simp

/-- The mixing weights' gradient. -/
theorem res_dws (g : Fin 8) (i j : Fin 128) :
    val_main_v128 (F := Ideal) A.x0 A.x1 A.x2 A.x4 A.x5 A.x8 A.x9 (ix3 g i j) = dws (saved A) g i j := by
  pointwise [val_main_v128, val_main_v79_1, val_main_v78, val_main_v77, val_main_v76, val_main_v75, val_main_call1_v0, val_main_call1_cst, ref_dws]
  rw [select_ge (by omega) (by omega)]
  rfl

/-- The mixing biases' gradient. -/
theorem res_dbs (i : Fin 128) (k : Fin 1024) :
    val_main_v232 (F := Ideal) A.x0 A.x1 A.x2 A.x8 A.x9 (ix2 i k) = dbs (saved A) i k := by
  pointwise [val_main_v232, val_main_v231, val_main_v230, val_main_v229, val_main_v123, ref_dbs]
  rfl

/-- The root-mean-square norm's gradient. -/
theorem res_dg (hv : ∀ R k, lnRef ((saved A).v R) (dvh (saved A) R) k = dv (saved A) R k)
    (a : Fin 8) (k : Fin 1024) :
    val_main_v237 (F := Ideal) A.x0 A.x1 A.x2 A.x3 A.x4 A.x5 A.x6 A.x7 A.x8 A.x9 (ix2 a k) = dg (saved A) a k := by
  pointwise [val_main_v237, val_main_v236, val_main_cst_49, val_main_v235, ref_dg A _ hv]
  unfold dg
  rcases a with ⟨a, ha⟩
  rcases a with _ | a <;> simp

/-- The projection's gradient. -/
theorem res_dproj (hv : ∀ R k, lnRef ((saved A).v R) (dvh (saved A) R) k = dv (saved A) R k)
    (R : Fin 8192) (q : Fin 7168) :
    val_main_v221 (F := Ideal) A.x0 A.x1 A.x2 A.x3 A.x4 A.x5 A.x6 A.x7 A.x8 A.x9 (ix2 R q)
      = dproj (saved A) R q := by
  pointwise [val_main_v221, val_main_v220]
  exact ref_dproj A R (hv R) q

/-- The layer's input's gradient. -/
theorem res_dx (hv : ∀ R k, lnRef ((saved A).v R) (dvh (saved A) R) k = dv (saved A) R k)
    (hx : ∀ R k, normRef ((saved A).x R) (dn (saved A) R) k = rmsKer ((saved A).x R) (dn (saved A) R) k)
    (R : Fin 8192) (k : Fin 1024) :
    val_main_v234 (F := Ideal) A.x0 A.x1 A.x2 A.x3 A.x4 A.x5 A.x6 A.x7 A.x8 A.x9 (ix2 R k)
      = dx (saved A) R k := by
  pointwise [val_main_v234, val_main_v233]
  refine congrArg₂ (· + ·) rfl ((ref_dx A R k (hv R)).trans (hx R k))

end RefSide
-- ==== Proof.RefReal.lean ====
module

public import proofs.«01_k».proof.Proof.RefResults

/-!
With real arguments every quantity of the backward pass is a real number: the projection is a sum of
products, the norms' roots are of positive numbers, and the gates divide by more than one.  On real
rows the reference's gradients of its two norms are the closed forms.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

variable (A : Args)

/-- The projection, one row and column at a time. -/
theorem ref_proj (R : Fin 8192) (q : Fin 7168) :
    val_main_v16 (F := Ideal) A.x0 A.x1 A.x2 (ix3 (bOf R) (sOf R) q)
      = ∑ k, (saved A).x R k * rms ((saved A).x R) * (saved A).g k * (saved A).win k q := by
  pointwise [val_main_v16, val_main_v15, val_main_v14, val_main_v13, val_main_v12, val_main_v11, ref_rms0]
  rfl

/-- The first column group of the projection. -/
theorem t_b (R : Fin 8192) (k : Fin 1024) : (saved A).b R k
    = val_main_v16 (F := Ideal) A.x0 A.x1 A.x2 (ix3 (bOf R) (sOf R) ⟨k.val, by omega⟩) := by
  pointwise [saved, atRow, val_main_v17]

/-- The second. -/
theorem t_c (R : Fin 8192) (k : Fin 1024) : (saved A).c R k
    = val_main_v16 (F := Ideal) A.x0 A.x1 A.x2 (ix3 (bOf R) (sOf R) ⟨1024 + k.val, by omega⟩) := by
  pointwise [saved, atRow, val_main_v18]

/-- The third. -/
theorem t_xi (R : Fin 8192) (k : Fin 1024) : (saved A).xi R k
    = val_main_v16 (F := Ideal) A.x0 A.x1 A.x2 (ix3 (bOf R) (sOf R) ⟨2048 + k.val, by omega⟩) := by
  pointwise [saved, atRow, val_main_v19]

/-- The fourth. -/
theorem t_u (R : Fin 8192) (k : Fin 1024) : (saved A).u R k
    = val_main_v16 (F := Ideal) A.x0 A.x1 A.x2 (ix3 (bOf R) (sOf R) ⟨3072 + k.val, by omega⟩) := by
  pointwise [saved, atRow, val_main_v20]

/-- The fifth. -/
theorem t_v (R : Fin 8192) (k : Fin 1024) : (saved A).v R k
    = val_main_v16 (F := Ideal) A.x0 A.x1 A.x2 (ix3 (bOf R) (sOf R) ⟨4096 + k.val, by omega⟩) := by
  pointwise [saved, atRow, val_main_v21]

/-- The first gate, of the sixth column group. -/
theorem t_sa (R : Fin 8192) (k : Fin 1024) : (saved A).sa R k
    = Ideal.div 1 (1 + Ideal.exp (- val_main_v16 (F := Ideal) A.x0 A.x1 A.x2 (ix3 (bOf R) (sOf R) ⟨5120 + k.val, by omega⟩))) := by
  pointwise [saved, atRow, val_main_v93, val_main_v92, val_main_v91, val_main_v90, val_main_v89, val_main_v88, val_main_v22, val_main_cst_12, val_main_cst_13]

/-- The second gate, of the seventh. -/
theorem t_sb (R : Fin 8192) (k : Fin 1024) : (saved A).sb R k
    = Ideal.div 1 (1 + Ideal.exp (- val_main_v16 (F := Ideal) A.x0 A.x1 A.x2 (ix3 (bOf R) (sOf R) ⟨6144 + k.val, by omega⟩))) := by
  pointwise [saved, atRow, val_main_v103, val_main_v102, val_main_v101, val_main_v100, val_main_v99, val_main_v98, val_main_v23, val_main_cst_15, val_main_cst_16]

/-- The layer norm's rows. -/
theorem t_vn (R : Fin 8192) (k : Fin 1024) : (saved A).vn R k = vhat (saved A) R k * A.x4 (ix1 k) + A.x5 (ix1 k) := by
  rw [← ref_vhat]
  pointwise [saved, atRow, val_main_v73, val_main_v72, val_main_v71, val_main_v70, val_main_v69, val_main_v68]

/-- The product of the second and third column groups. -/
theorem t_prod (b : Fin 4) (s : Fin 2048) (k : Fin 1024) :
    val_main_v24 (F := Ideal) A.x0 A.x1 A.x2 (ix3 b s k)
      = val_main_v16 (F := Ideal) A.x0 A.x1 A.x2 (ix3 b s ⟨1024 + k.val, by omega⟩)
        * val_main_v16 (F := Ideal) A.x0 A.x1 A.x2 (ix3 b s ⟨2048 + k.val, by omega⟩) := by
  pointwise [val_main_v24, val_main_v18, val_main_v19]

/-- The product the convolution reads, behind two rows of zeros. -/
theorem t_cx (b : Fin 4) (s : Fin 2050) (k : Fin 1024) :
    val_main_v26 (F := Ideal) A.x0 A.x1 A.x2 (ix3 b s k)
      = if h : s.val < 2 then 0 else val_main_v24 (F := Ideal) A.x0 A.x1 A.x2 (ix3 b ⟨s.val - 2, by omega⟩ k) := by
  pointwise [val_main_v26, val_main_v25, val_main_cst_3]

/-- The convolution, tap by tap. -/
theorem t_conv (b : Fin 4) (s : Fin 2048) (k : Fin 1024) :
    val_main_v47 (F := Ideal) A.x0 A.x1 A.x2 A.x3 (ix3 b s k)
      = val_main_v26 (F := Ideal) A.x0 A.x1 A.x2 (ix3 b ⟨s.val, by omega⟩ k) * A.x3 (ix2 0 k)
        + val_main_v26 (F := Ideal) A.x0 A.x1 A.x2 (ix3 b ⟨1 + s.val, by omega⟩ k) * A.x3 (ix2 1 k)
        + val_main_v26 (F := Ideal) A.x0 A.x1 A.x2 (ix3 b ⟨2 + s.val, by omega⟩ k) * A.x3 (ix2 2 k) := by
  pointwise [val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28]

/-- The masked mixing weights. -/
theorem t_mask (g : Fin 8) (i j : Fin 128) : val_main_v79_0 (F := Ideal) A.x6 (ix3 g i j)
    = if j.val ≤ i.val then A.x6 (ix3 g i j) else 0 := by
  pointwise [val_main_v79_0,
    val_main_v79_1, val_main_v78, val_main_v77, val_main_v76, val_main_v75, val_main_call0_v1, val_main_v79_2, val_main_call0_cst, val_main_cst_11]
  rw [Sums.select_ge (by omega) (by omega)]

/-- The mixed rows. -/
theorem t_mixed (R : Fin 8192) (k : Fin 1024) : (saved A).mixed R k
    = (∑ x : Fin 128, val_main_v73 (F := Ideal) A.x0 A.x1 A.x2 A.x4 A.x5
        (ix3 (bOf R) ⟨R.val % 2048 / 128 * 128 + x.val, by omega⟩ k)
          * val_main_v79_0 (F := Ideal) A.x6 (ix3 (grp k) ⟨R.val % 2048 % 128, by omega⟩ x))
      + A.x7 (ix2 (grp k) ⟨R.val % 2048 % 128, by omega⟩) := by
  pointwise [saved, atRow, val_main_v86, val_main_v85, val_main_v84, val_main_v83, val_main_v82, val_main_v81,
    val_main_v80, val_main_v74, grp, sOf]
/-- Every element of every argument is a real number. -/
structure RealArgs : Prop where
  x0 : ∀ i, IsReal (A.x0 i)
  x1 : ∀ i, IsReal (A.x1 i)
  x2 : ∀ i, IsReal (A.x2 i)
  x3 : ∀ i, IsReal (A.x3 i)
  x4 : ∀ i, IsReal (A.x4 i)
  x5 : ∀ i, IsReal (A.x5 i)
  x6 : ∀ i, IsReal (A.x6 i)
  x7 : ∀ i, IsReal (A.x7 i)
  x8 : ∀ i, IsReal (A.x8 i)
  x9 : ∀ i, IsReal (A.x9 i)

variable {A} (h : RealArgs A)

include h

/-- The layer's input. -/
theorem real_x (R : Fin 8192) (k : Fin 1024) : IsReal ((saved A).x R k) := h.x0 _

/-- The projection. -/
theorem real_proj (R : Fin 8192) (q : Fin 7168) :
    IsReal (val_main_v16 (F := Ideal) A.x0 A.x1 A.x2 (ix3 (bOf R) (sOf R) q)) := by
  rw [ref_proj]
  exact IsReal.sum fun k => (((real_x h R k).mul (isReal_rms (real_x h R))).mul (h.x1 _)).mul (h.x2 _)

/-- The projection, at a place of a sequence. -/
theorem real_projAt (b : Fin 4) (s : Fin 2048) (q : Fin 7168) :
    IsReal (val_main_v16 (F := Ideal) A.x0 A.x1 A.x2 (ix3 b s q)) := by
  have := real_proj h (flat b s) q
  rwa [bOf_flat, sOf_flat] at this

/-- The first column group. -/
theorem real_b (R : Fin 8192) (k : Fin 1024) : IsReal ((saved A).b R k) := by
  rw [t_b]; exact real_proj h R _

/-- The second. -/
theorem real_c (R : Fin 8192) (k : Fin 1024) : IsReal ((saved A).c R k) := by
  rw [t_c]; exact real_proj h R _

/-- The third. -/
theorem real_xi (R : Fin 8192) (k : Fin 1024) : IsReal ((saved A).xi R k) := by
  rw [t_xi]; exact real_proj h R _

/-- The fourth. -/
theorem real_u (R : Fin 8192) (k : Fin 1024) : IsReal ((saved A).u R k) := by
  rw [t_u]; exact real_proj h R _

/-- The fifth. -/
theorem real_v (R : Fin 8192) (k : Fin 1024) : IsReal ((saved A).v R k) := by
  rw [t_v]; exact real_proj h R _

/-- The first gate. -/
theorem real_sa (R : Fin 8192) (k : Fin 1024) : IsReal ((saved A).sa R k) := by
  rw [t_sa]; exact isReal_sigmoid (real_proj h R _)

/-- The second gate. -/
theorem real_sb (R : Fin 8192) (k : Fin 1024) : IsReal ((saved A).sb R k) := by
  rw [t_sb]; exact isReal_sigmoid (real_proj h R _)

/-- The normalised rows. -/
theorem real_vhat (R : Fin 8192) (k : Fin 1024) : IsReal (vhat (saved A) R k) :=
  (isReal_centred (real_v h R) k).mul (isReal_rms (isReal_centred (real_v h R)))

/-- The layer norm's rows. -/
theorem real_vn (R : Fin 8192) (k : Fin 1024) : IsReal ((saved A).vn R k) := by
  rw [t_vn]; exact ((real_vhat h R k).mul (h.x4 _)).add (h.x5 _)

/-- The layer norm's rows, at a place of a sequence. -/
theorem real_vnAt (b : Fin 4) (s : Fin 2048) (k : Fin 1024) :
    IsReal (val_main_v73 (F := Ideal) A.x0 A.x1 A.x2 A.x4 A.x5 (ix3 b s k)) := by
  have : IsReal (val_main_v73 (F := Ideal) A.x0 A.x1 A.x2 A.x4 A.x5 (ix3 (bOf (flat b s)) (sOf (flat b s)) k)) :=
    real_vn h (flat b s) k
  rwa [bOf_flat, sOf_flat] at this

/-- The mixed rows. -/
theorem real_mixed (R : Fin 8192) (k : Fin 1024) : IsReal ((saved A).mixed R k) := by
  rw [t_mixed]
  refine IsReal.add (IsReal.sum fun x => (real_vnAt h _ _ _).mul ?_) (h.x7 _)
  rw [t_mask]
  split_ifs
  · exact h.x6 _
  · exact isReal_zero

/-- The product the convolution reads. -/
theorem real_cx (b : Fin 4) (s : Fin 2050) (k : Fin 1024) :
    IsReal (val_main_v26 (F := Ideal) A.x0 A.x1 A.x2 (ix3 b s k)) := by
  rw [t_cx]
  split_ifs
  · exact isReal_zero
  · rw [t_prod]; exact (real_projAt h _ _ _).mul (real_projAt h _ _ _)

/-- The convolution. -/
theorem real_conv (R : Fin 8192) (k : Fin 1024) : IsReal ((saved A).conv R k) := by
  rw [show (saved A).conv R k = val_main_v47 (F := Ideal) A.x0 A.x1 A.x2 A.x3 (ix3 (bOf R) (sOf R) k) from rfl, t_conv]
  exact (((real_cx h _ _ _).mul (h.x3 _)).add ((real_cx h _ _ _).mul (h.x3 _))).add ((real_cx h _ _ _).mul (h.x3 _))

/-- The gradient of the merged branches. -/
theorem real_dm (R : Fin 8192) (k : Fin 1024) : IsReal (dm (saved A) R k) :=
  IsReal.sum fun _ => (h.x9 _).mul (h.x8 _)

/-- The gradient of the first gate's argument. -/
theorem real_dga (R : Fin 8192) (k : Fin 1024) : IsReal (dga (saved A) R k) :=
  ((real_dm h R k).mul ((real_b h R k).mul (real_conv h R k))).mul
    ((real_sa h R k).mul (isReal_one.sub (real_sa h R k)))

/-- The gradient of the second gate's argument. -/
theorem real_dgb (R : Fin 8192) (k : Fin 1024) : IsReal (dgb (saved A) R k) :=
  ((real_dm h R k).mul ((real_u h R k).mul (real_mixed h R k))).mul
    ((real_sb h R k).mul (isReal_one.sub (real_sb h R k)))

/-- The gradient of the convolution branch. -/
theorem real_dya (R : Fin 8192) (k : Fin 1024) : IsReal (dya (saved A) R k) := (real_dm h R k).mul (real_sa h R k)

/-- The gradient of the mixing branch. -/
theorem real_dyb (R : Fin 8192) (k : Fin 1024) : IsReal (dyb (saved A) R k) := (real_dm h R k).mul (real_sb h R k)

/-- The gradient of the convolution, some rows later. -/
theorem real_later (n : ℕ) (R : Fin 8192) (k : Fin 1024) : IsReal (later (dconv (saved A)) n R k) := by
  unfold later
  split_ifs
  · exact (real_dya h _ k).mul (real_b h _ k)
  · exact isReal_zero

/-- The gradient of `c * xi`. -/
theorem real_dcx (R : Fin 8192) (k : Fin 1024) : IsReal (dcx (saved A) R k) :=
  ((((real_dya h R k).mul (real_b h R k)).mul (h.x3 _)).add ((real_later h 1 R k).mul (h.x3 _))).add
    ((real_later h 2 R k).mul (h.x3 _))

/-- The gradient of the mixed rows. -/
theorem real_dmx (R : Fin 8192) (k : Fin 1024) : IsReal (dmx (saved A) R k) := (real_dyb h R k).mul (real_u h R k)

/-- The gradient of the normalised rows. -/
theorem real_dvh (R : Fin 8192) (k : Fin 1024) : IsReal (dvh (saved A) R k) := by
  refine IsReal.mul (IsReal.sum fun j => IsReal.mul ?_ (real_dmx h _ k)) (h.x4 _)
  unfold wm
  split_ifs
  · exact h.x6 _
  · exact isReal_zero

/-- The gradient of `v`. -/
theorem real_dv (R : Fin 8192) (k : Fin 1024) : IsReal (dv (saved A) R k) := by
  have hr := isReal_rms (isReal_centred (real_v h R))
  have hc := isReal_centred (real_v h R)
  exact hr.mul (((real_dvh h R k).sub (isReal_mean (real_dvh h R))).sub
    (((hc k).mul hr).mul (isReal_mean fun j => (real_dvh h R j).mul ((hc j).mul hr))))

/-- The gradient of the projection. -/
theorem real_dproj (R : Fin 8192) (q : Fin 7168) : IsReal (dproj (saved A) R q) := by
  unfold dproj
  split_ifs
  · exact (real_dya h R _).mul (real_conv h R _)
  · exact (real_dcx h R _).mul (real_xi h R _)
  · exact (real_dcx h R _).mul (real_c h R _)
  · exact (real_dyb h R _).mul (real_mixed h R _)
  · exact real_dv h R _
  · exact real_dga h R _
  · exact real_dgb h R _

/-- The gradient of the normed input before its scale. -/
theorem real_dn (R : Fin 8192) (k : Fin 1024) : IsReal (dn (saved A) R k) :=
  (IsReal.sum fun _ => (real_dproj h R _).mul (h.x2 _)).mul (h.x1 _)

/-- On real arguments the reference's gradient of the layer norm is the closed form. -/
theorem ln_closed (R : Fin 8192) (k : Fin 1024) :
    lnRef ((saved A).v R) (dvh (saved A) R) k = dv (saved A) R k := ln_eq (real_v h R) (real_dvh h R) k

/-- On real arguments the reference's gradient of the root-mean-square norm is the closed form. -/
theorem rms_closed (R : Fin 8192) (k : Fin 1024) :
    normRef ((saved A).x R) (dn (saved A) R) k = rmsKer ((saved A).x R) (dn (saved A) R) k :=
  rms_eq (real_x h R) (real_dn h R) k

end RefSide
-- ==== Proof.RefEnd.lean ====
module

public import proofs.«01_k».proof.Proof.RefResults
public import proofs.«01_k».proof.Proof.RefReal

/-!
The reference's seven results as whole arrays, when every element of its arguments is a real number.
-/

@[expose] public section

set_option maxRecDepth 16384

noncomputable section

open Idealize.ShloMosaic Idealize.ShloMosaic.TcCoe Idealize.SL.Sem
open Cert.ReferenceIdeal Cert.ReferenceIdeal.Gen Cert.ReferenceIdeal.Read
open Rows Model

namespace RefSide

/-- The product with the input weight: its gradient. -/
theorem end_dproj (A : Args) (h : RealArgs A) :
    val_main_v221 (F := Ideal) A.x0 A.x1 A.x2 A.x3 A.x4 A.x5 A.x6 A.x7 A.x8 A.x9
      = fun y : S8192x7168.Idx => dproj (saved A) (y 0) (y 1) :=
  funext fun y => (congrArg _ (eq_ix2 y)).trans (res_dproj A (ln_closed h) (y 0) (y 1))

/-- The convolution's taps: their gradient. -/
theorem end_dcw (A : Args) :
    val_main_v223 (F := Ideal) A.x0 A.x1 A.x2 A.x8 A.x9
      = fun y : S8x1024.Idx => dcw (saved A) (y 0) (y 1) :=
  funext fun y => (congrArg _ (eq_ix2 y)).trans (res_dcw A (y 0) (y 1))

/-- The layer norm's scale and shift: their gradients. -/
theorem end_dln (A : Args) :
    val_main_v228 (F := Ideal) A.x0 A.x1 A.x2 A.x6 A.x8 A.x9
      = fun y : S8x1024.Idx => dln (saved A) (y 0) (y 1) :=
  funext fun y => (congrArg _ (eq_ix2 y)).trans (res_dln A (y 0) (y 1))

/-- The mixing weights: their gradient. -/
theorem end_dws (A : Args) :
    val_main_v128 (F := Ideal) A.x0 A.x1 A.x2 A.x4 A.x5 A.x8 A.x9
      = fun y : S8x128x128.Idx => dws (saved A) (y 0) (y 1) (y 2) :=
  funext fun y => (congrArg _ (eq_ix3 y)).trans (res_dws A (y 0) (y 1) (y 2))

/-- The mixing biases: their gradient. -/
theorem end_dbs (A : Args) :
    val_main_v232 (F := Ideal) A.x0 A.x1 A.x2 A.x8 A.x9
      = fun y : S128x1024.Idx => dbs (saved A) (y 0) (y 1) :=
  funext fun y => (congrArg _ (eq_ix2 y)).trans (res_dbs A (y 0) (y 1))

/-- The layer's input: its gradient. -/
theorem end_dx (A : Args) (h : RealArgs A) :
    val_main_v234 (F := Ideal) A.x0 A.x1 A.x2 A.x3 A.x4 A.x5 A.x6 A.x7 A.x8 A.x9
      = fun y : S8192x1024.Idx => dx (saved A) (y 0) (y 1) :=
  funext fun y => (congrArg _ (eq_ix2 y)).trans (res_dx A (ln_closed h) (rms_closed h) (y 0) (y 1))

/-- The root-mean-square norm's scale: its gradient. -/
theorem end_dg (A : Args) (h : RealArgs A) :
    val_main_v237 (F := Ideal) A.x0 A.x1 A.x2 A.x3 A.x4 A.x5 A.x6 A.x7 A.x8 A.x9
      = fun y : S8x1024.Idx => dg (saved A) (y 0) (y 1) :=
  funext fun y => (congrArg _ (eq_ix2 y)).trans (res_dg A (ln_closed h) (y 0) (y 1))

end RefSide
-- ==== Proof.Finite.lean ====
module

public import proofs.«01_k».proof.Proof.RefReal
public import proofs.«01_k».proof.Proof.Gen.Pre_finite
public import Idealize.ShloMosaic.Lib.ReduceAll

/-!
What the precondition says: each of its ten tests takes the absolute value of every element of one
argument, compares it with infinity and joins the answers, so when it holds every element is a real
number.
-/

@[expose] public section

set_option maxRecDepth 16384

noncomputable section

open Idealize.ShloMosaic Idealize.ShloMosaic.TcCoe Idealize.SL.Sem
open Cert.Pre_finite
open Rows

namespace RefSide

instance : Subsingleton S_.Idx := ⟨fun a b => funext fun i => absurd i.isLt (Nat.not_lt_zero _)⟩

/-- An extended real whose absolute value is below infinity is a real number. -/
theorem real_of_lt (x : EReal) (h : Ideal.cmp .olt (max x (-x)) (Ideal.ofBits .f32 0x7F800000#32) = 1#1) :
    IsReal x := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

/-- One test of the precondition. -/
theorem real_of_test {s : Shape} {axes : List (Fin s.rank)} (x : FVec Ideal s .f32) (hb : S_.BroadcastsInDim s ![])
    (hr : s.ReducesTo axes S_) (hu : 0 < S_.numel) (c : IVec S_ 1) (j : S_.Idx)
    (e : Host.reduce IntOp.andi (cmpf .olt (Host.absf x) (broadcastInDim s ![] hb (constant S_ .f32 0x7F800000#32)))
      c hr hu j = 1#1) (i : s.Idx) : IsReal (x i) :=
  real_of_lt (x i) (Host.reduce_andi_all _ _ _ _ j e i)

/-- Where the precondition holds every argument is real. -/
theorem real_args (A : Args)
    (h : fn (F := Ideal) A.x0 A.x1 A.x2 A.x3 A.x4 A.x5 A.x6 A.x7 A.x8 A.x9 = fun _ => 1#1) : RealArgs A := by
  have e := congrFun h (Shape.Idx.first Gen.h_S_)
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_test _ _ _ _ _ _ e0, real_of_test _ _ _ _ _ _ e1, real_of_test _ _ _ _ _ _ e2,
    real_of_test _ _ _ _ _ _ e3, real_of_test _ _ _ _ _ _ e4, real_of_test _ _ _ _ _ _ e5,
    real_of_test _ _ _ _ _ _ e6, real_of_test _ _ _ _ _ _ e7, real_of_test _ _ _ _ _ _ e8,
    real_of_test _ _ _ _ _ _ e9⟩

end RefSide
-- ==== Proof.Ends.lean ====
module

public import proofs.«01_k».proof.Defs
public import proofs.«01_k».proof.Proof.KerFinal
public import proofs.«01_k».proof.Proof.KerHost
public import proofs.«01_k».proof.Proof.RefEnd
public import proofs.«01_k».proof.Proof.Finite
public import proofs.«01_k».proof.Proof.Gen.KernelIdeal.Value
public import proofs.«01_k».proof.Proof.Gen.ReferenceIdeal.Run
public import Idealize.ShloMosaic.Lib.Claim

/-!
The kernel and the reference leave the same seven arrays: each leaves the quantities of the backward
pass over what the forward pass saved, the kernel whatever its arguments hold, the reference when they
hold real numbers.
-/

@[expose] public section

set_option maxRecDepth 16384

noncomputable section

open Idealize.ShloMosaic Idealize.ShloMosaic.TcCoe Idealize.ShloMosaic.StableHlo Idealize.SL.Sem
open Cert.KernelIdeal Cert.KernelIdeal.Gen
open Model

namespace Ends

variable (m : (ℓ : Loc nD τ sig) → Buf (Elt Ideal) ℓ) (d : Dev nD)

/-- What the forward pass saves over a device's arguments. -/
abbrev kept : Saved := RefSide.saved (KerSide.args m d)

/-- The ten arguments of the reference on a device. -/
def refArgs (m' : (ℓ : Loc Cert.ReferenceIdeal.nD Cert.ReferenceIdeal.τ Cert.ReferenceIdeal.sig) → Buf (Elt Ideal) ℓ)
    (d : Dev Cert.ReferenceIdeal.nD) : RefSide.Args where
  x0 := m' ((d.tc : Thread Cert.ReferenceIdeal.nD Cert.ReferenceIdeal.τ).loc Cert.ReferenceIdeal.main_arg0)
  x1 := m' ((d.tc : Thread Cert.ReferenceIdeal.nD Cert.ReferenceIdeal.τ).loc Cert.ReferenceIdeal.main_arg1)
  x2 := m' ((d.tc : Thread Cert.ReferenceIdeal.nD Cert.ReferenceIdeal.τ).loc Cert.ReferenceIdeal.main_arg2)
  x3 := m' ((d.tc : Thread Cert.ReferenceIdeal.nD Cert.ReferenceIdeal.τ).loc Cert.ReferenceIdeal.main_arg3)
  x4 := m' ((d.tc : Thread Cert.ReferenceIdeal.nD Cert.ReferenceIdeal.τ).loc Cert.ReferenceIdeal.main_arg4)
  x5 := m' ((d.tc : Thread Cert.ReferenceIdeal.nD Cert.ReferenceIdeal.τ).loc Cert.ReferenceIdeal.main_arg5)
  x6 := m' ((d.tc : Thread Cert.ReferenceIdeal.nD Cert.ReferenceIdeal.τ).loc Cert.ReferenceIdeal.main_arg6)
  x7 := m' ((d.tc : Thread Cert.ReferenceIdeal.nD Cert.ReferenceIdeal.τ).loc Cert.ReferenceIdeal.main_arg7)
  x8 := m' ((d.tc : Thread Cert.ReferenceIdeal.nD Cert.ReferenceIdeal.τ).loc Cert.ReferenceIdeal.main_arg8)
  x9 := m' ((d.tc : Thread Cert.ReferenceIdeal.nD Cert.ReferenceIdeal.τ).loc Cert.ReferenceIdeal.main_arg9)

/-- The gradient of the product with the input weight. -/
def out_dproj : FVec Ideal S8192x7168 .bf16 := fun y : S8192x7168.Idx => dproj (kept m d) (y 0) (y 1)

/-- The gradient of the convolution's taps. -/
def out_dcw : FVec Ideal S8x1024 .f32 := fun y : S8x1024.Idx => dcw (kept m d) (y 0) (y 1)

/-- The gradients of the layer norm's scale and shift. -/
def out_dln : FVec Ideal S8x1024 .f32 := fun y : S8x1024.Idx => dln (kept m d) (y 0) (y 1)

/-- The gradient of the mixing weights. -/
def out_dws : FVec Ideal S8x128x128 .f32 := fun y : S8x128x128.Idx => dws (kept m d) (y 0) (y 1) (y 2)

/-- The gradient of the mixing biases. -/
def out_dbs : FVec Ideal S128x1024 .f32 := fun y : S128x1024.Idx => dbs (kept m d) (y 0) (y 1)

/-- The gradient of the layer's input. -/
def out_dx : FVec Ideal S8192x1024 .f32 := fun y : S8192x1024.Idx => dx (kept m d) (y 0) (y 1)

/-- The gradient of the root-mean-square norm's scale. -/
def out_dg : FVec Ideal S8x1024 .f32 := fun y : S8x1024.Idx => dg (kept m d) (y 0) (y 1)

/-- A run of the kernel leaves the seven gradients and its arguments as they were. -/
theorem kernel_run (g : Dev nD → PrngReg) :
    θ_run defs (onTc (τ := τ) (main (F := Ideal))) ⟨m, fun _ => 0, g⟩ fun r => ∀ c : Dev nD,
      r.2.mem ((c.tc : Thread nD τ).loc main_v104_0) = out_dproj m c
      ∧ r.2.mem ((c.tc : Thread nD τ).loc main_v104_1) = out_dcw m c
      ∧ r.2.mem ((c.tc : Thread nD τ).loc main_v104_2) = out_dln m c
      ∧ r.2.mem ((c.tc : Thread nD τ).loc main_v104_3) = out_dws m c
      ∧ r.2.mem ((c.tc : Thread nD τ).loc main_v104_4) = out_dbs m c
      ∧ r.2.mem ((c.tc : Thread nD τ).loc main_v104_5) = out_dx m c
      ∧ r.2.mem ((c.tc : Thread nD τ).loc main_v104_6) = out_dg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  θ_run_mono (Cert.KernelIdeal.Value.run_blocks m g) fun _ h c => by
    obtain ⟨h0, h1, h2, h3, h4, h5, h6, hk⟩ := h c
    have I := KerSide.inputs m c
    exact ⟨h0.trans (KerSide.proj_final I),
      h1.trans (KerSide.taps_final I),
      h2.trans (KerSide.scale_final I),
      h3.trans (KerSide.mixw_final I),
      h4.trans (KerSide.bias_final I),
      h5.trans (KerSide.dx_final I),
      h6.trans (KerSide.gain_final I), hk⟩

/-- A run of the reference over real arguments leaves the seven gradients and its arguments as they were. -/
theorem reference_run (m' : (ℓ : Loc Cert.ReferenceIdeal.nD Cert.ReferenceIdeal.τ Cert.ReferenceIdeal.sig) → Buf (Elt Ideal) ℓ)
    (g' : Dev Cert.ReferenceIdeal.nD → PrngReg)
    (hagree : ∀ c, refArgs m' c = KerSide.args m c) (hreal : ∀ c, RefSide.RealArgs (KerSide.args m c)) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
      r.2.mem ((c.tc : Thread Cert.ReferenceIdeal.nD Cert.ReferenceIdeal.τ).loc Cert.ReferenceIdeal.main_v221) = out_dproj m c
      ∧ r.2.mem ((c.tc : Thread Cert.ReferenceIdeal.nD Cert.ReferenceIdeal.τ).loc Cert.ReferenceIdeal.main_v223) = out_dcw m c
      ∧ r.2.mem ((c.tc : Thread Cert.ReferenceIdeal.nD Cert.ReferenceIdeal.τ).loc Cert.ReferenceIdeal.main_v228) = out_dln m c
      ∧ r.2.mem ((c.tc : Thread Cert.ReferenceIdeal.nD Cert.ReferenceIdeal.τ).loc Cert.ReferenceIdeal.main_v128) = out_dws m c
      ∧ r.2.mem ((c.tc : Thread Cert.ReferenceIdeal.nD Cert.ReferenceIdeal.τ).loc Cert.ReferenceIdeal.main_v232) = out_dbs m c
      ∧ r.2.mem ((c.tc : Thread Cert.ReferenceIdeal.nD Cert.ReferenceIdeal.τ).loc Cert.ReferenceIdeal.main_v234) = out_dx m c
      ∧ r.2.mem ((c.tc : Thread Cert.ReferenceIdeal.nD Cert.ReferenceIdeal.τ).loc Cert.ReferenceIdeal.main_v237) = out_dg m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9) :=
  θ_run_mono (Cert.ReferenceIdeal.Value.run m' g') fun _ h c => by
    obtain ⟨h0, h1, h2, h3, h4, h5, h6, hk⟩ := h c
    have hr := hreal c
    have e := hagree c
    rw [← e] at hr
    have s : kept m c = RefSide.saved (refArgs m' c) := congrArg RefSide.saved e.symm
    unfold out_dproj out_dcw out_dln out_dws out_dbs out_dx out_dg
    rw [s]
    exact ⟨h0.trans ((Cert.ReferenceIdeal.Read.val_main_v221_eq (F := Ideal) (launchContents m' c)).trans (RefSide.end_dproj (refArgs m' c) hr)),
      h1.trans ((Cert.ReferenceIdeal.Read.val_main_v223_eq (F := Ideal) (launchContents m' c)).trans (RefSide.end_dcw (refArgs m' c))),
      h2.trans ((Cert.ReferenceIdeal.Read.val_main_v228_eq (F := Ideal) (launchContents m' c)).trans (RefSide.end_dln (refArgs m' c))),
      h3.trans ((Cert.ReferenceIdeal.Read.val_main_v128_eq (F := Ideal) (launchContents m' c)).trans (RefSide.end_dws (refArgs m' c))),
      h4.trans ((Cert.ReferenceIdeal.Read.val_main_v232_eq (F := Ideal) (launchContents m' c)).trans (RefSide.end_dbs (refArgs m' c))),
      h5.trans ((Cert.ReferenceIdeal.Read.val_main_v234_eq (F := Ideal) (launchContents m' c)).trans (RefSide.end_dx (refArgs m' c) hr)),
      h6.trans ((Cert.ReferenceIdeal.Read.val_main_v237_eq (F := Ideal) (launchContents m' c)).trans (RefSide.end_dg (refArgs m' c) hr)), hk⟩

end Ends
-- ==== Proof.WIn.lean ====
module

public import proofs.«01_k».proof.Proof.Gen.WgradInIdeal.Value
public import proofs.«01_k».proof.Proof.Gen.WgradInRefIdeal.Run
public import proofs.«01_k».proof.Proof.Gen.WgradInRefIdeal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

/-!
The gradient of the weight of the layer's input product: the kernel sums over the four sequences, block by
block of the output, what each adds; the reference is one product over all the rows.
-/

@[expose] public section

set_option maxRecDepth 16384

noncomputable section

open Idealize.ShloMosaic Idealize.ShloMosaic.TcCoe Idealize.ShloMosaic.Tactic Idealize.SL.Sem
open Cert.WgradInIdeal Cert.WgradInIdeal.Gen

namespace InSide

/-- Row `s` of sequence `a`, among all the rows. -/
def row (a : Fin 4) (s : Fin 2048) : Fin 8192 := ⟨a.val * 2048 + s.val, by omega⟩

/-- The product of a tile's two blocks. -/
theorem k_part (v0 : Vec Ideal S2048x1024 .bf16) (v2 : Vec Ideal S2048x1792 .bf16) (p : Fin 1024) (q : Fin 1792) :
    k0_pay1 (F := Ideal) v0 v2 (ix2 p q) = ∑ s : Fin 2048, v0 (ix2 s p) * v2 (ix2 s q) := by
  pointwise [k0_pay1]
  try rfl

/-- Where each window's block lies. -/
theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

variable (m : (ℓ : Loc nD τ sig) → Buf (Elt Ideal) ℓ) (d : Dev nD)

/-- The kernel's first operand when it starts. -/
abbrev opA : Vec Ideal S8192x1024 .bf16 := V m d main_v14

/-- The kernel's second operand when it starts. -/
abbrev opB : Vec Ideal S8192x7168 .bf16 := V m d main_v16

/-- What one sequence adds to the group `j` of 1792 columns of the product. -/
def part (j : Fin 4) (a : Fin 4) (p : Fin 1024) (q : Fin 1792) : EReal :=
  ∑ s : Fin 2048, opA m d (ix2 (row a s) p) * opB m d (ix2 (row a s) ⟨j.val * 1792 + q.val, by omega⟩)

/-- The group of columns a point works on. -/
def blkOf (t : Fin cfg0.N) : Fin 4 := ⟨t.val / 4, by have := lt_of_lt_of_eq t.isLt (show cfg0.N = 16 from N_0); omega⟩

/-- The sequence a point works on. -/
def seqOf (t : Fin cfg0.N) : Fin 4 := ⟨t.val % 4, by omega⟩

variable {m d}

/-- The product a point computes. -/
theorem part_at (t : Fin cfg0.N) (p : Fin 1024) (q : Fin 1792) :
    k0_pay1 (F := Ideal) (iblk m d 0 t) (iblk m d 1 t) (ix2 p q) = part m d (blkOf t) (seqOf t) p q := by
  rw [k_part]
  refine Finset.sum_congr rfl fun s _ => congrArg₂ (· * ·) ?_ ?_
  · blk_ext [iblk, idx t, seqOf, row, opA]
  · blk_ext [iblk, idx t, blkOf, seqOf, row, opB]

/-- A buffer wholly overwritten. -/
theorem canon_whole {S : Shape} {off : Fin S.rank → ℕ} (hoff : off = fun _ => 0) (inb : ∀ a, off a + S.size a ≤ S.size a)
    (w : S.Idx → EReal) {z : EReal} (L : List (View.Piece (Elt Ideal) S .f32)) (y : S.Idx) (hw : w y = z) :
    View.canon ((⟨Rect.unit off S.size inb, w⟩ : View.Piece (Elt Ideal) S .f32) :: L) y = z :=
  (congrFun (View.canon_cons_unit_zero (Val := Elt Ideal) (e := .f32) hoff inb w L) y).trans hw

/-- After a block's first sequence, the running product is that sequence's. -/
theorem acc_A (t : Fin cfg0.N) (h : t.val % 4 = 0) (p : Fin 1024) (q : Fin 1792) :
    (outsAt0 m d t.val t.isLt).2 (ix2 p q) = part m d (blkOf t) (seqOf t) p q := by
  rw [outsAt0_A m d t h (by omega) (by omega)]
  frame_out
  pointwise [k0_pay2]
  exact part_at t p q

/-- After a block's second and third sequence, the running product has grown by that sequence's. -/
theorem acc_B (t : Fin cfg0.N) (h : 1 ≤ t.val % 4 ∧ t.val % 4 ≤ 2) (p : Fin 1024) (q : Fin 1792) :
    (outsAt0 m d t.val t.isLt).2 (ix2 p q)
      = (outsAt0 m d (t.val - 1) (Nat.lt_of_le_of_lt (Nat.sub_le _ _) t.isLt)).2 (ix2 p q)
        + part m d (blkOf t) (seqOf t) p q := by
  rw [outsAt0_B m d t (by omega) h (by omega)]
  frame_out
  pointwise [k0_pay3]
  refine congrArg₂ (· + ·) ?_ (part_at t p q)
  exact (congrFun (read_unread_whole _ _ _) _)

/-- The four sequences' sum. -/
def total (m : (ℓ : Loc nD τ sig) → Buf (Elt Ideal) ℓ) (d : Dev nD) (j : Fin 4) (p : Fin 1024) (q : Fin 1792) : EReal :=
  ∑ a : Fin 4, part m d j a p q

/-- The four sequences' sum is the running product before the last sequence and that sequence's. -/
theorem total_eq (t : Fin cfg0.N) (h : t.val % 4 = 3) (p : Fin 1024) (q : Fin 1792) :
    total m d (blkOf t) p q
      = (outsAt0 m d (t.val - 1) (Nat.lt_of_le_of_lt (Nat.sub_le _ _) t.isLt)).2 (ix2 p q)
        + part m d (blkOf t) (seqOf t) p q := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e2 := acc_B (m := m) (d := d) t2 (by show 1 ≤ (t.val - 1) % 4 ∧ (t.val - 1) % 4 ≤ 2; omega) p q
  have e1 := acc_B (m := m) (d := d) t1 (by show 1 ≤ (t.val - 1 - 1) % 4 ∧ (t.val - 1 - 1) % 4 ≤ 2; omega) p q
  have e0 := acc_A (m := m) (d := d) t0 (by show (t.val - 1 - 1 - 1) % 4 = 0; omega) p q
  have b2 : blkOf t2 = blkOf t := Fin.ext (by show (t.val - 1) / 4 = t.val / 4; omega)
  have b1 : blkOf t1 = blkOf t := Fin.ext (by show (t.val - 1 - 1) / 4 = t.val / 4; omega)
  have b0 : blkOf t0 = blkOf t := Fin.ext (by show (t.val - 1 - 1 - 1) / 4 = t.val / 4; omega)
  have s3 : seqOf t = 3 := Fin.ext h
  have s2 : seqOf t2 = 2 := Fin.ext (by show (t.val - 1) % 4 = 2; omega)
  have s1 : seqOf t1 = 1 := Fin.ext (by show (t.val - 1 - 1) % 4 = 1; omega)
  have s0 : seqOf t0 = 0 := Fin.ext (by show (t.val - 1 - 1 - 1) % 4 = 0; omega)
  rw [b2, s2] at e2
  rw [b1, s1] at e1
  rw [b0, s0] at e0
  rw [s3]
  refine Eq.trans (Fin.sum_univ_four _) (congrArg (· + _) ?_)
  refine Eq.trans ?_ e2.symm
  refine congrArg (· + _) (Eq.trans ?_ e1.symm)
  exact congrArg (· + _) e0.symm

/-- Equal arguments give equal values. -/
theorem congr3 {α β γ δ : Type} (f : α → β → γ → δ) {a a' : α} {b b' : β} {c c' : γ} (ha : a = a') (hb : b = b')
    (hc : c = c') : f a b c = f a' b' c' := by rw [ha, hb, hc]

/-- The newest store of one half of the block, read in that half. -/
theorem half_hit {o : ℕ} (inb : ∀ a : Fin 3, (![o, 0, 0] : Fin 3 → ℕ) a + (![1, 1024, 896] : Fin 3 → ℕ) a ≤ S2x1024x896.size a)
    (w : S1x1024x896.Idx → EReal) (L : List (View.Piece (Elt Ideal) S2x1024x896 .bf16)) (y : S2x1024x896.Idx) (h : (y 0).val = o) :
    View.canon ((⟨Rect.unit (s := S2x1024x896) ![o, 0, 0] ![1, 1024, 896] inb, w⟩ : View.Piece (Elt Ideal) S2x1024x896 .bf16) :: L) y
      = w (ix3 0 (y 1) (y 2)) := by
  have e : (Rect.unit (s := S2x1024x896) ![o, 0, 0] ![1, 1024, 896] inb).emb (ix3 0 (y 1) (y 2) : S1x1024x896.Idx) = y :=
    funext fun a => match a with
      | ⟨0, _⟩ => Fin.ext (by show o + 1 * 0 = (y 0).val; omega)
      | ⟨1, _⟩ => Fin.ext (by show 0 + 1 * (y 1).val = (y 1).val; omega)
      | ⟨2, _⟩ => Fin.ext (by show 0 + 1 * (y 2).val = (y 2).val; omega)
  refine (congrArg (View.canon _) e.symm).trans ?_
  exact View.canon_cons_emb (Val := Elt Ideal) (e := .bf16) (Rect.unit (s := S2x1024x896) ![o, 0, 0] ![1, 1024, 896] inb) w L _

/-- The newest store of one half of the block, read in the other half. -/
theorem half_miss {o : ℕ} (inb : ∀ a : Fin 3, (![o, 0, 0] : Fin 3 → ℕ) a + (![1, 1024, 896] : Fin 3 → ℕ) a ≤ S2x1024x896.size a)
    (w : S1x1024x896.Idx → EReal) (L : List (View.Piece (Elt Ideal) S2x1024x896 .bf16)) (y : S2x1024x896.Idx) (h : ¬(y 0).val = o) :
    View.canon ((⟨Rect.unit (s := S2x1024x896) ![o, 0, 0] ![1, 1024, 896] inb, w⟩ : View.Piece (Elt Ideal) S2x1024x896 .bf16) :: L) y
      = View.canon L y := by
  refine View.canon_cons_of_not_mem _ _ fun hm => h ?_
  have h0 := Rect.mem_set_unit.mp
    (show y ∈ (Rect.unit (s := S2x1024x896) ![o, 0, 0] ![1, 1024, 896] inb).set from hm) 0
  have h1 : o ≤ (y 0).val ∧ (y 0).val < o + 1 := h0
  omega

/-- After a group's last sequence, the block's two halves hold the two halves of the four sequences' sum. -/
theorem out_C (t : Fin cfg0.N) (h : t.val % 4 = 3) (y : S2x1024x896.Idx) (q : Fin 1792)
    (hq : q.val = (y 0).val * 896 + (y 2).val) :
    (outsAt0 m d t.val t.isLt).1 y = total m d (blkOf t) (y 1) q := by
  rw [outsAt0_C m d t (by omega) (by omega) h]
  frame_out
  rw [total_eq t h (y 1) q]
  have hy : (y 0).val < 2 := (y 0).isLt
  by_cases h1 : (y 0).val = 1
  · refine (half_hit _ _ _ _ h1).trans ?_
    pointwise [k0_pay6, k0_pay4]
    have e : q = ⟨896 + (y 2).val, by have := q.isLt; omega⟩ := Fin.ext (by show q.val = 896 + (y 2).val; omega)
    rw [e]
    refine congrArg₂ (· + ·) ?_ (part_at t _ _)
    exact (congrFun (read_unread_whole _ _ _) _)
  · refine (half_miss _ _ _ _ h1).trans ((half_hit _ _ _ _ (by omega)).trans ?_)
    pointwise [k0_pay5, k0_pay4]
    have e : q = ⟨(y 2).val, by have := q.isLt; omega⟩ := Fin.ext (by show q.val = (y 2).val; omega)
    rw [e]
    refine congrArg₂ (· + ·) ?_ (part_at t _ _)
    exact (congrFun (read_unread_whole _ _ _) _)

/-- Column `c` of the eighth `k` of all the columns: its group and its place in the group. -/
def grp (k : Fin 8) : Fin 4 := ⟨k.val / 2, by omega⟩

/-- The place in the group of column `c` of the eighth `k`. -/
def col (k : Fin 8) (c : Fin 896) : Fin 1792 := ⟨(k.val % 2) * 896 + c.val, by omega⟩

/-- The array the kernel leaves. -/
theorem final : (dats m 0 d).arrAt 2 cfg0.N = fun y : S8x1024x896.Idx => total m d (grp (y 0)) (y 1) (col (y 0) (y 2)) := by
  refine (dats m 0 d).arrAt_eq_of_covers 2 _ (by decide +kernel) fun t hf y => ?_
  blk_simp
  rw [after0_2]
  have hy : (y 0).val < 2 := (y 0).isLt
  have hw := (idx t).2.2
  refine (out_C t ((flush0_2 t).mp hf) y (⟨(y 0).val * 896 + (y 2).val, by have : (y 2).val < 896 := (y 2).isLt; omega⟩) rfl).trans ?_
  refine congr3 (total m d) (Fin.ext ?_) (Fin.ext ?_) (Fin.ext ?_)
  · blk_simp [idx t, blkOf, grp]
    show t.val / 4 = (t.val / 4 * 2 + (y 0).val) / 2
    omega
  · blk_simp [idx t]
  · blk_simp [idx t, col]
    show (y 0).val * 896 + (y 2).val = (t.val / 4 * 2 + (y 0).val) % 2 * 896 + (y 2).val
    omega

variable (m d)

/-- The kernel's first operand: the normalized rows. -/
theorem entry_A (a : Fin 4) (s : Fin 2048) (q : Fin 1024) : opA m d (ix2 (row a s) q)
    = Cert.WgradInRefIdeal.Read.val_main_v12 (F := Ideal) (m ((d : Thread nD τ).loc main_arg0)) (m ((d : Thread nD τ).loc main_arg1)) (ix3 a s q) := by
  rw [opA, show V m d main_v14 = truncf (F := Ideal) .bf16 (shapeCast S8192x1024
    (Cert.WgradInRefIdeal.Read.val_main_v12 (F := Ideal) (m ((d : Thread nD τ).loc main_arg0)) (m ((d : Thread nD τ).loc main_arg1)))
    shapeCasts_S4x2048x1024_S8192x1024) bitsLt_bf16_f32 from rfl]
  pointwise [row]

/-- The kernel's second operand: the incoming gradient's rows. -/
theorem entry_B (a : Fin 4) (s : Fin 2048) (q : Fin 7168) : opB m d (ix2 (row a s) q)
    = (show Vec Ideal S4x2048x7168 .f32 from m ((d : Thread nD τ).loc main_arg3)) (ix3 a s q) := by
  rw [opB, show V m d main_v16 = truncf (F := Ideal) .bf16 (shapeCast S8192x7168
    (show FVec Ideal S4x2048x7168 .f32 from m ((d : Thread nD τ).loc main_arg3))
    shapeCasts_S4x2048x7168_S8192x7168) bitsLt_bf16_f32 from rfl]
  pointwise [row]

/-- The reference's gradient. -/
theorem ref_at (x0 : FVec Ideal S4x2048x1024 .f32) (x1 : FVec Ideal S1024 .f32) (x3 : FVec Ideal S4x2048x7168 .f32)
    (k : Fin 8) (p : Fin 1024) (c : Fin 896) :
    Cert.WgradInRefIdeal.Read.val_main_v18 (F := Ideal) x0 x1 x3 (ix3 k p c)
      = ∑ a : Fin 4, ∑ s : Fin 2048, x3 (ix3 a s ⟨k.val * 896 + c.val, by omega⟩)
          * Cert.WgradInRefIdeal.Read.val_main_v12 (F := Ideal) x0 x1 (ix3 a s p) := by
  pointwise [Cert.WgradInRefIdeal.Read.val_main_v18, Cert.WgradInRefIdeal.Read.val_main_v17,
    Cert.WgradInRefIdeal.Read.val_main_v16, Cert.WgradInRefIdeal.Read.val_main_v15, Cert.WgradInRefIdeal.Read.val_main_v14]

variable {m d}

/-- The kernel and the reference leave the same gradient. -/
theorem agree : (fun y : S8x1024x896.Idx => total m d (grp (y 0)) (y 1) (col (y 0) (y 2)))
    = Cert.WgradInRefIdeal.Read.val_main_v18 (F := Ideal) (m ((d : Thread nD τ).loc main_arg0))
        (m ((d : Thread nD τ).loc main_arg1)) (m ((d : Thread nD τ).loc main_arg3)) := by
  funext y
  refine Eq.trans ?_ ((ref_at _ _ _ (y 0) (y 1) (y 2)).symm.trans (congrArg _ (eq_ix3 y).symm))
  unfold total part
  refine Finset.sum_congr rfl fun a _ => Finset.sum_congr rfl fun s _ => ?_
  refine (congrArg₂ (· * ·) (entry_A m d a s _) ((entry_B m d a s _).trans (congrArg _ ?_))).trans (mul_comm _ _)
  have hy : (y 0).val < 8 := (y 0).isLt
  refine congrArg (ix3 a s) (Fin.ext ?_)
  show (y 0).val / 2 * 1792 + ((y 0).val % 2 * 896 + (y 2).val) = (y 0).val * 896 + (y 2).val
  omega

/-- From memories that agree on the arguments, the kernel and the reference both run and leave the same gradient. -/
theorem algebraic (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg)
    (hagree : ∀ c : Dev Cert.WgradInIdeal.nD, m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)
      ∧ m' ((c.tc : Thread Cert.WgradInRefIdeal.nD Cert.WgradInRefIdeal.τ).loc Cert.WgradInRefIdeal.main_arg2) = m ((c.tc : Thread Cert.WgradInIdeal.nD Cert.WgradInIdeal.τ).loc Cert.WgradInIdeal.main_arg2)
      ∧ m' ((c.tc : Thread Cert.WgradInRefIdeal.nD Cert.WgradInRefIdeal.τ).loc Cert.WgradInRefIdeal.main_arg3) = m ((c.tc : Thread Cert.WgradInIdeal.nD Cert.WgradInIdeal.τ).loc Cert.WgradInIdeal.main_arg3)) :
    ∃ v0 : (c : Dev Cert.WgradInIdeal.nD) → Buf (Elt Ideal) ((c.tc : Thread Cert.WgradInIdeal.nD Cert.WgradInIdeal.τ).loc Cert.WgradInIdeal.main_v17),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v17) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2)
          ∧ r.2.mem ((c.tc : Thread Cert.WgradInIdeal.nD Cert.WgradInIdeal.τ).loc Cert.WgradInIdeal.main_arg3) = m ((c.tc : Thread Cert.WgradInIdeal.nD Cert.WgradInIdeal.τ).loc Cert.WgradInIdeal.main_arg3))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v18) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1)
          ∧ r.2.mem ((c.tc : Thread Cert.WgradInRefIdeal.nD Cert.WgradInRefIdeal.τ).loc Cert.WgradInRefIdeal.main_arg2) = m' ((c.tc : Thread Cert.WgradInRefIdeal.nD Cert.WgradInRefIdeal.τ).loc Cert.WgradInRefIdeal.main_arg2)
          ∧ r.2.mem ((c.tc : Thread Cert.WgradInRefIdeal.nD Cert.WgradInRefIdeal.τ).loc Cert.WgradInRefIdeal.main_arg3) = m' ((c.tc : Thread Cert.WgradInRefIdeal.nD Cert.WgradInRefIdeal.τ).loc Cert.WgradInRefIdeal.main_arg3)) := by
  refine ⟨fun c => (dats m 0 c).arrAt 2 cfg0.N, Cert.WgradInIdeal.Value.run_blocks m g, ?_⟩
  refine θ_run_mono (Cert.WgradInRefIdeal.Value.run m' g') fun r h c => ⟨(h c).1.trans ?_, (h c).2⟩
  obtain ⟨ha0, ha1, ha2, ha3⟩ := hagree c
  refine (Cert.WgradInRefIdeal.Read.val_main_v18_eq (F := Ideal) (m' ((c.tc : Thread Cert.WgradInRefIdeal.nD Cert.WgradInRefIdeal.τ).loc Cert.WgradInRefIdeal.main_arg0)) (m' ((c.tc : Thread Cert.WgradInRefIdeal.nD Cert.WgradInRefIdeal.τ).loc Cert.WgradInRefIdeal.main_arg1)) (m' ((c.tc : Thread Cert.WgradInRefIdeal.nD Cert.WgradInRefIdeal.τ).loc Cert.WgradInRefIdeal.main_arg3))).trans ?_
  refine Eq.trans ?_ (final.trans agree).symm
  rw [ha0, ha1, ha3]

end InSide
-- ==== Proof.WUp.lean ====
module

public import proofs.«01_k».proof.Proof.Gen.WgradUpIdeal.Value
public import proofs.«01_k».proof.Proof.Gen.WgradUpRefIdeal.Run
public import proofs.«01_k».proof.Proof.Gen.WgradUpRefIdeal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

/-!
The gradient of the weight of the layer's widening product: the kernel sums over the four sequences, block by
block of the output, what each adds; the reference is one product over all the rows.
-/

@[expose] public section

set_option maxRecDepth 16384

noncomputable section

open Idealize.ShloMosaic Idealize.ShloMosaic.TcCoe Idealize.ShloMosaic.Tactic Idealize.SL.Sem
open Cert.WgradUpIdeal Cert.WgradUpIdeal.Gen

namespace UpSide

/-- Row `s` of sequence `a`, among all the rows. -/
def row (a : Fin 4) (s : Fin 2048) : Fin 8192 := ⟨a.val * 2048 + s.val, by omega⟩

/-- The product of a tile's two blocks. -/
theorem k_part (v0 : Vec Ideal S1x2048x704 .bf16) (v2 : Vec Ideal S2048x1024 .bf16) (p : Fin 704) (q : Fin 1024) :
    k0_pay1 (F := Ideal) v0 v2 (ix2 p q) = ∑ s : Fin 2048, v0 (ix3 0 s p) * v2 (ix2 s q) := by
  pointwise [k0_pay1]
  try rfl

/-- Where each window's block lies. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

variable (m : (ℓ : Loc nD τ sig) → Buf (Elt Ideal) ℓ) (d : Dev nD)

/-- The kernel's first operand when it starts. -/
abbrev opA : Vec Ideal S8x8192x704 .bf16 := V m d main_v17

/-- The kernel's second operand when it starts. -/
abbrev opB : Vec Ideal S8192x1024 .bf16 := V m d main_v14

/-- What one sequence adds to block `j` of the product. -/
def part (j : Fin 8) (a : Fin 4) (p : Fin 704) (q : Fin 1024) : EReal :=
  ∑ s : Fin 2048, opA m d (ix3 j (row a s) p) * opB m d (ix2 (row a s) q)

/-- The block of the product a point works on. -/
def blkOf (t : Fin cfg0.N) : Fin 8 := ⟨t.val / 4, by have := lt_of_lt_of_eq t.isLt (show cfg0.N = 32 from N_0); omega⟩

/-- The sequence a point works on. -/
def seqOf (t : Fin cfg0.N) : Fin 4 := ⟨t.val % 4, by omega⟩

variable {m d}

/-- The product a point computes. -/
theorem part_at (t : Fin cfg0.N) (p : Fin 704) (q : Fin 1024) :
    k0_pay1 (F := Ideal) (iblk m d 0 t) (iblk m d 1 t) (ix2 p q) = part m d (blkOf t) (seqOf t) p q := by
  rw [k_part]
  refine Finset.sum_congr rfl fun s _ => congrArg₂ (· * ·) ?_ ?_
  · blk_ext [iblk, idx t, blkOf, seqOf, row, opA]
  · blk_ext [iblk, idx t, seqOf, row, opB]

/-- A buffer wholly overwritten. -/
theorem canon_whole {S : Shape} {off : Fin S.rank → ℕ} (hoff : off = fun _ => 0) (inb : ∀ a, off a + S.size a ≤ S.size a)
    (w : S.Idx → EReal) {z : EReal} (L : List (View.Piece (Elt Ideal) S .f32)) (y : S.Idx) (hw : w y = z) :
    View.canon ((⟨Rect.unit off S.size inb, w⟩ : View.Piece (Elt Ideal) S .f32) :: L) y = z :=
  (congrFun (View.canon_cons_unit_zero (Val := Elt Ideal) (e := .f32) hoff inb w L) y).trans hw

/-- After a block's first sequence, the running product is that sequence's. -/
theorem acc_A (t : Fin cfg0.N) (h : t.val % 4 = 0) (p : Fin 704) (q : Fin 1024) :
    (outsAt0 m d t.val t.isLt).2 (ix2 p q) = part m d (blkOf t) (seqOf t) p q := by
  rw [outsAt0_A m d t h (by omega) (by omega)]
  frame_out
  pointwise [k0_pay2]
  exact part_at t p q

/-- After a block's second and third sequence, the running product has grown by that sequence's. -/
theorem acc_B (t : Fin cfg0.N) (h : 1 ≤ t.val % 4 ∧ t.val % 4 ≤ 2) (p : Fin 704) (q : Fin 1024) :
    (outsAt0 m d t.val t.isLt).2 (ix2 p q)
      = (outsAt0 m d (t.val - 1) (Nat.lt_of_le_of_lt (Nat.sub_le _ _) t.isLt)).2 (ix2 p q)
        + part m d (blkOf t) (seqOf t) p q := by
  rw [outsAt0_B m d t (by omega) h (by omega)]
  frame_out
  pointwise [k0_pay3]
  refine congrArg₂ (· + ·) ?_ (part_at t p q)
  exact (congrFun (read_unread_whole _ _ _) _)

/-- The four sequences' sum. -/
def total (m : (ℓ : Loc nD τ sig) → Buf (Elt Ideal) ℓ) (d : Dev nD) (j : Fin 8) (p : Fin 704) (q : Fin 1024) : EReal :=
  ∑ a : Fin 4, part m d j a p q

/-- The four sequences' sum is the running product before the last sequence and that sequence's. -/
theorem total_eq (t : Fin cfg0.N) (h : t.val % 4 = 3) (p : Fin 704) (q : Fin 1024) :
    total m d (blkOf t) p q
      = (outsAt0 m d (t.val - 1) (Nat.lt_of_le_of_lt (Nat.sub_le _ _) t.isLt)).2 (ix2 p q)
        + part m d (blkOf t) (seqOf t) p q := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e2 := acc_B (m := m) (d := d) t2 (by show 1 ≤ (t.val - 1) % 4 ∧ (t.val - 1) % 4 ≤ 2; omega) p q
  have e1 := acc_B (m := m) (d := d) t1 (by show 1 ≤ (t.val - 1 - 1) % 4 ∧ (t.val - 1 - 1) % 4 ≤ 2; omega) p q
  have e0 := acc_A (m := m) (d := d) t0 (by show (t.val - 1 - 1 - 1) % 4 = 0; omega) p q
  have b2 : blkOf t2 = blkOf t := Fin.ext (by show (t.val - 1) / 4 = t.val / 4; omega)
  have b1 : blkOf t1 = blkOf t := Fin.ext (by show (t.val - 1 - 1) / 4 = t.val / 4; omega)
  have b0 : blkOf t0 = blkOf t := Fin.ext (by show (t.val - 1 - 1 - 1) / 4 = t.val / 4; omega)
  have s3 : seqOf t = 3 := Fin.ext h
  have s2 : seqOf t2 = 2 := Fin.ext (by show (t.val - 1) % 4 = 2; omega)
  have s1 : seqOf t1 = 1 := Fin.ext (by show (t.val - 1 - 1) % 4 = 1; omega)
  have s0 : seqOf t0 = 0 := Fin.ext (by show (t.val - 1 - 1 - 1) % 4 = 0; omega)
  rw [b2, s2] at e2
  rw [b1, s1] at e1
  rw [b0, s0] at e0
  rw [s3]
  refine Eq.trans (Fin.sum_univ_four _) (congrArg (· + _) ?_)
  refine Eq.trans ?_ e2.symm
  refine congrArg (· + _) (Eq.trans ?_ e1.symm)
  exact congrArg (· + _) e0.symm

/-- Equal arguments give equal values. -/
theorem congr3 {α β γ δ : Type} (f : α → β → γ → δ) {a a' : α} {b b' : β} {c c' : γ} (ha : a = a') (hb : b = b')
    (hc : c = c') : f a b c = f a' b' c' := by rw [ha, hb, hc]

/-- After a block's last sequence, the block holds the four sequences' sum. -/
theorem out_C (t : Fin cfg0.N) (h : t.val % 4 = 3) (p : Fin 704) (q : Fin 1024) :
    (outsAt0 m d t.val t.isLt).1 (ix3 0 p q) = total m d (blkOf t) p q := by
  rw [outsAt0_C m d t (by omega) (by omega) h]
  frame_out
  pointwise [k0_pay4]
  rw [total_eq t h p q]
  refine congrArg₂ (· + ·) ?_ (part_at t p q)
  exact (congrFun (read_unread_whole _ _ _) _)

/-- The array the kernel leaves. -/
theorem final : (dats m 0 d).arrAt 2 cfg0.N = fun y : S8x704x1024.Idx => total m d (y 0) (y 1) (y 2) := by
  refine (dats m 0 d).arrAt_eq_of_covers 2 _ (by decide +kernel) fun t hf y => ?_
  blk_simp
  rw [after0_2]
  have e0 : y 0 = (0 : Fin 1) := Subsingleton.elim (α := Fin 1) _ _
  have ey : y = ix3 (0 : Fin 1) (y 1) (y 2) := (eq_ix3 y).trans (congrArg (fun a : Fin 1 => ix3 a (y 1) (y 2)) e0)
  refine (congrArg _ ey).trans ((out_C t ((flush0_2 t).mp hf) _ _).trans ?_)
  refine congr3 (total m d) (Fin.ext ?_) (Fin.ext ?_) (Fin.ext ?_)
  all_goals blk_simp [idx t, blkOf]

variable (m d)

/-- The kernel's first operand: the gradient, cut into 8 groups of columns. -/
theorem entry_A (a : Fin 4) (s : Fin 2048) (j : Fin 8) (p : Fin 704) : opA m d (ix3 j (row a s) p)
    = (show Vec Ideal S4x2048x5632 .f32 from m ((d : Thread nD τ).loc main_arg3)) (ix3 a s ⟨j.val * 704 + p.val, by omega⟩) := by
  rw [opA, show V m d main_v17 = truncf (F := Ideal) .bf16 (transpose S8x8192x704 [1, 0, 2]
    (shapeCast S8192x8x704 (show FVec Ideal S4x2048x5632 .f32 from m ((d : Thread nD τ).loc main_arg3)) shapeCasts_S4x2048x5632_S8192x8x704)
    transposes_S8192x8x704_S8x8192x704_1_0_2) bitsLt_bf16_f32 from rfl]
  pointwise [row]

/-- The kernel's second operand: the normalized rows. -/
theorem entry_B (a : Fin 4) (s : Fin 2048) (q : Fin 1024) : opB m d (ix2 (row a s) q)
    = Cert.WgradUpRefIdeal.Read.val_main_v12 (F := Ideal) (m ((d : Thread nD τ).loc main_arg0)) (m ((d : Thread nD τ).loc main_arg1)) (ix3 a s q) := by
  rw [opB, show V m d main_v14 = truncf (F := Ideal) .bf16 (shapeCast S8192x1024
    (Cert.WgradUpRefIdeal.Read.val_main_v12 (F := Ideal) (m ((d : Thread nD τ).loc main_arg0)) (m ((d : Thread nD τ).loc main_arg1)))
    shapeCasts_S4x2048x1024_S8192x1024) bitsLt_bf16_f32 from rfl]
  pointwise [row]

/-- The reference's gradient. -/
theorem ref_at (x0 : FVec Ideal S4x2048x1024 .f32) (x1 : FVec Ideal S1024 .f32) (x3 : FVec Ideal S4x2048x5632 .f32)
    (j : Fin 8) (p : Fin 704) (q : Fin 1024) :
    Cert.WgradUpRefIdeal.Read.val_main_v18 (F := Ideal) x0 x1 x3 (ix3 j p q)
      = ∑ a : Fin 4, ∑ s : Fin 2048, x3 (ix3 a s ⟨j.val * 704 + p.val, by omega⟩)
          * Cert.WgradUpRefIdeal.Read.val_main_v12 (F := Ideal) x0 x1 (ix3 a s q) := by
  pointwise [Cert.WgradUpRefIdeal.Read.val_main_v18, Cert.WgradUpRefIdeal.Read.val_main_v17,
    Cert.WgradUpRefIdeal.Read.val_main_v16, Cert.WgradUpRefIdeal.Read.val_main_v15, Cert.WgradUpRefIdeal.Read.val_main_v14]

variable {m d}

/-- The kernel and the reference leave the same gradient. -/
theorem agree : (fun y : S8x704x1024.Idx => total m d (y 0) (y 1) (y 2))
    = Cert.WgradUpRefIdeal.Read.val_main_v18 (F := Ideal) (m ((d : Thread nD τ).loc main_arg0))
        (m ((d : Thread nD τ).loc main_arg1)) (m ((d : Thread nD τ).loc main_arg3)) := by
  funext y
  refine Eq.trans ?_ ((ref_at _ _ _ (y 0) (y 1) (y 2)).symm.trans (congrArg _ (eq_ix3 y).symm))
  unfold total part
  refine Finset.sum_congr rfl fun a _ => Finset.sum_congr rfl fun s _ => ?_
  exact congrArg₂ (· * ·) (entry_A m d a s _ _) (entry_B m d a s _)

/-- From memories that agree on the arguments, the kernel and the reference both run and leave the same gradient. -/
theorem algebraic (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.WgradUpRefIdeal.nD Cert.WgradUpRefIdeal.τ Cert.WgradUpRefIdeal.sig) → Buf (Elt Ideal) ℓ) (g' : Dev Cert.WgradUpRefIdeal.nD → PrngReg)
    (hagree : ∀ c : Dev Cert.WgradUpIdeal.nD, m' ((c.tc : Thread Cert.WgradUpRefIdeal.nD Cert.WgradUpRefIdeal.τ).loc Cert.WgradUpRefIdeal.main_arg0) = m ((c.tc : Thread Cert.WgradUpIdeal.nD Cert.WgradUpIdeal.τ).loc Cert.WgradUpIdeal.main_arg0)
      ∧ m' ((c.tc : Thread Cert.WgradUpRefIdeal.nD Cert.WgradUpRefIdeal.τ).loc Cert.WgradUpRefIdeal.main_arg1) = m ((c.tc : Thread Cert.WgradUpIdeal.nD Cert.WgradUpIdeal.τ).loc Cert.WgradUpIdeal.main_arg1)
      ∧ m' ((c.tc : Thread Cert.WgradUpRefIdeal.nD Cert.WgradUpRefIdeal.τ).loc Cert.WgradUpRefIdeal.main_arg2) = m ((c.tc : Thread Cert.WgradUpIdeal.nD Cert.WgradUpIdeal.τ).loc Cert.WgradUpIdeal.main_arg2)
      ∧ m' ((c.tc : Thread Cert.WgradUpRefIdeal.nD Cert.WgradUpRefIdeal.τ).loc Cert.WgradUpRefIdeal.main_arg3) = m ((c.tc : Thread Cert.WgradUpIdeal.nD Cert.WgradUpIdeal.τ).loc Cert.WgradUpIdeal.main_arg3)) :
    ∃ v0 : (c : Dev Cert.WgradUpIdeal.nD) → Buf (Elt Ideal) ((c.tc : Thread Cert.WgradUpIdeal.nD Cert.WgradUpIdeal.τ).loc Cert.WgradUpIdeal.main_v18),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v18) = v0 c
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
          ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2)
          ∧ r.2.mem ((c.tc : Thread Cert.WgradUpIdeal.nD Cert.WgradUpIdeal.τ).loc Cert.WgradUpIdeal.main_arg3) = m ((c.tc : Thread Cert.WgradUpIdeal.nD Cert.WgradUpIdeal.τ).loc Cert.WgradUpIdeal.main_arg3))
      ∧ θ_run (Cert.WgradUpRefIdeal.defs (F := Ideal)) (onTc (τ := Cert.WgradUpRefIdeal.τ) (Cert.WgradUpRefIdeal.main (F := Ideal))) ⟨m', fun _ => 0, g'⟩ (fun r => ∀ c : Dev Cert.WgradUpRefIdeal.nD,
          r.2.mem ((c.tc : Thread Cert.WgradUpRefIdeal.nD Cert.WgradUpRefIdeal.τ).loc Cert.WgradUpRefIdeal.main_v18) = v0 c
          ∧ r.2.mem ((c.tc : Thread Cert.WgradUpRefIdeal.nD Cert.WgradUpRefIdeal.τ).loc Cert.WgradUpRefIdeal.main_arg0) = m' ((c.tc : Thread Cert.WgradUpRefIdeal.nD Cert.WgradUpRefIdeal.τ).loc Cert.WgradUpRefIdeal.main_arg0)
          ∧ r.2.mem ((c.tc : Thread Cert.WgradUpRefIdeal.nD Cert.WgradUpRefIdeal.τ).loc Cert.WgradUpRefIdeal.main_arg1) = m' ((c.tc : Thread Cert.WgradUpRefIdeal.nD Cert.WgradUpRefIdeal.τ).loc Cert.WgradUpRefIdeal.main_arg1)
          ∧ r.2.mem ((c.tc : Thread Cert.WgradUpRefIdeal.nD Cert.WgradUpRefIdeal.τ).loc Cert.WgradUpRefIdeal.main_arg2) = m' ((c.tc : Thread Cert.WgradUpRefIdeal.nD Cert.WgradUpRefIdeal.τ).loc Cert.WgradUpRefIdeal.main_arg2)
          ∧ r.2.mem ((c.tc : Thread Cert.WgradUpRefIdeal.nD Cert.WgradUpRefIdeal.τ).loc Cert.WgradUpRefIdeal.main_arg3) = m' ((c.tc : Thread Cert.WgradUpRefIdeal.nD Cert.WgradUpRefIdeal.τ).loc Cert.WgradUpRefIdeal.main_arg3)) := by
  refine ⟨fun c => (dats m 0 c).arrAt 2 cfg0.N, Cert.WgradUpIdeal.Value.run_blocks m g, ?_⟩
  refine θ_run_mono (Cert.WgradUpRefIdeal.Value.run m' g') fun r h c => ⟨(h c).1.trans ?_, (h c).2⟩
  obtain ⟨ha0, ha1, ha2, ha3⟩ := hagree c
  refine (Cert.WgradUpRefIdeal.Read.val_main_v18_eq (F := Ideal) (m' ((c.tc : Thread Cert.WgradUpRefIdeal.nD Cert.WgradUpRefIdeal.τ).loc Cert.WgradUpRefIdeal.main_arg0)) (m' ((c.tc : Thread Cert.WgradUpRefIdeal.nD Cert.WgradUpRefIdeal.τ).loc Cert.WgradUpRefIdeal.main_arg1)) (m' ((c.tc : Thread Cert.WgradUpRefIdeal.nD Cert.WgradUpRefIdeal.τ).loc Cert.WgradUpRefIdeal.main_arg3))).trans ?_
  refine Eq.trans ?_ (final.trans agree).symm
  rw [ha0, ha1, ha3]

end UpSide
-- ==== Proof.WDown.lean ====
module

public import proofs.«01_k».proof.Proof.Gen.WgradDownIdeal.Value
public import proofs.«01_k».proof.Proof.Gen.WgradDownRefIdeal.Run
public import proofs.«01_k».proof.Proof.Gen.WgradDownRefIdeal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

/-!
The gradient of the weight of the layer's narrowing product: the kernel sums over the four sequences, block by
block of the output, what each adds; the reference is one product over all the rows.
-/

@[expose] public section

set_option maxRecDepth 16384

noncomputable section

open Idealize.ShloMosaic Idealize.ShloMosaic.TcCoe Idealize.ShloMosaic.Tactic Idealize.SL.Sem
open Cert.WgradDownIdeal Cert.WgradDownIdeal.Gen

namespace DownSide

/-- Row `s` of sequence `a`, among all the rows. -/
def row (a : Fin 4) (s : Fin 2048) : Fin 8192 := ⟨a.val * 2048 + s.val, by omega⟩

/-- The product of a tile's two blocks. -/
theorem k_part (v0 : Vec Ideal S1x2048x704 .bf16) (v2 : Vec Ideal S2048x1024 .f32) (p : Fin 704) (q : Fin 1024) :
    k0_pay1 (F := Ideal) v0 v2 (ix2 p q) = ∑ s : Fin 2048, v0 (ix3 0 s p) * v2 (ix2 s q) := by
  pointwise [k0_pay1]
  try rfl

/-- Where each window's block lies. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

variable (m : (ℓ : Loc nD τ sig) → Buf (Elt Ideal) ℓ) (d : Dev nD)

/-- The kernel's first operand when it starts. -/
abbrev opA : Vec Ideal S4x8192x704 .bf16 := V m d main_v6

/-- The kernel's second operand when it starts. -/
abbrev opB : Vec Ideal S8192x1024 .f32 := V m d main_v7

/-- What one sequence adds to block `j` of the product. -/
def part (j : Fin 4) (a : Fin 4) (p : Fin 704) (q : Fin 1024) : EReal :=
  ∑ s : Fin 2048, opA m d (ix3 j (row a s) p) * opB m d (ix2 (row a s) q)

/-- The block of the product a point works on. -/
def blkOf (t : Fin cfg0.N) : Fin 4 := ⟨t.val / 4, by have := lt_of_lt_of_eq t.isLt (show cfg0.N = 16 from N_0); omega⟩

/-- The sequence a point works on. -/
def seqOf (t : Fin cfg0.N) : Fin 4 := ⟨t.val % 4, by omega⟩

variable {m d}

/-- The product a point computes. -/
theorem part_at (t : Fin cfg0.N) (p : Fin 704) (q : Fin 1024) :
    k0_pay1 (F := Ideal) (iblk m d 0 t) (iblk m d 1 t) (ix2 p q) = part m d (blkOf t) (seqOf t) p q := by
  rw [k_part]
  refine Finset.sum_congr rfl fun s _ => congrArg₂ (· * ·) ?_ ?_
  · blk_ext [iblk, idx t, blkOf, seqOf, row, opA]
  · blk_ext [iblk, idx t, seqOf, row, opB]

/-- A buffer wholly overwritten. -/
theorem canon_whole {S : Shape} {off : Fin S.rank → ℕ} (hoff : off = fun _ => 0) (inb : ∀ a, off a + S.size a ≤ S.size a)
    (w : S.Idx → EReal) {z : EReal} (L : List (View.Piece (Elt Ideal) S .f32)) (y : S.Idx) (hw : w y = z) :
    View.canon ((⟨Rect.unit off S.size inb, w⟩ : View.Piece (Elt Ideal) S .f32) :: L) y = z :=
  (congrFun (View.canon_cons_unit_zero (Val := Elt Ideal) (e := .f32) hoff inb w L) y).trans hw

/-- After a block's first sequence, the running product is that sequence's. -/
theorem acc_A (t : Fin cfg0.N) (h : t.val % 4 = 0) (p : Fin 704) (q : Fin 1024) :
    (outsAt0 m d t.val t.isLt).2 (ix2 p q) = part m d (blkOf t) (seqOf t) p q := by
  rw [outsAt0_A m d t h (by omega) (by omega)]
  frame_out
  pointwise [k0_pay2]
  exact part_at t p q

/-- After a block's second and third sequence, the running product has grown by that sequence's. -/
theorem acc_B (t : Fin cfg0.N) (h : 1 ≤ t.val % 4 ∧ t.val % 4 ≤ 2) (p : Fin 704) (q : Fin 1024) :
    (outsAt0 m d t.val t.isLt).2 (ix2 p q)
      = (outsAt0 m d (t.val - 1) (Nat.lt_of_le_of_lt (Nat.sub_le _ _) t.isLt)).2 (ix2 p q)
        + part m d (blkOf t) (seqOf t) p q := by
  rw [outsAt0_B m d t (by omega) h (by omega)]
  frame_out
  pointwise [k0_pay3]
  refine congrArg₂ (· + ·) ?_ (part_at t p q)
  exact (congrFun (read_unread_whole _ _ _) _)

/-- The four sequences' sum. -/
def total (m : (ℓ : Loc nD τ sig) → Buf (Elt Ideal) ℓ) (d : Dev nD) (j : Fin 4) (p : Fin 704) (q : Fin 1024) : EReal :=
  ∑ a : Fin 4, part m d j a p q

/-- The four sequences' sum is the running product before the last sequence and that sequence's. -/
theorem total_eq (t : Fin cfg0.N) (h : t.val % 4 = 3) (p : Fin 704) (q : Fin 1024) :
    total m d (blkOf t) p q
      = (outsAt0 m d (t.val - 1) (Nat.lt_of_le_of_lt (Nat.sub_le _ _) t.isLt)).2 (ix2 p q)
        + part m d (blkOf t) (seqOf t) p q := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e2 := acc_B (m := m) (d := d) t2 (by show 1 ≤ (t.val - 1) % 4 ∧ (t.val - 1) % 4 ≤ 2; omega) p q
  have e1 := acc_B (m := m) (d := d) t1 (by show 1 ≤ (t.val - 1 - 1) % 4 ∧ (t.val - 1 - 1) % 4 ≤ 2; omega) p q
  have e0 := acc_A (m := m) (d := d) t0 (by show (t.val - 1 - 1 - 1) % 4 = 0; omega) p q
  have b2 : blkOf t2 = blkOf t := Fin.ext (by show (t.val - 1) / 4 = t.val / 4; omega)
  have b1 : blkOf t1 = blkOf t := Fin.ext (by show (t.val - 1 - 1) / 4 = t.val / 4; omega)
  have b0 : blkOf t0 = blkOf t := Fin.ext (by show (t.val - 1 - 1 - 1) / 4 = t.val / 4; omega)
  have s3 : seqOf t = 3 := Fin.ext h
  have s2 : seqOf t2 = 2 := Fin.ext (by show (t.val - 1) % 4 = 2; omega)
  have s1 : seqOf t1 = 1 := Fin.ext (by show (t.val - 1 - 1) % 4 = 1; omega)
  have s0 : seqOf t0 = 0 := Fin.ext (by show (t.val - 1 - 1 - 1) % 4 = 0; omega)
  rw [b2, s2] at e2
  rw [b1, s1] at e1
  rw [b0, s0] at e0
  rw [s3]
  refine Eq.trans (Fin.sum_univ_four _) (congrArg (· + _) ?_)
  refine Eq.trans ?_ e2.symm
  refine congrArg (· + _) (Eq.trans ?_ e1.symm)
  exact congrArg (· + _) e0.symm

/-- Equal arguments give equal values. -/
theorem congr3 {α β γ δ : Type} (f : α → β → γ → δ) {a a' : α} {b b' : β} {c c' : γ} (ha : a = a') (hb : b = b')
    (hc : c = c') : f a b c = f a' b' c' := by rw [ha, hb, hc]

/-- After a block's last sequence, the block holds the four sequences' sum. -/
theorem out_C (t : Fin cfg0.N) (h : t.val % 4 = 3) (p : Fin 704) (q : Fin 1024) :
    (outsAt0 m d t.val t.isLt).1 (ix3 0 p q) = total m d (blkOf t) p q := by
  rw [outsAt0_C m d t (by omega) (by omega) h]
  frame_out
  pointwise [k0_pay4]
  rw [total_eq t h p q]
  refine congrArg₂ (· + ·) ?_ (part_at t p q)
  exact (congrFun (read_unread_whole _ _ _) _)

/-- The array the kernel leaves. -/
theorem final : (dats m 0 d).arrAt 2 cfg0.N = fun y : S4x704x1024.Idx => total m d (y 0) (y 1) (y 2) := by
  refine (dats m 0 d).arrAt_eq_of_covers 2 _ (by decide +kernel) fun t hf y => ?_
  blk_simp
  rw [after0_2]
  have e0 : y 0 = (0 : Fin 1) := Subsingleton.elim (α := Fin 1) _ _
  have ey : y = ix3 (0 : Fin 1) (y 1) (y 2) := (eq_ix3 y).trans (congrArg (fun a : Fin 1 => ix3 a (y 1) (y 2)) e0)
  refine (congrArg _ ey).trans ((out_C t ((flush0_2 t).mp hf) _ _).trans ?_)
  refine congr3 (total m d) (Fin.ext ?_) (Fin.ext ?_) (Fin.ext ?_)
  all_goals blk_simp [idx t, blkOf]

variable (m d)

/-- The kernel's first operand: the activations, cut into 4 groups of columns. -/
theorem entry_A (a : Fin 4) (s : Fin 2048) (j : Fin 4) (p : Fin 704) : opA m d (ix3 j (row a s) p)
    = Cert.WgradDownRefIdeal.Read.val_main_v3 (F := Ideal) (m ((d : Thread nD τ).loc main_arg0)) (ix3 a s ⟨j.val * 704 + p.val, by omega⟩) := by
  rw [opA, show V m d main_v6 = truncf (F := Ideal) .bf16 (transpose S4x8192x704 [1, 0, 2]
    (shapeCast S8192x4x704 (Cert.WgradDownRefIdeal.Read.val_main_v3 (F := Ideal) (m ((d : Thread nD τ).loc main_arg0))) shapeCasts_S4x2048x2816_S8192x4x704)
    transposes_S8192x4x704_S4x8192x704_1_0_2) bitsLt_bf16_f32 from rfl]
  pointwise [row]

/-- The kernel's second operand: the incoming gradient's rows. -/
theorem entry_B (a : Fin 4) (s : Fin 2048) (q : Fin 1024) : opB m d (ix2 (row a s) q)
    = (show Vec Ideal S4x2048x1024 .f32 from m ((d : Thread nD τ).loc main_arg2)) (ix3 a s q) := by
  rw [opB, show V m d main_v7 = shapeCast S8192x1024 (show FVec Ideal S4x2048x1024 .f32 from m ((d : Thread nD τ).loc main_arg2))
    shapeCasts_S4x2048x1024_S8192x1024 from rfl]
  pointwise [row]

/-- The reference's gradient. -/
theorem ref_at (x0 : FVec Ideal S4x2048x5632 .f32) (x2 : FVec Ideal S4x2048x1024 .f32)
    (j : Fin 4) (p : Fin 704) (q : Fin 1024) :
    Cert.WgradDownRefIdeal.Read.val_main_v8 (F := Ideal) x0 x2 (ix3 j p q)
      = ∑ a : Fin 4, ∑ s : Fin 2048, x2 (ix3 a s q)
          * Cert.WgradDownRefIdeal.Read.val_main_v3 (F := Ideal) x0 (ix3 a s ⟨j.val * 704 + p.val, by omega⟩) := by
  pointwise [Cert.WgradDownRefIdeal.Read.val_main_v8, Cert.WgradDownRefIdeal.Read.val_main_v7,
    Cert.WgradDownRefIdeal.Read.val_main_v6, Cert.WgradDownRefIdeal.Read.val_main_v5]

variable {m d}

/-- The kernel and the reference leave the same gradient. -/
theorem agree : (fun y : S4x704x1024.Idx => total m d (y 0) (y 1) (y 2))
    = Cert.WgradDownRefIdeal.Read.val_main_v8 (F := Ideal) (m ((d : Thread nD τ).loc main_arg0))
        (m ((d : Thread nD τ).loc main_arg2)) := by
  funext y
  refine Eq.trans ?_ ((ref_at _ _ (y 0) (y 1) (y 2)).symm.trans (congrArg _ (eq_ix3 y).symm))
  unfold total part
  refine Finset.sum_congr rfl fun a _ => Finset.sum_congr rfl fun s _ => ?_
  exact (congrArg₂ (· * ·) (entry_A m d a s _ _) (entry_B m d a s _)).trans (mul_comm _ _)

/-- From memories that agree on the arguments, the kernel and the reference both run and leave the same gradient. -/
theorem algebraic (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg)
    (hagree : ∀ c : Dev Cert.WgradDownIdeal.nD, m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)
      ∧ m' ((c.tc : Thread Cert.WgradDownRefIdeal.nD Cert.WgradDownRefIdeal.τ).loc Cert.WgradDownRefIdeal.main_arg2) = m ((c.tc : Thread Cert.WgradDownIdeal.nD Cert.WgradDownIdeal.τ).loc Cert.WgradDownIdeal.main_arg2)) :
    ∃ v0 : (c : Dev Cert.WgradDownIdeal.nD) → Buf (Elt Ideal) ((c.tc : Thread Cert.WgradDownIdeal.nD Cert.WgradDownIdeal.τ).loc Cert.WgradDownIdeal.main_v8),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v8) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
          ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v8) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1)
          ∧ r.2.mem ((c.tc : Thread Cert.WgradDownRefIdeal.nD Cert.WgradDownRefIdeal.τ).loc Cert.WgradDownRefIdeal.main_arg2) = m' ((c.tc : Thread Cert.WgradDownRefIdeal.nD Cert.WgradDownRefIdeal.τ).loc Cert.WgradDownRefIdeal.main_arg2)) := by
  refine ⟨fun c => (dats m 0 c).arrAt 2 cfg0.N, Cert.WgradDownIdeal.Value.run_blocks m g, ?_⟩
  refine θ_run_mono (Cert.WgradDownRefIdeal.Value.run m' g') fun r h c => ⟨(h c).1.trans ?_, (h c).2⟩
  obtain ⟨ha0, ha1, ha2⟩ := hagree c
  refine (Cert.WgradDownRefIdeal.Read.val_main_v8_eq (F := Ideal) (m' ((c.tc : Thread Cert.WgradDownRefIdeal.nD Cert.WgradDownRefIdeal.τ).loc Cert.WgradDownRefIdeal.main_arg0)) (m' ((c.tc : Thread Cert.WgradDownRefIdeal.nD Cert.WgradDownRefIdeal.τ).loc Cert.WgradDownRefIdeal.main_arg2))).trans ?_
  refine Eq.trans ?_ (final.trans agree).symm
  rw [ha0, ha2]

end DownSide
-- ==== Proof.WOut.lean ====
module

public import proofs.«01_k».proof.Proof.Gen.WgradOutIdeal.Value
public import proofs.«01_k».proof.Proof.Gen.WgradOutRefIdeal.Run
public import proofs.«01_k».proof.Proof.Gen.WgradOutRefIdeal.Read
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.Claim

/-!
The gradient of the weight of the layer's output product: the kernel sums over the four sequences, block by
block of the output, what each adds; the reference is one product over all the rows.
-/

@[expose] public section

set_option maxRecDepth 16384

noncomputable section

open Idealize.ShloMosaic Idealize.ShloMosaic.TcCoe Idealize.ShloMosaic.Tactic Idealize.SL.Sem
open Cert.WgradOutIdeal Cert.WgradOutIdeal.Gen

namespace OutSide

/-- Row `s` of sequence `a`, among all the rows. -/
def row (a : Fin 4) (s : Fin 2048) : Fin 8192 := ⟨a.val * 2048 + s.val, by omega⟩

/-- The product of a tile's two blocks. -/
theorem k_part (v0 : Vec Ideal S2048x1024 .bf16) (v2 : Vec Ideal S2048x1024 .f32) (p : Fin 1024) (q : Fin 1024) :
    k0_pay1 (F := Ideal) v0 v2 (ix2 p q) = ∑ s : Fin 2048, v0 (ix2 s p) * v2 (ix2 s q) := by
  pointwise [k0_pay1]
  try rfl

/-- Where each window's block lies. -/
theorem idx : ∀ t : Fin cfg0.N, win0_0.index t = ![t.val % 4, 0] ∧ win0_1.index t = ![t.val % 4, 0]
    ∧ win0_2.index t = ![t.val / 4, 0, 0] :=
  (by decide +kernel : ∀ t : Fin grid0.N, _)

variable (m : (ℓ : Loc nD τ sig) → Buf (Elt Ideal) ℓ) (d : Dev nD)

/-- The kernel's first operand when it starts. -/
abbrev opA : Vec Ideal S8192x1024 .bf16 := V m d main_v1

/-- The kernel's second operand when it starts. -/
abbrev opB : Vec Ideal S8192x1024 .f32 := V m d main_v2

/-- What one sequence adds to block `j` of the product. -/
def part (_ : Fin 1) (a : Fin 4) (p : Fin 1024) (q : Fin 1024) : EReal :=
  ∑ s : Fin 2048, opA m d (ix2 (row a s) p) * opB m d (ix2 (row a s) q)

/-- The block of the product a point works on. -/
def blkOf (t : Fin cfg0.N) : Fin 1 := ⟨t.val / 4, by have := lt_of_lt_of_eq t.isLt (show cfg0.N = 4 from N_0); omega⟩

/-- The sequence a point works on. -/
def seqOf (t : Fin cfg0.N) : Fin 4 := ⟨t.val % 4, by omega⟩

variable {m d}

/-- The product a point computes. -/
theorem part_at (t : Fin cfg0.N) (p : Fin 1024) (q : Fin 1024) :
    k0_pay1 (F := Ideal) (iblk m d 0 t) (iblk m d 1 t) (ix2 p q) = part m d (blkOf t) (seqOf t) p q := by
  rw [k_part]
  refine Finset.sum_congr rfl fun s _ => congrArg₂ (· * ·) ?_ ?_
  · blk_ext [iblk, idx t, blkOf, seqOf, row, opA]
  · blk_ext [iblk, idx t, seqOf, row, opB]

/-- A buffer wholly overwritten. -/
theorem canon_whole {S : Shape} {off : Fin S.rank → ℕ} (hoff : off = fun _ => 0) (inb : ∀ a, off a + S.size a ≤ S.size a)
    (w : S.Idx → EReal) {z : EReal} (L : List (View.Piece (Elt Ideal) S .f32)) (y : S.Idx) (hw : w y = z) :
    View.canon ((⟨Rect.unit off S.size inb, w⟩ : View.Piece (Elt Ideal) S .f32) :: L) y = z :=
  (congrFun (View.canon_cons_unit_zero (Val := Elt Ideal) (e := .f32) hoff inb w L) y).trans hw

/-- After a block's first sequence, the running product is that sequence's. -/
theorem acc_A (t : Fin cfg0.N) (h : t.val % 4 = 0) (p : Fin 1024) (q : Fin 1024) :
    (outsAt0 m d t.val t.isLt).2 (ix2 p q) = part m d (blkOf t) (seqOf t) p q := by
  rw [outsAt0_A m d t h (by omega) (by omega)]
  frame_out
  pointwise [k0_pay2]
  exact part_at t p q

/-- After a block's second and third sequence, the running product has grown by that sequence's. -/
theorem acc_B (t : Fin cfg0.N) (h : 1 ≤ t.val % 4 ∧ t.val % 4 ≤ 2) (p : Fin 1024) (q : Fin 1024) :
    (outsAt0 m d t.val t.isLt).2 (ix2 p q)
      = (outsAt0 m d (t.val - 1) (Nat.lt_of_le_of_lt (Nat.sub_le _ _) t.isLt)).2 (ix2 p q)
        + part m d (blkOf t) (seqOf t) p q := by
  rw [outsAt0_B m d t (by omega) h (by omega)]
  frame_out
  pointwise [k0_pay3]
  refine congrArg₂ (· + ·) ?_ (part_at t p q)
  exact (congrFun (read_unread_whole _ _ _) _)

/-- The four sequences' sum. -/
def total (m : (ℓ : Loc nD τ sig) → Buf (Elt Ideal) ℓ) (d : Dev nD) (j : Fin 1) (p : Fin 1024) (q : Fin 1024) : EReal :=
  ∑ a : Fin 4, part m d j a p q

/-- The four sequences' sum is the running product before the last sequence and that sequence's. -/
theorem total_eq (t : Fin cfg0.N) (h : t.val % 4 = 3) (p : Fin 1024) (q : Fin 1024) :
    total m d (blkOf t) p q
      = (outsAt0 m d (t.val - 1) (Nat.lt_of_le_of_lt (Nat.sub_le _ _) t.isLt)).2 (ix2 p q)
        + part m d (blkOf t) (seqOf t) p q := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e2 := acc_B (m := m) (d := d) t2 (by show 1 ≤ (t.val - 1) % 4 ∧ (t.val - 1) % 4 ≤ 2; omega) p q
  have e1 := acc_B (m := m) (d := d) t1 (by show 1 ≤ (t.val - 1 - 1) % 4 ∧ (t.val - 1 - 1) % 4 ≤ 2; omega) p q
  have e0 := acc_A (m := m) (d := d) t0 (by show (t.val - 1 - 1 - 1) % 4 = 0; omega) p q
  have b2 : blkOf t2 = blkOf t := Fin.ext (by show (t.val - 1) / 4 = t.val / 4; omega)
  have b1 : blkOf t1 = blkOf t := Fin.ext (by show (t.val - 1 - 1) / 4 = t.val / 4; omega)
  have b0 : blkOf t0 = blkOf t := Fin.ext (by show (t.val - 1 - 1 - 1) / 4 = t.val / 4; omega)
  have s3 : seqOf t = 3 := Fin.ext h
  have s2 : seqOf t2 = 2 := Fin.ext (by show (t.val - 1) % 4 = 2; omega)
  have s1 : seqOf t1 = 1 := Fin.ext (by show (t.val - 1 - 1) % 4 = 1; omega)
  have s0 : seqOf t0 = 0 := Fin.ext (by show (t.val - 1 - 1 - 1) % 4 = 0; omega)
  rw [b2, s2] at e2
  rw [b1, s1] at e1
  rw [b0, s0] at e0
  rw [s3]
  refine Eq.trans (Fin.sum_univ_four _) (congrArg (· + _) ?_)
  refine Eq.trans ?_ e2.symm
  refine congrArg (· + _) (Eq.trans ?_ e1.symm)
  exact congrArg (· + _) e0.symm

/-- Equal arguments give equal values. -/
theorem congr3 {α β γ δ : Type} (f : α → β → γ → δ) {a a' : α} {b b' : β} {c c' : γ} (ha : a = a') (hb : b = b')
    (hc : c = c') : f a b c = f a' b' c' := by rw [ha, hb, hc]

/-- After a block's last sequence, the block holds the four sequences' sum. -/
theorem out_C (t : Fin cfg0.N) (h : t.val % 4 = 3) (p : Fin 1024) (q : Fin 1024) :
    (outsAt0 m d t.val t.isLt).1 (ix3 0 p q) = total m d (blkOf t) p q := by
  rw [outsAt0_C m d t (by omega) (by omega) h]
  frame_out
  pointwise [k0_pay4]
  rw [total_eq t h p q]
  refine congrArg₂ (· + ·) ?_ (part_at t p q)
  exact (congrFun (read_unread_whole _ _ _) _)

/-- The array the kernel leaves. -/
theorem final : (dats m 0 d).arrAt 2 cfg0.N = fun y : S1x1024x1024.Idx => total m d (y 0) (y 1) (y 2) := by
  refine (dats m 0 d).arrAt_eq_of_covers 2 _ (by decide +kernel) fun t hf y => ?_
  blk_simp
  rw [after0_2]
  have e0 : y 0 = (0 : Fin 1) := Subsingleton.elim (α := Fin 1) _ _
  have ey : y = ix3 (0 : Fin 1) (y 1) (y 2) := (eq_ix3 y).trans (congrArg (fun a : Fin 1 => ix3 a (y 1) (y 2)) e0)
  refine (congrArg _ ey).trans ((out_C t ((flush0_2 t).mp hf) _ _).trans ?_)
  refine congr3 (total m d) (Fin.ext ?_) (Fin.ext ?_) (Fin.ext ?_)
  all_goals blk_simp [idx t, blkOf]

variable (m d)

/-- The kernel's first operand: the rows the output product reads. -/
theorem entry_A (a : Fin 4) (s : Fin 2048) (p : Fin 1024) : opA m d (ix2 (row a s) p)
    = (show Vec Ideal S4x2048x1024 .f32 from m ((d : Thread nD τ).loc main_arg0)) (ix3 a s p) := by
  rw [opA, show V m d main_v1 = truncf (F := Ideal) .bf16 (shapeCast S8192x1024
    (show FVec Ideal S4x2048x1024 .f32 from m ((d : Thread nD τ).loc main_arg0))
    shapeCasts_S4x2048x1024_S8192x1024) bitsLt_bf16_f32 from rfl]
  pointwise [row]

/-- The kernel's second operand: the incoming gradient's rows. -/
theorem entry_B (a : Fin 4) (s : Fin 2048) (q : Fin 1024) : opB m d (ix2 (row a s) q)
    = (show Vec Ideal S4x2048x1024 .f32 from m ((d : Thread nD τ).loc main_arg2)) (ix3 a s q) := by
  rw [opB, show V m d main_v2 = shapeCast S8192x1024 (show FVec Ideal S4x2048x1024 .f32 from m ((d : Thread nD τ).loc main_arg2))
    shapeCasts_S4x2048x1024_S8192x1024 from rfl]
  pointwise [row]

/-- The reference's gradient. -/
theorem ref_at (x0 x2 : FVec Ideal S4x2048x1024 .f32) (j : Fin 1) (p : Fin 1024) (q : Fin 1024) :
    Cert.WgradOutRefIdeal.Read.val_main_v4 (F := Ideal) x0 x2 (ix3 j p q)
      = ∑ a : Fin 4, ∑ s : Fin 2048, x2 (ix3 a s q) * x0 (ix3 a s p) := by
  pointwise [Cert.WgradOutRefIdeal.Read.val_main_v4, Cert.WgradOutRefIdeal.Read.val_main_v3,
    Cert.WgradOutRefIdeal.Read.val_main_v2, Cert.WgradOutRefIdeal.Read.val_main_v1]

variable {m d}

/-- The kernel and the reference leave the same gradient. -/
theorem agree : (fun y : S1x1024x1024.Idx => total m d (y 0) (y 1) (y 2))
    = Cert.WgradOutRefIdeal.Read.val_main_v4 (F := Ideal) (m ((d : Thread nD τ).loc main_arg0))
        (m ((d : Thread nD τ).loc main_arg2)) := by
  funext y
  refine Eq.trans ?_ ((ref_at _ _ (y 0) (y 1) (y 2)).symm.trans (congrArg _ (eq_ix3 y).symm))
  unfold total part
  refine Finset.sum_congr rfl fun a _ => Finset.sum_congr rfl fun s _ => ?_
  exact (congrArg₂ (· * ·) (entry_A m d a s _) (entry_B m d a s _)).trans (mul_comm _ _)

/-- From memories that agree on the arguments, the kernel and the reference both run and leave the same gradient. -/
theorem algebraic (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg)
    (hagree : ∀ c : Dev Cert.WgradOutIdeal.nD, m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)
      ∧ m' ((c.tc : Thread Cert.WgradOutRefIdeal.nD Cert.WgradOutRefIdeal.τ).loc Cert.WgradOutRefIdeal.main_arg2) = m ((c.tc : Thread Cert.WgradOutIdeal.nD Cert.WgradOutIdeal.τ).loc Cert.WgradOutIdeal.main_arg2)) :
    ∃ v0 : (c : Dev Cert.WgradOutIdeal.nD) → Buf (Elt Ideal) ((c.tc : Thread Cert.WgradOutIdeal.nD Cert.WgradOutIdeal.τ).loc Cert.WgradOutIdeal.main_v3),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v3) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
          ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v4) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1)
          ∧ r.2.mem ((c.tc : Thread Cert.WgradOutRefIdeal.nD Cert.WgradOutRefIdeal.τ).loc Cert.WgradOutRefIdeal.main_arg2) = m' ((c.tc : Thread Cert.WgradOutRefIdeal.nD Cert.WgradOutRefIdeal.τ).loc Cert.WgradOutRefIdeal.main_arg2)) := by
  refine ⟨fun c => (dats m 0 c).arrAt 2 cfg0.N, Cert.WgradOutIdeal.Value.run_blocks m g, ?_⟩
  refine θ_run_mono (Cert.WgradOutRefIdeal.Value.run m' g') fun r h c => ⟨(h c).1.trans ?_, (h c).2⟩
  obtain ⟨ha0, ha1, ha2⟩ := hagree c
  refine (Cert.WgradOutRefIdeal.Read.val_main_v4_eq (F := Ideal) (m' ((c.tc : Thread Cert.WgradOutRefIdeal.nD Cert.WgradOutRefIdeal.τ).loc Cert.WgradOutRefIdeal.main_arg0)) (m' ((c.tc : Thread Cert.WgradOutRefIdeal.nD Cert.WgradOutRefIdeal.τ).loc Cert.WgradOutRefIdeal.main_arg2))).trans ?_
  refine Eq.trans ?_ (final.trans agree).symm
  rw [ha0, ha2]

end OutSide
-- ==== Proof.DInModel.lean ====
module

public import proofs.«01_k».proof.Proof.Sums
public import proofs.«01_k».proof.Proof.Gen.DgradInRefIdeal.Run
public import proofs.«01_k».proof.Proof.Gen.DgradInRefIdeal.Read
public import Idealize.ShloMosaic.Lib.Pointwise

/-!
The gradient of a layer's input through its input product and the root-mean-square norm before it: what it is as
sums over rows and columns, and that the reference computes it.
-/

@[expose] public section

set_option maxRecDepth 16384

noncomputable section

open Idealize.ShloMosaic Idealize.ShloMosaic.TcCoe Idealize.SL.Sem
open Cert.DgradInRefIdeal Cert.DgradInRefIdeal.Gen Cert.DgradInRefIdeal.Read
open Rows Model Sums

namespace InGrad

/-- The five arguments. -/
structure Args where
  /-- the layer's input -/
  x0 : FVec Ideal S4x2048x1024 .f32
  /-- the norm's scale -/
  x1 : FVec Ideal S1024 .f32
  /-- the input product's weight -/
  x2 : FVec Ideal S1024x7168 .f32
  /-- the incoming gradient of the product -/
  x3 : FVec Ideal S4x2048x7168 .f32
  /-- the gradient that reaches the input around the layer -/
  x4 : FVec Ideal S4x2048x1024 .f32

variable (A : Args)

/-- A row of the input. -/
def xR (R : Fin 8192) (k : Fin 1024) : EReal := A.x0 (ix3 (bOf R) (sOf R) k)

/-- A row of the incoming gradient times the weight: one term. -/
def dhTerm (R : Fin 8192) (k : Fin 1024) (q : Fin 7168) : EReal := A.x3 (ix3 (bOf R) (sOf R) q) * A.x2 (ix2 k q)

/-- The gradient of the normed input. -/
def dhR (R : Fin 8192) (k : Fin 1024) : EReal := ∑ q, dhTerm A R k q

/-- The gradient of the normed input before its scale. -/
def dnR (R : Fin 8192) (k : Fin 1024) : EReal := dhR A R k * A.x1 (ix1 k)

/-- The gradient of the input, in the kernel's form. -/
def dxR (R : Fin 8192) (k : Fin 1024) : EReal := A.x4 (ix3 (bOf R) (sOf R) k) + rmsKer (xR A R) (dnR A R) k

/-- What one row adds to the gradient of the scale. -/
def dgRow (R : Fin 8192) (k : Fin 1024) : EReal := dhR A R k * (xR A R k * rms (xR A R))

/-- The gradient of the scale, in the first of eight rows. -/
def dgR (a : Fin 8) (k : Fin 1024) : EReal := if a.val = 0 then ∑ R, dgRow A R k else 0

variable (R : Fin 8192) (k : Fin 1024)

/-- The input's mean square plus the small constant. -/
theorem ref_ms (z : Fin 1) : val_main_v6 (F := Ideal) A.x0 (ix3 (bOf R) (sOf R) z)
    = mean (fun j => xR A R j * xR A R j) + eps := by
  pointwise [val_main_v6, val_main_v5, val_main_v4, val_main_v3, val_main_v2, val_main_v1,
    val_main_v0, val_main_cst, val_main_cst_0, val_main_cst_1]
  rfl

/-- Its reciprocal root. -/
theorem ref_rms (z : Fin 1) : val_main_v7 (F := Ideal) A.x0 (ix3 (bOf R) (sOf R) z) = rms (xR A R) := by
  pointwise [val_main_v7, ref_ms]
  rfl

/-- The gradient of the normed input. -/
theorem ref_dh : val_main_v17 (F := Ideal) A.x2 A.x3 (ix3 (bOf R) (sOf R) k) = dhR A R k := by
  pointwise [val_main_v17]
  rfl

/-- The gradient of the normed input before its scale. -/
theorem ref_dn : val_main_v22 (F := Ideal) A.x1 A.x2 A.x3 (ix3 (bOf R) (sOf R) k) = dnR A R k := by
  pointwise [val_main_v22, val_main_v21, val_main_v13, ref_dh]
  rfl

/-- The coefficient of the row in the norm's gradient. -/
theorem ref_coef : val_main_v32 (F := Ideal) A.x0 A.x1 A.x2 A.x3 (ix2 (bOf R) (sOf R)) = coef (xR A R) (dnR A R) := by
  pointwise [val_main_v32, val_main_v31, val_main_v30, val_main_v29, val_main_v26, val_main_v25,
    val_main_v24, val_main_v10, val_main_v9, val_main_v8, val_main_cst_2, val_main_cst_5,
    val_main_cst_6, val_main_cst_7, ref_rms, ref_ms, ref_dn]
  simp only [zero_add, Finset.sum_const, Finset.card_univ, Fintype.card_fin, one_smul]
  rfl

/-- The gradient of the input through the norm, in the reference's form. -/
theorem ref_norm : val_main_v37 (F := Ideal) A.x0 A.x1 A.x2 A.x3 (ix3 (bOf R) (sOf R) k)
    = normRef (xR A R) (dnR A R) k := by
  pointwise [val_main_v37, val_main_v36, val_main_v35, val_main_v34, val_main_v33, val_main_v28,
    val_main_v27, ref_coef, ref_rms, ref_dn]
  rfl

/-- The gradient of the input. -/
theorem ref_dx (hx : ∀ R k, normRef (xR A R) (dnR A R) k = rmsKer (xR A R) (dnR A R) k) :
    val_main_v39 (F := Ideal) A.x0 A.x1 A.x2 A.x3 A.x4 (ix2 R k) = dxR A R k := by
  pointwise [val_main_v39, val_main_v38]
  refine congrArg₂ (· + ·) rfl ((ref_norm A R k).trans (hx R k))

/-- The host's sum over all the rows. -/
theorem sum_flat (f : Fin 4 → Fin 2048 → EReal) (g : Fin 8192 → EReal) (h : ∀ R, f (bOf R) (sOf R) = g R) :
    ∑ a, ∑ s, f a s = ∑ R, g R := by
  rw [sum_rows]
  refine Finset.sum_congr rfl fun a _ => Finset.sum_congr rfl fun s _ => ?_
  rw [← h]
  exact congrArg₂ f (Fin.ext (by show a.val = (a.val * 2048 + s.val) / 2048; omega))
    (Fin.ext (by show s.val = (a.val * 2048 + s.val) % 2048; omega))

/-- The gradient of the scale. -/
theorem ref_dg1 : val_main_v23 (F := Ideal) A.x0 A.x2 A.x3 (ix1 k) = ∑ R, dgRow A R k := by
  pointwise [val_main_v23, val_main_v20, val_main_v19, val_main_cst_3, val_main_cst_4, reduce_01]
  simp only [zero_add, Finset.sum_const, Finset.card_univ, Fintype.card_fin, one_smul]
  refine sum_flat _ _ fun R => ?_
  pointwise [val_main_v18, val_main_v12, val_main_v11, ref_rms, ref_dh]
  exact mul_comm _ _

/-- The gradient of the scale, in the first of eight rows. -/
theorem ref_dg (a : Fin 8) : val_main_v42 (F := Ideal) A.x0 A.x2 A.x3 (ix2 a k) = dgR A a k := by
  pointwise [val_main_v42, val_main_v41, val_main_cst_8, val_main_v40, ref_dg1]
  unfold dgR
  rcases a with ⟨a, ha⟩
  rcases a with _ | a <;> simp

end InGrad
-- ==== Proof.DInKer.lean ====
module

public import proofs.«01_k».proof.Proof.DInModel
public import proofs.«01_k».proof.Proof.Gen.DgradInIdeal.Value
public import Idealize.ShloMosaic.Lib.Pipeline.ValueKit
public import Idealize.ShloMosaic.Lib.Pipeline.ReadBack
public import Idealize.ShloMosaic.Lib.WritesUnit

/-!
The kernel for the gradient of a layer's input: what each grid point leaves.  A point works on one tile of 1024 rows
and one of four groups of columns; the tile's product is summed over the four groups in a scratch buffer.
-/

@[expose] public section

set_option maxRecDepth 16384

noncomputable section

open Idealize.ShloMosaic Idealize.ShloMosaic.TcCoe Idealize.ShloMosaic.Tactic Idealize.SL.Sem
open Cert.DgradInIdeal Cert.DgradInIdeal.Gen
open Rows Model Sums

namespace InGrad

/-- Row `i` of tile `T`. -/
def row (T : Fin 8) (i : Fin 1024) : Fin 8192 := ⟨T.val * 1024 + i.val, by omega⟩

/-- Column `c` of group `j`. -/
def col (j : Fin 4) (c : Fin 1792) : Fin 7168 := ⟨j.val * 1792 + c.val, by omega⟩

/-- The part of a tile's product one group of columns gives. -/
def part (A : Args) (T : Fin 8) (j : Fin 4) (i k : Fin 1024) : EReal := ∑ c, dhTerm A (row T i) k (col j c)

/-- The four parts make the product. -/
theorem dh_parts (A : Args) (T : Fin 8) (i k : Fin 1024) :
    dhR A (row T i) k = part A T 0 i k + part A T 1 i k + part A T 2 i k + part A T 3 i k :=
  (Fin.sum_univ_tiles 4 1792 rfl (dhTerm A (row T i) k)).trans (Fin.sum_univ_four _)

/-- The product of a point's blocks. -/
theorem k_part (v5 v7 : Vec Ideal S1x1x1024x896 .bf16) (v10 : Vec Ideal S1024x1792 .bf16) (i k : Fin 1024) :
    k0_pay2 (F := Ideal) v5 v7 v10 (ix2 i k) = ∑ c : Fin 1792, v10 (ix2 i c)
      * (if h : c.val < 896 then v5 (ix4 0 0 k ⟨c.val, h⟩) else v7 (ix4 0 0 k ⟨c.val - 896, by omega⟩)) := by
  pointwise [k0_pay2]
  try rfl

/-- Where each window's block lies. -/
theorem idx : ∀ t : Fin cfg0.N, win0_0.index t = ![t.val / 4, t.val % 4] ∧ win0_1.index t = ![t.val % 4, 0, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

variable (m : (ℓ : Loc nD τ sig) → Buf (Elt Ideal) ℓ) (d : Dev nD)

/-- The kernel's arguments. -/
def args : Args where
  x0 := m ((d : Thread nD τ).loc main_arg0)
  x1 := m ((d : Thread nD τ).loc main_arg1)
  x2 := m ((d : Thread nD τ).loc main_arg2)
  x3 := m ((d : Thread nD τ).loc main_arg3)
  x4 := m ((d : Thread nD τ).loc main_arg4)

/-- The incoming gradient's rows when the kernel starts. -/
abbrev opDy : Vec Ideal S8192x7168 .bf16 := V m d main_v4

/-- The weight when the kernel starts, its columns in groups. -/
abbrev opW : Vec Ideal S4x2x1024x896 .bf16 := V m d main_v8

/-- The input's rows when the kernel starts. -/
abbrev opX : Vec Ideal S8192x1024 .f32 := V m d main_v5

/-- The scale when the kernel starts. -/
abbrev opG : Vec Ideal S1x1024 .f32 := V m d main_v6

/-- The rows of the gradient around the layer when the kernel starts. -/
abbrev opRes : Vec Ideal S8192x1024 .f32 := V m d main_v7

/-- The incoming gradient's rows are the argument's. -/
theorem entry_dy (R : Fin 8192) (q : Fin 7168) : opDy m d (ix2 R q) = (args m d).x3 (ix3 (bOf R) (sOf R) q) := by
  rw [opDy, show V m d main_v4 = truncf (F := Ideal) .bf16 (shapeCast S8192x7168
    (show FVec Ideal S4x2048x7168 .f32 from m ((d : Thread nD τ).loc main_arg3)) shapeCasts_S4x2048x7168_S8192x7168)
    bitsLt_bf16_f32 from rfl]
  pointwise [args]
  try rfl

/-- The weight's groups of columns are the argument's columns. -/
theorem entry_w (a : Fin 4) (b : Fin 2) (k : Fin 1024) (p : Fin 896) :
    opW m d (ix4 a b k p) = (args m d).x2 (ix2 k ⟨(a.val * 2 + b.val) * 896 + p.val, by omega⟩) := by
  rw [opW, show V m d main_v8 = shapeCast S4x2x1024x896 (truncf (F := Ideal) .bf16 (transpose S8x1024x896 [1, 0, 2]
    (shapeCast S1024x8x896 (show FVec Ideal S1024x7168 .f32 from m ((d : Thread nD τ).loc main_arg2))
      shapeCasts_S1024x7168_S1024x8x896) transposes_S1024x8x896_S8x1024x896_1_0_2) bitsLt_bf16_f32)
    shapeCasts_S8x1024x896_S4x2x1024x896 from rfl]
  pointwise [args]
  try rfl

/-- The input's rows are the argument's. -/
theorem entry_x (R : Fin 8192) (k : Fin 1024) : opX m d (ix2 R k) = xR (args m d) R k := by
  rw [opX, show V m d main_v5 = shapeCast S8192x1024
    (show FVec Ideal S4x2048x1024 .f32 from m ((d : Thread nD τ).loc main_arg0)) shapeCasts_S4x2048x1024_S8192x1024 from rfl]
  pointwise [args, xR]
  try rfl

/-- The scale is the argument's. -/
theorem entry_g (k : Fin 1024) : opG m d (ix2 0 k) = (args m d).x1 (ix1 k) := by
  rw [opG, show V m d main_v6 = broadcastInDim S1x1024 ![1] bcast_S1024_S1x1024_1
    (show FVec Ideal S1024 .f32 from m ((d : Thread nD τ).loc main_arg1)) from rfl]
  pointwise [args]
  try rfl

/-- The rows of the gradient around the layer are the argument's. -/
theorem entry_res (R : Fin 8192) (k : Fin 1024) : opRes m d (ix2 R k) = (args m d).x4 (ix3 (bOf R) (sOf R) k) := by
  rw [opRes, show V m d main_v7 = shapeCast S8192x1024
    (show FVec Ideal S4x2048x1024 .f32 from m ((d : Thread nD τ).loc main_arg4)) shapeCasts_S4x2048x1024_S8192x1024 from rfl]
  pointwise [args]
  try rfl

/-- The tile a point works on. -/
def tile (t : Fin cfg0.N) : Fin 8 := ⟨t.val / 4, by have := lt_of_lt_of_eq t.isLt (show cfg0.N = 32 from N_0); omega⟩

/-- The group of columns a point works on. -/
def grpOf (t : Fin cfg0.N) : Fin 4 := ⟨t.val % 4, by omega⟩

variable {m d} (t : Fin cfg0.N)

/-- The block of the incoming gradient. -/
theorem dy_at (i : Fin 1024) (c : Fin 1792) : (show Vec Ideal S1024x1792 .bf16 from iblk m d 0 t) (ix2 i c)
    = (args m d).x3 (ix3 (bOf (row (tile t) i)) (sOf (row (tile t) i)) (col (grpOf t) c)) := by
  rw [← entry_dy]; blk_ext [iblk, idx t, tile, grpOf, row, col, opDy]

/-- The block of the weight. -/
theorem w_at (b : Fin 2) (k : Fin 1024) (p : Fin 896) : (show Vec Ideal S1x2x1024x896 .bf16 from iblk m d 1 t) (ix4 0 b k p)
    = (args m d).x2 (ix2 k ⟨((grpOf t).val * 2 + b.val) * 896 + p.val, by omega⟩) := by
  rw [← entry_w]; blk_ext [iblk, idx t, grpOf, opW]

/-- The block of the input. -/
theorem x_at (i k : Fin 1024) : (show Vec Ideal S1024x1024 .f32 from iblk m d 2 t) (ix2 i k)
    = xR (args m d) (row (tile t) i) k := by
  rw [← entry_x]; blk_ext [iblk, idx t, tile, row, opX]

/-- The scale. -/
theorem g_at (k : Fin 1024) : (show Vec Ideal S1x1024 .f32 from iblk m d 3 t) (ix2 0 k) = (args m d).x1 (ix1 k) := by
  rw [← entry_g]; blk_ext [iblk, idx t, opG]

/-- The block of the gradient around the layer. -/
theorem res_at (i k : Fin 1024) : (show Vec Ideal S1024x1024 .f32 from iblk m d 4 t) (ix2 i k)
    = (args m d).x4 (ix3 (bOf (row (tile t) i)) (sOf (row (tile t) i)) k) := by
  rw [← entry_res]; blk_ext [iblk, idx t, tile, row, opRes]

/-- The product a point computes. -/
theorem part_at (v5 v7 : Vec Ideal S1x1x1024x896 .bf16) (v10 : Vec Ideal S1024x1792 .bf16)
    (h5 : ∀ (k : Fin 1024) (p : Fin 896), v5 (ix4 0 0 k p) = (show Vec Ideal S1x2x1024x896 .bf16 from iblk m d 1 t) (ix4 0 0 k p))
    (h7 : ∀ (k : Fin 1024) (p : Fin 896), v7 (ix4 0 0 k p) = (show Vec Ideal S1x2x1024x896 .bf16 from iblk m d 1 t) (ix4 0 1 k p))
    (h10 : ∀ (i : Fin 1024) (c : Fin 1792), v10 (ix2 i c) = (show Vec Ideal S1024x1792 .bf16 from iblk m d 0 t) (ix2 i c))
    (i k : Fin 1024) :
    k0_pay2 (F := Ideal) v5 v7 v10 (ix2 i k) = part (args m d) (tile t) (grpOf t) i k := by
  rw [k_part]
  refine Finset.sum_congr rfl fun c _ => congrArg₂ (· * ·) ((h10 i c).trans (dy_at t i c)) ?_
  by_cases h : c.val < 896
  · rw [dif_pos h, h5, w_at]
    refine congrArg (fun q => (args m d).x2 (ix2 k q)) (Fin.ext ?_)
    show ((grpOf t).val * 2 + 0) * 896 + c.val = (grpOf t).val * 1792 + c.val
    omega
  · rw [dif_neg h, h7, w_at]
    refine congrArg (fun q => (args m d).x2 (ix2 k q)) (Fin.ext ?_)
    show ((grpOf t).val * 2 + 1) * 896 + (c.val - 896) = (grpOf t).val * 1792 + c.val
    omega

end InGrad
-- ==== Proof.DInSteps.lean ====
module

public import proofs.«01_k».proof.Proof.DInKer

/-!
The kernel for the gradient of a layer's input: the running product, the input's gradient and the scale's gradient,
point by point.
-/

@[expose] public section

set_option maxRecDepth 16384

noncomputable section

open Idealize.ShloMosaic Idealize.ShloMosaic.TcCoe Idealize.ShloMosaic.Tactic Idealize.SL.Sem
open Cert.DgradInIdeal Cert.DgradInIdeal.Gen
open Rows Model Sums

namespace InGrad

variable {m : (ℓ : Loc nD τ sig) → Buf (Elt Ideal) ℓ} {d : Dev nD} (t : Fin cfg0.N)

/-- After a tile's first group of columns, the running product is that group's. -/
theorem acc_first (h : t.val % 4 = 0) (i k : Fin 1024) :
    (outsAt0 m d t.val t.isLt).2.2 (ix2 i k) = part (args m d) (tile t) (grpOf t) i k := by
  by_cases h0 : t.val % 32 = 0
  · rw [outsAt0_A m d t h0 h (by omega) (by omega)]
    frame_out
    pointwise [k0_pay3]
    refine part_at t _ _ _ (fun k p => ?_) (fun k p => ?_) (fun i c => ?_) i k
    all_goals pointwise
  · rw [outsAt0_D m d t h0 h (by omega) (by omega)]
    frame_out
    pointwise [k0_pay3]
    refine part_at t _ _ _ (fun k p => ?_) (fun k p => ?_) (fun i c => ?_) i k
    all_goals pointwise

/-- After a later group of columns, the running product has grown by that group's. -/
theorem acc_next (h : 1 ≤ t.val % 4) (i k : Fin 1024) :
    (outsAt0 m d t.val t.isLt).2.2 (ix2 i k)
      = (outsAt0 m d (t.val - 1) (Nat.lt_of_le_of_lt (Nat.sub_le _ _) t.isLt)).2.2 (ix2 i k)
        + part (args m d) (tile t) (grpOf t) i k := by
  by_cases h3 : t.val % 4 = 3
  · rw [outsAt0_C m d t (by omega) (by omega) h h3]
    frame_out
    pointwise [k0_pay4]
    refine congrArg₂ (· + ·) ?_ (part_at t _ _ _ (fun k p => ?_) (fun k p => ?_) (fun i c => ?_) i k)
    · exact (congrFun (read_unread_whole _ _ _) _)
    all_goals pointwise
  · rw [outsAt0_B m d t (by omega) (by omega) h h3]
    frame_out
    pointwise [k0_pay4]
    refine congrArg₂ (· + ·) ?_ (part_at t _ _ _ (fun k p => ?_) (fun k p => ?_) (fun i c => ?_) i k)
    · exact (congrFun (read_unread_whole _ _ _) _)
    all_goals pointwise

/-- After a tile's last group of columns, the running product is the whole product. -/
theorem acc_last (h : t.val % 4 = 3) (i k : Fin 1024) :
    (outsAt0 m d t.val t.isLt).2.2 (ix2 i k) = dhR (args m d) (row (tile t) i) k := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e3 := acc_next (m := m) (d := d) t (by omega) i k
  have e2 := acc_next (m := m) (d := d) t2 (by show 1 ≤ (t.val - 1) % 4; omega) i k
  have e1 := acc_next (m := m) (d := d) t1 (by show 1 ≤ (t.val - 1 - 1) % 4; omega) i k
  have e0 := acc_first (m := m) (d := d) t0 (by show (t.val - 1 - 1 - 1) % 4 = 0; omega) i k
  have b2 : tile t2 = tile t := Fin.ext (by show (t.val - 1) / 4 = t.val / 4; omega)
  have b1 : tile t1 = tile t := Fin.ext (by show (t.val - 1 - 1) / 4 = t.val / 4; omega)
  have b0 : tile t0 = tile t := Fin.ext (by show (t.val - 1 - 1 - 1) / 4 = t.val / 4; omega)
  have s3 : grpOf t = 3 := Fin.ext h
  have s2 : grpOf t2 = 2 := Fin.ext (by show (t.val - 1) % 4 = 2; omega)
  have s1 : grpOf t1 = 1 := Fin.ext (by show (t.val - 1 - 1) % 4 = 1; omega)
  have s0 : grpOf t0 = 0 := Fin.ext (by show (t.val - 1 - 1 - 1) % 4 = 0; omega)
  rw [b2, s2] at e2
  rw [b1, s1] at e1
  rw [b0, s0] at e0
  rw [s3] at e3
  rw [dh_parts]
  refine e3.trans (congrArg (· + _) ?_)
  refine e2.trans (congrArg (· + _) ?_)
  exact e1.trans (congrArg (· + _) e0)

/-- The input's gradient at a place of the tile. -/
theorem k_dx (E X RES : Vec Ideal S1024x1024 .f32) (G : Vec Ideal S1x1024 .f32)
    (hE : ∀ i k, E (ix2 i k) = dhR (args m d) (row (tile t) i) k)
    (hX : ∀ i k, X (ix2 i k) = xR (args m d) (row (tile t) i) k)
    (hG : ∀ k, G (ix2 0 k) = (args m d).x1 (ix1 k))
    (hR : ∀ i k, RES (ix2 i k) = (args m d).x4 (ix3 (bOf (row (tile t) i)) (sOf (row (tile t) i)) k)) (i k : Fin 1024) :
    k0_pay8 (F := Ideal) E X G RES (ix2 i k) = dxR (args m d) (row (tile t) i) k := by
  pointwise [k0_pay8, k0_pay7, k0_pay6, k0_pay5, hE, hX, hG, hR]
  rfl

/-- The scale's row after a tile's last group of columns. -/
theorem k_dg (E X : Vec Ideal S1024x1024 .f32) (Z : Vec Ideal S1x1024 .f32)
    (hE : ∀ i k, E (ix2 i k) = dhR (args m d) (row (tile t) i) k)
    (hX : ∀ i k, X (ix2 i k) = xR (args m d) (row (tile t) i) k) (k : Fin 1024) :
    k0_pay9 (F := Ideal) E X Z (ix2 0 k) = Z (ix2 0 k) + ∑ i, dgRow (args m d) (row (tile t) i) k := by
  pointwise [k0_pay9, k0_pay7, k0_pay6, k0_pay5, hE, hX]
  rfl

/-- After a tile's last group of columns, the input's gradient. -/
theorem dx_at (h : t.val % 4 = 3) (i k : Fin 1024) :
    (outsAt0 m d t.val t.isLt).1 (ix2 i k) = dxR (args m d) (row (tile t) i) k := by
  have hE := acc_last (m := m) (d := d) t h
  rw [outsAt0_C m d t (by omega) (by omega) (by omega) h] at hE ⊢
  frame_out
  refine k_dx t _ _ _ _ (fun i k => ?_) (x_at t) (g_at t) (res_at t) i k
  refine Eq.trans ?_ (hE i k)
  frame_out

/-- What a point adds to the scale's gradient: at a tile's last group of columns, the tile's rows. -/
def dgTerm (A : Args) (t : Fin cfg0.N) (y : S8x1024.Idx) : EReal :=
  if t.val % 4 = 3 ∧ (y 0).val = 0 then ∑ i, dgRow A (row (tile t) i) (y 1) else 0

/-- The newest store of a whole row into a buffer that held `f`, read in that row. -/
theorem writes_hit {sig : RefSig} {κ : Kind} {sp : Space} (v : View sig κ sp S8x1024 .f32)
    (f : v.ty.Contents (Elt Ideal)) {o : ℕ}
    (inb : ∀ a : Fin 2, (![o, 0] : Fin 2 → ℕ) a + (![1, 1024] : Fin 2 → ℕ) a ≤ S8x1024.size a)
    (w : S1x1024.Idx → EReal) (L : List (View.Piece (Elt Ideal) S8x1024 .f32)) (y : S8x1024.Idx) (h : (y 0).val = o) :
    v.read (Elt Ideal) (v.writes (Elt Ideal) f
      ((⟨Rect.unit (s := S8x1024) ![o, 0] ![1, 1024] inb, w⟩ : View.Piece (Elt Ideal) S8x1024 .f32) :: L)) y
      = w (ix2 0 (y 1)) :=
  View.read_writes_cons_rows_of_mem (o := o) v f inb w L y (ix2 0 (y 1) : S1x1024.Idx) rfl h rfl

/-- The newest store of a whole row into a buffer that held `f`, read in another row. -/
theorem writes_miss {sig : RefSig} {κ : Kind} {sp : Space} (v : View sig κ sp S8x1024 .f32)
    (f : v.ty.Contents (Elt Ideal)) {o : ℕ}
    (inb : ∀ a : Fin 2, (![o, 0] : Fin 2 → ℕ) a + (![1, 1024] : Fin 2 → ℕ) a ≤ S8x1024.size a)
    (w : S1x1024.Idx → EReal) (L : List (View.Piece (Elt Ideal) S8x1024 .f32)) (y : S8x1024.Idx) (h : ¬(y 0).val = o) :
    v.read (Elt Ideal) (v.writes (Elt Ideal) f
      ((⟨Rect.unit (s := S8x1024) ![o, 0] ![1, 1024] inb, w⟩ : View.Piece (Elt Ideal) S8x1024 .f32) :: L)) y
      = v.read (Elt Ideal) (v.writes (Elt Ideal) f L) y :=
  View.read_writes_cons_rows_of_not_mem (o := o) (W := 1) v f inb w L y rfl rfl (by omega)

/-- At the first point the scale's gradient is zero. -/
theorem dg_reset (h : t.val % 32 = 0) (y : S8x1024.Idx) :
    (outsAt0 m d t.val t.isLt).2.1 y = 0 + dgTerm (args m d) t y := by
  rw [outsAt0_A m d t h (by omega) (by omega) (by omega), dgTerm, if_neg (by omega), add_zero]
  frame_out
  pointwise [k0_pay1]

/-- At a later point the scale's gradient grows by what the point adds. -/
theorem dg_step (h : ¬t.val % 32 = 0) (y : S8x1024.Idx) :
    (outsAt0 m d t.val t.isLt).2.1 y
      = (outsAt0 m d (t.val - 1) (Nat.lt_of_le_of_lt (Nat.sub_le _ _) t.isLt)).2.1 y + dgTerm (args m d) t y := by
  by_cases h3 : t.val % 4 = 3
  · have hE := acc_last (m := m) (d := d) t h3
    rw [outsAt0_C m d t h (by omega) (by omega) h3] at hE ⊢
    frame_out
    by_cases r0 : (y 0).val = 0
    · rw [dgTerm, if_pos ⟨h3, r0⟩]
      refine (writes_hit _ _ _ _ _ _ r0).trans ?_
      refine (k_dg t _ _ _ (fun i k => ?_) (x_at t) (y 1)).trans (congrArg (· + _) ?_)
      · refine Eq.trans ?_ (hE i k)
        frame_out
      · exact congrArg (outsAt0 m d (t.val - 1) (Nat.lt_of_le_of_lt (Nat.sub_le _ _) t.isLt)).2.1
          (funext (Fin.forall_fin_two.mpr ⟨Fin.ext (by simpa using r0.symm), Fin.ext (by simp)⟩))
    · rw [dgTerm, if_neg (fun c => r0 c.2), add_zero]
      refine (writes_miss _ _ _ _ _ _ r0).trans ?_
      exact congrFun (Memref.IsWhole.read_unread _ _) y
  · rw [dgTerm, if_neg (fun c => h3 c.1), add_zero]
    by_cases h1 : t.val % 4 = 0
    · rw [outsAt0_D m d t h h1 (by omega) h3]
      rfl
    · rw [outsAt0_B m d t h h1 (by omega) h3]
      rfl

/-- A point's term by its tile and group of columns. -/
theorem dgTerm_at (A : Args) (T : Fin 8) (j : Fin 4) (t : Fin cfg0.N) (h : t.val = T.val * 4 + j.val) (y : S8x1024.Idx) :
    dgTerm A t y = if j.val = 3 ∧ (y 0).val = 0 then ∑ i, dgRow A (row T i) (y 1) else 0 := by
  have e : tile t = T := Fin.ext (by show t.val / 4 = T.val; omega)
  rw [dgTerm, e]
  exact if_congr (by rw [h]; constructor <;> (intro c; constructor <;> omega)) rfl rfl

/-- After the last point the scale's gradient is the sum over all the rows. -/
theorem dg_at (h : t.val % 32 = 31) (y : S8x1024.Idx) :
    (outsAt0 m d t.val t.isLt).2.1 y = dgR (args m d) (y 0) (y 1) := by
  have hN : t.val < 32 := lt_of_lt_of_eq t.isLt (show cfg0.N = 32 from N_0)
  refine (Pipeline.eq_sum_fin_of_reset_step_apply_of_flush (fun n hn => (outsAt0 m d n hn).2.1) 32 (fun _ => 0)
    (fun t y => dgTerm (args m d) t y) (fun t h y => dg_reset t h y) (fun t h y => dg_step t h y) t h y).trans ?_
  rw [zero_add, Fin.sum_univ_tiles 8 4 rfl]
  have e : ∀ T : Fin 8, ∀ s : Fin 4 → Fin cfg0.N, (∀ j, (s j).val = T.val * 4 + j.val) →
      ∑ j : Fin 4, dgTerm (args m d) (s j) y
        = if (y 0).val = 0 then ∑ i, dgRow (args m d) (row T i) (y 1) else 0 := fun T s hs => by
    rw [Fin.sum_univ_four, dgTerm_at _ T 0 _ (hs 0), dgTerm_at _ T 1 _ (hs 1), dgTerm_at _ T 2 _ (hs 2),
      dgTerm_at _ T 3 _ (hs 3)]
    simp
  refine (Finset.sum_congr rfl fun T _ => e T (fun j => ⟨32 * (t.val / 32) + (T.val * 4 + j.val), _⟩) fun j => by
    show 32 * (t.val / 32) + (T.val * 4 + j.val) = T.val * 4 + j.val
    omega).trans ?_
  unfold dgR
  by_cases r0 : (y 0).val = 0
  · simp only [if_pos r0]
    exact (Fin.sum_univ_tiles 8 1024 rfl fun R => dgRow (args m d) R (y 1)).symm
  · simp only [if_neg r0]
    exact Finset.sum_const_zero

/-- The input's gradient the kernel leaves. -/
theorem final_dx : (dats m 0 d).arrAt 5 cfg0.N = fun y : S8192x1024.Idx => dxR (args m d) (y 0) (y 1) := by
  refine (dats m 0 d).arrAt_eq_of_covers 5 _ (by decide +kernel) fun t hf y => ?_
  blk_simp
  rw [after0_5]
  refine (congrArg _ (eq_ix2 y)).trans ((dx_at t ((flush0_5 t).mp hf) _ _).trans ?_)
  refine congrArg₂ (dxR (args m d)) (Fin.ext ?_) (Fin.ext ?_)
  all_goals blk_simp [idx t, tile, row]

/-- The scale's gradient the kernel leaves. -/
theorem final_dg : (dats m 0 d).arrAt 6 cfg0.N = fun y : S8x1024.Idx => dgR (args m d) (y 0) (y 1) := by
  refine (dats m 0 d).arrAt_eq_of_covers 6 _ (by decide +kernel) fun t hf y => ?_
  blk_simp
  rw [after0_6]
  refine (dg_at t ((flush0_6 t).mp hf) y).trans ?_
  refine congrArg₂ (dgR (args m d)) (Fin.ext ?_) (Fin.ext ?_)
  all_goals blk_simp [idx t]

end InGrad
-- ==== Proof.DIn.lean ====
module

public import proofs.«01_k».proof.Proof.DInSteps
public import proofs.«01_k».proof.Proof.Finite
public import proofs.«01_k».proof.Proof.Gen.Pre_finite_din
public import Idealize.ShloMosaic.Lib.Claim

/-!
The gradient of a layer's input through its input product and the norm before it: the kernel and the reference leave
the same arrays where the arguments are finite.
-/

@[expose] public section

set_option maxRecDepth 16384

noncomputable section

open Idealize.ShloMosaic Idealize.ShloMosaic.TcCoe Idealize.SL.Sem
open Rows Model

namespace InGrad

/-- Where the precondition holds the input, the scale, the weight and the incoming gradient are real. -/
theorem real_args (A : Args) (h : Cert.Pre_finite_din.fn (F := Ideal) A.x0 A.x1 A.x2 A.x3 A.x4 = fun _ => 1#1) :
    (∀ i, IsReal (A.x0 i)) ∧ (∀ i, IsReal (A.x1 i)) ∧ (∀ i, IsReal (A.x2 i)) ∧ ∀ i, IsReal (A.x3 i) := by
  have e := congrFun h (Shape.Idx.first Cert.Pre_finite_din.Gen.h_S_)
  obtain ⟨e, e3⟩ := IntOp.andi_eq_one.1 e
  obtain ⟨e, e2⟩ := IntOp.andi_eq_one.1 e
  obtain ⟨e0, e1⟩ := IntOp.andi_eq_one.1 e
  exact ⟨RefSide.real_of_test _ _ _ _ _ _ e0, RefSide.real_of_test _ _ _ _ _ _ e1, RefSide.real_of_test _ _ _ _ _ _ e2,
    RefSide.real_of_test _ _ _ _ _ _ e3⟩

/-- The two forms of the norm's gradient agree on real arguments. -/
theorem norm_eq (A : Args) (h : Cert.Pre_finite_din.fn (F := Ideal) A.x0 A.x1 A.x2 A.x3 A.x4 = fun _ => 1#1)
    (R : Fin 8192) (k : Fin 1024) : normRef (xR A R) (dnR A R) k = rmsKer (xR A R) (dnR A R) k := by
  obtain ⟨h0, h1, h2, h3⟩ := real_args A h
  exact rms_eq (fun _ => h0 _) (fun _ => (IsReal.sum fun _ => (h3 _).mul (h2 _)).mul (h1 _)) k

/-- From memories that agree on the arguments, the kernel and the reference both run and leave the same two
    gradients. -/
theorem algebraic (m : (ℓ : Loc Cert.DgradInIdeal.nD Cert.DgradInIdeal.τ Cert.DgradInIdeal.sig) → Buf (Elt Ideal) ℓ) (g : Dev Cert.DgradInIdeal.nD → PrngReg)
    (m' : (ℓ : Loc Cert.DgradInRefIdeal.nD Cert.DgradInRefIdeal.τ Cert.DgradInRefIdeal.sig) → Buf (Elt Ideal) ℓ) (g' : Dev Cert.DgradInRefIdeal.nD → PrngReg)
    (hpre : ∀ c : Dev Cert.DgradInIdeal.nD, Cert.Pre_finite_din.fn (F := Ideal) (args m c).x0 (args m c).x1 (args m c).x2 (args m c).x3 (args m c).x4 = fun _ => 1#1)
    (hagree : ∀ c : Dev Cert.DgradInIdeal.nD,
      m' ((c.tc : Thread Cert.DgradInRefIdeal.nD Cert.DgradInRefIdeal.τ).loc Cert.DgradInRefIdeal.main_arg0) = m ((c.tc : Thread Cert.DgradInIdeal.nD Cert.DgradInIdeal.τ).loc Cert.DgradInIdeal.main_arg0)
      ∧ m' ((c.tc : Thread Cert.DgradInRefIdeal.nD Cert.DgradInRefIdeal.τ).loc Cert.DgradInRefIdeal.main_arg1) = m ((c.tc : Thread Cert.DgradInIdeal.nD Cert.DgradInIdeal.τ).loc Cert.DgradInIdeal.main_arg1)
      ∧ m' ((c.tc : Thread Cert.DgradInRefIdeal.nD Cert.DgradInRefIdeal.τ).loc Cert.DgradInRefIdeal.main_arg2) = m ((c.tc : Thread Cert.DgradInIdeal.nD Cert.DgradInIdeal.τ).loc Cert.DgradInIdeal.main_arg2)
      ∧ m' ((c.tc : Thread Cert.DgradInRefIdeal.nD Cert.DgradInRefIdeal.τ).loc Cert.DgradInRefIdeal.main_arg3) = m ((c.tc : Thread Cert.DgradInIdeal.nD Cert.DgradInIdeal.τ).loc Cert.DgradInIdeal.main_arg3)
      ∧ m' ((c.tc : Thread Cert.DgradInRefIdeal.nD Cert.DgradInRefIdeal.τ).loc Cert.DgradInRefIdeal.main_arg4) = m ((c.tc : Thread Cert.DgradInIdeal.nD Cert.DgradInIdeal.τ).loc Cert.DgradInIdeal.main_arg4)) :
    ∃ (v0 : (c : Dev Cert.DgradInIdeal.nD) → Buf (Elt Ideal) ((c.tc : Thread Cert.DgradInIdeal.nD Cert.DgradInIdeal.τ).loc Cert.DgradInIdeal.main_v9_0)) (v1 : (c : Dev Cert.DgradInIdeal.nD) → Buf (Elt Ideal) ((c.tc : Thread Cert.DgradInIdeal.nD Cert.DgradInIdeal.τ).loc Cert.DgradInIdeal.main_v9_1)),
      θ_run (Cert.DgradInIdeal.defs (F := Ideal)) (onTc (τ := Cert.DgradInIdeal.τ) (Cert.DgradInIdeal.main (F := Ideal))) ⟨m, fun _ => 0, g⟩ (fun r => ∀ c : Dev Cert.DgradInIdeal.nD,
          r.2.mem ((c.tc : Thread Cert.DgradInIdeal.nD Cert.DgradInIdeal.τ).loc Cert.DgradInIdeal.main_v9_0) = v0 c
          ∧ r.2.mem ((c.tc : Thread Cert.DgradInIdeal.nD Cert.DgradInIdeal.τ).loc Cert.DgradInIdeal.main_v9_1) = v1 c
          ∧ r.2.mem ((c.tc : Thread Cert.DgradInIdeal.nD Cert.DgradInIdeal.τ).loc Cert.DgradInIdeal.main_arg0) = m ((c.tc : Thread Cert.DgradInIdeal.nD Cert.DgradInIdeal.τ).loc Cert.DgradInIdeal.main_arg0)
          ∧ r.2.mem ((c.tc : Thread Cert.DgradInIdeal.nD Cert.DgradInIdeal.τ).loc Cert.DgradInIdeal.main_arg1) = m ((c.tc : Thread Cert.DgradInIdeal.nD Cert.DgradInIdeal.τ).loc Cert.DgradInIdeal.main_arg1)
          ∧ r.2.mem ((c.tc : Thread Cert.DgradInIdeal.nD Cert.DgradInIdeal.τ).loc Cert.DgradInIdeal.main_arg2) = m ((c.tc : Thread Cert.DgradInIdeal.nD Cert.DgradInIdeal.τ).loc Cert.DgradInIdeal.main_arg2)
          ∧ r.2.mem ((c.tc : Thread Cert.DgradInIdeal.nD Cert.DgradInIdeal.τ).loc Cert.DgradInIdeal.main_arg3) = m ((c.tc : Thread Cert.DgradInIdeal.nD Cert.DgradInIdeal.τ).loc Cert.DgradInIdeal.main_arg3)
          ∧ r.2.mem ((c.tc : Thread Cert.DgradInIdeal.nD Cert.DgradInIdeal.τ).loc Cert.DgradInIdeal.main_arg4) = m ((c.tc : Thread Cert.DgradInIdeal.nD Cert.DgradInIdeal.τ).loc Cert.DgradInIdeal.main_arg4))
      ∧ θ_run (Cert.DgradInRefIdeal.defs (F := Ideal)) (onTc (τ := Cert.DgradInRefIdeal.τ) (Cert.DgradInRefIdeal.main (F := Ideal))) ⟨m', fun _ => 0, g'⟩ (fun r => ∀ c : Dev Cert.DgradInRefIdeal.nD,
          r.2.mem ((c.tc : Thread Cert.DgradInRefIdeal.nD Cert.DgradInRefIdeal.τ).loc Cert.DgradInRefIdeal.main_v39) = v0 c
          ∧ r.2.mem ((c.tc : Thread Cert.DgradInRefIdeal.nD Cert.DgradInRefIdeal.τ).loc Cert.DgradInRefIdeal.main_v42) = v1 c
          ∧ r.2.mem ((c.tc : Thread Cert.DgradInRefIdeal.nD Cert.DgradInRefIdeal.τ).loc Cert.DgradInRefIdeal.main_arg0) = m' ((c.tc : Thread Cert.DgradInRefIdeal.nD Cert.DgradInRefIdeal.τ).loc Cert.DgradInRefIdeal.main_arg0)
          ∧ r.2.mem ((c.tc : Thread Cert.DgradInRefIdeal.nD Cert.DgradInRefIdeal.τ).loc Cert.DgradInRefIdeal.main_arg1) = m' ((c.tc : Thread Cert.DgradInRefIdeal.nD Cert.DgradInRefIdeal.τ).loc Cert.DgradInRefIdeal.main_arg1)
          ∧ r.2.mem ((c.tc : Thread Cert.DgradInRefIdeal.nD Cert.DgradInRefIdeal.τ).loc Cert.DgradInRefIdeal.main_arg2) = m' ((c.tc : Thread Cert.DgradInRefIdeal.nD Cert.DgradInRefIdeal.τ).loc Cert.DgradInRefIdeal.main_arg2)
          ∧ r.2.mem ((c.tc : Thread Cert.DgradInRefIdeal.nD Cert.DgradInRefIdeal.τ).loc Cert.DgradInRefIdeal.main_arg3) = m' ((c.tc : Thread Cert.DgradInRefIdeal.nD Cert.DgradInRefIdeal.τ).loc Cert.DgradInRefIdeal.main_arg3)
          ∧ r.2.mem ((c.tc : Thread Cert.DgradInRefIdeal.nD Cert.DgradInRefIdeal.τ).loc Cert.DgradInRefIdeal.main_arg4) = m' ((c.tc : Thread Cert.DgradInRefIdeal.nD Cert.DgradInRefIdeal.τ).loc Cert.DgradInRefIdeal.main_arg4)) := by
  refine ⟨fun c => (Cert.DgradInIdeal.Gen.dats m 0 c).arrAt 5 Cert.DgradInIdeal.cfg0.N,
    fun c => (Cert.DgradInIdeal.Gen.dats m 0 c).arrAt 6 Cert.DgradInIdeal.cfg0.N,
    Cert.DgradInIdeal.Value.run_blocks m g, ?_⟩
  refine θ_run_mono (Cert.DgradInRefIdeal.Value.run m' g') fun r h c =>
    ⟨(h c).1.trans ?_, (h c).2.1.trans ?_, (h c).2.2⟩
  · obtain ⟨ha0, ha1, ha2, ha3, ha4⟩ := hagree c
    refine (Cert.DgradInRefIdeal.Read.val_main_v39_eq (F := Ideal) m' c).trans ?_
    rw [ha0, ha1, ha2, ha3, ha4]
    refine Eq.trans ?_ final_dx.symm
    funext y
    exact (congrArg _ (eq_ix2 y)).trans (ref_dx (args m c) (y 0) (y 1) (norm_eq (args m c) (hpre c)))
  · obtain ⟨ha0, ha1, ha2, ha3, ha4⟩ := hagree c
    refine (Cert.DgradInRefIdeal.Read.val_main_v42_eq (F := Ideal) (m' ((c.tc : Thread Cert.DgradInRefIdeal.nD Cert.DgradInRefIdeal.τ).loc Cert.DgradInRefIdeal.main_arg0)) (m' ((c.tc : Thread Cert.DgradInRefIdeal.nD Cert.DgradInRefIdeal.τ).loc Cert.DgradInRefIdeal.main_arg2)) (m' ((c.tc : Thread Cert.DgradInRefIdeal.nD Cert.DgradInRefIdeal.τ).loc Cert.DgradInRefIdeal.main_arg3))).trans ?_
    rw [ha0, ha2, ha3]
    refine Eq.trans ?_ final_dg.symm
    funext y
    exact (congrArg _ (eq_ix2 y)).trans (ref_dg (args m c) (y 1) (y 0))

end InGrad
-- ==== Proof.FfModel.lean ====
module

public import proofs.«01_k».proof.Proof.Sums
public import proofs.«01_k».proof.Proof.Gen.FfnFwdRefIdeal.Run
public import proofs.«01_k».proof.Proof.Gen.FfnFwdRefIdeal.Read
public import Idealize.ShloMosaic.Lib.Pointwise

/-!
The channel mixer's forward pass: what it and what it keeps are, row by row, and that the reference computes them.
-/

@[expose] public section

set_option maxRecDepth 16384

noncomputable section

open Idealize.ShloMosaic Idealize.ShloMosaic.TcCoe Idealize.SL.Sem
open Cert.FfnFwdRefIdeal Cert.FfnFwdRefIdeal.Gen Cert.FfnFwdRefIdeal.Read
open Rows Model Sums

namespace FfSide

/-- The five arguments. -/
structure Args where
  /-- the channel mixer's input -/
  x0 : FVec Ideal S4x2048x1024 .f32
  /-- the norm's scale -/
  x1 : FVec Ideal S1024 .f32
  /-- the widening product's weight -/
  x2 : FVec Ideal S1024x5632 .f32
  /-- the convolution's taps -/
  x3 : FVec Ideal S3x5632 .f32
  /-- the narrowing product's weight -/
  x4 : FVec Ideal S2816x1024 .f32

variable (A : Args)

/-- A row of the input. -/
def xR (R : Fin 8192) (k : Fin 1024) : EReal := A.x0 (ix3 (bOf R) (sOf R) k)

/-- A normed row. -/
def hR (R : Fin 8192) (k : Fin 1024) : EReal := xR A R k * rms (xR A R) * A.x1 (ix1 k)

/-- A row of the widening product. -/
def upR (R : Fin 8192) (q : Fin 5632) : EReal := ∑ k, hR A R k * A.x2 (ix2 k q)

/-- `f` at `n` rows earlier in the same sequence, zero before its start. -/
def earlier (f : Fin 8192 → Fin 5632 → EReal) (n : ℕ) (R : Fin 8192) (q : Fin 5632) : EReal :=
  if n ≤ R.val % 2048 then f ⟨R.val - n, by omega⟩ q else 0

/-- A row of the convolution. -/
def convR (R : Fin 8192) (q : Fin 5632) : EReal :=
  earlier (upR A) 2 R q * A.x3 (ix2 0 q) + earlier (upR A) 1 R q * A.x3 (ix2 1 q) + upR A R q * A.x3 (ix2 2 q)

/-- A row of the gate. -/
def gateR (R : Fin 8192) (p : Fin 2816) : EReal := convR A R ⟨p.val, by omega⟩

/-- A row of what is gated. -/
def valR (R : Fin 8192) (p : Fin 2816) : EReal := convR A R ⟨2816 + p.val, by omega⟩

/-- The logistic function of a row of the gate. -/
def sgR (R : Fin 8192) (p : Fin 2816) : EReal := Ideal.logistic (gateR A R p)

/-- The gate's activation. -/
def siluR (R : Fin 8192) (p : Fin 2816) : EReal := gateR A R p * sgR A R p

/-- The derivative of the activation in the gate. -/
def slopeR (R : Fin 8192) (p : Fin 2816) : EReal :=
  valR A R p * (sgR A R p * (1 + gateR A R p * (1 - sgR A R p)))

/-- The activation. -/
def actR (R : Fin 8192) (p : Fin 2816) : EReal := siluR A R p * valR A R p

/-- A row of the output. -/
def outR (R : Fin 8192) (k : Fin 1024) : EReal := xR A R k + ∑ p, actR A R p * A.x4 (ix2 p k)

/-- Column `c` of one of eight blocks of 704. -/
def colU (j : Fin 8) (c : Fin 704) : Fin 5632 := ⟨j.val * 704 + c.val, by omega⟩

/-- Column `c` of one of four blocks of 704. -/
def colF (j : Fin 4) (c : Fin 704) : Fin 2816 := ⟨j.val * 704 + c.val, by omega⟩

/-- The derivatives of the activation, in eight blocks. -/
def facR (j : Fin 8) (R : Fin 8192) (c : Fin 704) : EReal :=
  if h : j.val < 4 then slopeR A R (colF ⟨j.val, h⟩ c) else siluR A R (colF ⟨j.val - 4, by omega⟩ c)

variable (R : Fin 8192) (k : Fin 1024) (q : Fin 5632) (p : Fin 2816)

/-- The normed rows. -/
theorem ref_h : val_main_v12 (F := Ideal) A.x0 A.x1 (ix3 (bOf R) (sOf R) k) = hR A R k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The widening product. -/
theorem ref_up : val_main_v13 (F := Ideal) A.x0 A.x1 A.x2 (ix3 (bOf R) (sOf R) q) = upR A R q := by
  pointwise [val_main_v13, ref_h]
  rfl

/-- The row of a sequence and a place. -/
def flat (b : Fin 4) (s : Fin 2048) : Fin 8192 := ⟨b.val * 2048 + s.val, by omega⟩

/-- The widening product, by sequence and place. -/
theorem ref_up' (b : Fin 4) (s : Fin 2048) :
    val_main_v13 (F := Ideal) A.x0 A.x1 A.x2 (ix3 b s q) = upR A (flat b s) q := by
  rw [← ref_up]
  refine congrArg (val_main_v13 (F := Ideal) A.x0 A.x1 A.x2) ?_
  have hb : bOf (flat b s) = b := Fin.ext (by show (b.val * 2048 + s.val) / 2048 = b.val; omega)
  have hs : sOf (flat b s) = s := Fin.ext (by show (b.val * 2048 + s.val) % 2048 = s.val; omega)
  rw [hb, hs]

/-- Rows two earlier, one earlier and the same, over the padded sequence. -/
theorem ref_pad (o : ℕ) (ho : o ≤ 2) (h : o + (sOf R).val < 2050) :
    val_main_v15 (F := Ideal) A.x0 A.x1 A.x2 (ix3 (bOf R) ⟨o + (sOf R).val, h⟩ q) = earlier (upR A) (2 - o) R q := by
  pointwise [val_main_v15, val_main_v14, val_main_cst_2]
  have hs : (sOf R).val = R.val % 2048 := rfl
  have hb : (bOf R).val = R.val / 2048 := rfl
  unfold earlier
  by_cases c : o + (sOf R).val < 2
  · rw [dif_pos c, if_neg (by omega)]
  · rw [dif_neg c]
    refine (ref_up' A q (bOf R) ⟨o + (sOf R).val - 2, by omega⟩).trans ?_
    refine Eq.trans ?_ (if_pos (by omega)).symm
    refine congrArg (upR A · q) (Fin.ext ?_)
    show (bOf R).val * 2048 + (o + (sOf R).val - 2) = R.val - (2 - o)
    omega

/-- The convolution. -/
theorem ref_conv : val_main_v35 (F := Ideal) A.x0 A.x1 A.x2 A.x3 (ix3 (bOf R) (sOf R) q) = convR A R q := by
  have h0 := ref_pad A R q 0 (by omega) (by omega)
  have h1 := ref_pad A R q 1 (by omega) (by omega)
  have h2 := ref_pad A R q 2 (by omega) (by omega)
  pointwise [val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16]
  refine congrArg₂ (· + ·) (congrArg₂ (· + ·) (congrArg (· * _) ?_) (congrArg (· * _) ?_)) (congrArg (· * _) ?_)
  · refine Eq.trans (congrArg (val_main_v15 (F := Ideal) A.x0 A.x1 A.x2) ?_) h0
    exact congrArg (ix3 (bOf R) · q) (Fin.ext (by simp))
  · exact h1
  · refine h2.trans ?_
    unfold earlier
    rw [if_pos (by omega)]
    rfl

/-- The gate. -/
theorem ref_gate : val_main_v36 (F := Ideal) A.x0 A.x1 A.x2 A.x3 (ix3 (bOf R) (sOf R) p) = gateR A R p := by
  pointwise [val_main_v36, ref_conv]
  rfl

/-- What is gated. -/
theorem ref_val : val_main_v37 (F := Ideal) A.x0 A.x1 A.x2 A.x3 (ix3 (bOf R) (sOf R) p) = valR A R p := by
  pointwise [val_main_v37, ref_conv]
  rfl

/-- The gate's logistic function. -/
theorem ref_sg : val_main_v43 (F := Ideal) A.x0 A.x1 A.x2 A.x3 (ix3 (bOf R) (sOf R) p) = sgR A R p := by
  pointwise [val_main_v43, val_main_v42, val_main_v41, val_main_v40, val_main_v39, val_main_v38, val_main_cst_3,
    val_main_cst_4, ref_gate]
  rfl

/-- The gate's activation. -/
theorem ref_silu : val_main_v44 (F := Ideal) A.x0 A.x1 A.x2 A.x3 (ix3 (bOf R) (sOf R) p) = siluR A R p := by
  refine Eq.trans ?_ (congrArg (gateR A R p * ·) (ref_sg A R p))
  pointwise [val_main_v44, val_main_call0_v5, val_main_call0_v4, val_main_call0_v3, val_main_call0_v2, val_main_call0_v1,
    val_main_call0_v0, val_main_call0_cst, val_main_call0_cst_0, val_main_v43, val_main_v42, val_main_v41, val_main_v40,
    val_main_v39, val_main_v38, val_main_cst_3, val_main_cst_4, ref_gate]

/-- The gate's activation, computed once more. -/
theorem ref_silu2 : val_main_v53 (F := Ideal) A.x0 A.x1 A.x2 A.x3 (ix3 (bOf R) (sOf R) p) = siluR A R p :=
  ref_silu A R p

/-- The activation. -/
theorem ref_act : val_main_v45 (F := Ideal) A.x0 A.x1 A.x2 A.x3 (ix3 (bOf R) (sOf R) p) = actR A R p := by
  pointwise [val_main_v45, ref_silu, ref_val]
  rfl

/-- The activation's derivative in the gate. -/
theorem ref_slope : val_main_v52 (F := Ideal) A.x0 A.x1 A.x2 A.x3 (ix3 (bOf R) (sOf R) p) = slopeR A R p := by
  pointwise [val_main_v52, val_main_v51, val_main_v50, val_main_v49, val_main_v48, val_main_v47, val_main_v46, val_main_cst_5,
    val_main_cst_6, ref_val, ref_sg, ref_gate]
  rfl

/-- The first result. -/
theorem ref_out0 : val_main_v56 (F := Ideal) A.x0 A.x1 (ix2 R k) = hR A R k := by
  pointwise [val_main_v56, val_main_v55]
  exact ref_h A R k

/-- The second result. -/
theorem ref_out1 (j : Fin 8) (c : Fin 704) :
    val_main_v58 (F := Ideal) A.x0 A.x1 A.x2 (ix3 j R c) = upR A R (colU j c) := by
  pointwise [val_main_v58, val_main_v57]
  refine Eq.trans ?_ (ref_up A R (colU j c))
  rfl

/-- The third result. -/
theorem ref_out2 (j : Fin 8) (c : Fin 704) :
    val_main_v61 (F := Ideal) A.x0 A.x1 A.x2 A.x3 (ix3 j R c) = facR A j R c := by
  pointwise [val_main_v61, val_main_v60, val_main_v59, val_main_v54]
  unfold facR
  by_cases h : j.val < 4
  · rw [dif_pos h, dif_pos (by omega)]
    exact ref_slope A R (colF ⟨j.val, h⟩ c)
  · rw [dif_neg h, dif_neg (by omega)]
    refine Eq.trans ?_ (ref_silu2 A R (colF ⟨j.val - 4, by omega⟩ c))
    refine congrArg (fun q => val_main_v53 (F := Ideal) A.x0 A.x1 A.x2 A.x3 (ix3 (bOf R) (sOf R) q)) (Fin.ext ?_)
    show j.val * 704 + c.val - 2816 = (j.val - 4) * 704 + c.val
    omega

/-- The fourth result. -/
theorem ref_out3 (j : Fin 4) (c : Fin 704) :
    val_main_v64 (F := Ideal) A.x0 A.x1 A.x2 A.x3 (ix3 j R c) = actR A R (colF j c) := by
  pointwise [val_main_v64, val_main_v63, val_main_v62]
  refine Eq.trans ?_ (ref_act A R (colF j c))
  rfl

/-- The fifth result. -/
theorem ref_out4 : val_main_v67 (F := Ideal) A.x0 A.x1 A.x2 A.x3 A.x4 (ix2 R k) = outR A R k := by
  pointwise [val_main_v67, val_main_v66, val_main_v65]
  exact congrArg₂ (· + ·) rfl (Finset.sum_congr rfl fun p _ => congrArg (· * _) (ref_act A R p))

end FfSide
-- ==== Proof.FfKer.lean ====
module

public import proofs.«01_k».proof.Proof.FfModel
public import proofs.«01_k».proof.Proof.Gen.FfnFwdIdeal.Skeleton
public import Idealize.ShloMosaic.Lib.Pipeline.ValueKit
public import Idealize.ShloMosaic.Lib.Pointwise

/-!
The kernel for the channel mixer's forward pass: what its stores compute from what they read, one tile of 256 rows at a
time.
-/

@[expose] public section

set_option maxRecDepth 16384

noncomputable section

open Idealize.ShloMosaic Idealize.ShloMosaic.TcCoe Idealize.ShloMosaic.Tactic Idealize.SL.Sem
open Cert.FfnFwdIdeal Cert.FfnFwdIdeal.Gen
open Rows Model Sums

namespace FfSide

/-- A choice on a comparison of two counters, below. -/
theorem select_lt {a b : ℕ} (ha : a < 2 ^ 31) (hb : b < 2 ^ 31) (x y : EReal) :
    Scalar.select (IntOp.cmpi .slt (BitVec.ofNat 32 a) (BitVec.ofNat 32 b)) x y
      = if a < b then x else y := by
  rw [WordCmp.cmpi_slt_ofNat (by simpa using ha) (by simpa using hb), WordCmp.select_ofBool]
  simp only [decide_eq_true_eq]

/-- Row `i` of tile `T`. -/
def row (T : Fin 32) (i : Fin 256) : Fin 8192 := ⟨T.val * 256 + i.val, by omega⟩

variable (A : Args) (T : Fin 32) (j : Fin 8)

/-- An earlier row of the same tile. -/
theorem earlier_in (f : Fin 8192 → Fin 5632 → EReal) (n : ℕ) (i : Fin 256) (q : Fin 5632) (h : n ≤ i.val) :
    earlier f n (row T i) q = f (row T ⟨i.val - n, by omega⟩) q := by
  have hi : (row T i).val = T.val * 256 + i.val := rfl
  unfold earlier
  rw [if_pos (by omega)]
  exact congrArg (f · q) (Fin.ext (by show T.val * 256 + i.val - n = T.val * 256 + (i.val - n); omega))

/-- An earlier row of the tile before, counted from the tile's first row. -/
theorem earlier_out (f : Fin 8192 → Fin 5632 → EReal) (n a : ℕ) (i : Fin 256) (q : Fin 5632) (h : a + i.val = n) :
    earlier f a (row T 0) q = earlier f n (row T i) q := by
  have hi : (row T i).val = T.val * 256 + i.val := rfl
  have h0 : (row T 0).val = T.val * 256 + 0 := rfl
  unfold earlier
  by_cases hl : n ≤ (row T i).val % 2048
  · rw [if_pos hl, if_pos (by omega)]
    exact congrArg (f · q) (Fin.ext (by show (row T 0).val - a = (row T i).val - n; omega))
  · rw [if_neg hl, if_neg (by omega)]

/-- A block of the tile's rows of the widening product. -/
def Up (U : Vec Ideal S1x256x704 .f32) : Prop :=
  ∀ (i : Fin 256) (c : Fin 704), U (ix3 0 i c) = upR A (row T i) (colU j c)

/-- What was handed over times the factor on it: the last eight rows of the tile before, zero before a sequence's
start. -/
def Bound (s : Ideal .f32) (C : Vec Ideal S1x8x704 .f32) : Prop :=
  ∀ (a : Fin 8) (c : Fin 704), C (ix3 0 a c) * s = earlier (upR A) (8 - a.val) (row T 0) (colU j c)

/-- A block of the taps. -/
def Tap (W : Vec Ideal S1x8x704 .f32) : Prop :=
  ∀ (a : Fin 3) (c : Fin 704), W (ix3 0 ⟨a.val, by omega⟩ c) = A.x3 (ix2 a (colU j c))

/-- A block of the tile's rows of the convolution. -/
def Conv (X : FVec Ideal S256x704 .f32) : Prop :=
  ∀ (i : Fin 256) (c : Fin 704), X (ix2 i c) = convR A (row T i) (colU j c)

variable {A T j} (s : Ideal .f32) (U : Vec Ideal S1x256x704 .f32) (C W : Vec Ideal S1x8x704 .f32)

/-- The convolution from shifted rows: the rows one and two earlier come from the tile, or from what was handed over. -/
theorem conv_step (hU : Up A T j U) (hC : Bound A T j s C) (hW : Tap A j W) (i : Fin 256) (c : Fin 704) :
    (if _h : i.val < 8 then
            Scalar.select (IntOp.cmpi CmpIPredicate.slt (BitVec.ofNat 32 i.val) 2#32)
              (C (ix3 0 ⟨(i.val + 8 - 2) % 8, by omega⟩ c) * s) (U (ix3 0 ⟨(i.val + 256 - 2) % 256, by omega⟩ c))
          else U (ix3 0 ⟨(8 + (i.val - 8) + 256 - 2) % 256, by omega⟩ c)) *
          W (ix3 0 0 c) +
        (if _h : i.val < 8 then
            Scalar.select (IntOp.cmpi CmpIPredicate.slt (BitVec.ofNat 32 i.val) 1#32)
              (C (ix3 0 ⟨(i.val + 8 - 1) % 8, by omega⟩ c) * s) (U (ix3 0 ⟨(i.val + 256 - 1) % 256, by omega⟩ c))
          else U (ix3 0 ⟨(8 + (i.val - 8) + 256 - 1) % 256, by omega⟩ c)) *
          W (ix3 0 1 c) +
      U (ix3 0 i c) * W (ix3 0 2 c) = convR A (row T i) (colU j c) := by
  refine congrArg₂ (· + ·) (congrArg₂ (· + ·) (congrArg₂ (· * ·) ?_ (hW 0 c)) (congrArg₂ (· * ·) ?_ (hW 1 c)))
    (congrArg₂ (· * ·) (hU i c) (hW 2 c))
  · by_cases h : i.val < 8
    · rw [dif_pos h]
      refine (select_lt (b := 2) (by omega) (by omega) _ _).trans ?_
      by_cases h2 : i.val < 2
      · rw [if_pos h2]
        exact (hC _ c).trans (earlier_out T _ 2 _ i _ (by show 8 - (i.val + 8 - 2) % 8 + i.val = 2; omega))
      · rw [if_neg h2, earlier_in T _ 2 i _ (by omega)]
        exact (hU _ c).trans (congrArg (upR A · (colU j c)) (congrArg (row T) (Fin.ext (by
          show (i.val + 256 - 2) % 256 = i.val - 2; omega))))
    · rw [dif_neg h, earlier_in T _ 2 i _ (by omega)]
      exact (hU _ c).trans (congrArg (upR A · (colU j c)) (congrArg (row T) (Fin.ext (by
        show (8 + (i.val - 8) + 256 - 2) % 256 = i.val - 2; omega))))
  · by_cases h : i.val < 8
    · rw [dif_pos h]
      refine (select_lt (b := 1) (by omega) (by omega) _ _).trans ?_
      by_cases h2 : i.val < 1
      · rw [if_pos h2]
        exact (hC _ c).trans (earlier_out T _ 1 _ i _ (by show 8 - (i.val + 8 - 1) % 8 + i.val = 1; omega))
      · rw [if_neg h2, earlier_in T _ 1 i _ (by omega)]
        exact (hU _ c).trans (congrArg (upR A · (colU j c)) (congrArg (row T) (Fin.ext (by
          show (i.val + 256 - 1) % 256 = i.val - 1; omega))))
    · rw [dif_neg h, earlier_in T _ 1 i _ (by omega)]
      exact (hU _ c).trans (congrArg (upR A · (colU j c)) (congrArg (row T) (Fin.ext (by
        show (8 + (i.val - 8) + 256 - 1) % 256 = i.val - 1; omega))))

/-- Block 0 of the convolution. -/
theorem k_conv0 (hU : Up A T j U) (hC : Bound A T j s C) (hW : Tap A j W) :
    Conv A T j (k0_pay16 (F := Ideal) (k0_pay14 U) (k0_pay15 s C) W) := fun i c => by
  pointwise [k0_pay16, k0_pay14, k0_pay15]
  exact conv_step s U C W hU hC hW i c

/-- Block 4 of the convolution. -/
theorem k_conv4 (hU : Up A T j U) (hC : Bound A T j s C) (hW : Tap A j W) :
    Conv A T j (k0_pay20 (F := Ideal) (k0_pay18 U) (k0_pay19 s C) W) := fun i c => by
  pointwise [k0_pay20, k0_pay18, k0_pay19]
  exact conv_step s U C W hU hC hW i c

/-- Block 1 of the convolution. -/
theorem k_conv1 (hU : Up A T j U) (hC : Bound A T j s C) (hW : Tap A j W) :
    Conv A T j (k0_pay36 (F := Ideal) (k0_pay30 U) (k0_pay31 s C) (k0_pay32 W) (k0_pay34 s U C) (k0_pay35 U)) := fun i c => by
  pointwise [k0_pay36, k0_pay30, k0_pay31, k0_pay32, k0_pay34, k0_pay35, k0_pay33]
  exact conv_step s U C W hU hC hW i c

/-- Block 5 of the convolution. -/
theorem k_conv5 (hU : Up A T j U) (hC : Bound A T j s C) (hW : Tap A j W) :
    Conv A T j (k0_pay44 (F := Ideal) (k0_pay38 U) (k0_pay39 s C) (k0_pay40 W) (k0_pay42 s U C) (k0_pay43 U)) := fun i c => by
  pointwise [k0_pay44, k0_pay38, k0_pay39, k0_pay40, k0_pay42, k0_pay43, k0_pay41]
  exact conv_step s U C W hU hC hW i c

/-- Block 2 of the convolution. -/
theorem k_conv2 (hU : Up A T j U) (hC : Bound A T j s C) (hW : Tap A j W) :
    Conv A T j (k0_pay59 (F := Ideal) (k0_pay54 U) (k0_pay56 W) (k0_pay57 s U C) (k0_pay58 s U C W)) := fun i c => by
  pointwise [k0_pay59, k0_pay54, k0_pay56, k0_pay57, k0_pay58, k0_pay55]
  exact conv_step s U C W hU hC hW i c

/-- Block 6 of the convolution. -/
theorem k_conv6 (hU : Up A T j U) (hC : Bound A T j s C) (hW : Tap A j W) :
    Conv A T j (k0_pay66 (F := Ideal) (k0_pay61 U) (k0_pay63 W) (k0_pay64 s U C) (k0_pay65 s U C W)) := fun i c => by
  pointwise [k0_pay66, k0_pay61, k0_pay63, k0_pay64, k0_pay65, k0_pay62]
  exact conv_step s U C W hU hC hW i c

/-- Block 3 of the convolution. -/
theorem k_conv3 (hU : Up A T j U) (hC : Bound A T j s C) (hW : Tap A j W) :
    Conv A T j (k0_pay76 (F := Ideal) s U C W) := fun i c => by
  pointwise [k0_pay76, k0_pay75]
  exact conv_step s U C W hU hC hW i c

/-- Block 7 of the convolution. -/
theorem k_conv7 (hU : Up A T j U) (hC : Bound A T j s C) (hW : Tap A j W) :
    Conv A T j (k0_pay79 (F := Ideal) s U C W) := fun i c => by
  pointwise [k0_pay79, k0_pay78]
  exact conv_step s U C W hU hC hW i c

/-- What block 0 hands over. -/
theorem k_hand0 (hU : Up A T j U) (a : Fin 8) (c : Fin 704) :
    k0_pay17 (F := Ideal) (k0_pay14 U) (ix3 0 a c) = upR A (row T ⟨248 + a.val, by omega⟩) (colU j c) := by
  unfold Up at hU
  pointwise [k0_pay17, k0_pay14, hU]

/-- What block 4 hands over. -/
theorem k_hand4 (hU : Up A T j U) (a : Fin 8) (c : Fin 704) :
    k0_pay21 (F := Ideal) (k0_pay18 U) (ix3 0 a c) = upR A (row T ⟨248 + a.val, by omega⟩) (colU j c) := by
  unfold Up at hU
  pointwise [k0_pay21, k0_pay18, hU]

/-- What block 1 hands over. -/
theorem k_hand1 (hU : Up A T j U) (a : Fin 8) (c : Fin 704) :
    k0_pay37 (F := Ideal) (k0_pay30 U) (ix3 0 a c) = upR A (row T ⟨248 + a.val, by omega⟩) (colU j c) := by
  unfold Up at hU
  pointwise [k0_pay37, k0_pay30, hU]

/-- What block 5 hands over. -/
theorem k_hand5 (hU : Up A T j U) (a : Fin 8) (c : Fin 704) :
    k0_pay45 (F := Ideal) (k0_pay38 U) (ix3 0 a c) = upR A (row T ⟨248 + a.val, by omega⟩) (colU j c) := by
  unfold Up at hU
  pointwise [k0_pay45, k0_pay38, hU]

/-- What block 2 hands over. -/
theorem k_hand2 (hU : Up A T j U) (a : Fin 8) (c : Fin 704) :
    k0_pay60 (F := Ideal) (k0_pay54 U) (ix3 0 a c) = upR A (row T ⟨248 + a.val, by omega⟩) (colU j c) := by
  unfold Up at hU
  pointwise [k0_pay60, k0_pay54, hU]

/-- What block 6 hands over. -/
theorem k_hand6 (hU : Up A T j U) (a : Fin 8) (c : Fin 704) :
    k0_pay67 (F := Ideal) (k0_pay61 U) (ix3 0 a c) = upR A (row T ⟨248 + a.val, by omega⟩) (colU j c) := by
  unfold Up at hU
  pointwise [k0_pay67, k0_pay61, hU]

/-- What block 3 hands over. -/
theorem k_hand3 (hU : Up A T j U) (a : Fin 8) (c : Fin 704) :
    k0_pay77 (F := Ideal) U (ix3 0 a c) = upR A (row T ⟨248 + a.val, by omega⟩) (colU j c) := by
  unfold Up at hU
  pointwise [k0_pay77, k0_pay75, hU]

/-- What block 7 hands over. -/
theorem k_hand7 (hU : Up A T j U) (a : Fin 8) (c : Fin 704) :
    k0_pay80 (F := Ideal) U (ix3 0 a c) = upR A (row T ⟨248 + a.val, by omega⟩) (colU j c) := by
  unfold Up at hU
  pointwise [k0_pay80, k0_pay78, hU]

/-- The tile's normed rows. -/
theorem k_h (X : Vec Ideal S256x1024 .f32) (G : Vec Ideal S1x1024 .f32) (hX : ∀ i k, X (ix2 i k) = xR A (row T i) k)
    (hG : ∀ k, G (ix2 0 k) = A.x1 (ix1 k)) (i : Fin 256) (k : Fin 1024) :
    k0_pay4 (F := Ideal) X G (ix2 i k) = hR A (row T i) k := by
  pointwise [k0_pay4, k0_pay3, hX, hG]
  rfl

/-- The tile's normed rows, as a block holds them. -/
def Normed (A : Args) (T : Fin 32) (H : FVec Ideal S256x1024 .bf16) : Prop :=
  ∀ (i : Fin 256) (k : Fin 1024), H (ix2 i k) = hR A (row T i) k

/-- A block of the widening product's weight, transposed. -/
def Wide (A : Args) (j : Fin 8) (V : Vec Ideal S1x704x1024 .bf16) : Prop :=
  ∀ (c : Fin 704) (k : Fin 1024), V (ix3 0 c k) = A.x2 (ix2 k (colU j c))

variable (H : FVec Ideal S256x1024 .bf16) (V : Vec Ideal S1x704x1024 .bf16)

/-- Block 0 of the widening product. -/
theorem k_up0 (hH : Normed A T H) (hV : Wide A j V) : Up A T j (k0_pay5 (F := Ideal) H V) := fun i c => by
  unfold Normed at hH; unfold Wide at hV
  pointwise [k0_pay5, hH, hV]
  rfl

/-- Block 1 of the widening product. -/
theorem k_up1 (hH : Normed A T H) (hV : Wide A j V) : Up A T j (k0_pay6 (F := Ideal) H V) := fun i c => by
  unfold Normed at hH; unfold Wide at hV
  pointwise [k0_pay6, hH, hV]
  rfl

/-- Block 2 of the widening product. -/
theorem k_up2 (hH : Normed A T H) (hV : Wide A j V) : Up A T j (k0_pay7 (F := Ideal) H V) := fun i c => by
  unfold Normed at hH; unfold Wide at hV
  pointwise [k0_pay7, hH, hV]
  rfl

/-- Block 3 of the widening product. -/
theorem k_up3 (hH : Normed A T H) (hV : Wide A j V) : Up A T j (k0_pay8 (F := Ideal) H V) := fun i c => by
  unfold Normed at hH; unfold Wide at hV
  pointwise [k0_pay8, hH, hV]
  rfl

/-- Block 5 of the widening product. -/
theorem k_up5 (hH : Normed A T H) (hV : Wide A j V) : Up A T j (k0_pay11 (F := Ideal) H V) := fun i c => by
  unfold Normed at hH; unfold Wide at hV
  pointwise [k0_pay11, hH, hV]
  rfl

/-- Block 6 of the widening product. -/
theorem k_up6 (hH : Normed A T H) (hV : Wide A j V) : Up A T j (k0_pay12 (F := Ideal) H V) := fun i c => by
  unfold Normed at hH; unfold Wide at hV
  pointwise [k0_pay12, hH, hV]
  rfl

/-- Block 7 of the widening product. -/
theorem k_up7 (hH : Normed A T H) (hV : Wide A j V) : Up A T j (k0_pay13 (F := Ideal) H V) := fun i c => by
  unfold Normed at hH; unfold Wide at hV
  pointwise [k0_pay13, hH, hV]
  rfl

/-- Block 4 of the widening product. -/
theorem k_up4 (hH : Normed A T H) (hV : Wide A j V) : Up A T j (k0_pay10 (F := Ideal) (k0_pay9 H V)) := fun i c => by
  unfold Normed at hH; unfold Wide at hV
  pointwise [k0_pay10, k0_pay9, hH, hV]
  rfl

/-- Where a tile starts a sequence nothing is handed over. -/
theorem bound_zero (h : T.val % 8 = 0) : Bound A T j (0 : EReal) C := fun a c => by
  have h0 : (row T 0).val = T.val * 256 + 0 := rfl
  refine (mul_zero (C (ix3 0 a c) : EReal)).trans ?_
  unfold earlier
  rw [if_neg (by omega)]

/-- Elsewhere the last rows of the tile before are handed over. -/
theorem bound_prev (h : ¬T.val % 8 = 0) (T' : Fin 32) (hT : T'.val + 1 = T.val)
    (hC : ∀ (a : Fin 8) (c : Fin 704), C (ix3 0 a c) = upR A (row T' ⟨248 + a.val, by omega⟩) (colU j c)) :
    Bound A T j (1 : EReal) C := fun a c => by
  have h0 : (row T 0).val = T.val * 256 + 0 := rfl
  refine (mul_one (C (ix3 0 a c) : EReal)).trans ((hC a c).trans ?_)
  unfold earlier
  rw [if_pos (by omega)]
  exact congrArg (upR A · (colU j c)) (Fin.ext (by
    show T'.val * 256 + (248 + a.val) = (row T 0).val - (8 - a.val); omega))

/-- The factor on what was handed over: zero where the tile starts a sequence, one elsewhere. -/
theorem k_factor (t : Fin grid0.N) :
    k0_pay2 (F := Ideal) (grid0.coords t) = if t.val % 8 = 0 then (0 : EReal) else 1 := by
  have h : ∀ t : Fin grid0.N, Scalar.cmpi .eq (Scalar.select (Scalar.andi (Scalar.xori
      (Scalar.cmpi .slt (Scalar.remsi (BitVec.ofNat 32 (grid0.coords t 0).val)
        (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 (grid0.coords t 0).val)
        (Scalar.select (Scalar.cmpi .eq 8#32 0#32) 1#32 8#32)) 0#32))
      (Scalar.addi (Scalar.remsi (BitVec.ofNat 32 (grid0.coords t 0).val)
        (Scalar.select (Scalar.cmpi .eq 8#32 0#32) 1#32 8#32)) (Scalar.select (Scalar.cmpi .eq 8#32 0#32) 1#32 8#32))
      (Scalar.remsi (BitVec.ofNat 32 (grid0.coords t 0).val)
        (Scalar.select (Scalar.cmpi .eq 8#32 0#32) 1#32 8#32))) 0#32 = if t.val % 8 = 0 then 1#1 else 0#1 := by
    decide +kernel
  refine (congrArg (fun b => Scalar.select b (Scalar.ofBits (F := Ideal) .f32 0x00000000#32)
    (Scalar.ofBits (F := Ideal) .f32 0x3F800000#32)) (h t)).trans ?_
  by_cases ht : t.val % 8 = 0
  · rw [if_pos ht, if_pos ht]
    pointwise
  · rw [if_neg ht, if_neg ht]
    pointwise

/-- A block of the tile's rows of the gate. -/
def Gate (A : Args) (T : Fin 32) (k : Fin 4) (X : FVec Ideal S256x704 .f32) : Prop :=
  ∀ (i : Fin 256) (c : Fin 704), X (ix2 i c) = gateR A (row T i) (colF k c)

/-- A block of the tile's rows of what is gated. -/
def Val (A : Args) (T : Fin 32) (k : Fin 4) (X : FVec Ideal S256x704 .f32) : Prop :=
  ∀ (i : Fin 256) (c : Fin 704), X (ix2 i c) = valR A (row T i) (colF k c)

/-- A block of the tile's rows of the activation times the weight's block. -/
def part (A : Args) (T : Fin 32) (k : Fin 4) (i : Fin 256) (e : Fin 1024) : EReal :=
  ∑ c, actR A (row T i) (colF k c) * A.x4 (ix2 (colF k c) e)

/-- A block of the narrowing product's weight. -/
def Narrow (A : Args) (k : Fin 4) (V : Vec Ideal S1x704x1024 .bf16) : Prop :=
  ∀ (c : Fin 704) (e : Fin 1024), V (ix3 0 c e) = A.x4 (ix2 (colF k c) e)

/-- The convolution's first four blocks are the gate. -/
theorem gate_of (k : Fin 4) (h : j.val = k.val) {X : FVec Ideal S256x704 .f32} (hX : Conv A T j X) : Gate A T k X :=
  fun i c => (hX i c).trans (congrArg (convR A (row T i)) (Fin.ext (by
    show j.val * 704 + c.val = k.val * 704 + c.val; omega)))

/-- The convolution's last four blocks are what is gated. -/
theorem val_of (k : Fin 4) (h : j.val = k.val + 4) {X : FVec Ideal S256x704 .f32} (hX : Conv A T j X) : Val A T k X :=
  fun i c => (hX i c).trans (congrArg (convR A (row T i)) (Fin.ext (by
    show j.val * 704 + c.val = 2816 + (k.val * 704 + c.val); omega)))

/-- The output is the input plus four parts. -/
theorem out_parts (i : Fin 256) (e : Fin 1024) : outR A (row T i) e
    = xR A (row T i) e + part A T 0 i e + part A T 1 i e + part A T 2 i e + part A T 3 i e := by
  unfold outR
  refine (congrArg (xR A (row T i) e + ·) ((Fin.sum_univ_tiles 4 704 rfl
    fun p => actR A (row T i) p * A.x4 (ix2 p e)).trans (Fin.sum_univ_four _))).trans ?_
  show xR A (row T i) e + (part A T 0 i e + part A T 1 i e + part A T 2 i e + part A T 3 i e) = _
  simp only [add_assoc]

variable {k : Fin 4} (G Y : FVec Ideal S256x704 .f32) (P Q R' S' : FVec Ideal S256x704 .f32) (N M : FVec Ideal S8x704 .f32)
  (K : FVec Ideal S248x704 .f32) (L : FVec Ideal S8x704 .f32) (E : FVec Ideal S256x1024 .f32)

/-- Block 0 of the derivative in the gate. -/
theorem k_slope0 (hG : Gate A T k G) (hY : Val A T k (k0_pay20 (F := Ideal) P N W)) (i : Fin 256) (c : Fin 704) :
    k0_pay25 (F := Ideal) (k0_pay24 G P N W) (ix3 0 i c) = slopeR A (row T i) (colF k c) := by
  unfold Gate at hG; unfold Val at hY
  pointwise [k0_pay25, k0_pay24, k0_pay22, k0_pay23, hG, hY]
  rfl

/-- Block 0 of the gate's activation. -/
theorem k_silu0 (hG : Gate A T k G) (i : Fin 256) (c : Fin 704) :
    k0_pay26 (F := Ideal) (k0_pay23 G) (ix3 0 i c) = siluR A (row T i) (colF k c) := by
  unfold Gate at hG
  pointwise [k0_pay26, k0_pay23, k0_pay22, hG]
  rfl

/-- Block 0 of the activation. -/
theorem k_act0 (hG : Gate A T k G) (hY : Val A T k (k0_pay20 (F := Ideal) P N W)) (i : Fin 256) (c : Fin 704) :
    k0_pay28 (F := Ideal) (k0_pay20 P N W) (k0_pay23 G) (ix3 0 i c) = actR A (row T i) (colF k c) := by
  unfold Gate at hG; unfold Val at hY
  pointwise [k0_pay28, k0_pay27, k0_pay23, k0_pay22, hG, hY]
  rfl

/-- The running sum after block 0. -/
theorem k_acc0 (hG : Gate A T k G) (hY : Val A T k (k0_pay20 (F := Ideal) P N W)) (hV : Narrow A k V) (f : Fin 256 → Fin 1024 → EReal)
    (hE : ∀ i e, E (ix2 i e) = f i e) (i : Fin 256) (e : Fin 1024) :
    k0_pay29 (F := Ideal) E (k0_pay20 P N W) (k0_pay23 G) V (ix2 i e) = f i e + part A T k i e := by
  unfold Gate at hG; unfold Val at hY; unfold Narrow at hV
  pointwise [k0_pay29, k0_pay28, k0_pay27, k0_pay23, k0_pay22, hG, hY, hV, hE]
  rfl

/-- Block 1 of the derivative in the gate. -/
theorem k_slope1 (hG : Gate A T k G) (hY : Val A T k (k0_pay44 (F := Ideal) P N L M K)) (i : Fin 256) (c : Fin 704) :
    k0_pay48 (F := Ideal) G P N L M K (ix3 0 i c) = slopeR A (row T i) (colF k c) := by
  unfold Gate at hG; unfold Val at hY
  pointwise [k0_pay48, k0_pay46, k0_pay47, hG, hY]
  rfl

/-- Block 1 of the gate's activation. -/
theorem k_silu1 (hG : Gate A T k G) (i : Fin 256) (c : Fin 704) :
    k0_pay49 (F := Ideal) G (ix3 0 i c) = siluR A (row T i) (colF k c) := by
  unfold Gate at hG
  pointwise [k0_pay49, k0_pay46, k0_pay47, hG]
  rfl

/-- Block 1 of the activation. -/
theorem k_act1 (hG : Gate A T k G) (hY : Val A T k (k0_pay44 (F := Ideal) P N L M K)) (i : Fin 256) (c : Fin 704) :
    k0_pay52 (F := Ideal) (k0_pay50 G P N L M K) (ix3 0 i c) = actR A (row T i) (colF k c) := by
  unfold Gate at hG; unfold Val at hY
  pointwise [k0_pay52, k0_pay51, k0_pay50, k0_pay46, k0_pay47, hG, hY]
  rfl

/-- The running sum after block 1. -/
theorem k_acc1 (hG : Gate A T k G) (hY : Val A T k (k0_pay44 (F := Ideal) P N L M K)) (hV : Narrow A k V) (f : Fin 256 → Fin 1024 → EReal)
    (hE : ∀ i e, E (ix2 i e) = f i e) (i : Fin 256) (e : Fin 1024) :
    k0_pay53 (F := Ideal) E (k0_pay50 G P N L M K) V (ix2 i e) = f i e + part A T k i e := by
  unfold Gate at hG; unfold Val at hY; unfold Narrow at hV
  pointwise [k0_pay53, k0_pay51, k0_pay50, k0_pay46, k0_pay47, hG, hY, hV, hE]
  rfl

/-- Block 2 of the derivative in the gate. -/
theorem k_slope2 (hG : Gate A T k G) (hY : Val A T k (k0_pay66 (F := Ideal) P N Q R')) (i : Fin 256) (c : Fin 704) :
    k0_pay70 (F := Ideal) G P N Q R' (ix3 0 i c) = slopeR A (row T i) (colF k c) := by
  unfold Gate at hG; unfold Val at hY
  pointwise [k0_pay70, k0_pay68, k0_pay69, hG, hY]
  rfl

/-- Block 2 of the gate's activation. -/
theorem k_silu2 (hG : Gate A T k G) (i : Fin 256) (c : Fin 704) :
    k0_pay71 (F := Ideal) G (ix3 0 i c) = siluR A (row T i) (colF k c) := by
  unfold Gate at hG
  pointwise [k0_pay71, k0_pay68, k0_pay69, hG]
  rfl

/-- Block 2 of the activation. -/
theorem k_act2 (hG : Gate A T k G) (hY : Val A T k (k0_pay66 (F := Ideal) P N Q R')) (i : Fin 256) (c : Fin 704) :
    k0_pay73 (F := Ideal) G P N Q R' (ix3 0 i c) = actR A (row T i) (colF k c) := by
  unfold Gate at hG; unfold Val at hY
  pointwise [k0_pay73, k0_pay72, k0_pay68, k0_pay69, hG, hY]
  rfl

/-- The running sum after block 2. -/
theorem k_acc2 (hG : Gate A T k G) (hY : Val A T k (k0_pay66 (F := Ideal) P N Q R')) (hV : Narrow A k V) (f : Fin 256 → Fin 1024 → EReal)
    (hE : ∀ i e, E (ix2 i e) = f i e) (i : Fin 256) (e : Fin 1024) :
    k0_pay74 (F := Ideal) E G P N Q R' V (ix2 i e) = f i e + part A T k i e := by
  unfold Gate at hG; unfold Val at hY; unfold Narrow at hV
  pointwise [k0_pay74, k0_pay72, k0_pay68, k0_pay69, hG, hY, hV, hE]
  rfl

/-- Block 3 of the derivative in the gate. -/
theorem k_slope3 (hG : Gate A T k G) (hY : Val A T k (Y)) (i : Fin 256) (c : Fin 704) :
    k0_pay83 (F := Ideal) G Y (ix3 0 i c) = slopeR A (row T i) (colF k c) := by
  unfold Gate at hG; unfold Val at hY
  pointwise [k0_pay83, k0_pay81, k0_pay82, hG, hY]
  rfl

/-- Block 3 of the gate's activation. -/
theorem k_silu3 (hG : Gate A T k G) (i : Fin 256) (c : Fin 704) :
    k0_pay84 (F := Ideal) G (ix3 0 i c) = siluR A (row T i) (colF k c) := by
  unfold Gate at hG
  pointwise [k0_pay84, k0_pay81, k0_pay82, hG]
  rfl

/-- Block 3 of the activation. -/
theorem k_act3 (hG : Gate A T k G) (hY : Val A T k (Y)) (i : Fin 256) (c : Fin 704) :
    k0_pay86 (F := Ideal) G Y (ix3 0 i c) = actR A (row T i) (colF k c) := by
  unfold Gate at hG; unfold Val at hY
  pointwise [k0_pay86, k0_pay85, k0_pay81, k0_pay82, hG, hY]
  rfl

/-- The running sum after block 3. -/
theorem k_acc3 (hG : Gate A T k G) (hY : Val A T k (Y)) (hV : Narrow A k V) (f : Fin 256 → Fin 1024 → EReal)
    (hE : ∀ i e, E (ix2 i e) = f i e) (i : Fin 256) (e : Fin 1024) :
    k0_pay87 (F := Ideal) E G Y V (ix2 i e) = f i e + part A T k i e := by
  unfold Gate at hG; unfold Val at hY; unfold Narrow at hV
  pointwise [k0_pay87, k0_pay85, k0_pay81, k0_pay82, hG, hY, hV, hE]
  rfl

end FfSide
-- ==== Proof.FfSteps.lean ====
module

public import proofs.«01_k».proof.Proof.FfKer
public import proofs.«01_k».proof.Proof.Gen.FfnFwdIdeal.Value
public import Idealize.ShloMosaic.Lib.Pipeline.ReadBack
public import Idealize.ShloMosaic.Lib.WritesUnit

/-!
The kernel for the channel mixer's forward pass: its arguments and blocks, and what it hands from one tile to the next.
-/

@[expose] public section

set_option maxRecDepth 16384

noncomputable section

open Idealize.ShloMosaic Idealize.ShloMosaic.TcCoe Idealize.ShloMosaic.Tactic Idealize.SL.Sem
open Cert.FfnFwdIdeal Cert.FfnFwdIdeal.Gen
open Rows Model Sums

namespace FfSide

/-- Where each window's block lies. -/
theorem idx : ∀ t : Fin cfg0.N, win0_0.index t = ![t.val, 0] ∧ win0_1.index t = ![0, 0]
    ∧ win0_2.index t = ![0, 0, 0] ∧ win0_3.index t = ![0, 0, 0] ∧ win0_4.index t = ![0, 0, 0]
    ∧ win0_5.index t = ![t.val, 0] ∧ win0_6.index t = ![0, t.val, 0] ∧ win0_7.index t = ![0, t.val, 0]
    ∧ win0_8.index t = ![0, t.val, 0] ∧ win0_9.index t = ![t.val, 0] :=
  (by decide +kernel : ∀ t : Fin grid0.N, _)

variable (m : (ℓ : Loc nD τ sig) → Buf (Elt Ideal) ℓ) (d : Dev nD)

/-- The kernel's arguments. -/
def args : Args where
  x0 := m ((d : Thread nD τ).loc main_arg0)
  x1 := m ((d : Thread nD τ).loc main_arg1)
  x2 := m ((d : Thread nD τ).loc main_arg2)
  x3 := m ((d : Thread nD τ).loc main_arg3)
  x4 := m ((d : Thread nD τ).loc main_arg4)

/-- The input's rows when the kernel starts. -/
abbrev opX : Vec Ideal S8192x1024 .f32 := V m d main_v6

/-- The scale when the kernel starts. -/
abbrev opG : Vec Ideal S1x1024 .f32 := V m d main_v7

/-- The widening product's weight when the kernel starts, transposed and in blocks. -/
abbrev opWide : Vec Ideal S8x704x1024 .bf16 := V m d main_v2

/-- The narrowing product's weight when the kernel starts, in blocks. -/
abbrev opNarrow : Vec Ideal S4x704x1024 .bf16 := V m d main_v9

/-- The taps when the kernel starts, padded to eight rows and in blocks. -/
abbrev opTaps : Vec Ideal S8x8x704 .f32 := V m d main_v5

/-- The input's rows are the argument's. -/
theorem entry_x (R : Fin 8192) (k : Fin 1024) : opX m d (ix2 R k) = xR (args m d) R k := by
  rw [opX, show V m d main_v6 = shapeCast S8192x1024
    (show FVec Ideal S4x2048x1024 .f32 from m ((d : Thread nD τ).loc main_arg0)) shapeCasts_S4x2048x1024_S8192x1024 from rfl]
  pointwise [args, xR]
  try rfl

/-- The scale is the argument's. -/
theorem entry_g (k : Fin 1024) : opG m d (ix2 0 k) = (args m d).x1 (ix1 k) := by
  rw [opG, show V m d main_v7 = broadcastInDim S1x1024 ![1] bcast_S1024_S1x1024_1
    (show FVec Ideal S1024 .f32 from m ((d : Thread nD τ).loc main_arg1)) from rfl]
  pointwise [args]
  try rfl

/-- The widening product's weight is the argument's. -/
theorem entry_wide (j : Fin 8) (c : Fin 704) (k : Fin 1024) :
    opWide m d (ix3 j c k) = (args m d).x2 (ix2 k (colU j c)) := by
  rw [opWide, show V m d main_v2 = truncf (F := Ideal) .bf16 (shapeCast S8x704x1024 (transpose S5632x1024 [1, 0]
    (show FVec Ideal S1024x5632 .f32 from m ((d : Thread nD τ).loc main_arg2)) transposes_S1024x5632_S5632x1024_1_0)
    shapeCasts_S5632x1024_S8x704x1024) bitsLt_bf16_f32 from rfl]
  pointwise [args]
  try rfl

/-- The narrowing product's weight is the argument's. -/
theorem entry_narrow (k : Fin 4) (c : Fin 704) (e : Fin 1024) :
    opNarrow m d (ix3 k c e) = (args m d).x4 (ix2 (colF k c) e) := by
  rw [opNarrow, show V m d main_v9 = truncf (F := Ideal) .bf16 (shapeCast S4x704x1024
    (show FVec Ideal S2816x1024 .f32 from m ((d : Thread nD τ).loc main_arg4))
    shapeCasts_S2816x1024_S4x704x1024) bitsLt_bf16_f32 from rfl]
  pointwise [args]
  try rfl

/-- The taps are the argument's. -/
theorem entry_taps (j : Fin 8) (a : Fin 3) (c : Fin 704) :
    opTaps m d (ix3 j ⟨a.val, by omega⟩ c) = (args m d).x3 (ix2 a (colU j c)) := by
  rw [opTaps, show V m d main_v5 = transpose S8x8x704 [1, 0, 2] (shapeCast S8x8x704 (pad S8x5632 ![0, 0] ![5, 0] ![0, 0]
    (show FVec Ideal S3x5632 .f32 from m ((d : Thread nD τ).loc main_arg3))
    (show Vec Ideal S_ .f32 from sitofp (F := Ideal) .f32 (constantI S_ 32 0#32))
    pads_S3x5632_S8x5632_050_000 h_S_) shapeCasts_S8x5632_S8x8x704) transposes_S8x8x704_S8x8x704_1_0_2 from rfl]
  pointwise [args]
  exact dif_pos (by omega)

/-- The tile a point works on. -/
def tile (t : Fin cfg0.N) : Fin 32 := ⟨t.val, lt_of_lt_of_eq t.isLt (show cfg0.N = 32 from N_0)⟩

variable {m d} (t : Fin cfg0.N)

/-- The block of the input. -/
theorem x_at (i : Fin 256) (k : Fin 1024) : (show Vec Ideal S256x1024 .f32 from iblk m d 0 t) (ix2 i k)
    = xR (args m d) (row (tile t) i) k := by
  rw [← entry_x]; blk_ext [iblk, idx t, tile, row, opX]

/-- The scale. -/
theorem g_at (k : Fin 1024) : (show Vec Ideal S1x1024 .f32 from iblk m d 1 t) (ix2 0 k) = (args m d).x1 (ix1 k) := by
  rw [← entry_g]; blk_ext [iblk, idx t, opG]

/-- The widening product's weight. -/
theorem wide_at (j : Fin 8) (X : Vec Ideal S1x704x1024 .bf16)
    (h : ∀ c k, X (ix3 0 c k) = (show Vec Ideal S8x704x1024 .bf16 from iblk m d 2 t) (ix3 j c k)) :
    Wide (args m d) j X := fun c k => by
  rw [h, ← entry_wide]; blk_ext [iblk, idx t, opWide]

/-- The narrowing product's weight. -/
theorem narrow_at (k : Fin 4) (X : Vec Ideal S1x704x1024 .bf16)
    (h : ∀ c e, X (ix3 0 c e) = (show Vec Ideal S4x704x1024 .bf16 from iblk m d 3 t) (ix3 k c e)) :
    Narrow (args m d) k X := fun c e => by
  rw [h, ← entry_narrow]; blk_ext [iblk, idx t, opNarrow]

/-- The taps. -/
theorem tap_at (j : Fin 8) (X : Vec Ideal S1x8x704 .f32)
    (h : ∀ a c, X (ix3 0 a c) = (show Vec Ideal S8x8x704 .f32 from iblk m d 4 t) (ix3 j a c)) :
    Tap (args m d) j X := fun a c => by
  rw [h, ← entry_taps]; blk_ext [iblk, idx t, opTaps]

/-- The tile's normed rows. -/
theorem normed_at (X : Vec Ideal S256x1024 .f32) (G : Vec Ideal S1x1024 .f32)
    (hX : ∀ i k, X (ix2 i k) = (show Vec Ideal S256x1024 .f32 from iblk m d 0 t) (ix2 i k))
    (hG : ∀ k, G (ix2 0 k) = (show Vec Ideal S1x1024 .f32 from iblk m d 1 t) (ix2 0 k)) :
    Normed (args m d) (tile t) (k0_pay4 (F := Ideal) X G) :=
  fun i k => k_h X G (fun i k => (hX i k).trans (x_at t i k)) (fun k => (hG k).trans (g_at t k)) i k

variable (m d) in
/-- A point's stores of the widening product, the newest first. -/
abbrev ups : List (View.Piece (Elt Ideal) S8x256x704 .f32) :=
  [⟨Rect.unit ![7, 0, 0] ![1, 256, 704] inb_S8x256x704_S1x256x704_7_0_0,
      k0_pay13 (F := Ideal) (k0_pay4 (F := Ideal) (iblk m d 0 t) (iblk m d 1 t))
        (View.ld (show Vec Ideal S8x704x1024 .bf16 from iblk m d 2 t) (Rect.unit ![7, 0, 0] ![1, 704, 1024] inb_S8x704x1024_S1x704x1024_7_0_0))⟩,
    ⟨Rect.unit ![6, 0, 0] ![1, 256, 704] inb_S8x256x704_S1x256x704_6_0_0,
      k0_pay12 (F := Ideal) (k0_pay4 (F := Ideal) (iblk m d 0 t) (iblk m d 1 t))
        (View.ld (show Vec Ideal S8x704x1024 .bf16 from iblk m d 2 t) (Rect.unit ![6, 0, 0] ![1, 704, 1024] inb_S8x704x1024_S1x704x1024_6_0_0))⟩,
    ⟨Rect.unit ![5, 0, 0] ![1, 256, 704] inb_S8x256x704_S1x256x704_5_0_0,
      k0_pay11 (F := Ideal) (k0_pay4 (F := Ideal) (iblk m d 0 t) (iblk m d 1 t))
        (View.ld (show Vec Ideal S8x704x1024 .bf16 from iblk m d 2 t) (Rect.unit ![5, 0, 0] ![1, 704, 1024] inb_S8x704x1024_S1x704x1024_5_0_0))⟩,
    ⟨Rect.unit ![4, 0, 0] ![1, 256, 704] inb_S8x256x704_S1x256x704_4_0_0,
      k0_pay10 (F := Ideal) (k0_pay9 (k0_pay4 (F := Ideal) (iblk m d 0 t) (iblk m d 1 t))
        (View.ld (show Vec Ideal S8x704x1024 .bf16 from iblk m d 2 t) (Rect.unit ![4, 0, 0] ![1, 704, 1024] inb_S8x704x1024_S1x704x1024_4_0_0)))⟩,
    ⟨Rect.unit ![3, 0, 0] ![1, 256, 704] inb_S8x256x704_S1x256x704_3_0_0,
      k0_pay8 (F := Ideal) (k0_pay4 (F := Ideal) (iblk m d 0 t) (iblk m d 1 t))
        (View.ld (show Vec Ideal S8x704x1024 .bf16 from iblk m d 2 t) (Rect.unit ![3, 0, 0] ![1, 704, 1024] inb_S8x704x1024_S1x704x1024_3_0_0))⟩,
    ⟨Rect.unit ![2, 0, 0] ![1, 256, 704] inb_S8x256x704_S1x256x704_2_0_0,
      k0_pay7 (F := Ideal) (k0_pay4 (F := Ideal) (iblk m d 0 t) (iblk m d 1 t))
        (View.ld (show Vec Ideal S8x704x1024 .bf16 from iblk m d 2 t) (Rect.unit ![2, 0, 0] ![1, 704, 1024] inb_S8x704x1024_S1x704x1024_2_0_0))⟩,
    ⟨Rect.unit ![1, 0, 0] ![1, 256, 704] inb_S8x256x704_S1x256x704_1_0_0,
      k0_pay6 (F := Ideal) (k0_pay4 (F := Ideal) (iblk m d 0 t) (iblk m d 1 t))
        (View.ld (show Vec Ideal S8x704x1024 .bf16 from iblk m d 2 t) (Rect.unit ![1, 0, 0] ![1, 704, 1024] inb_S8x704x1024_S1x704x1024_1_0_0))⟩,
    ⟨Rect.unit ![0, 0, 0] ![1, 256, 704] inb_S8x256x704_S1x256x704_0_0_0,
      k0_pay5 (F := Ideal) (k0_pay4 (F := Ideal) (iblk m d 0 t) (iblk m d 1 t))
        (View.ld (show Vec Ideal S8x704x1024 .bf16 from iblk m d 2 t) (Rect.unit ![0, 0, 0] ![1, 704, 1024] inb_S8x704x1024_S1x704x1024_0_0_0))⟩]

/-- A block's entry by its place. -/
theorem blk_at (P : S1x256x704.Idx → EReal) (f : Fin 256 → Fin 704 → EReal) (hP : ∀ i c, P (ix3 0 i c) = f i c)
    (x : S1x256x704.Idx) (i : Fin 256) (c : Fin 704) (h1 : i.val = (x 1).val) (h2 : c.val = (x 2).val) : P x = f i c := by
  have ex : x = ix3 0 (x 1) (x 2) := by
    funext b
    match b with
    | 0 => exact Subsingleton.elim (α := Fin 1) _ _
    | 1 => rfl
    | 2 => rfl
  rw [ex]
  exact (hP _ _).trans (congrArg₂ f (Fin.ext h1.symm) (Fin.ext h2.symm))

/-- A point's stores of the widening product hold its blocks. -/
theorem ups_at (y : S8x256x704.Idx) :
    View.canon (ups m d t) y = upR (args m d) (row (tile t) (y 1)) (colU (y 0) (y 2)) := by
  have hH := normed_at (m := m) (d := d) t (iblk m d 0 t) (iblk m d 1 t) (fun _ _ => rfl) (fun _ => rfl)
  canon_tiles x h
  case piece0 =>
    have e : y 0 = (7 : Fin 8) := Fin.ext (by show (y 0).val = 7; omega)
    rw [e]
    exact blk_at _ (fun i c => upR (args m d) (row (tile t) i) (colU 7 c))
      (k_up7 _ _ hH (wide_at t 7 _ fun c k => by pointwise)) x (y 1) (y 2) (by omega) (by omega)
  case piece1 =>
    have e : y 0 = (6 : Fin 8) := Fin.ext (by show (y 0).val = 6; omega)
    rw [e]
    exact blk_at _ (fun i c => upR (args m d) (row (tile t) i) (colU 6 c))
      (k_up6 _ _ hH (wide_at t 6 _ fun c k => by pointwise)) x (y 1) (y 2) (by omega) (by omega)
  case piece2 =>
    have e : y 0 = (5 : Fin 8) := Fin.ext (by show (y 0).val = 5; omega)
    rw [e]
    exact blk_at _ (fun i c => upR (args m d) (row (tile t) i) (colU 5 c))
      (k_up5 _ _ hH (wide_at t 5 _ fun c k => by pointwise)) x (y 1) (y 2) (by omega) (by omega)
  case piece3 =>
    have e : y 0 = (4 : Fin 8) := Fin.ext (by show (y 0).val = 4; omega)
    rw [e]
    exact blk_at _ (fun i c => upR (args m d) (row (tile t) i) (colU 4 c))
      (k_up4 _ _ hH (wide_at t 4 _ fun c k => by pointwise)) x (y 1) (y 2) (by omega) (by omega)
  case piece4 =>
    have e : y 0 = (3 : Fin 8) := Fin.ext (by show (y 0).val = 3; omega)
    rw [e]
    exact blk_at _ (fun i c => upR (args m d) (row (tile t) i) (colU 3 c))
      (k_up3 _ _ hH (wide_at t 3 _ fun c k => by pointwise)) x (y 1) (y 2) (by omega) (by omega)
  case piece5 =>
    have e : y 0 = (2 : Fin 8) := Fin.ext (by show (y 0).val = 2; omega)
    rw [e]
    exact blk_at _ (fun i c => upR (args m d) (row (tile t) i) (colU 2 c))
      (k_up2 _ _ hH (wide_at t 2 _ fun c k => by pointwise)) x (y 1) (y 2) (by omega) (by omega)
  case piece6 =>
    have e : y 0 = (1 : Fin 8) := Fin.ext (by show (y 0).val = 1; omega)
    rw [e]
    exact blk_at _ (fun i c => upR (args m d) (row (tile t) i) (colU 1 c))
      (k_up1 _ _ hH (wide_at t 1 _ fun c k => by pointwise)) x (y 1) (y 2) (by omega) (by omega)
  case piece7 =>
    have e : y 0 = (0 : Fin 8) := Fin.ext (by show (y 0).val = 0; omega)
    rw [e]
    exact blk_at _ (fun i c => upR (args m d) (row (tile t) i) (colU 0 c))
      (k_up0 _ _ hH (wide_at t 0 _ fun c k => by pointwise)) x (y 1) (y 2) (by omega) (by omega)

/-- Block 0 of the widening product, read back. -/
theorem up_read0 (v : View sig .tc .vmem S8x256x704 .f32) : Up (args m d) (tile t) 0 (v.readCov (ups m d t)
    (Rect.unit (s := S8x256x704) ![0, 0, 0] ![1, 256, 704] inb_S8x256x704_S1x256x704_0_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 1 of the widening product, read back. -/
theorem up_read1 (v : View sig .tc .vmem S8x256x704 .f32) : Up (args m d) (tile t) 1 (v.readCov (ups m d t)
    (Rect.unit (s := S8x256x704) ![1, 0, 0] ![1, 256, 704] inb_S8x256x704_S1x256x704_1_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 2 of the widening product, read back. -/
theorem up_read2 (v : View sig .tc .vmem S8x256x704 .f32) : Up (args m d) (tile t) 2 (v.readCov (ups m d t)
    (Rect.unit (s := S8x256x704) ![2, 0, 0] ![1, 256, 704] inb_S8x256x704_S1x256x704_2_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 3 of the widening product, read back. -/
theorem up_read3 (v : View sig .tc .vmem S8x256x704 .f32) : Up (args m d) (tile t) 3 (v.readCov (ups m d t)
    (Rect.unit (s := S8x256x704) ![3, 0, 0] ![1, 256, 704] inb_S8x256x704_S1x256x704_3_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 4 of the widening product, read back. -/
theorem up_read4 (v : View sig .tc .vmem S8x256x704 .f32) : Up (args m d) (tile t) 4 (v.readCov (ups m d t)
    (Rect.unit (s := S8x256x704) ![4, 0, 0] ![1, 256, 704] inb_S8x256x704_S1x256x704_4_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 5 of the widening product, read back. -/
theorem up_read5 (v : View sig .tc .vmem S8x256x704 .f32) : Up (args m d) (tile t) 5 (v.readCov (ups m d t)
    (Rect.unit (s := S8x256x704) ![5, 0, 0] ![1, 256, 704] inb_S8x256x704_S1x256x704_5_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 6 of the widening product, read back. -/
theorem up_read6 (v : View sig .tc .vmem S8x256x704 .f32) : Up (args m d) (tile t) 6 (v.readCov (ups m d t)
    (Rect.unit (s := S8x256x704) ![6, 0, 0] ![1, 256, 704] inb_S8x256x704_S1x256x704_6_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- Block 7 of the widening product, read back. -/
theorem up_read7 (v : View sig .tc .vmem S8x256x704 .f32) : Up (args m d) (tile t) 7 (v.readCov (ups m d t)
    (Rect.unit (s := S8x256x704) ![7, 0, 0] ![1, 256, 704] inb_S8x256x704_S1x256x704_7_0_0).toLoadRect) := fun i c => by
  rw [View.readCov_eq_canon']
  refine (ups_at t _).trans ?_
  refine congrArg₂ (upR (args m d)) (congrArg (row (tile t)) (Fin.ext ?_)) (congrArg₂ colU (Fin.ext ?_) (Fin.ext ?_))
  all_goals simp

/-- What a point hands over: the last eight rows of its tile of the widening product. -/
theorem hand_at (j : Fin 8) (P : S1x8x704.Idx → EReal)
    (hP : ∀ (a : Fin 8) (c : Fin 704), P (ix3 0 a c) = upR (args m d) (row (tile t) ⟨248 + a.val, by omega⟩) (colU j c))
    (x : S1x8x704.Idx) (y : S8x8x704.Idx) (h0 : y 0 = j) (h1 : (y 1).val = (x 1).val) (h2 : (y 2).val = (x 2).val) :
    P x = upR (args m d) (row (tile t) ⟨248 + (y 1).val, Nat.lt_of_lt_of_le (Nat.add_lt_add_left (y 1).isLt 248) (le_refl _)⟩) (colU (y 0) (y 2)) := by
  have ex : x = ix3 0 (x 1) (x 2) := by
    funext b
    match b with
    | 0 => exact Subsingleton.elim (α := Fin 1) _ _
    | 1 => rfl
    | 2 => rfl
  rw [ex]
  refine (hP _ _).trans (congrArg₂ (upR (args m d)) (congrArg (row (tile t)) (Fin.ext ?_)) (congrArg₂ colU h0.symm (Fin.ext h2.symm)))
  show 248 + (x 1).val = 248 + (y 1).val
  omega

variable (m d) in
/-- A point's stores of what it hands over, the newest first. -/
abbrev hands (v : View sig .tc .vmem S8x256x704 .f32) : List (View.Piece (Elt Ideal) S8x8x704 .f32) :=
  [⟨Rect.unit ![7, 0, 0] ![1, 8, 704] inb_S8x8x704_S1x8x704_7_0_0, k0_pay80 (F := Ideal) (v.readCov (ups m d t)
      (Rect.unit (s := S8x256x704) ![7, 0, 0] ![1, 256, 704] inb_S8x256x704_S1x256x704_7_0_0).toLoadRect)⟩,
    ⟨Rect.unit ![3, 0, 0] ![1, 8, 704] inb_S8x8x704_S1x8x704_3_0_0, k0_pay77 (F := Ideal) (v.readCov (ups m d t)
      (Rect.unit (s := S8x256x704) ![3, 0, 0] ![1, 256, 704] inb_S8x256x704_S1x256x704_3_0_0).toLoadRect)⟩,
    ⟨Rect.unit ![6, 0, 0] ![1, 8, 704] inb_S8x8x704_S1x8x704_6_0_0, k0_pay67 (F := Ideal) (k0_pay61 (F := Ideal) (v.readCov (ups m d t)
      (Rect.unit (s := S8x256x704) ![6, 0, 0] ![1, 256, 704] inb_S8x256x704_S1x256x704_6_0_0).toLoadRect))⟩,
    ⟨Rect.unit ![2, 0, 0] ![1, 8, 704] inb_S8x8x704_S1x8x704_2_0_0, k0_pay60 (F := Ideal) (k0_pay54 (F := Ideal) (v.readCov (ups m d t)
      (Rect.unit (s := S8x256x704) ![2, 0, 0] ![1, 256, 704] inb_S8x256x704_S1x256x704_2_0_0).toLoadRect))⟩,
    ⟨Rect.unit ![5, 0, 0] ![1, 8, 704] inb_S8x8x704_S1x8x704_5_0_0, k0_pay45 (F := Ideal) (k0_pay38 (F := Ideal) (v.readCov (ups m d t)
      (Rect.unit (s := S8x256x704) ![5, 0, 0] ![1, 256, 704] inb_S8x256x704_S1x256x704_5_0_0).toLoadRect))⟩,
    ⟨Rect.unit ![1, 0, 0] ![1, 8, 704] inb_S8x8x704_S1x8x704_1_0_0, k0_pay37 (F := Ideal) (k0_pay30 (F := Ideal) (v.readCov (ups m d t)
      (Rect.unit (s := S8x256x704) ![1, 0, 0] ![1, 256, 704] inb_S8x256x704_S1x256x704_1_0_0).toLoadRect))⟩,
    ⟨Rect.unit ![4, 0, 0] ![1, 8, 704] inb_S8x8x704_S1x8x704_4_0_0, k0_pay21 (F := Ideal) (k0_pay18 (F := Ideal) (v.readCov (ups m d t)
      (Rect.unit (s := S8x256x704) ![4, 0, 0] ![1, 256, 704] inb_S8x256x704_S1x256x704_4_0_0).toLoadRect))⟩,
    ⟨Rect.unit ![0, 0, 0] ![1, 8, 704] inb_S8x8x704_S1x8x704_0_0_0, k0_pay17 (F := Ideal) (k0_pay14 (F := Ideal) (v.readCov (ups m d t)
      (Rect.unit (s := S8x256x704) ![0, 0, 0] ![1, 256, 704] inb_S8x256x704_S1x256x704_0_0_0).toLoadRect))⟩]

/-- A point's stores of what it hands over hold the last eight rows of its tile. -/
theorem hands_at (v : View sig .tc .vmem S8x256x704 .f32) (y : S8x8x704.Idx) : View.canon (hands m d t v) y
    = upR (args m d) (row (tile t) ⟨248 + (y 1).val, Nat.lt_of_lt_of_le (Nat.add_lt_add_left (y 1).isLt 248) (le_refl _)⟩) (colU (y 0) (y 2)) := by
  canon_tiles x h
  case piece0 =>
    exact hand_at t 7 _ (k_hand7 _ (up_read7 t _)) x y (Fin.ext (by show (y 0).val = 7; omega)) (by omega) (by omega)
  case piece1 =>
    exact hand_at t 3 _ (k_hand3 _ (up_read3 t _)) x y (Fin.ext (by show (y 0).val = 3; omega)) (by omega) (by omega)
  case piece2 =>
    exact hand_at t 6 _ (k_hand6 _ (up_read6 t _)) x y (Fin.ext (by show (y 0).val = 6; omega)) (by omega) (by omega)
  case piece3 =>
    exact hand_at t 2 _ (k_hand2 _ (up_read2 t _)) x y (Fin.ext (by show (y 0).val = 2; omega)) (by omega) (by omega)
  case piece4 =>
    exact hand_at t 5 _ (k_hand5 _ (up_read5 t _)) x y (Fin.ext (by show (y 0).val = 5; omega)) (by omega) (by omega)
  case piece5 =>
    exact hand_at t 1 _ (k_hand1 _ (up_read1 t _)) x y (Fin.ext (by show (y 0).val = 1; omega)) (by omega) (by omega)
  case piece6 =>
    exact hand_at t 4 _ (k_hand4 _ (up_read4 t _)) x y (Fin.ext (by show (y 0).val = 4; omega)) (by omega) (by omega)
  case piece7 =>
    exact hand_at t 0 _ (k_hand0 _ (up_read0 t _)) x y (Fin.ext (by show (y 0).val = 0; omega)) (by omega) (by omega)

/-- Older stores do not matter where newer ones cover. -/
theorem canon_append {s : Shape} (L L' : List (View.Piece (Elt Ideal) s .f32)) (y : s.Idx)
    (hc : ∃ p ∈ L, y ∈ p.1.set) : View.canon (L ++ L') y = View.canon L y := by
  induction L with
  | nil =>
    obtain ⟨p, hp, _⟩ := hc
    simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hy⟩ := hc
      rcases List.mem_cons.mp hq with rfl | hq
      · exact absurd hy hm
      · exact ⟨q, hq, hy⟩

/-- After a point, what it hands over. -/
theorem carry_at (y : S8x8x704.Idx) : (outsAt0 m d t.val t.isLt).2.2.2.2.2 y
    = upR (args m d) (row (tile t) ⟨248 + (y 1).val, Nat.lt_of_lt_of_le (Nat.add_lt_add_left (y 1).isLt 248) (le_refl _)⟩) (colU (y 0) (y 2)) := by
  by_cases h0 : t.val % 32 = 0
  · rw [outsAt0_A m d t h0]
    frame_out
    exact (canon_append (hands m d t (ms0_6 t).view) _ y (View.cover_of_tiledL (hands m d t (ms0_6 t).view)
      S1x8x704.size (by sl_kernel_rfl) y)).trans
      (hands_at t _ y)
  · rw [outsAt0_B m d t h0]
    frame_out
    exact hands_at t (ms0_6 t).view y

/-- What the point before handed over, times the factor on it. -/
theorem bound_at (h0 : ¬t.val % 32 = 0) (j : Fin 8) (C : Vec Ideal S1x8x704 .f32)
    (hC : ∀ (a : Fin 8) (c : Fin 704), C (ix3 0 a c)
      = (outsAt0 m d (t.val - 1) (Nat.lt_of_le_of_lt (Nat.sub_le _ _) t.isLt)).2.2.2.2.2 (ix3 j a c)) :
    Bound (args m d) (tile t) j (k0_pay2 (F := Ideal) (grid0.coords t)) C := by
  rw [k_factor]
  by_cases h8 : t.val % 8 = 0
  · rw [if_pos h8]
    exact bound_zero C h8
  · rw [if_neg h8]
    refine bound_prev C h8 (tile ⟨t.val - 1, Nat.lt_of_le_of_lt (Nat.sub_le _ _) t.isLt⟩) (by
      show t.val - 1 + 1 = t.val; omega) fun a c => (hC a c).trans ?_
    exact carry_at ⟨t.val - 1, Nat.lt_of_le_of_lt (Nat.sub_le _ _) t.isLt⟩ (ix3 j a c)

/-- At the first point nothing is handed over. -/
theorem bound_first (h0 : t.val % 32 = 0) (j : Fin 8) (C : Vec Ideal S1x8x704 .f32) :
    Bound (args m d) (tile t) j (k0_pay2 (F := Ideal) (grid0.coords t)) C := by
  rw [k_factor, if_pos (by omega)]
  exact bound_zero C (by show t.val % 8 = 0; omega)

/-- A load of one block of what the point before left in the scratch buffer. -/
theorem ld_prev (o : ℕ) (j : Fin 8) (hj : j.val = o) (inb : ∀ a : Fin 3, (![o, 0, 0] : Fin 3 → ℕ) a + (![1, 8, 704] : Fin 3 → ℕ) a ≤ S8x8x704.size a)
    (Z : Vec Ideal S8x8x704 .f32) (h : (Memref.whole cc0_scratch0).IsWhole) (a : Fin 8) (c : Fin 704) :
    (View.ld (View.read (Elt Ideal) (View.whole cc0_scratch0) (h.unread Z)) (Rect.unit (s := S8x8x704) ![o, 0, 0] ![1, 8, 704] inb)
      : S1x8x704.Idx → EReal) (ix3 0 a c) = Z (ix3 j a c) := by
  refine (congrFun (read_unread_whole _ _ _) _).trans (congrArg Z ?_)
  funext b
  match b with
  | 0 => exact Fin.ext (by simp [hj])
  | 1 => exact Fin.ext (by simp)
  | 2 => exact Fin.ext (by simp)

end FfSide
-- ==== Proof.FfPoint.lean ====
module

public import proofs.«01_k».proof.Proof.FfSteps

/-!
The kernel for the channel mixer's forward pass: what each grid point leaves, and the five arrays after the last.
-/

@[expose] public section

set_option maxRecDepth 16384

noncomputable section

open Idealize.ShloMosaic Idealize.ShloMosaic.TcCoe Idealize.ShloMosaic.Tactic Idealize.SL.Sem
open Cert.FfnFwdIdeal Cert.FfnFwdIdeal.Gen
open Rows Model Sums

namespace FfSide

section
variable {A : Args} {T : Fin 32} (s : Ideal .f32) (U : Vec Ideal S1x256x704 .f32) (C W : Vec Ideal S1x8x704 .f32)

/-- Block 0 of the gate. -/
theorem gate0 (hU : Up A T 0 U) (hC : Bound A T 0 s C) (hW : Tap A 0 W) :
    Gate A T 0 (k0_pay16 (F := Ideal) (k0_pay14 U) (k0_pay15 s C) W) :=
  gate_of 0 rfl (k_conv0 s U C W hU hC hW)

/-- Block 1 of the gate. -/
theorem gate1 (hU : Up A T 1 U) (hC : Bound A T 1 s C) (hW : Tap A 1 W) :
    Gate A T 1 (k0_pay36 (F := Ideal) (k0_pay30 U) (k0_pay31 s C) (k0_pay32 W) (k0_pay34 s U C) (k0_pay35 U)) :=
  gate_of 1 rfl (k_conv1 s U C W hU hC hW)

/-- Block 2 of the gate. -/
theorem gate2 (hU : Up A T 2 U) (hC : Bound A T 2 s C) (hW : Tap A 2 W) :
    Gate A T 2 (k0_pay59 (F := Ideal) (k0_pay54 U) (k0_pay56 W) (k0_pay57 s U C) (k0_pay58 s U C W)) :=
  gate_of 2 rfl (k_conv2 s U C W hU hC hW)

/-- Block 3 of the gate. -/
theorem gate3 (hU : Up A T 3 U) (hC : Bound A T 3 s C) (hW : Tap A 3 W) :
    Gate A T 3 (k0_pay76 (F := Ideal) s U C W) :=
  gate_of 3 rfl (k_conv3 s U C W hU hC hW)

/-- Block 0 of the gated rows. -/
theorem val0 (hU : Up A T 4 U) (hC : Bound A T 4 s C) (hW : Tap A 4 W) :
    Val A T 0 (k0_pay20 (F := Ideal) (k0_pay18 U) (k0_pay19 s C) W) :=
  val_of 0 rfl (k_conv4 s U C W hU hC hW)

/-- Block 1 of the gated rows. -/
theorem val1 (hU : Up A T 5 U) (hC : Bound A T 5 s C) (hW : Tap A 5 W) :
    Val A T 1 (k0_pay44 (F := Ideal) (k0_pay38 U) (k0_pay39 s C) (k0_pay40 W) (k0_pay42 s U C) (k0_pay43 U)) :=
  val_of 1 rfl (k_conv5 s U C W hU hC hW)

/-- Block 2 of the gated rows. -/
theorem val2 (hU : Up A T 6 U) (hC : Bound A T 6 s C) (hW : Tap A 6 W) :
    Val A T 2 (k0_pay66 (F := Ideal) (k0_pay61 U) (k0_pay63 W) (k0_pay64 s U C) (k0_pay65 s U C W)) :=
  val_of 2 rfl (k_conv6 s U C W hU hC hW)

/-- Block 3 of the gated rows. -/
theorem val3 (hU : Up A T 7 U) (hC : Bound A T 7 s C) (hW : Tap A 7 W) :
    Val A T 3 (k0_pay79 (F := Ideal) s U C W) :=
  val_of 3 rfl (k_conv7 s U C W hU hC hW)

end

/-- A place of the derivatives, in the gate. -/
theorem fac_slope (A : Args) (j : Fin 8) (k : Fin 4) (h : j.val = k.val) (R : Fin 8192) (c : Fin 704) :
    slopeR A R (colF k c) = facR A j R c := by
  unfold facR
  rw [dif_pos (by omega)]
  exact congrArg (fun k => slopeR A R (colF k c)) (Fin.ext h.symm)

/-- A place of the derivatives, in what is gated. -/
theorem fac_silu (A : Args) (j : Fin 8) (k : Fin 4) (h : j.val = k.val + 4) (R : Fin 8192) (c : Fin 704) :
    siluR A R (colF k c) = facR A j R c := by
  unfold facR
  rw [dif_neg (by omega)]
  exact congrArg (fun k => siluR A R (colF k c)) (Fin.ext (by show k.val = j.val - 4; omega))

variable {m : (ℓ : Loc nD τ sig) → Buf (Elt Ideal) ℓ} {d : Dev nD} (t : Fin cfg0.N)

/-- After a point, the tile's normed rows. -/
theorem h_at (i : Fin 256) (k : Fin 1024) :
    (outsAt0 m d t.val t.isLt).1 (ix2 i k) = hR (args m d) (row (tile t) i) k := by
  by_cases h0 : t.val % 32 = 0
  · rw [outsAt0_A m d t h0]
    frame_out
    exact normed_at t _ _ (fun _ _ => rfl) (fun _ => rfl) i k
  · rw [outsAt0_B m d t h0]
    frame_out
    exact normed_at t _ _ (fun _ _ => rfl) (fun _ => rfl) i k

/-- After a point, the tile's rows of the widening product. -/
theorem up_at (y : S8x256x704.Idx) :
    (outsAt0 m d t.val t.isLt).2.1 y = upR (args m d) (row (tile t) (y 1)) (colU (y 0) (y 2)) := by
  by_cases h0 : t.val % 32 = 0
  · rw [outsAt0_A m d t h0]
    frame_out
    exact ups_at t y
  · rw [outsAt0_B m d t h0]
    frame_out
    exact ups_at t y

/-- At the first point, the tile's rows of the derivatives. -/
theorem fac_first (ht : t.val % 32 = 0) (y : S8x256x704.Idx) :
    (outsAt0 m d t.val t.isLt).2.2.1 y = facR (args m d) (y 0) (row (tile t) (y 1)) (y 2) := by
  rw [outsAt0_A m d t ht]
  frame_out
  canon_tiles x h
  case piece0 =>
    exact (blk_at _ (fun i c => siluR (args m d) (row (tile t) i) (colF 3 c)) (k_silu3 _ (gate3 _ _ _ _ (up_read3 t _) (bound_first t ht 3 _) (tap_at t 3 _ fun a c => by pointwise)))
      x (y 1) (y 2) (by omega) (by omega)).trans (fac_silu (args m d) (y 0) 3 (by show (y 0).val = 7; omega) _ _)
  case piece1 =>
    exact (blk_at _ (fun i c => slopeR (args m d) (row (tile t) i) (colF 3 c)) (k_slope3 _ _ (gate3 _ _ _ _ (up_read3 t _) (bound_first t ht 3 _) (tap_at t 3 _ fun a c => by pointwise))
      (val3 _ _ _ _ (up_read7 t _) (bound_first t ht 7 _) (tap_at t 7 _ fun a c => by pointwise)))
      x (y 1) (y 2) (by omega) (by omega)).trans (fac_slope (args m d) (y 0) 3 (by show (y 0).val = 3; omega) _ _)
  case piece2 =>
    exact (blk_at _ (fun i c => siluR (args m d) (row (tile t) i) (colF 2 c)) (k_silu2 _ (gate2 _ _ _ _ (up_read2 t _) (bound_first t ht 2 _) (tap_at t 2 _ fun a c => by pointwise)))
      x (y 1) (y 2) (by omega) (by omega)).trans (fac_silu (args m d) (y 0) 2 (by show (y 0).val = 6; omega) _ _)
  case piece3 =>
    exact (blk_at _ (fun i c => slopeR (args m d) (row (tile t) i) (colF 2 c)) (k_slope2 _ _ _ _ _ (gate2 _ _ _ _ (up_read2 t _) (bound_first t ht 2 _) (tap_at t 2 _ fun a c => by pointwise))
      (val2 _ _ _ _ (up_read6 t _) (bound_first t ht 6 _) (tap_at t 6 _ fun a c => by pointwise)))
      x (y 1) (y 2) (by omega) (by omega)).trans (fac_slope (args m d) (y 0) 2 (by show (y 0).val = 2; omega) _ _)
  case piece4 =>
    exact (blk_at _ (fun i c => siluR (args m d) (row (tile t) i) (colF 1 c)) (k_silu1 _ (gate1 _ _ _ _ (up_read1 t _) (bound_first t ht 1 _) (tap_at t 1 _ fun a c => by pointwise)))
      x (y 1) (y 2) (by omega) (by omega)).trans (fac_silu (args m d) (y 0) 1 (by show (y 0).val = 5; omega) _ _)
  case piece5 =>
    exact (blk_at _ (fun i c => slopeR (args m d) (row (tile t) i) (colF 1 c)) (k_slope1 _ _ _ _ _ _ (gate1 _ _ _ _ (up_read1 t _) (bound_first t ht 1 _) (tap_at t 1 _ fun a c => by pointwise))
      (val1 _ _ _ _ (up_read5 t _) (bound_first t ht 5 _) (tap_at t 5 _ fun a c => by pointwise)))
      x (y 1) (y 2) (by omega) (by omega)).trans (fac_slope (args m d) (y 0) 1 (by show (y 0).val = 1; omega) _ _)
  case piece6 =>
    exact (blk_at _ (fun i c => siluR (args m d) (row (tile t) i) (colF 0 c)) (k_silu0 _ (gate0 _ _ _ _ (up_read0 t _) (bound_first t ht 0 _) (tap_at t 0 _ fun a c => by pointwise)))
      x (y 1) (y 2) (by omega) (by omega)).trans (fac_silu (args m d) (y 0) 0 (by show (y 0).val = 4; omega) _ _)
  case piece7 =>
    exact (blk_at _ (fun i c => slopeR (args m d) (row (tile t) i) (colF 0 c)) (k_slope0 _ _ _ _ (gate0 _ _ _ _ (up_read0 t _) (bound_first t ht 0 _) (tap_at t 0 _ fun a c => by pointwise))
      (val0 _ _ _ _ (up_read4 t _) (bound_first t ht 4 _) (tap_at t 4 _ fun a c => by pointwise)))
      x (y 1) (y 2) (by omega) (by omega)).trans (fac_slope (args m d) (y 0) 0 (by show (y 0).val = 0; omega) _ _)

/-- At the first point, the tile's rows of the activation. -/
theorem act_first (ht : t.val % 32 = 0) (y : S4x256x704.Idx) :
    (outsAt0 m d t.val t.isLt).2.2.2.1 y = actR (args m d) (row (tile t) (y 1)) (colF (y 0) (y 2)) := by
  rw [outsAt0_A m d t ht]
  frame_out
  canon_tiles x h
  case piece0 =>
    have e : y 0 = (3 : Fin 4) := Fin.ext (by show (y 0).val = 3; omega)
    rw [e]
    exact blk_at _ (fun i c => actR (args m d) (row (tile t) i) (colF 3 c)) (k_act3 _ _ (gate3 _ _ _ _ (up_read3 t _) (bound_first t ht 3 _) (tap_at t 3 _ fun a c => by pointwise))
      (val3 _ _ _ _ (up_read7 t _) (bound_first t ht 7 _) (tap_at t 7 _ fun a c => by pointwise)))
      x (y 1) (y 2) (by omega) (by omega)
  case piece1 =>
    have e : y 0 = (2 : Fin 4) := Fin.ext (by show (y 0).val = 2; omega)
    rw [e]
    exact blk_at _ (fun i c => actR (args m d) (row (tile t) i) (colF 2 c)) (k_act2 _ _ _ _ _ (gate2 _ _ _ _ (up_read2 t _) (bound_first t ht 2 _) (tap_at t 2 _ fun a c => by pointwise))
      (val2 _ _ _ _ (up_read6 t _) (bound_first t ht 6 _) (tap_at t 6 _ fun a c => by pointwise)))
      x (y 1) (y 2) (by omega) (by omega)
  case piece2 =>
    have e : y 0 = (1 : Fin 4) := Fin.ext (by show (y 0).val = 1; omega)
    rw [e]
    exact blk_at _ (fun i c => actR (args m d) (row (tile t) i) (colF 1 c)) (k_act1 _ _ _ _ _ _ (gate1 _ _ _ _ (up_read1 t _) (bound_first t ht 1 _) (tap_at t 1 _ fun a c => by pointwise))
      (val1 _ _ _ _ (up_read5 t _) (bound_first t ht 5 _) (tap_at t 5 _ fun a c => by pointwise)))
      x (y 1) (y 2) (by omega) (by omega)
  case piece3 =>
    have e : y 0 = (0 : Fin 4) := Fin.ext (by show (y 0).val = 0; omega)
    rw [e]
    exact blk_at _ (fun i c => actR (args m d) (row (tile t) i) (colF 0 c)) (k_act0 _ _ _ _ (gate0 _ _ _ _ (up_read0 t _) (bound_first t ht 0 _) (tap_at t 0 _ fun a c => by pointwise))
      (val0 _ _ _ _ (up_read4 t _) (bound_first t ht 4 _) (tap_at t 4 _ fun a c => by pointwise)))
      x (y 1) (y 2) (by omega) (by omega)

/-- At the first point, the tile's rows of the output. -/
theorem out_first (ht : t.val % 32 = 0) (i : Fin 256) (e : Fin 1024) :
    (outsAt0 m d t.val t.isLt).2.2.2.2.1 (ix2 i e) = outR (args m d) (row (tile t) i) e := by
  rw [outsAt0_A m d t ht, out_parts]
  frame_out
  refine k_acc3 _ _ _ _ (gate3 _ _ _ _ (up_read3 t _) (bound_first t ht 3 _) (tap_at t 3 _ fun a c => by pointwise))
    (val3 _ _ _ _ (up_read7 t _) (bound_first t ht 7 _) (tap_at t 7 _ fun a c => by pointwise))
    (narrow_at t 3 _ fun c e => by pointwise) (fun i e => xR (args m d) (row (tile t) i) e + part (args m d) (tile t) 0 i e + part (args m d) (tile t) 1 i e + part (args m d) (tile t) 2 i e) (fun i e => ?_) i e
  refine k_acc2 _ _ _ _ _ _ _ (gate2 _ _ _ _ (up_read2 t _) (bound_first t ht 2 _) (tap_at t 2 _ fun a c => by pointwise))
    (val2 _ _ _ _ (up_read6 t _) (bound_first t ht 6 _) (tap_at t 6 _ fun a c => by pointwise))
    (narrow_at t 2 _ fun c e => by pointwise) (fun i e => xR (args m d) (row (tile t) i) e + part (args m d) (tile t) 0 i e + part (args m d) (tile t) 1 i e) (fun i e => ?_) i e
  refine k_acc1 _ _ _ _ _ _ _ _ (gate1 _ _ _ _ (up_read1 t _) (bound_first t ht 1 _) (tap_at t 1 _ fun a c => by pointwise))
    (val1 _ _ _ _ (up_read5 t _) (bound_first t ht 5 _) (tap_at t 5 _ fun a c => by pointwise))
    (narrow_at t 1 _ fun c e => by pointwise) (fun i e => xR (args m d) (row (tile t) i) e + part (args m d) (tile t) 0 i e) (fun i e => ?_) i e
  refine k_acc0 _ _ _ _ _ _ (gate0 _ _ _ _ (up_read0 t _) (bound_first t ht 0 _) (tap_at t 0 _ fun a c => by pointwise))
    (val0 _ _ _ _ (up_read4 t _) (bound_first t ht 4 _) (tap_at t 4 _ fun a c => by pointwise))
    (narrow_at t 0 _ fun c e => by pointwise) (fun i e => xR (args m d) (row (tile t) i) e) (fun i e => ?_) i e
  pointwise [k0_pay3]
  exact x_at t i e

/-- At a later point, the tile's rows of the derivatives. -/
theorem fac_later (ht : ¬t.val % 32 = 0) (y : S8x256x704.Idx) :
    (outsAt0 m d t.val t.isLt).2.2.1 y = facR (args m d) (y 0) (row (tile t) (y 1)) (y 2) := by
  rw [outsAt0_B m d t ht]
  frame_out
  canon_tiles x h
  case piece0 =>
    exact (blk_at _ (fun i c => siluR (args m d) (row (tile t) i) (colF 3 c)) (k_silu3 _ (gate3 _ _ _ _ (up_read3 t _) (bound_at t ht 3 _ fun a c => ld_prev 3 3 rfl _ _ _ a c) (tap_at t 3 _ fun a c => by pointwise)))
      x (y 1) (y 2) (by omega) (by omega)).trans (fac_silu (args m d) (y 0) 3 (by show (y 0).val = 7; omega) _ _)
  case piece1 =>
    exact (blk_at _ (fun i c => slopeR (args m d) (row (tile t) i) (colF 3 c)) (k_slope3 _ _ (gate3 _ _ _ _ (up_read3 t _) (bound_at t ht 3 _ fun a c => ld_prev 3 3 rfl _ _ _ a c) (tap_at t 3 _ fun a c => by pointwise))
      (val3 _ _ _ _ (up_read7 t _) (bound_at t ht 7 _ fun a c => ld_prev 7 7 rfl _ _ _ a c) (tap_at t 7 _ fun a c => by pointwise)))
      x (y 1) (y 2) (by omega) (by omega)).trans (fac_slope (args m d) (y 0) 3 (by show (y 0).val = 3; omega) _ _)
  case piece2 =>
    exact (blk_at _ (fun i c => siluR (args m d) (row (tile t) i) (colF 2 c)) (k_silu2 _ (gate2 _ _ _ _ (up_read2 t _) (bound_at t ht 2 _ fun a c => ld_prev 2 2 rfl _ _ _ a c) (tap_at t 2 _ fun a c => by pointwise)))
      x (y 1) (y 2) (by omega) (by omega)).trans (fac_silu (args m d) (y 0) 2 (by show (y 0).val = 6; omega) _ _)
  case piece3 =>
    exact (blk_at _ (fun i c => slopeR (args m d) (row (tile t) i) (colF 2 c)) (k_slope2 _ _ _ _ _ (gate2 _ _ _ _ (up_read2 t _) (bound_at t ht 2 _ fun a c => ld_prev 2 2 rfl _ _ _ a c) (tap_at t 2 _ fun a c => by pointwise))
      (val2 _ _ _ _ (up_read6 t _) (bound_at t ht 6 _ fun a c => ld_prev 6 6 rfl _ _ _ a c) (tap_at t 6 _ fun a c => by pointwise)))
      x (y 1) (y 2) (by omega) (by omega)).trans (fac_slope (args m d) (y 0) 2 (by show (y 0).val = 2; omega) _ _)
  case piece4 =>
    exact (blk_at _ (fun i c => siluR (args m d) (row (tile t) i) (colF 1 c)) (k_silu1 _ (gate1 _ _ _ _ (up_read1 t _) (bound_at t ht 1 _ fun a c => ld_prev 1 1 rfl _ _ _ a c) (tap_at t 1 _ fun a c => by pointwise)))
      x (y 1) (y 2) (by omega) (by omega)).trans (fac_silu (args m d) (y 0) 1 (by show (y 0).val = 5; omega) _ _)
  case piece5 =>
    exact (blk_at _ (fun i c => slopeR (args m d) (row (tile t) i) (colF 1 c)) (k_slope1 _ _ _ _ _ _ (gate1 _ _ _ _ (up_read1 t _) (bound_at t ht 1 _ fun a c => ld_prev 1 1 rfl _ _ _ a c) (tap_at t 1 _ fun a c => by pointwise))
      (val1 _ _ _ _ (up_read5 t _) (bound_at t ht 5 _ fun a c => ld_prev 5 5 rfl _ _ _ a c) (tap_at t 5 _ fun a c => by pointwise)))
      x (y 1) (y 2) (by omega) (by omega)).trans (fac_slope (args m d) (y 0) 1 (by show (y 0).val = 1; omega) _ _)
  case piece6 =>
    exact (blk_at _ (fun i c => siluR (args m d) (row (tile t) i) (colF 0 c)) (k_silu0 _ (gate0 _ _ _ _ (up_read0 t _) (bound_at t ht 0 _ fun a c => ld_prev 0 0 rfl _ _ _ a c) (tap_at t 0 _ fun a c => by pointwise)))
      x (y 1) (y 2) (by omega) (by omega)).trans (fac_silu (args m d) (y 0) 0 (by show (y 0).val = 4; omega) _ _)
  case piece7 =>
    exact (blk_at _ (fun i c => slopeR (args m d) (row (tile t) i) (colF 0 c)) (k_slope0 _ _ _ _ (gate0 _ _ _ _ (up_read0 t _) (bound_at t ht 0 _ fun a c => ld_prev 0 0 rfl _ _ _ a c) (tap_at t 0 _ fun a c => by pointwise))
      (val0 _ _ _ _ (up_read4 t _) (bound_at t ht 4 _ fun a c => ld_prev 4 4 rfl _ _ _ a c) (tap_at t 4 _ fun a c => by pointwise)))
      x (y 1) (y 2) (by omega) (by omega)).trans (fac_slope (args m d) (y 0) 0 (by show (y 0).val = 0; omega) _ _)

/-- At a later point, the tile's rows of the activation. -/
theorem act_later (ht : ¬t.val % 32 = 0) (y : S4x256x704.Idx) :
    (outsAt0 m d t.val t.isLt).2.2.2.1 y = actR (args m d) (row (tile t) (y 1)) (colF (y 0) (y 2)) := by
  rw [outsAt0_B m d t ht]
  frame_out
  canon_tiles x h
  case piece0 =>
    have e : y 0 = (3 : Fin 4) := Fin.ext (by show (y 0).val = 3; omega)
    rw [e]
    exact blk_at _ (fun i c => actR (args m d) (row (tile t) i) (colF 3 c)) (k_act3 _ _ (gate3 _ _ _ _ (up_read3 t _) (bound_at t ht 3 _ fun a c => ld_prev 3 3 rfl _ _ _ a c) (tap_at t 3 _ fun a c => by pointwise))
      (val3 _ _ _ _ (up_read7 t _) (bound_at t ht 7 _ fun a c => ld_prev 7 7 rfl _ _ _ a c) (tap_at t 7 _ fun a c => by pointwise)))
      x (y 1) (y 2) (by omega) (by omega)
  case piece1 =>
    have e : y 0 = (2 : Fin 4) := Fin.ext (by show (y 0).val = 2; omega)
    rw [e]
    exact blk_at _ (fun i c => actR (args m d) (row (tile t) i) (colF 2 c)) (k_act2 _ _ _ _ _ (gate2 _ _ _ _ (up_read2 t _) (bound_at t ht 2 _ fun a c => ld_prev 2 2 rfl _ _ _ a c) (tap_at t 2 _ fun a c => by pointwise))
      (val2 _ _ _ _ (up_read6 t _) (bound_at t ht 6 _ fun a c => ld_prev 6 6 rfl _ _ _ a c) (tap_at t 6 _ fun a c => by pointwise)))
      x (y 1) (y 2) (by omega) (by omega)
  case piece2 =>
    have e : y 0 = (1 : Fin 4) := Fin.ext (by show (y 0).val = 1; omega)
    rw [e]
    exact blk_at _ (fun i c => actR (args m d) (row (tile t) i) (colF 1 c)) (k_act1 _ _ _ _ _ _ (gate1 _ _ _ _ (up_read1 t _) (bound_at t ht 1 _ fun a c => ld_prev 1 1 rfl _ _ _ a c) (tap_at t 1 _ fun a c => by pointwise))
      (val1 _ _ _ _ (up_read5 t _) (bound_at t ht 5 _ fun a c => ld_prev 5 5 rfl _ _ _ a c) (tap_at t 5 _ fun a c => by pointwise)))
      x (y 1) (y 2) (by omega) (by omega)
  case piece3 =>
    have e : y 0 = (0 : Fin 4) := Fin.ext (by show (y 0).val = 0; omega)
    rw [e]
    exact blk_at _ (fun i c => actR (args m d) (row (tile t) i) (colF 0 c)) (k_act0 _ _ _ _ (gate0 _ _ _ _ (up_read0 t _) (bound_at t ht 0 _ fun a c => ld_prev 0 0 rfl _ _ _ a c) (tap_at t 0 _ fun a c => by pointwise))
      (val0 _ _ _ _ (up_read4 t _) (bound_at t ht 4 _ fun a c => ld_prev 4 4 rfl _ _ _ a c) (tap_at t 4 _ fun a c => by pointwise)))
      x (y 1) (y 2) (by omega) (by omega)

/-- At a later point, the tile's rows of the output. -/
theorem out_later (ht : ¬t.val % 32 = 0) (i : Fin 256) (e : Fin 1024) :
    (outsAt0 m d t.val t.isLt).2.2.2.2.1 (ix2 i e) = outR (args m d) (row (tile t) i) e := by
  rw [outsAt0_B m d t ht, out_parts]
  frame_out
  refine k_acc3 _ _ _ _ (gate3 _ _ _ _ (up_read3 t _) (bound_at t ht 3 _ fun a c => ld_prev 3 3 rfl _ _ _ a c) (tap_at t 3 _ fun a c => by pointwise))
    (val3 _ _ _ _ (up_read7 t _) (bound_at t ht 7 _ fun a c => ld_prev 7 7 rfl _ _ _ a c) (tap_at t 7 _ fun a c => by pointwise))
    (narrow_at t 3 _ fun c e => by pointwise) (fun i e => xR (args m d) (row (tile t) i) e + part (args m d) (tile t) 0 i e + part (args m d) (tile t) 1 i e + part (args m d) (tile t) 2 i e) (fun i e => ?_) i e
  refine k_acc2 _ _ _ _ _ _ _ (gate2 _ _ _ _ (up_read2 t _) (bound_at t ht 2 _ fun a c => ld_prev 2 2 rfl _ _ _ a c) (tap_at t 2 _ fun a c => by pointwise))
    (val2 _ _ _ _ (up_read6 t _) (bound_at t ht 6 _ fun a c => ld_prev 6 6 rfl _ _ _ a c) (tap_at t 6 _ fun a c => by pointwise))
    (narrow_at t 2 _ fun c e => by pointwise) (fun i e => xR (args m d) (row (tile t) i) e + part (args m d) (tile t) 0 i e + part (args m d) (tile t) 1 i e) (fun i e => ?_) i e
  refine k_acc1 _ _ _ _ _ _ _ _ (gate1 _ _ _ _ (up_read1 t _) (bound_at t ht 1 _ fun a c => ld_prev 1 1 rfl _ _ _ a c) (tap_at t 1 _ fun a c => by pointwise))
    (val1 _ _ _ _ (up_read5 t _) (bound_at t ht 5 _ fun a c => ld_prev 5 5 rfl _ _ _ a c) (tap_at t 5 _ fun a c => by pointwise))
    (narrow_at t 1 _ fun c e => by pointwise) (fun i e => xR (args m d) (row (tile t) i) e + part (args m d) (tile t) 0 i e) (fun i e => ?_) i e
  refine k_acc0 _ _ _ _ _ _ (gate0 _ _ _ _ (up_read0 t _) (bound_at t ht 0 _ fun a c => ld_prev 0 0 rfl _ _ _ a c) (tap_at t 0 _ fun a c => by pointwise))
    (val0 _ _ _ _ (up_read4 t _) (bound_at t ht 4 _ fun a c => ld_prev 4 4 rfl _ _ _ a c) (tap_at t 4 _ fun a c => by pointwise))
    (narrow_at t 0 _ fun c e => by pointwise) (fun i e => xR (args m d) (row (tile t) i) e) (fun i e => ?_) i e
  pointwise [k0_pay3]
  exact x_at t i e

/-- After a point, the tile's rows of the derivatives. -/
theorem fac_at (y : S8x256x704.Idx) :
    (outsAt0 m d t.val t.isLt).2.2.1 y = facR (args m d) (y 0) (row (tile t) (y 1)) (y 2) := by
  by_cases h0 : t.val % 32 = 0
  · exact fac_first t h0 y
  · exact fac_later t h0 y

/-- After a point, the tile's rows of the activation. -/
theorem act_at (y : S4x256x704.Idx) :
    (outsAt0 m d t.val t.isLt).2.2.2.1 y = actR (args m d) (row (tile t) (y 1)) (colF (y 0) (y 2)) := by
  by_cases h0 : t.val % 32 = 0
  · exact act_first t h0 y
  · exact act_later t h0 y

/-- After a point, the tile's rows of the output. -/
theorem out_at (i : Fin 256) (e : Fin 1024) :
    (outsAt0 m d t.val t.isLt).2.2.2.2.1 (ix2 i e) = outR (args m d) (row (tile t) i) e := by
  by_cases h0 : t.val % 32 = 0
  · exact out_first t h0 i e
  · exact out_later t h0 i e

/-- The normed rows the kernel leaves. -/
theorem final_h : (dats m 0 d).arrAt 5 cfg0.N = fun y : S8192x1024.Idx => hR (args m d) (y 0) (y 1) := by
  refine (dats m 0 d).arrAt_eq_of_covers 5 _ (by decide +kernel) fun t hf y => ?_
  blk_simp
  rw [after0_5]
  refine (congrArg _ (eq_ix2 y)).trans ((h_at t _ _).trans ?_)
  refine congrArg₂ (hR (args m d)) (Fin.ext ?_) (Fin.ext ?_)
  all_goals blk_simp [idx t, tile, row]

/-- The widening product the kernel leaves. -/
theorem final_up : (dats m 0 d).arrAt 6 cfg0.N = fun y : S8x8192x704.Idx => upR (args m d) (y 1) (colU (y 0) (y 2)) := by
  refine (dats m 0 d).arrAt_eq_of_covers 6 _ (by decide +kernel) fun t hf y => ?_
  blk_simp
  rw [after0_6]
  refine (up_at t y).trans ?_
  refine congrArg₂ (upR (args m d)) (Fin.ext ?_) (congrArg₂ colU (Fin.ext ?_) (Fin.ext ?_))
  all_goals blk_simp [idx t, tile, row]

/-- The derivatives the kernel leaves. -/
theorem final_fac : (dats m 0 d).arrAt 7 cfg0.N = fun y : S8x8192x704.Idx => facR (args m d) (y 0) (y 1) (y 2) := by
  refine (dats m 0 d).arrAt_eq_of_covers 7 _ (by decide +kernel) fun t hf y => ?_
  blk_simp
  rw [after0_7]
  refine (fac_at t y).trans ?_
  refine congr (congrArg₂ (facR (args m d)) (Fin.ext ?_) (Fin.ext ?_)) (Fin.ext ?_)
  all_goals blk_simp [idx t, tile, row]

/-- The activation the kernel leaves. -/
theorem final_act : (dats m 0 d).arrAt 8 cfg0.N = fun y : S4x8192x704.Idx => actR (args m d) (y 1) (colF (y 0) (y 2)) := by
  refine (dats m 0 d).arrAt_eq_of_covers 8 _ (by decide +kernel) fun t hf y => ?_
  blk_simp
  rw [after0_8]
  refine (act_at t y).trans ?_
  refine congrArg₂ (actR (args m d)) (Fin.ext ?_) (congrArg₂ colF (Fin.ext ?_) (Fin.ext ?_))
  all_goals blk_simp [idx t, tile, row]

/-- The output the kernel leaves. -/
theorem final_out : (dats m 0 d).arrAt 9 cfg0.N = fun y : S8192x1024.Idx => outR (args m d) (y 0) (y 1) := by
  refine (dats m 0 d).arrAt_eq_of_covers 9 _ (by decide +kernel) fun t hf y => ?_
  blk_simp
  rw [after0_9]
  refine (congrArg _ (eq_ix2 y)).trans ((out_at t _ _).trans ?_)
  refine congrArg₂ (outR (args m d)) (Fin.ext ?_) (Fin.ext ?_)
  all_goals blk_simp [idx t, tile, row]

end FfSide
-- ==== Proof.Ff.lean ====
module

public import proofs.«01_k».proof.Proof.FfPoint
public import Idealize.ShloMosaic.Lib.Claim

/-!
The channel mixer's forward pass: the kernel and the reference leave the same five arrays, whatever the arguments.
-/

@[expose] public section

set_option maxRecDepth 16384

noncomputable section

open Idealize.ShloMosaic Idealize.ShloMosaic.TcCoe Idealize.SL.Sem
open Rows Model

namespace FfSide

/-- From memories that agree on the arguments, the kernel and the reference both run and leave the same normed rows,
    widening product, derivatives, activation and output. -/
theorem algebraic
    (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg)
    (hagree : ∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) :
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v56) = v0 c
          ∧ r.2.mem ((c.tc : Thread Cert.FfnFwdRefIdeal.nD Cert.FfnFwdRefIdeal.τ).loc Cert.FfnFwdRefIdeal.main_v58) = v1 c
          ∧ r.2.mem ((c.tc : Thread Cert.FfnFwdRefIdeal.nD Cert.FfnFwdRefIdeal.τ).loc Cert.FfnFwdRefIdeal.main_v61) = v2 c
          ∧ r.2.mem ((c.tc : Thread Cert.FfnFwdRefIdeal.nD Cert.FfnFwdRefIdeal.τ).loc Cert.FfnFwdRefIdeal.main_v64) = v3 c
          ∧ r.2.mem ((c.tc : Thread Cert.FfnFwdRefIdeal.nD Cert.FfnFwdRefIdeal.τ).loc Cert.FfnFwdRefIdeal.main_v67) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)) := by
  refine ⟨fun c => (Cert.FfnFwdIdeal.Gen.dats m 0 c).arrAt 5 Cert.FfnFwdIdeal.cfg0.N,
    fun c => (Cert.FfnFwdIdeal.Gen.dats m 0 c).arrAt 6 Cert.FfnFwdIdeal.cfg0.N,
    fun c => (Cert.FfnFwdIdeal.Gen.dats m 0 c).arrAt 7 Cert.FfnFwdIdeal.cfg0.N,
    fun c => (Cert.FfnFwdIdeal.Gen.dats m 0 c).arrAt 8 Cert.FfnFwdIdeal.cfg0.N,
    fun c => (Cert.FfnFwdIdeal.Gen.dats m 0 c).arrAt 9 Cert.FfnFwdIdeal.cfg0.N,
    Cert.FfnFwdIdeal.Value.run_blocks m g, ?_⟩
  refine θ_run_mono (Cert.FfnFwdRefIdeal.Value.run m' g') fun r h c =>
    ⟨(h c).1.trans ?_, (h c).2.1.trans ?_, (h c).2.2.1.trans ?_, (h c).2.2.2.1.trans ?_, (h c).2.2.2.2.1.trans ?_,
      (h c).2.2.2.2.2⟩
  · obtain ⟨ha0, ha1, ha2, ha3, ha4⟩ := hagree c
    refine (Cert.FfnFwdRefIdeal.Read.val_main_v56_eq (F := Ideal) (m' ((c.tc : Thread Cert.FfnFwdRefIdeal.nD Cert.FfnFwdRefIdeal.τ).loc Cert.FfnFwdRefIdeal.main_arg0)) (m' ((c.tc : Thread Cert.FfnFwdRefIdeal.nD Cert.FfnFwdRefIdeal.τ).loc Cert.FfnFwdRefIdeal.main_arg1))).trans ?_
    rw [ha0, ha1]
    refine Eq.trans ?_ final_h.symm
    funext y
    exact (congrArg _ (eq_ix2 y)).trans (ref_out0 (args m c) (y 0) (y 1))
  · obtain ⟨ha0, ha1, ha2, ha3, ha4⟩ := hagree c
    refine (Cert.FfnFwdRefIdeal.Read.val_main_v58_eq (F := Ideal) (m' ((c.tc : Thread Cert.FfnFwdRefIdeal.nD Cert.FfnFwdRefIdeal.τ).loc Cert.FfnFwdRefIdeal.main_arg0)) (m' ((c.tc : Thread Cert.FfnFwdRefIdeal.nD Cert.FfnFwdRefIdeal.τ).loc Cert.FfnFwdRefIdeal.main_arg1)) (m' ((c.tc : Thread Cert.FfnFwdRefIdeal.nD Cert.FfnFwdRefIdeal.τ).loc Cert.FfnFwdRefIdeal.main_arg2))).trans ?_
    rw [ha0, ha1, ha2]
    refine Eq.trans ?_ final_up.symm
    funext y
    exact (congrArg _ (eq_ix3 y)).trans (ref_out1 (args m c) (y 1) (y 0) (y 2))
  · obtain ⟨ha0, ha1, ha2, ha3, ha4⟩ := hagree c
    refine (Cert.FfnFwdRefIdeal.Read.val_main_v61_eq (F := Ideal) m' c).trans ?_
    rw [ha0, ha1, ha2, ha3]
    refine Eq.trans ?_ final_fac.symm
    funext y
    exact (congrArg _ (eq_ix3 y)).trans (ref_out2 (args m c) (y 1) (y 0) (y 2))
  · obtain ⟨ha0, ha1, ha2, ha3, ha4⟩ := hagree c
    refine (Cert.FfnFwdRefIdeal.Read.val_main_v64_eq (F := Ideal) m' c).trans ?_
    rw [ha0, ha1, ha2, ha3]
    refine Eq.trans ?_ final_act.symm
    funext y
    exact (congrArg _ (eq_ix3 y)).trans (ref_out3 (args m c) (y 1) (y 0) (y 2))
  · obtain ⟨ha0, ha1, ha2, ha3, ha4⟩ := hagree c
    refine (Cert.FfnFwdRefIdeal.Read.val_main_v67_eq (F := Ideal) m' c).trans ?_
    rw [ha0, ha1, ha2, ha3, ha4]
    refine Eq.trans ?_ final_out.symm
    funext y
    exact (congrArg _ (eq_ix2 y)).trans (ref_out4 (args m c) (y 0) (y 1))

end FfSide
-- ==== Proof.lean ====
/-
The proof of `Cert.Claim`: the three programs run and leave their arguments and counters as they found
them, the kernel and its idealization are the same program, and over extended reals the kernel's seven
results are the reference's whenever every element of the arguments is a real number.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.WgradIn
public import proofs.«01_k».proof.Proof.Gen.WgradIn.Skeleton
public import proofs.«01_k».proof.Proof.Gen.WgradIn.Launch
public import proofs.«01_k».proof.Proof.Gen.WgradIn.Points
public import proofs.«01_k».proof.Proof.Gen.WgradIn.Frame
public import proofs.«01_k».proof.Proof.Gen.WgradInIdeal
public import proofs.«01_k».proof.Proof.Gen.WgradInIdeal.Skeleton
public import proofs.«01_k».proof.Proof.Gen.WgradInIdeal.Launch
public import proofs.«01_k».proof.Proof.Gen.WgradInIdeal.Points
public import proofs.«01_k».proof.Proof.Gen.WgradInIdeal.Frame
public import proofs.«01_k».proof.Proof.Gen.WgradInIdeal.Value
public import proofs.«01_k».proof.Proof.Gen.WgradInRefIdeal
public import proofs.«01_k».proof.Proof.Gen.WgradInRefIdeal.Run
public import proofs.«01_k».proof.Proof.Gen.WgradInRefIdeal.Read
public import proofs.«01_k».proof.Proof.Gen.WgradUp
public import proofs.«01_k».proof.Proof.Gen.WgradUp.Skeleton
public import proofs.«01_k».proof.Proof.Gen.WgradUp.Launch
public import proofs.«01_k».proof.Proof.Gen.WgradUp.Points
public import proofs.«01_k».proof.Proof.Gen.WgradUp.Frame
public import proofs.«01_k».proof.Proof.Gen.WgradUpIdeal
public import proofs.«01_k».proof.Proof.Gen.WgradUpIdeal.Skeleton
public import proofs.«01_k».proof.Proof.Gen.WgradUpIdeal.Launch
public import proofs.«01_k».proof.Proof.Gen.WgradUpIdeal.Points
public import proofs.«01_k».proof.Proof.Gen.WgradUpIdeal.Frame
public import proofs.«01_k».proof.Proof.Gen.WgradUpIdeal.Value
public import proofs.«01_k».proof.Proof.Gen.WgradUpRefIdeal
public import proofs.«01_k».proof.Proof.Gen.WgradUpRefIdeal.Run
public import proofs.«01_k».proof.Proof.Gen.WgradUpRefIdeal.Read
public import proofs.«01_k».proof.Proof.Gen.WgradDown
public import proofs.«01_k».proof.Proof.Gen.WgradDown.Skeleton
public import proofs.«01_k».proof.Proof.Gen.WgradDown.Launch
public import proofs.«01_k».proof.Proof.Gen.WgradDown.Points
public import proofs.«01_k».proof.Proof.Gen.WgradDown.Frame
public import proofs.«01_k».proof.Proof.Gen.WgradDownIdeal
public import proofs.«01_k».proof.Proof.Gen.WgradDownIdeal.Skeleton
public import proofs.«01_k».proof.Proof.Gen.WgradDownIdeal.Launch
public import proofs.«01_k».proof.Proof.Gen.WgradDownIdeal.Points
public import proofs.«01_k».proof.Proof.Gen.WgradDownIdeal.Frame
public import proofs.«01_k».proof.Proof.Gen.WgradDownIdeal.Value
public import proofs.«01_k».proof.Proof.Gen.WgradDownRefIdeal
public import proofs.«01_k».proof.Proof.Gen.WgradDownRefIdeal.Run
public import proofs.«01_k».proof.Proof.Gen.WgradDownRefIdeal.Read
public import proofs.«01_k».proof.Proof.Gen.WgradOut
public import proofs.«01_k».proof.Proof.Gen.WgradOut.Skeleton
public import proofs.«01_k».proof.Proof.Gen.WgradOut.Launch
public import proofs.«01_k».proof.Proof.Gen.WgradOut.Points
public import proofs.«01_k».proof.Proof.Gen.WgradOut.Frame
public import proofs.«01_k».proof.Proof.Gen.WgradOutIdeal
public import proofs.«01_k».proof.Proof.Gen.WgradOutIdeal.Skeleton
public import proofs.«01_k».proof.Proof.Gen.WgradOutIdeal.Launch
public import proofs.«01_k».proof.Proof.Gen.WgradOutIdeal.Points
public import proofs.«01_k».proof.Proof.Gen.WgradOutIdeal.Frame
public import proofs.«01_k».proof.Proof.Gen.WgradOutIdeal.Value
public import proofs.«01_k».proof.Proof.Gen.WgradOutRefIdeal
public import proofs.«01_k».proof.Proof.Gen.WgradOutRefIdeal.Run
public import proofs.«01_k».proof.Proof.Gen.WgradOutRefIdeal.Read
public import proofs.«01_k».proof.Proof.Gen.DgradIn
public import proofs.«01_k».proof.Proof.Gen.DgradIn.Skeleton
public import proofs.«01_k».proof.Proof.Gen.DgradIn.Launch
public import proofs.«01_k».proof.Proof.Gen.DgradIn.Points
public import proofs.«01_k».proof.Proof.Gen.DgradIn.Frame
public import proofs.«01_k».proof.Proof.Gen.DgradInIdeal
public import proofs.«01_k».proof.Proof.Gen.DgradInIdeal.Skeleton
public import proofs.«01_k».proof.Proof.Gen.DgradInIdeal.Launch
public import proofs.«01_k».proof.Proof.Gen.DgradInIdeal.Points
public import proofs.«01_k».proof.Proof.Gen.DgradInIdeal.Frame
public import proofs.«01_k».proof.Proof.Gen.DgradInIdeal.Value
public import proofs.«01_k».proof.Proof.Gen.DgradInRefIdeal
public import proofs.«01_k».proof.Proof.Gen.DgradInRefIdeal.Run
public import proofs.«01_k».proof.Proof.Gen.DgradInRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.Pre_finite_din
public import proofs.«01_k».proof.Proof.Ends
public import proofs.«01_k».proof.Proof.WIn
public import proofs.«01_k».proof.Proof.WUp
public import proofs.«01_k».proof.Proof.WDown
public import proofs.«01_k».proof.Proof.WOut
public import proofs.«01_k».proof.Proof.DIn
public import proofs.«01_k».proof.Proof.Ff
public import Idealize.ShloMosaic.Adequacy
public import Idealize.ShloMosaic.Init
public import Idealize.ShloMosaic.Lib.Claim

@[expose] public section

noncomputable section

namespace Cert.Proof

open Idealize.ShloMosaic Idealize.SL.Sem

/-- The kernel runs and leaves its arguments and counters as they were. -/
theorem frame_kernel : Cert.quiescent_Kernel := fun m g _ => Cert.Kernel.Gen.frame m g

/-- So does its idealization. -/
theorem frame_ideal : Cert.quiescent_KernelIdeal := fun m g _ => Cert.KernelIdeal.Gen.frame m g

/-- So does the reference. -/
theorem frame_reference : Cert.quiescent_ReferenceIdeal := fun m g _ =>
  θ_run_mono (Cert.ReferenceIdeal.Value.run m g) fun r h =>
    ⟨fun c => (h c).2.2.2.2.2.2.2, sem_eq_zero_of_no_sems (by decide) r.2⟩

/-- The arguments of the two sides agree, so they are the same ten arrays. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Ends.refArgs m' c = KerSide.args m c := by
  obtain ⟨h0, h1, h2, h3, h4, h5, h6, h7, h8, h9⟩ := h
  unfold Ends.refArgs KerSide.args
  congr 1

/-- The kernel's results are the reference's. -/
theorem algebraic : Cert.algebraic_KernelIdeal_ReferenceIdeal_pre_finite := by
  intro m g m' g' hpre hagree
  exact ⟨Ends.out_dproj m, Ends.out_dcw m, Ends.out_dln m, Ends.out_dws m, Ends.out_dbs m, Ends.out_dx m, Ends.out_dg m,
    Ends.kernel_run m g,
    Ends.reference_run m m' g' (fun c => same_args m m' c (hagree c)) (fun c => RefSide.real_args (KerSide.args m c) (hpre c))⟩

/-- The gradient of the input product's weight: the kernel runs and leaves its arguments and counters as they were. -/
theorem frame_in : Cert.quiescent_WgradIn := fun m g _ => Cert.WgradIn.Gen.frame m g

/-- So does its idealization. -/
theorem frame_in_ideal : Cert.quiescent_WgradInIdeal := fun m g _ => Cert.WgradInIdeal.Gen.frame m g

/-- So does its reference. -/
theorem frame_in_reference : Cert.quiescent_WgradInRefIdeal := fun m g _ =>
  θ_run_mono (Cert.WgradInRefIdeal.Value.run m g) fun r h =>
    ⟨fun c => (h c).2, sem_eq_zero_of_no_sems (by decide) r.2⟩

/-- The kernel's gradient of the input product's weight is the reference's. -/
theorem algebraic_in : Cert.algebraic_WgradInIdeal_WgradInRefIdeal :=
  fun m g m' g' _ hagree => InSide.algebraic m g m' g' hagree

/-- The gradient of the widening product's weight: the kernel runs and leaves its arguments and counters as they were. -/
theorem frame_up : Cert.quiescent_WgradUp := fun m g _ => Cert.WgradUp.Gen.frame m g

/-- So does its idealization. -/
theorem frame_up_ideal : Cert.quiescent_WgradUpIdeal := fun m g _ => Cert.WgradUpIdeal.Gen.frame m g

/-- So does its reference. -/
theorem frame_up_reference : Cert.quiescent_WgradUpRefIdeal := fun m g _ =>
  θ_run_mono (Cert.WgradUpRefIdeal.Value.run m g) fun r h =>
    ⟨fun c => (h c).2, sem_eq_zero_of_no_sems (by decide) r.2⟩

/-- The kernel's gradient of the widening product's weight is the reference's. -/
theorem algebraic_up : Cert.algebraic_WgradUpIdeal_WgradUpRefIdeal :=
  fun m g m' g' _ hagree => UpSide.algebraic m g m' g' hagree

/-- The gradient of the narrowing product's weight: the kernel runs and leaves its arguments and counters as they were. -/
theorem frame_down : Cert.quiescent_WgradDown := fun m g _ => Cert.WgradDown.Gen.frame m g

/-- So does its idealization. -/
theorem frame_down_ideal : Cert.quiescent_WgradDownIdeal := fun m g _ => Cert.WgradDownIdeal.Gen.frame m g

/-- So does its reference. -/
theorem frame_down_reference : Cert.quiescent_WgradDownRefIdeal := fun m g _ =>
  θ_run_mono (Cert.WgradDownRefIdeal.Value.run m g) fun r h =>
    ⟨fun c => (h c).2, sem_eq_zero_of_no_sems (by decide) r.2⟩

/-- The kernel's gradient of the narrowing product's weight is the reference's. -/
theorem algebraic_down : Cert.algebraic_WgradDownIdeal_WgradDownRefIdeal :=
  fun m g m' g' _ hagree => DownSide.algebraic m g m' g' hagree

/-- The gradient of the output product's weight: the kernel runs and leaves its arguments and counters as they were. -/
theorem frame_out : Cert.quiescent_WgradOut := fun m g _ => Cert.WgradOut.Gen.frame m g

/-- So does its idealization. -/
theorem frame_out_ideal : Cert.quiescent_WgradOutIdeal := fun m g _ => Cert.WgradOutIdeal.Gen.frame m g

/-- So does its reference. -/
theorem frame_out_reference : Cert.quiescent_WgradOutRefIdeal := fun m g _ =>
  θ_run_mono (Cert.WgradOutRefIdeal.Value.run m g) fun r h =>
    ⟨fun c => (h c).2, sem_eq_zero_of_no_sems (by decide) r.2⟩

/-- The kernel's gradient of the output product's weight is the reference's. -/
theorem algebraic_out : Cert.algebraic_WgradOutIdeal_WgradOutRefIdeal :=
  fun m g m' g' _ hagree => OutSide.algebraic m g m' g' hagree

/-- The gradient of the layer's input: the kernel runs and leaves its arguments and counters as they were. -/
theorem frame_din : Cert.quiescent_DgradIn := fun m g _ => Cert.DgradIn.Gen.frame m g

/-- So does its idealization. -/
theorem frame_din_ideal : Cert.quiescent_DgradInIdeal := fun m g _ => Cert.DgradInIdeal.Gen.frame m g

/-- So does its reference. -/
theorem frame_din_reference : Cert.quiescent_DgradInRefIdeal := fun m g _ =>
  θ_run_mono (Cert.DgradInRefIdeal.Value.run m g) fun r h =>
    ⟨fun c => (h c).2.2, sem_eq_zero_of_no_sems (by decide) r.2⟩

/-- The kernel's gradients of the layer's input and of the norm's scale are the reference's. -/
theorem algebraic_din : Cert.algebraic_DgradInIdeal_DgradInRefIdeal_pre_finite_din :=
  fun m g m' g' hpre hagree => InGrad.algebraic m g m' g' hpre hagree

/-- The channel mixer's forward pass: the kernel runs and leaves its arguments and counters as they were. -/
theorem frame_ff : Cert.quiescent_FfnFwd := fun m g _ => Cert.FfnFwd.Gen.frame m g

/-- So does its idealization. -/
theorem frame_ff_ideal : Cert.quiescent_FfnFwdIdeal := fun m g _ => Cert.FfnFwdIdeal.Gen.frame m g

/-- So does its reference. -/
theorem frame_ff_reference : Cert.quiescent_FfnFwdRefIdeal := fun m g _ =>
  θ_run_mono (Cert.FfnFwdRefIdeal.Value.run m g) fun r h =>
    ⟨fun c => (h c).2.2.2.2.2, sem_eq_zero_of_no_sems (by decide) r.2⟩

/-- The kernel's channel mixer is the reference's. -/
theorem algebraic_ff : Cert.algebraic_FfnFwdIdeal_FfnFwdRefIdeal :=
  fun m g m' g' _ hagree => FfSide.algebraic m g m' g' hagree

/-- Every claim. -/
theorem claim : Cert.Claim :=
  ⟨Cert.Kernel.Gen.facts, Cert.KernelIdeal.Gen.facts, Cert.ReferenceIdeal.Gen.facts,
    Cert.WgradIn.Gen.facts, Cert.WgradInIdeal.Gen.facts, Cert.WgradInRefIdeal.Gen.facts,
    Cert.WgradUp.Gen.facts, Cert.WgradUpIdeal.Gen.facts, Cert.WgradUpRefIdeal.Gen.facts,
    Cert.WgradDown.Gen.facts, Cert.WgradDownIdeal.Gen.facts, Cert.WgradDownRefIdeal.Gen.facts,
    Cert.WgradOut.Gen.facts, Cert.WgradOutIdeal.Gen.facts, Cert.WgradOutRefIdeal.Gen.facts,
    Cert.DgradIn.Gen.facts, Cert.DgradInIdeal.Gen.facts, Cert.DgradInRefIdeal.Gen.facts,
    Cert.FfnFwd.Gen.facts, Cert.FfnFwdIdeal.Gen.facts, Cert.FfnFwdRefIdeal.Gen.facts,
    Cert.Pre_finite.Gen.facts, Cert.Pre_finite_din.Gen.facts,
    frame_kernel, frame_ideal, fun m g _ => frame_ideal m g trivial, frame_reference, fun m g _ => frame_reference m g trivial,
    frame_in, frame_in_ideal, frame_in_reference,
    frame_up, frame_up_ideal, frame_up_reference,
    frame_down, frame_down_ideal, frame_down_reference,
    frame_out, frame_out_ideal, frame_out_reference,
    frame_din, frame_din_ideal, fun m g _ => frame_din_ideal m g trivial, frame_din_reference,
    fun m g _ => frame_din_reference m g trivial,
    frame_ff, frame_ff_ideal, frame_ff_reference,
    trivial, algebraic, trivial, algebraic_in, trivial, algebraic_up, trivial, algebraic_down,
    trivial, algebraic_out, trivial, algebraic_din, trivial, algebraic_ff⟩

end Cert.Proof

end
